-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v113) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v113) = v0 c
          ∧ r.2.mem ((c.tc : Thread Cert.Reference3Ideal.nD Cert.Reference3Ideal.τ).loc Cert.Reference3Ideal.main_v115) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x2048x1024 : Shape := ⟨3, ![8, 2048, 1024]⟩
abbrev S4x8x2048x256 : Shape := ⟨4, ![4, 8, 2048, 256]⟩
abbrev S1024x2048 : Shape := ⟨2, ![1024, 2048]⟩
abbrev S2048 : Shape := ⟨1, ![2048]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S4x256x1024 : Shape := ⟨3, ![4, 256, 1024]⟩
abbrev S4x1024x1024 : Shape := ⟨3, ![4, 1024, 1024]⟩
abbrev S1x2048 : Shape := ⟨2, ![1, 2048]⟩
abbrev S1x1024 : Shape := ⟨2, ![1, 1024]⟩
abbrev S8x128x1 : Shape := ⟨3, ![8, 128, 1]⟩
abbrev S4x1x1024 : Shape := ⟨3, ![4, 1, 1024]⟩
abbrev S8x128x1024 : Shape := ⟨3, ![8, 128, 1024]⟩
abbrev S1x512x1024 : Shape := ⟨3, ![1, 512, 1024]⟩
abbrev S1x1x512x256 : Shape := ⟨4, ![1, 1, 512, 256]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1x1024x1024 : Shape := ⟨3, ![1, 1024, 1024]⟩
abbrev S1x128x1024 : Shape := ⟨3, ![1, 128, 1024]⟩
abbrev S128x128 : Shape := ⟨2, ![128, 128]⟩
abbrev S1x128x128 : Shape := ⟨3, ![1, 128, 128]⟩
abbrev S256x1024 : Shape := ⟨2, ![256, 1024]⟩
abbrev S1024x512 : Shape := ⟨2, ![1024, 512]⟩
abbrev S256x512 : Shape := ⟨2, ![256, 512]⟩
abbrev S1x512 : Shape := ⟨2, ![1, 512]⟩
abbrev S256x2048 : Shape := ⟨2, ![256, 2048]⟩
abbrev S32x1024 : Shape := ⟨2, ![32, 1024]⟩
abbrev S32 : Shape := ⟨1, ![32]⟩
abbrev S32x1 : Shape := ⟨2, ![32, 1]⟩
abbrev S1x128x1 : Shape := ⟨3, ![1, 128, 1]⟩
abbrev S128x1 : Shape := ⟨2, ![128, 1]⟩
abbrev S128x1024 : Shape := ⟨2, ![128, 1024]⟩
abbrev S1x32x1024 : Shape := ⟨3, ![1, 32, 1024]⟩
abbrev S1x1024x512 : Shape := ⟨3, ![1, 1024, 512]⟩
abbrev S256x4096 : Shape := ⟨2, ![256, 4096]⟩
abbrev S1x4096x512 : Shape := ⟨3, ![1, 4096, 512]⟩
abbrev S4096x512 : Shape := ⟨2, ![4096, 512]⟩
abbrev S1x1x256x256 : Shape := ⟨4, ![1, 1, 256, 256]⟩
abbrev S256x256 : Shape := ⟨2, ![256, 256]⟩
abbrev S1x256x512 : Shape := ⟨3, ![1, 256, 512]⟩

abbrev nBuf : Space → Nat
  | .hbm => 33
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S4x8x2048x256, .f32⟩
  | .hbm, ⟨2, _⟩ => ⟨S1024x2048, .f32⟩
  | .hbm, ⟨3, _⟩ => ⟨S2048, .f32⟩
  | .hbm, ⟨4, _⟩ => ⟨S1024, .f32⟩
  | .hbm, ⟨5, _⟩ => ⟨S1024, .f32⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024x4096, .f32⟩
  | .hbm, ⟨14, _⟩ => ⟨S4x4096x1024, .f32⟩
  | .hbm, ⟨15, _⟩ => ⟨S4x256x1024, .f32⟩
  | .hbm, ⟨16, _⟩ => ⟨S4x1024x1024, .f32⟩
  | .hbm, ⟨17, _⟩ => ⟨S1024x2048, .bf16⟩
  | .hbm, ⟨18, _⟩ => ⟨S1024x1024, .bf16⟩
  | .hbm, ⟨19, _⟩ => ⟨S4x1024x4096, .bf16⟩
  | .hbm, ⟨20, _⟩ => ⟨S4x4096x1024, .bf16⟩
  | .hbm, ⟨21, _⟩ => ⟨S4x256x1024, .bf16⟩
  | .hbm, ⟨22, _⟩ => ⟨S4x1024x1024, .bf16⟩
  | .hbm, ⟨23, _⟩ => ⟨S1x2048, .f32⟩
  | .hbm, ⟨24, _⟩ => ⟨S1x1024, .f32⟩
  | .hbm, ⟨25, _⟩ => ⟨S1x1024, .f32⟩
  | .hbm, ⟨26, _⟩ => ⟨S8x128x1, .f32⟩
  | .hbm, ⟨27, _⟩ => ⟨S4x1x1024, .f32⟩
  | .hbm, ⟨28, _⟩ => ⟨S4x1x1024, .f32⟩
  | .hbm, ⟨29, _⟩ => ⟨S4x1x1024, .f32⟩
  | .hbm, ⟨30, _⟩ => ⟨S4x1x1024, .f32⟩
  | .hbm, ⟨31, _⟩ => ⟨S8x2048x1024, .f32⟩
  | .hbm, ⟨32, _⟩ => ⟨S8x128x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x512x256, .f32⟩
  | .local _ .vmem, ⟨3, _⟩ => ⟨S1x1x512x256, .f32⟩
  | .local _ .vmem, ⟨4, _⟩ => ⟨S8x128x128, .f32⟩
  | .local _ .vmem, ⟨5, _⟩ => ⟨S1024x2048, .bf16⟩
  | .local _ .vmem, ⟨6, _⟩ => ⟨S1x2048, .f32⟩
  | .local _ .vmem, ⟨7, _⟩ => ⟨S1x1024, .f32⟩
  | .local _ .vmem, ⟨8, _⟩ => ⟨S1x1024, .f32⟩
  | .local _ .vmem, ⟨9, _⟩ => ⟨S8x128x1, .f32⟩
  | .local _ .vmem, ⟨10, _⟩ => ⟨S1024x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x1024x4096, .bf16⟩
  | .local _ .vmem, ⟨14, _⟩ => ⟨S1x4096x1024, .bf16⟩
  | .local _ .vmem, ⟨15, _⟩ => ⟨S1x1x1024, .f32⟩
  | .local _ .vmem, ⟨16, _⟩ => ⟨S1x1x1024, .f32⟩
  | .local _ .vmem, ⟨17, _⟩ => ⟨S1x256x1024, .bf16⟩
  | .local _ .vmem, ⟨18, _⟩ => ⟨S1x1024x1024, .bf16⟩
  | .local _ .vmem, ⟨19, _⟩ => ⟨S1x512x1024, .f32⟩
  | .local _ .vmem, ⟨20, _⟩ => ⟨S1x512x1024, .f32⟩
  | .local _ .vmem, ⟨21, _⟩ => ⟨S1x128x1024, .f32⟩
  | .local _ .vmem, ⟨22, _⟩ => ⟨S1x128x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c3_i32 : BitVec 32 := 3#32
  let v2126 : BitVec 1 := Scalar.cmpi .eq arg1 c3_i32
  let v2127 : BitVec 32 := Scalar.extui v2126
  let c0_i32 : BitVec 32 := 0#32
  let v2128 : BitVec 1 := Scalar.cmpi .ne v2127 c0_i32
  v2128

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== ReferenceIdeal.lean ====
abbrev S8x2048x1024 : Shape := ⟨3, ![8, 2048, 1024]⟩
abbrev S4x8x2048x256 : Shape := ⟨4, ![4, 8, 2048, 256]⟩
abbrev S1024x2048 : Shape := ⟨2, ![1024, 2048]⟩
abbrev S2048 : Shape := ⟨1, ![2048]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S4x256x1024 : Shape := ⟨3, ![4, 256, 1024]⟩
abbrev S4x1024x1024 : Shape := ⟨3, ![4, 1024, 1024]⟩
abbrev S8x2048x2048 : Shape := ⟨3, ![8, 2048, 2048]⟩
abbrev S1x1x2048 : Shape := ⟨3, ![1, 1, 2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x16x128x8x128 : Shape := ⟨5, ![8, 16, 128, 8, 128]⟩
abbrev S128x128 : Shape := ⟨2, ![128, 128]⟩
abbrev S1x128x128 : Shape := ⟨3, ![1, 128, 128]⟩
abbrev S8x8x16x128x128 : Shape := ⟨5, ![8, 8, 16, 128, 128]⟩
abbrev S128x8 : Shape := ⟨2, ![128, 8]⟩
abbrev S1x1x128x8x1 : Shape := ⟨5, ![1, 1, 128, 8, 1]⟩
abbrev S8x128x1024 : Shape := ⟨3, ![8, 128, 1024]⟩
abbrev S1x1024 : Shape := ⟨2, ![1, 1024]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩
abbrev S1x8x2048x256 : Shape := ⟨4, ![1, 8, 2048, 256]⟩
abbrev S8x2048x256 : Shape := ⟨3, ![8, 2048, 256]⟩
abbrev S1x256x1024 : Shape := ⟨3, ![1, 256, 1024]⟩
abbrev S256x1024 : Shape := ⟨2, ![256, 1024]⟩
abbrev S1x1024x1024 : Shape := ⟨3, ![1, 1024, 1024]⟩

abbrev nBuf : Space → Nat
  | .hbm => 192
  | .vmem => 0
  | .smem => 0
  | _ => 0

abbrev hbmTy0_0 (i : Nat) : BufTy := match i % 128 with
  | 0 => ⟨S8x2048x1024, .f32⟩
  | 1 => ⟨S4x8x2048x256, .f32⟩
  | 2 => ⟨S1024x2048, .f32⟩
  | 3 => ⟨S2048, .f32⟩
  | 4 => ⟨S1024, .f32⟩
  | 5 => ⟨S1024, .f32⟩
  | 6 => ⟨S8x128x128, .f32⟩
  | 7 => ⟨S8x128, .f32⟩
  | 8 => ⟨S1024x1024, .f32⟩
  | 9 => ⟨S4x1024, .f32⟩
  | 10 => ⟨S4x1024, .f32⟩
  | 11 => ⟨S4x1024, .f32⟩
  | 12 => ⟨S4x1024, .f32⟩
  | 13 => ⟨S4x1024x4096, .f32⟩
  | 14 => ⟨S4x4096x1024, .f32⟩
  | 15 => ⟨S4x256x1024, .f32⟩
  | 16 => ⟨S4x1024x1024, .f32⟩
  | 17 => ⟨S8x2048x2048, .f32⟩
  | 18 => ⟨S1x1x2048, .f32⟩
  | 19 => ⟨S8x2048x2048, .f32⟩
  | 20 => ⟨S8x2048x2048, .f32⟩
  | 21 => ⟨S8x2048x2048, .f32⟩
  | 22 => ⟨S8x2048x2048, .f32⟩
  | 23 => ⟨S_, .f32⟩
  | 24 => ⟨S8x2048x2048, .f32⟩
  | 25 => ⟨S8x2048x2048, .f32⟩
  | 26 => ⟨S8x2048x2048, .f32⟩
  | 27 => ⟨S_, .f32⟩
  | 28 => ⟨S8x2048x2048, .f32⟩
  | 29 => ⟨S8x2048x2048, .f32⟩
  | 30 => ⟨S8x2048x2048, .f32⟩
  | 31 => ⟨S_, .f32⟩
  | 32 => ⟨S8x2048x2048, .f32⟩
  | 33 => ⟨S8x2048x2048, .f32⟩
  | 34 => ⟨S_, .f32⟩
  | 35 => ⟨S8x2048x2048, .f32⟩
  | 36 => ⟨S8x2048x2048, .f32⟩
  | 37 => ⟨S8x2048x2048, .f32⟩
  | 38 => ⟨S8x2048x1024, .f32⟩
  | 39 => ⟨S8x2048x1024, .f32⟩
  | 40 => ⟨S_, .f32⟩
  | 41 => ⟨S8x2048, .f32⟩
  | 42 => ⟨S8x2048x1, .f32⟩
  | 43 => ⟨S_, .f32⟩
  | 44 => ⟨S8x2048x1, .f32⟩
  | 45 => ⟨S8x2048x1, .f32⟩
  | 46 => ⟨S8x2048x1024, .f32⟩
  | 47 => ⟨S8x2048x1024, .f32⟩
  | 48 => ⟨S8x2048x1024, .f32⟩
  | 49 => ⟨S_, .f32⟩
  | 50 => ⟨S8x2048, .f32⟩
  | 51 => ⟨S8x2048x1, .f32⟩
  | 52 => ⟨S_, .f32⟩
  | 53 => ⟨S8x2048x1, .f32⟩
  | 54 => ⟨S8x2048x1, .f32⟩
  | 55 => ⟨S_, .f32⟩
  | 56 => ⟨S8x2048x1, .f32⟩
  | 57 => ⟨S8x2048x1, .f32⟩
  | 58 => ⟨S8x2048x1, .f32⟩
  | 59 => ⟨S8x2048x1024, .f32⟩
  | 60 => ⟨S8x2048x1024, .f32⟩
  | 61 => ⟨S1x1x1024, .f32⟩
  | 62 => ⟨S8x2048x1024, .f32⟩
  | 63 => ⟨S8x2048x1024, .f32⟩
  | 64 => ⟨S1x1x1024, .f32⟩
  | 65 => ⟨S8x2048x1024, .f32⟩
  | 66 => ⟨S8x2048x1024, .f32⟩
  | 67 => ⟨S8x16x128x8x128, .f32⟩
  | 68 => ⟨S_, .i1⟩
  | 69 => ⟨S128x128, .i1⟩
  | 70 => ⟨S128x128, .i32⟩
  | 71 => ⟨S_, .i32⟩
  | 72 => ⟨S128x128, .i32⟩
  | 73 => ⟨S128x128, .i32⟩
  | 74 => ⟨S128x128, .i32⟩
  | 75 => ⟨S128x128, .i1⟩
  | 76 => ⟨S_, .i1⟩
  | 77 => ⟨S128x128, .i1⟩
  | 78 => ⟨S128x128, .i1⟩
  | 79 => ⟨S1x128x128, .i1⟩
  | 80 => ⟨S_, .f32⟩
  | 81 => ⟨S8x128x128, .f32⟩
  | 82 => ⟨S8x128x128, .i1⟩
  | 83 => ⟨S8x128x128, .f32⟩
  | 84 => ⟨S8x8x16x128x128, .f32⟩
  | 85 => ⟨S8x16x128x8x128, .f32⟩
  | 86 => ⟨S128x8, .f32⟩
  | 87 => ⟨S1x1x128x8x1, .f32⟩
  | 88 => ⟨S8x16x128x8x128, .f32⟩
  | 89 => ⟨S8x16x128x8x128, .f32⟩
  | 90 => ⟨S8x2048x1024, .f32⟩
  | 91 => ⟨S8x2048x1024, .f32⟩
  | 92 => ⟨S8x2048x1024, .f32⟩
  | 93 => ⟨S8x128x1024, .f32⟩
  | 94 => ⟨S_, .f32⟩
  | 95 => ⟨S8x2048x1024, .f32⟩
  | 96 => ⟨S8x2048x1024, .f32⟩
  | 97 => ⟨S8x2048x1024, .f32⟩
  | 98 => ⟨S1x1024, .f32⟩
  | 99 => ⟨S1024, .f32⟩
  | 100 => ⟨S1x1024, .f32⟩
  | 101 => ⟨S1024, .f32⟩
  | 102 => ⟨S_, .f32⟩
  | 103 => ⟨S8x2048, .f32⟩
  | 104 => ⟨S8x2048x1, .f32⟩
  | 105 => ⟨S_, .f32⟩
  | 106 => ⟨S8x2048x1, .f32⟩
  | 107 => ⟨S8x2048x1, .f32⟩
  | 108 => ⟨S8x2048x1024, .f32⟩
  | 109 => ⟨S8x2048x1024, .f32⟩
  | 110 => ⟨S8x2048x1024, .f32⟩
  | 111 => ⟨S_, .f32⟩
  | 112 => ⟨S8x2048, .f32⟩
  | 113 => ⟨S8x2048x1, .f32⟩
  | 114 => ⟨S_, .f32⟩
  | 115 => ⟨S8x2048x1, .f32⟩
  | 116 => ⟨S8x2048x1, .f32⟩
  | 117 => ⟨S_, .f32⟩
  | 118 => ⟨S8x2048x1, .f32⟩
  | 119 => ⟨S8x2048x1, .f32⟩
  | 120 => ⟨S8x2048x1, .f32⟩
  | 121 => ⟨S8x2048x1024, .f32⟩
  | 122 => ⟨S8x2048x1024, .f32⟩
  | 123 => ⟨S1x1x1024, .f32⟩
  | 124 => ⟨S8x2048x1024, .f32⟩
  | 125 => ⟨S8x2048x1024, .f32⟩
  | 126 => ⟨S1x1x1024, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S1x1024x4096, .f32⟩
  | 2 => ⟨S1024x4096, .f32⟩
  | 3 => ⟨S8x2048x4096, .f32⟩
  | 4 => ⟨S_, .f32⟩
  | 5 => ⟨S8x2048x4096, .f32⟩
  | 6 => ⟨S8x2048x4096, .f32⟩
  | 7 => ⟨S8x2048x4096, .f32⟩
  | 8 => ⟨S_, .f32⟩
  | 9 => ⟨S8x2048x1024, .f32⟩
  | 10 => ⟨S8x2048x1024, .f32⟩
  | 11 => ⟨S1x4096x1024, .f32⟩
  | 12 => ⟨S4096x1024, .f32⟩
  | 13 => ⟨S8x2048x1024, .f32⟩
  | 14 => ⟨S8x2048x1024, .f32⟩
  | 15 => ⟨S1x1024, .f32⟩
  | 16 => ⟨S1024, .f32⟩
  | 17 => ⟨S1x1024, .f32⟩
  | 18 => ⟨S1024, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S8x2048x1024, .f32⟩
  | 26 => ⟨S8x2048x1024, .f32⟩
  | 27 => ⟨S8x2048x1024, .f32⟩
  | 28 => ⟨S_, .f32⟩
  | 29 => ⟨S8x2048, .f32⟩
  | 30 => ⟨S8x2048x1, .f32⟩
  | 31 => ⟨S_, .f32⟩
  | 32 => ⟨S8x2048x1, .f32⟩
  | 33 => ⟨S8x2048x1, .f32⟩
  | 34 => ⟨S_, .f32⟩
  | 35 => ⟨S8x2048x1, .f32⟩
  | 36 => ⟨S8x2048x1, .f32⟩
  | 37 => ⟨S8x2048x1, .f32⟩
  | 38 => ⟨S8x2048x1024, .f32⟩
  | 39 => ⟨S8x2048x1024, .f32⟩
  | 40 => ⟨S1x1x1024, .f32⟩
  | 41 => ⟨S8x2048x1024, .f32⟩
  | 42 => ⟨S8x2048x1024, .f32⟩
  | 43 => ⟨S1x1x1024, .f32⟩
  | 44 => ⟨S8x2048x1024, .f32⟩
  | 45 => ⟨S8x2048x1024, .f32⟩
  | 46 => ⟨S1x8x2048x256, .f32⟩
  | 47 => ⟨S8x2048x256, .f32⟩
  | 48 => ⟨S1x256x1024, .f32⟩
  | 49 => ⟨S256x1024, .f32⟩
  | 50 => ⟨S8x2048x1024, .f32⟩
  | 51 => ⟨S1x1024x1024, .f32⟩
  | 52 => ⟨S1024x1024, .f32⟩
  | 53 => ⟨S8x2048x1024, .f32⟩
  | 54 => ⟨S8x2048x1024, .f32⟩
  | 55 => ⟨S8x2048x1024, .f32⟩
  | 56 => ⟨S_, .f32⟩
  | 57 => ⟨S8x2048x1024, .f32⟩
  | 58 => ⟨S8x2048x1024, .f32⟩
  | 59 => ⟨S_, .f32⟩
  | 60 => ⟨S8x2048x1024, .f32⟩
  | 61 => ⟨S8x2048x1024, .f32⟩
  | 62 => ⟨S8x2048x1024, .f32⟩
  | 63 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c : Ref sig .tc := ⟨.hbm, 68, rfl⟩
abbrev main_v42 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_c_0 : Ref sig .tc := ⟨.hbm, 76, rfl⟩
abbrev main_call0_v5 : Ref sig .tc := ⟨.hbm, 77, rfl⟩
abbrev main_v43 : Ref sig .tc := ⟨.hbm, 78, rfl⟩
abbrev main_v44 : Ref sig .tc := ⟨.hbm, 79, rfl⟩
abbrev main_cst_8 : Ref sig .tc := ⟨.hbm, 80, rfl⟩
abbrev main_v45 : Ref sig .tc := ⟨.hbm, 81, rfl⟩
abbrev main_call1_v0 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_9 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_10 : Ref sig .tc := ⟨.hbm, 102, rfl⟩
abbrev main_v64 : Ref sig .tc := ⟨.hbm, 103, rfl⟩
abbrev main_v65 : Ref sig .tc := ⟨.hbm, 104, rfl⟩
abbrev main_cst_11 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_12 : Ref sig .tc := ⟨.hbm, 111, rfl⟩
abbrev main_v71 : Ref sig .tc := ⟨.hbm, 112, rfl⟩
abbrev main_v72 : Ref sig .tc := ⟨.hbm, 113, rfl⟩
abbrev main_cst_13 : Ref sig .tc := ⟨.hbm, 114, rfl⟩
abbrev main_v73 : Ref sig .tc := ⟨.hbm, 115, rfl⟩
abbrev main_v74 : Ref sig .tc := ⟨.hbm, 116, rfl⟩
abbrev main_cst_14 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_call2_cst : Ref sig .tc := ⟨.hbm, 132, rfl⟩
abbrev main_call2_v0 : Ref sig .tc := ⟨.hbm, 133, rfl⟩
abbrev main_v89 : Ref sig .tc := ⟨.hbm, 134, rfl⟩
abbrev main_v90 : Ref sig .tc := ⟨.hbm, 135, rfl⟩
abbrev main_cst_15 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_16 : Ref sig .tc := ⟨.hbm, 147, rfl⟩
abbrev main_v101 : Ref sig .tc := ⟨.hbm, 148, rfl⟩
abbrev main_v102 : Ref sig .tc := ⟨.hbm, 149, rfl⟩
abbrev main_cst_17 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_18 : Ref sig .tc := ⟨.hbm, 156, rfl⟩
abbrev main_v108 : Ref sig .tc := ⟨.hbm, 157, rfl⟩
abbrev main_v109 : Ref sig .tc := ⟨.hbm, 158, rfl⟩
abbrev main_cst_19 : Ref sig .tc := ⟨.hbm, 159, rfl⟩
abbrev main_v110 : Ref sig .tc := ⟨.hbm, 160, rfl⟩
abbrev main_v111 : Ref sig .tc := ⟨.hbm, 161, rfl⟩
abbrev main_cst_20 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_21 : Ref sig .tc := ⟨.hbm, 184, rfl⟩
abbrev main_v133 : Ref sig .tc := ⟨.hbm, 185, rfl⟩
abbrev main_v134 : Ref sig .tc := ⟨.hbm, 186, rfl⟩
abbrev main_cst_22 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩

abbrev nD : Nat := 1
abbrev τ : Topo := Topo.v7x

variable {F : FTy → Type} [FloatOps F]
-- ==== Kernel2.lean ====
abbrev S8x2048x1024 : Shape := ⟨3, ![8, 2048, 1024]⟩
abbrev S4x8x2048x256 : Shape := ⟨4, ![4, 8, 2048, 256]⟩
abbrev S1024x3072 : Shape := ⟨2, ![1024, 3072]⟩
abbrev S3x1024 : Shape := ⟨2, ![3, 1024]⟩
abbrev S1024x1024 : Shape := ⟨2, ![1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S4x256x1024 : Shape := ⟨3, ![4, 256, 1024]⟩
abbrev S4x1024x1024 : Shape := ⟨3, ![4, 1024, 1024]⟩
abbrev S4x1x1024 : Shape := ⟨3, ![4, 1, 1024]⟩
abbrev S8x2x1024 : Shape := ⟨3, ![8, 2, 1024]⟩
abbrev S1x1024x1024 : Shape := ⟨3, ![1, 1024, 1024]⟩
abbrev S1x1x1024x256 : Shape := ⟨4, ![1, 1, 1024, 256]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1x2x1024 : Shape := ⟨3, ![1, 2, 1024]⟩
abbrev S8x1024 : Shape := ⟨2, ![8, 1024]⟩
abbrev S256x1024 : Shape := ⟨2, ![256, 1024]⟩
abbrev S1024x256 : Shape := ⟨2, ![1024, 256]⟩
abbrev S256x256 : Shape := ⟨2, ![256, 256]⟩
abbrev S8x256 : Shape := ⟨2, ![8, 256]⟩
abbrev S264x256 : Shape := ⟨2, ![264, 256]⟩
abbrev S1x256 : Shape := ⟨2, ![1, 256]⟩
abbrev S1024x512 : Shape := ⟨2, ![1024, 512]⟩
abbrev S256x512 : Shape := ⟨2, ![256, 512]⟩
abbrev S1x32x1024 : Shape := ⟨3, ![1, 32, 1024]⟩
abbrev S32x1024 : Shape := ⟨2, ![32, 1024]⟩
abbrev S1x1024 : Shape := ⟨2, ![1, 1024]⟩
abbrev S32 : Shape := ⟨1, ![32]⟩
abbrev S32x1 : Shape := ⟨2, ![32, 1]⟩
abbrev S1x1024x512 : Shape := ⟨3, ![1, 1024, 512]⟩
abbrev S256x4096 : Shape := ⟨2, ![256, 4096]⟩
abbrev S1x4096x512 : Shape := ⟨3, ![1, 4096, 512]⟩
abbrev S4096x512 : Shape := ⟨2, ![4096, 512]⟩
abbrev S1x1x256x256 : Shape := ⟨4, ![1, 1, 256, 256]⟩
abbrev S1x256x512 : Shape := ⟨3, ![1, 256, 512]⟩
abbrev S2x1024 : Shape := ⟨2, ![2, 1024]⟩

abbrev nBuf : Space → Nat
  | .hbm => 25
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S4x8x2048x256, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024x4096, .f32⟩
  | .hbm, ⟨10, _⟩ => ⟨S4x4096x1024, .f32⟩
  | .hbm, ⟨11, _⟩ => ⟨S4x256x1024, .f32⟩
  | .hbm, ⟨12, _⟩ => ⟨S4x1024x1024, .f32⟩
  | .hbm, ⟨13, _⟩ => ⟨S4x1024x4096, .bf16⟩
  | .hbm, ⟨14, _⟩ => ⟨S4x4096x1024, .bf16⟩
  | .hbm, ⟨15, _⟩ => ⟨S4x256x1024, .bf16⟩
  | .hbm, ⟨16, _⟩ => ⟨S4x1024x1024, .bf16⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S1024x3072, .bf16⟩
  | .hbm, ⟨22, _⟩ => ⟨S1024x1024, .bf16⟩
  | .hbm, ⟨23, _⟩ => ⟨S8x2048x1024, .f32⟩
  | .hbm, ⟨24, _⟩ => ⟨S8x2x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024x256, .f32⟩
  | .local _ .vmem, ⟨3, _⟩ => ⟨S1x1x1024x256, .f32⟩
  | .local _ .vmem, ⟨4, _⟩ => ⟨S1024x3072, .bf16⟩
  | .local _ .vmem, ⟨5, _⟩ => ⟨S3x1024, .f32⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024x4096, .bf16⟩
  | .local _ .vmem, ⟨10, _⟩ => ⟨S1x4096x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x256x1024, .bf16⟩
  | .local _ .vmem, ⟨14, _⟩ => ⟨S1x1024x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S1x2x1024, .f32⟩
  | .local _ .vmem, ⟨18, _⟩ => ⟨S1x2x1024, .f32⟩
  | .local _ .vmem, ⟨19, _⟩ => ⟨S8x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32_1454 : BitVec 32 := 1#32
  let v2879 : BitVec 1 := Scalar.cmpi .eq arg1 c1_i32_1454
  let v2880 : BitVec 32 := Scalar.extui v2879
  let c0_i32_1455 : BitVec 32 := 0#32
  let v2881 : BitVec 1 := Scalar.cmpi .ne v2880 c0_i32_1455
  v2881

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference2Ideal.lean ====
abbrev S8x2048x1024 : Shape := ⟨3, ![8, 2048, 1024]⟩
abbrev S4x8x2048x256 : Shape := ⟨4, ![4, 8, 2048, 256]⟩
abbrev S1024x3072 : Shape := ⟨2, ![1024, 3072]⟩
abbrev S3x1024 : Shape := ⟨2, ![3, 1024]⟩
abbrev S1024x1024 : Shape := ⟨2, ![1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S4x256x1024 : Shape := ⟨3, ![4, 256, 1024]⟩
abbrev S4x1024x1024 : Shape := ⟨3, ![4, 1024, 1024]⟩
abbrev S_ : Shape := ⟨0, ![]⟩
abbrev S8x2x1024 : Shape := ⟨3, ![8, 2, 1024]⟩
abbrev S8x2048x3072 : Shape := ⟨3, ![8, 2048, 3072]⟩
abbrev S8x2050x1024 : Shape := ⟨3, ![8, 2050, 1024]⟩
abbrev S1x1024 : Shape := ⟨2, ![1, 1024]⟩
abbrev S1024 : Shape := ⟨1, ![1024]⟩
abbrev S1x1x1024 : Shape := ⟨3, ![1, 1, 1024]⟩
abbrev S8x2048 : Shape := ⟨2, ![8, 2048]⟩
abbrev S8x2048x1 : Shape := ⟨3, ![8, 2048, 1]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩
abbrev S1x8x2048x256 : Shape := ⟨4, ![1, 8, 2048, 256]⟩
abbrev S8x2048x256 : Shape := ⟨3, ![8, 2048, 256]⟩
abbrev S1x256x1024 : Shape := ⟨3, ![1, 256, 1024]⟩
abbrev S256x1024 : Shape := ⟨2, ![256, 1024]⟩
abbrev S1x1024x1024 : Shape := ⟨3, ![1, 1024, 1024]⟩

abbrev nBuf : Space → Nat
  | .hbm => 145
  | .vmem => 0
  | .smem => 0
  | _ => 0

abbrev hbmTy0_0 (i : Nat) : BufTy := match i % 128 with
  | 0 => ⟨S8x2048x1024, .f32⟩
  | 1 => ⟨S4x8x2048x256, .f32⟩
  | 2 => ⟨S1024x3072, .f32⟩
  | 3 => ⟨S3x1024, .f32⟩
  | 4 => ⟨S1024x1024, .f32⟩
  | 5 => ⟨S4x1024, .f32⟩
  | 6 => ⟨S4x1024, .f32⟩
  | 7 => ⟨S4x1024, .f32⟩
  | 8 => ⟨S4x1024, .f32⟩
  | 9 => ⟨S4x1024x4096, .f32⟩
  | 10 => ⟨S4x4096x1024, .f32⟩
  | 11 => ⟨S4x256x1024, .f32⟩
  | 12 => ⟨S4x1024x1024, .f32⟩
  | 13 => ⟨S_, .f32⟩
  | 14 => ⟨S8x2x1024, .f32⟩
  | 15 => ⟨S8x2048x3072, .f32⟩
  | 16 => ⟨S8x2048x1024, .f32⟩
  | 17 => ⟨S8x2048x1024, .f32⟩
  | 18 => ⟨S8x2048x1024, .f32⟩
  | 19 => ⟨S8x2048x1024, .f32⟩
  | 20 => ⟨S8x2050x1024, .f32⟩
  | 21 => ⟨S8x2048x1024, .f32⟩
  | 22 => ⟨S1x1024, .f32⟩
  | 23 => ⟨S1024, .f32⟩
  | 24 => ⟨S1x1x1024, .f32⟩
  | 25 => ⟨S8x2048x1024, .f32⟩
  | 26 => ⟨S8x2048x1024, .f32⟩
  | 27 => ⟨S_, .f32⟩
  | 28 => ⟨S8x2048x1024, .f32⟩
  | 29 => ⟨S8x2048x1024, .f32⟩
  | 30 => ⟨S8x2048x1024, .f32⟩
  | 31 => ⟨S1x1024, .f32⟩
  | 32 => ⟨S1024, .f32⟩
  | 33 => ⟨S1x1x1024, .f32⟩
  | 34 => ⟨S8x2048x1024, .f32⟩
  | 35 => ⟨S8x2048x1024, .f32⟩
  | 36 => ⟨S8x2048x1024, .f32⟩
  | 37 => ⟨S8x2048x1024, .f32⟩
  | 38 => ⟨S1x1024, .f32⟩
  | 39 => ⟨S1024, .f32⟩
  | 40 => ⟨S1x1x1024, .f32⟩
  | 41 => ⟨S8x2048x1024, .f32⟩
  | 42 => ⟨S8x2048x1024, .f32⟩
  | 43 => ⟨S8x2048x1024, .f32⟩
  | 44 => ⟨S8x2x1024, .f32⟩
  | 45 => ⟨S8x2048x1024, .f32⟩
  | 46 => ⟨S8x2048x1024, .f32⟩
  | 47 => ⟨S_, .f32⟩
  | 48 => ⟨S8x2048x1024, .f32⟩
  | 49 => ⟨S8x2048x1024, .f32⟩
  | 50 => ⟨S8x2048x1024, .f32⟩
  | 51 => ⟨S1x1024, .f32⟩
  | 52 => ⟨S1024, .f32⟩
  | 53 => ⟨S1x1024, .f32⟩
  | 54 => ⟨S1024, .f32⟩
  | 55 => ⟨S_, .f32⟩
  | 56 => ⟨S8x2048, .f32⟩
  | 57 => ⟨S8x2048x1, .f32⟩
  | 58 => ⟨S_, .f32⟩
  | 59 => ⟨S8x2048x1, .f32⟩
  | 60 => ⟨S8x2048x1, .f32⟩
  | 61 => ⟨S8x2048x1024, .f32⟩
  | 62 => ⟨S8x2048x1024, .f32⟩
  | 63 => ⟨S8x2048x1024, .f32⟩
  | 64 => ⟨S_, .f32⟩
  | 65 => ⟨S8x2048, .f32⟩
  | 66 => ⟨S8x2048x1, .f32⟩
  | 67 => ⟨S_, .f32⟩
  | 68 => ⟨S8x2048x1, .f32⟩
  | 69 => ⟨S8x2048x1, .f32⟩
  | 70 => ⟨S_, .f32⟩
  | 71 => ⟨S8x2048x1, .f32⟩
  | 72 => ⟨S8x2048x1, .f32⟩
  | 73 => ⟨S8x2048x1, .f32⟩
  | 74 => ⟨S8x2048x1024, .f32⟩
  | 75 => ⟨S8x2048x1024, .f32⟩
  | 76 => ⟨S1x1x1024, .f32⟩
  | 77 => ⟨S8x2048x1024, .f32⟩
  | 78 => ⟨S8x2048x1024, .f32⟩
  | 79 => ⟨S1x1x1024, .f32⟩
  | 80 => ⟨S8x2048x1024, .f32⟩
  | 81 => ⟨S8x2048x1024, .f32⟩
  | 82 => ⟨S1x1024x4096, .f32⟩
  | 83 => ⟨S1024x4096, .f32⟩
  | 84 => ⟨S8x2048x4096, .f32⟩
  | 85 => ⟨S_, .f32⟩
  | 86 => ⟨S8x2048x4096, .f32⟩
  | 87 => ⟨S8x2048x4096, .f32⟩
  | 88 => ⟨S8x2048x4096, .f32⟩
  | 89 => ⟨S_, .f32⟩
  | 90 => ⟨S8x2048x1024, .f32⟩
  | 91 => ⟨S8x2048x1024, .f32⟩
  | 92 => ⟨S1x4096x1024, .f32⟩
  | 93 => ⟨S4096x1024, .f32⟩
  | 94 => ⟨S8x2048x1024, .f32⟩
  | 95 => ⟨S8x2048x1024, .f32⟩
  | 96 => ⟨S1x1024, .f32⟩
  | 97 => ⟨S1024, .f32⟩
  | 98 => ⟨S1x1024, .f32⟩
  | 99 => ⟨S1024, .f32⟩
  | 100 => ⟨S_, .f32⟩
  | 101 => ⟨S8x2048, .f32⟩
  | 102 => ⟨S8x2048x1, .f32⟩
  | 103 => ⟨S_, .f32⟩
  | 104 => ⟨S8x2048x1, .f32⟩
  | 105 => ⟨S8x2048x1, .f32⟩
  | 106 => ⟨S8x2048x1024, .f32⟩
  | 107 => ⟨S8x2048x1024, .f32⟩
  | 108 => ⟨S8x2048x1024, .f32⟩
  | 109 => ⟨S_, .f32⟩
  | 110 => ⟨S8x2048, .f32⟩
  | 111 => ⟨S8x2048x1, .f32⟩
  | 112 => ⟨S_, .f32⟩
  | 113 => ⟨S8x2048x1, .f32⟩
  | 114 => ⟨S8x2048x1, .f32⟩
  | 115 => ⟨S_, .f32⟩
  | 116 => ⟨S8x2048x1, .f32⟩
  | 117 => ⟨S8x2048x1, .f32⟩
  | 118 => ⟨S8x2048x1, .f32⟩
  | 119 => ⟨S8x2048x1024, .f32⟩
  | 120 => ⟨S8x2048x1024, .f32⟩
  | 121 => ⟨S1x1x1024, .f32⟩
  | 122 => ⟨S8x2048x1024, .f32⟩
  | 123 => ⟨S8x2048x1024, .f32⟩
  | 124 => ⟨S1x1x1024, .f32⟩
  | 125 => ⟨S8x2048x1024, .f32⟩
  | 126 => ⟨S8x2048x1024, .f32⟩
  | 127 => ⟨S1x8x2048x256, .f32⟩
  | _ => ⟨S8x2048x1024, .f32⟩

abbrev hbmTy0_1 (i : Nat) : BufTy := match i % 128 with
  | 0 => ⟨S8x2048x256, .f32⟩
  | 1 => ⟨S1x256x1024, .f32⟩
  | 2 => ⟨S256x1024, .f32⟩
  | 3 => ⟨S8x2048x1024, .f32⟩
  | 4 => ⟨S1x1024x1024, .f32⟩
  | 5 => ⟨S1024x1024, .f32⟩
  | 6 => ⟨S8x2048x1024, .f32⟩
  | 7 => ⟨S8x2048x1024, .f32⟩
  | 8 => ⟨S8x2048x1024, .f32⟩
  | 9 => ⟨S_, .f32⟩
  | 10 => ⟨S8x2048x1024, .f32⟩
  | 11 => ⟨S8x2048x1024, .f32⟩
  | 12 => ⟨S_, .f32⟩
  | 13 => ⟨S8x2048x1024, .f32⟩
  | 14 => ⟨S8x2048x1024, .f32⟩
  | 15 => ⟨S8x2048x1024, .f32⟩
  | 16 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_1 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_2 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_4 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call0_cst : Ref sig .tc := ⟨.hbm, 85, rfl⟩
abbrev main_call0_v0 : Ref sig .tc := ⟨.hbm, 86, rfl⟩
abbrev main_v64 : Ref sig .tc := ⟨.hbm, 87, rfl⟩
abbrev main_v65 : Ref sig .tc := ⟨.hbm, 88, rfl⟩
abbrev main_cst_7 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_8 : Ref sig .tc := ⟨.hbm, 100, rfl⟩
abbrev main_v76 : Ref sig .tc := ⟨.hbm, 101, rfl⟩
abbrev main_v77 : Ref sig .tc := ⟨.hbm, 102, rfl⟩
abbrev main_cst_9 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_10 : Ref sig .tc := ⟨.hbm, 109, rfl⟩
abbrev main_v83 : Ref sig .tc := ⟨.hbm, 110, rfl⟩
abbrev main_v84 : Ref sig .tc := ⟨.hbm, 111, rfl⟩
abbrev main_cst_11 : Ref sig .tc := ⟨.hbm, 112, rfl⟩
abbrev main_v85 : Ref sig .tc := ⟨.hbm, 113, rfl⟩
abbrev main_v86 : Ref sig .tc := ⟨.hbm, 114, rfl⟩
abbrev main_cst_12 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_13 : Ref sig .tc := ⟨.hbm, 137, rfl⟩
abbrev main_v108 : Ref sig .tc := ⟨.hbm, 138, rfl⟩
abbrev main_v109 : Ref sig .tc := ⟨.hbm, 139, rfl⟩
abbrev main_cst_14 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩

abbrev nD : Nat := 1
abbrev τ : Topo := Topo.v7x

variable {F : FTy → Type} [FloatOps F]
-- ==== Kernel3.lean ====
abbrev S128x1x1024 : Shape := ⟨3, ![128, 1, 1024]⟩
abbrev S128x2x1024 : Shape := ⟨3, ![128, 2, 1024]⟩
abbrev S4x128x1x256 : Shape := ⟨4, ![4, 128, 1, 256]⟩
abbrev S1024x3072 : Shape := ⟨2, ![1024, 3072]⟩
abbrev S3x1024 : Shape := ⟨2, ![3, 1024]⟩
abbrev S1024x1024 : Shape := ⟨2, ![1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S4x256x1024 : Shape := ⟨3, ![4, 256, 1024]⟩
abbrev S4x1024x1024 : Shape := ⟨3, ![4, 1024, 1024]⟩
abbrev S4x1x1024 : Shape := ⟨3, ![4, 1, 1024]⟩
abbrev S128x1024 : Shape := ⟨2, ![128, 1024]⟩
abbrev S4x128x256 : Shape := ⟨3, ![4, 128, 256]⟩
abbrev S1x128x256 : Shape := ⟨3, ![1, 128, 256]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1x1024x1024 : Shape := ⟨3, ![1, 1024, 1024]⟩
abbrev S128x3072 : Shape := ⟨2, ![128, 3072]⟩
abbrev S1x1024 : Shape := ⟨2, ![1, 1024]⟩
abbrev S32x1024 : Shape := ⟨2, ![32, 1024]⟩
abbrev S32 : Shape := ⟨1, ![32]⟩
abbrev S32x1 : Shape := ⟨2, ![32, 1]⟩
abbrev S1x1024x512 : Shape := ⟨3, ![1, 1024, 512]⟩
abbrev S1024x512 : Shape := ⟨2, ![1024, 512]⟩
abbrev S128x512 : Shape := ⟨2, ![128, 512]⟩
abbrev S128x4096 : Shape := ⟨2, ![128, 4096]⟩
abbrev S1x4096x512 : Shape := ⟨3, ![1, 4096, 512]⟩
abbrev S4096x512 : Shape := ⟨2, ![4096, 512]⟩
abbrev S128x256 : Shape := ⟨2, ![128, 256]⟩
abbrev S1x256x512 : Shape := ⟨3, ![1, 256, 512]⟩
abbrev S256x512 : Shape := ⟨2, ![256, 512]⟩

abbrev nBuf : Space → Nat
  | .hbm => 28
  | .vmem => 16
  | .smem => 0
  | _ => 0

abbrev bufTy : (tb : Table) → Fin (tcTables nBuf tb) → BufTy
  | .hbm, ⟨0, _⟩ => ⟨S128x1x1024, .f32⟩
  | .hbm, ⟨1, _⟩ => ⟨S128x2x1024, .f32⟩
  | .hbm, ⟨2, _⟩ => ⟨S4x128x1x256, .f32⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024x4096, .f32⟩
  | .hbm, ⟨11, _⟩ => ⟨S4x4096x1024, .f32⟩
  | .hbm, ⟨12, _⟩ => ⟨S4x256x1024, .f32⟩
  | .hbm, ⟨13, _⟩ => ⟨S4x1024x1024, .f32⟩
  | .hbm, ⟨14, _⟩ => ⟨S4x1024x4096, .bf16⟩
  | .hbm, ⟨15, _⟩ => ⟨S4x4096x1024, .bf16⟩
  | .hbm, ⟨16, _⟩ => ⟨S4x256x1024, .bf16⟩
  | .hbm, ⟨17, _⟩ => ⟨S4x1024x1024, .bf16⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S1024x3072, .bf16⟩
  | .hbm, ⟨23, _⟩ => ⟨S1024x1024, .bf16⟩
  | .hbm, ⟨24, _⟩ => ⟨S128x1024, .f32⟩
  | .hbm, ⟨25, _⟩ => ⟨S4x128x256, .f32⟩
  | .hbm, ⟨26, _⟩ => ⟨S128x1024, .f32⟩
  | .hbm, ⟨27, _⟩ => ⟨S128x1024, .f32⟩
  | .local _ .vmem, ⟨0, _⟩ => ⟨S128x1024, .f32⟩
  | .local _ .vmem, ⟨1, _⟩ => ⟨S1x128x256, .f32⟩
  | .local _ .vmem, ⟨2, _⟩ => ⟨S128x2x1024, .f32⟩
  | .local _ .vmem, ⟨3, _⟩ => ⟨S1024x3072, .bf16⟩
  | .local _ .vmem, ⟨4, _⟩ => ⟨S3x1024, .f32⟩
  | .local _ .vmem, ⟨5, _⟩ => ⟨S1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1024x4096, .bf16⟩
  | .local _ .vmem, ⟨9, _⟩ => ⟨S1x4096x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x256x1024, .bf16⟩
  | .local _ .vmem, ⟨13, _⟩ => ⟨S1x1024x1024, .bf16⟩
  | .local _ .vmem, ⟨14, _⟩ => ⟨S128x1024, .f32⟩
  | .local _ .vmem, ⟨15, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference3Ideal.lean ====
abbrev S128x1x1024 : Shape := ⟨3, ![128, 1, 1024]⟩
abbrev S128x2x1024 : Shape := ⟨3, ![128, 2, 1024]⟩
abbrev S4x128x1x256 : Shape := ⟨4, ![4, 128, 1, 256]⟩
abbrev S1024x3072 : Shape := ⟨2, ![1024, 3072]⟩
abbrev S3x1024 : Shape := ⟨2, ![3, 1024]⟩
abbrev S1024x1024 : Shape := ⟨2, ![1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S4x256x1024 : Shape := ⟨3, ![4, 256, 1024]⟩
abbrev S4x1024x1024 : Shape := ⟨3, ![4, 1024, 1024]⟩
abbrev S128x1x3072 : Shape := ⟨3, ![128, 1, 3072]⟩
abbrev S128x3x1024 : Shape := ⟨3, ![128, 3, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S128x1 : Shape := ⟨2, ![128, 1]⟩
abbrev S128x1x1 : Shape := ⟨3, ![128, 1, 1]⟩
abbrev S1x1024x4096 : Shape := ⟨3, ![1, 1024, 4096]⟩
abbrev S1024x4096 : Shape := ⟨2, ![1024, 4096]⟩
abbrev S128x1x4096 : Shape := ⟨3, ![128, 1, 4096]⟩
abbrev S1x4096x1024 : Shape := ⟨3, ![1, 4096, 1024]⟩
abbrev S4096x1024 : Shape := ⟨2, ![4096, 1024]⟩
abbrev S1x128x1x256 : Shape := ⟨4, ![1, 128, 1, 256]⟩
abbrev S128x1x256 : Shape := ⟨3, ![128, 1, 256]⟩
abbrev S1x256x1024 : Shape := ⟨3, ![1, 256, 1024]⟩
abbrev S256x1024 : Shape := ⟨2, ![256, 1024]⟩
abbrev S1x1024x1024 : Shape := ⟨3, ![1, 1024, 1024]⟩
abbrev S128x1024 : Shape := ⟨2, ![128, 1024]⟩

abbrev nBuf : Space → Nat
  | .hbm => 147
  | .vmem => 0
  | .smem => 0
  | _ => 0

abbrev hbmTy0_0 (i : Nat) : BufTy := match i % 128 with
  | 0 => ⟨S128x1x1024, .f32⟩
  | 1 => ⟨S128x2x1024, .f32⟩
  | 2 => ⟨S4x128x1x256, .f32⟩
  | 3 => ⟨S1024x3072, .f32⟩
  | 4 => ⟨S3x1024, .f32⟩
  | 5 => ⟨S1024x1024, .f32⟩
  | 6 => ⟨S4x1024, .f32⟩
  | 7 => ⟨S4x1024, .f32⟩
  | 8 => ⟨S4x1024, .f32⟩
  | 9 => ⟨S4x1024, .f32⟩
  | 10 => ⟨S4x1024x4096, .f32⟩
  | 11 => ⟨S4x4096x1024, .f32⟩
  | 12 => ⟨S4x256x1024, .f32⟩
  | 13 => ⟨S4x1024x1024, .f32⟩
  | 14 => ⟨S128x1x3072, .f32⟩
  | 15 => ⟨S128x1x1024, .f32⟩
  | 16 => ⟨S128x1x1024, .f32⟩
  | 17 => ⟨S128x1x1024, .f32⟩
  | 18 => ⟨S128x1x1024, .f32⟩
  | 19 => ⟨S128x3x1024, .f32⟩
  | 20 => ⟨S128x1x1024, .f32⟩
  | 21 => ⟨S1x1024, .f32⟩
  | 22 => ⟨S1024, .f32⟩
  | 23 => ⟨S1x1x1024, .f32⟩
  | 24 => ⟨S128x1x1024, .f32⟩
  | 25 => ⟨S128x1x1024, .f32⟩
  | 26 => ⟨S_, .f32⟩
  | 27 => ⟨S128x1x1024, .f32⟩
  | 28 => ⟨S128x1x1024, .f32⟩
  | 29 => ⟨S128x1x1024, .f32⟩
  | 30 => ⟨S1x1024, .f32⟩
  | 31 => ⟨S1024, .f32⟩
  | 32 => ⟨S1x1x1024, .f32⟩
  | 33 => ⟨S128x1x1024, .f32⟩
  | 34 => ⟨S128x1x1024, .f32⟩
  | 35 => ⟨S128x1x1024, .f32⟩
  | 36 => ⟨S128x1x1024, .f32⟩
  | 37 => ⟨S1x1024, .f32⟩
  | 38 => ⟨S1024, .f32⟩
  | 39 => ⟨S1x1x1024, .f32⟩
  | 40 => ⟨S128x1x1024, .f32⟩
  | 41 => ⟨S128x1x1024, .f32⟩
  | 42 => ⟨S128x1x1024, .f32⟩
  | 43 => ⟨S128x2x1024, .f32⟩
  | 44 => ⟨S128x1x1024, .f32⟩
  | 45 => ⟨S128x1x1024, .f32⟩
  | 46 => ⟨S_, .f32⟩
  | 47 => ⟨S128x1x1024, .f32⟩
  | 48 => ⟨S128x1x1024, .f32⟩
  | 49 => ⟨S128x1x1024, .f32⟩
  | 50 => ⟨S1x1024, .f32⟩
  | 51 => ⟨S1024, .f32⟩
  | 52 => ⟨S1x1024, .f32⟩
  | 53 => ⟨S1024, .f32⟩
  | 54 => ⟨S_, .f32⟩
  | 55 => ⟨S128x1, .f32⟩
  | 56 => ⟨S128x1x1, .f32⟩
  | 57 => ⟨S_, .f32⟩
  | 58 => ⟨S128x1x1, .f32⟩
  | 59 => ⟨S128x1x1, .f32⟩
  | 60 => ⟨S128x1x1024, .f32⟩
  | 61 => ⟨S128x1x1024, .f32⟩
  | 62 => ⟨S128x1x1024, .f32⟩
  | 63 => ⟨S_, .f32⟩
  | 64 => ⟨S128x1, .f32⟩
  | 65 => ⟨S128x1x1, .f32⟩
  | 66 => ⟨S_, .f32⟩
  | 67 => ⟨S128x1x1, .f32⟩
  | 68 => ⟨S128x1x1, .f32⟩
  | 69 => ⟨S_, .f32⟩
  | 70 => ⟨S128x1x1, .f32⟩
  | 71 => ⟨S128x1x1, .f32⟩
  | 72 => ⟨S128x1x1, .f32⟩
  | 73 => ⟨S128x1x1024, .f32⟩
  | 74 => ⟨S128x1x1024, .f32⟩
  | 75 => ⟨S1x1x1024, .f32⟩
  | 76 => ⟨S128x1x1024, .f32⟩
  | 77 => ⟨S128x1x1024, .f32⟩
  | 78 => ⟨S1x1x1024, .f32⟩
  | 79 => ⟨S128x1x1024, .f32⟩
  | 80 => ⟨S128x1x1024, .f32⟩
  | 81 => ⟨S1x1024x4096, .f32⟩
  | 82 => ⟨S1024x4096, .f32⟩
  | 83 => ⟨S128x1x4096, .f32⟩
  | 84 => ⟨S_, .f32⟩
  | 85 => ⟨S128x1x4096, .f32⟩
  | 86 => ⟨S128x1x4096, .f32⟩
  | 87 => ⟨S128x1x4096, .f32⟩
  | 88 => ⟨S_, .f32⟩
  | 89 => ⟨S128x1x1024, .f32⟩
  | 90 => ⟨S128x1x1024, .f32⟩
  | 91 => ⟨S1x4096x1024, .f32⟩
  | 92 => ⟨S4096x1024, .f32⟩
  | 93 => ⟨S128x1x1024, .f32⟩
  | 94 => ⟨S128x1x1024, .f32⟩
  | 95 => ⟨S1x1024, .f32⟩
  | 96 => ⟨S1024, .f32⟩
  | 97 => ⟨S1x1024, .f32⟩
  | 98 => ⟨S1024, .f32⟩
  | 99 => ⟨S_, .f32⟩
  | 100 => ⟨S128x1, .f32⟩
  | 101 => ⟨S128x1x1, .f32⟩
  | 102 => ⟨S_, .f32⟩
  | 103 => ⟨S128x1x1, .f32⟩
  | 104 => ⟨S128x1x1, .f32⟩
  | 105 => ⟨S128x1x1024, .f32⟩
  | 106 => ⟨S128x1x1024, .f32⟩
  | 107 => ⟨S128x1x1024, .f32⟩
  | 108 => ⟨S_, .f32⟩
  | 109 => ⟨S128x1, .f32⟩
  | 110 => ⟨S128x1x1, .f32⟩
  | 111 => ⟨S_, .f32⟩
  | 112 => ⟨S128x1x1, .f32⟩
  | 113 => ⟨S128x1x1, .f32⟩
  | 114 => ⟨S_, .f32⟩
  | 115 => ⟨S128x1x1, .f32⟩
  | 116 => ⟨S128x1x1, .f32⟩
  | 117 => ⟨S128x1x1, .f32⟩
  | 118 => ⟨S128x1x1024, .f32⟩
  | 119 => ⟨S128x1x1024, .f32⟩
  | 120 => ⟨S1x1x1024, .f32⟩
  | 121 => ⟨S128x1x1024, .f32⟩
  | 122 => ⟨S128x1x1024, .f32⟩
  | 123 => ⟨S1x1x1024, .f32⟩
  | 124 => ⟨S128x1x1024, .f32⟩
  | 125 => ⟨S128x1x1024, .f32⟩
  | 126 => ⟨S1x128x1x256, .f32⟩
  | 127 => ⟨S128x1x256, .f32⟩
  | _ => ⟨S128x1x1024, .f32⟩

abbrev hbmTy0_1 (i : Nat) : BufTy := match i % 128 with
  | 0 => ⟨S1x256x1024, .f32⟩
  | 1 => ⟨S256x1024, .f32⟩
  | 2 => ⟨S128x1x1024, .f32⟩
  | 3 => ⟨S1x1024x1024, .f32⟩
  | 4 => ⟨S1024x1024, .f32⟩
  | 5 => ⟨S128x1x1024, .f32⟩
  | 6 => ⟨S128x1x1024, .f32⟩
  | 7 => ⟨S128x1x1024, .f32⟩
  | 8 => ⟨S_, .f32⟩
  | 9 => ⟨S128x1x1024, .f32⟩
  | 10 => ⟨S128x1x1024, .f32⟩
  | 11 => ⟨S_, .f32⟩
  | 12 => ⟨S128x1x1024, .f32⟩
  | 13 => ⟨S128x1x1024, .f32⟩
  | 14 => ⟨S128x1x1024, .f32⟩
  | 15 => ⟨S128x1x1024, .f32⟩
  | 16 => ⟨S128x1024, .f32⟩
  | 17 => ⟨S128x1x1024, .f32⟩
  | 18 => ⟨S128x1024, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_1 : Ref sig .tc := ⟨.hbm, 54, rfl⟩
abbrev main_v38 : Ref sig .tc := ⟨.hbm, 55, rfl⟩
abbrev main_v39 : Ref sig .tc := ⟨.hbm, 56, rfl⟩
abbrev main_cst_2 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_3 : Ref sig .tc := ⟨.hbm, 63, rfl⟩
abbrev main_v45 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_call0_cst : Ref sig .tc := ⟨.hbm, 84, rfl⟩
abbrev main_call0_v0 : Ref sig .tc := ⟨.hbm, 85, rfl⟩
abbrev main_v63 : Ref sig .tc := ⟨.hbm, 86, rfl⟩
abbrev main_v64 : Ref sig .tc := ⟨.hbm, 87, rfl⟩
abbrev main_cst_6 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_7 : Ref sig .tc := ⟨.hbm, 99, rfl⟩
abbrev main_v75 : Ref sig .tc := ⟨.hbm, 100, rfl⟩
abbrev main_v76 : Ref sig .tc := ⟨.hbm, 101, rfl⟩
abbrev main_cst_8 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_9 : Ref sig .tc := ⟨.hbm, 108, rfl⟩
abbrev main_v82 : Ref sig .tc := ⟨.hbm, 109, rfl⟩
abbrev main_v83 : Ref sig .tc := ⟨.hbm, 110, rfl⟩
abbrev main_cst_10 : Ref sig .tc := ⟨.hbm, 111, rfl⟩
abbrev main_v84 : Ref sig .tc := ⟨.hbm, 112, rfl⟩
abbrev main_v85 : Ref sig .tc := ⟨.hbm, 113, rfl⟩
abbrev main_cst_11 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_12 : Ref sig .tc := ⟨.hbm, 136, rfl⟩
abbrev main_v107 : Ref sig .tc := ⟨.hbm, 137, rfl⟩
abbrev main_v108 : Ref sig .tc := ⟨.hbm, 138, rfl⟩
abbrev main_cst_13 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩

abbrev nD : Nat := 1
abbrev τ : Topo := Topo.v7x

variable {F : FTy → Type} [FloatOps F]
-- ==== Proof.Tile.lean ====
/- The kernel's arithmetic on one 256-row tile, as named vector operations: layer normalisation of 32 rows, the four
   column pieces of the input projection with their GELU, the sequence-mixing heads of two 128-row chunks, the two
   residual sums, the squared-ReLU MLP and the gated embedding. Nothing here is proved; the definitions follow the
   kernel's own operations, in its order and its shapes. -/
module

public import proofs.«01_k».proof.Proof.Gen.KernelIdeal.Skeleton

@[expose] public section

set_option maxRecDepth 16384

noncomputable section

namespace Cert.Tile

open Idealize.ShloMosaic Cert.KernelIdeal Cert.KernelIdeal.Gen

variable {F : FTy → Type} [FloatOps F]

/-! ## Layer normalisation of 32 rows -/

/-- The mean of each of 32 rows of 1024 entries, as a column. -/
def rowMean (x : FVec F S32x1024 .f32) : FVec F S32x1 .f32 :=
  divf (shapeCast S32x1 (multiReduction .add [1] S32 x 0x00000000#32 reduces_S32x1024_S32 (.inl rfl) rfl)
    shapeCasts_S32_S32x1) (broadcast S32x1 (Scalar.ofBits .f32 0x44800000#32))

/-- The rows with their means taken off. -/
def centred (x : FVec F S32x1024 .f32) : FVec F S32x1024 .f32 :=
  subf x (broadcastTo S32x1024 (rowMean x) broadcasts_S32x1_S32x1024)

/-- Layer normalisation of 32 rows with gain `g` and offset `b`. -/
def normed (x : FVec F S32x1024 .f32) (g b : FVec F S1x1024 .f32) : FVec F S32x1024 .f32 :=
  addf (mulf (mulf (centred x) (broadcastTo S32x1024 (rsqrt (addf (rowMean (mulf (centred x) (centred x)))
    (broadcast S32x1 (Scalar.ofBits .f32 0x3727C5AC#32)))) broadcasts_S32x1_S32x1024))
    (broadcastTo S32x1024 g broadcasts_S1x1024_S32x1024)) (broadcastTo S32x1024 b broadcasts_S1x1024_S32x1024)

/-- Rows `o … o + 31` of a 256-row tile. -/
abbrev rows (o : Nat) (h : S256x1024.Slices ![o, 0] S32x1024) (x : FVec F S256x1024 .f32) : FVec F S32x1024 .f32 :=
  extractStridedSlice S32x1024 ![o, 0] x h

/-- Eight pieces of 32 rows, one under the other. -/
abbrev stack8 {φ : FTy} (p0 p1 p2 p3 p4 p5 p6 p7 : FVec F S32x1024 φ) : FVec F S256x1024 φ :=
  concatenate S256x1024 0 [⟨S32x1024, p0⟩, ⟨S32x1024, p1⟩, ⟨S32x1024, p2⟩, ⟨S32x1024, p3⟩, ⟨S32x1024, p4⟩,
    ⟨S32x1024, p5⟩, ⟨S32x1024, p6⟩, ⟨S32x1024, p7⟩]
    concatenates_S32x1024_S32x1024_S32x1024_S32x1024_S32x1024_S32x1024_S32x1024_S32x1024_S256x1024_d0

/-- The eight pieces rounded, one under the other. -/
abbrev stack8b (p0 p1 p2 p3 p4 p5 p6 p7 : FVec F S32x1024 .f32) : FVec F S256x1024 .bf16 :=
  stack8 (truncf .bf16 p0 bitsLt_bf16_f32) (truncf .bf16 p1 bitsLt_bf16_f32) (truncf .bf16 p2 bitsLt_bf16_f32)
    (truncf .bf16 p3 bitsLt_bf16_f32) (truncf .bf16 p4 bitsLt_bf16_f32) (truncf .bf16 p5 bitsLt_bf16_f32)
    (truncf .bf16 p6 bitsLt_bf16_f32) (truncf .bf16 p7 bitsLt_bf16_f32)

/-! ## The input projection and its GELU -/

/-- A tile of the block's input, rounded. -/
def xbTile (x : Vec F S1x256x1024 .f32) : FVec F S256x1024 .bf16 :=
  truncf .bf16 (shapeCast S256x1024 x shapeCasts_S1x256x1024_S256x1024) bitsLt_bf16_f32

/-- The tanh form of GELU. -/
def gelu (h : FVec F S256x512 .f32) : FVec F S256x512 .f32 :=
  mulf h (mulf (broadcast S256x512 (Scalar.ofBits .f32 0x3F000000#32)) (addf (broadcast S256x512 (Scalar.ofBits .f32 0x3F800000#32))
    (tanh (mulf (broadcast S256x512 (Scalar.ofBits .f32 0x3F4C422A#32))
      (addf h (mulf (broadcast S256x512 (Scalar.ofBits .f32 0x3D372713#32)) (mulf h (mulf h h))))))))

/-- A tile against 512 columns of a 1024-row matrix. -/
abbrev times (x : FVec F S256x1024 .bf16) (w : FVec F S1024x512 .bf16) : FVec F S256x512 .f32 :=
  matmul dot_S256x1024_S1024x512_S256x512_1_0_0_1_n_n none x w (constant S256x512 .f32 0x00000000#32)

/-- 512 columns of the input projection. -/
def inPiece (x : FVec F S256x1024 .bf16) (w : Vec F S1024x512 .bf16) (b : Vec F S1x512 .f32) : FVec F S256x512 .f32 :=
  gelu (addf (times x (shapeCast S1024x512 w shapeCasts_S1024x512_S1024x512))
    (broadcastTo S256x512 (shapeCast S1x512 b shapeCasts_S1x512_S1x512) broadcasts_S1x512_S256x512))

/-- The input projection of a tile: its four column pieces side by side. -/
def inTile (x : FVec F S256x1024 .bf16) (w0 w1 w2 w3 : Vec F S1024x512 .bf16) (b0 b1 b2 b3 : Vec F S1x512 .f32) :
    FVec F S256x2048 .f32 :=
  concatenate S256x2048 1 [⟨S256x512, inPiece x w0 b0⟩, ⟨S256x512, inPiece x w1 b1⟩, ⟨S256x512, inPiece x w2 b2⟩,
    ⟨S256x512, inPiece x w3 b3⟩] concatenates_S256x512_S256x512_S256x512_S256x512_S256x2048_d1

/-- The projection's first half of columns. -/
def uTile (z : FVec F S256x2048 .f32) : FVec F S256x1024 .f32 :=
  extractStridedSlice S256x1024 ![0, 0] z slices_S256x2048_o0_0_S256x1024

/-- The projection's second half of columns. -/
def vTile (z : FVec F S256x2048 .f32) : FVec F S256x1024 .f32 :=
  extractStridedSlice S256x1024 ![0, 1024] z slices_S256x2048_o0_1024_S256x1024

/-- The gating half, normalised row by row. -/
def vnTile (v : FVec F S256x1024 .f32) (g b : FVec F S1x1024 .f32) : FVec F S256x1024 .f32 :=
  stack8 (normed (rows 0 slices_S256x1024_o0_0_S32x1024 v) g b) (normed (rows 32 slices_S256x1024_o32_0_S32x1024 v) g b)
    (normed (rows 64 slices_S256x1024_o64_0_S32x1024 v) g b) (normed (rows 96 slices_S256x1024_o96_0_S32x1024 v) g b)
    (normed (rows 128 slices_S256x1024_o128_0_S32x1024 v) g b) (normed (rows 160 slices_S256x1024_o160_0_S32x1024 v) g b)
    (normed (rows 192 slices_S256x1024_o192_0_S32x1024 v) g b) (normed (rows 224 slices_S256x1024_o224_0_S32x1024 v) g b)

/-- The gating half, normalised row by row and rounded. -/
def vnTileB (v : FVec F S256x1024 .f32) (g b : FVec F S1x1024 .f32) : FVec F S256x1024 .bf16 :=
  stack8b (normed (rows 0 slices_S256x1024_o0_0_S32x1024 v) g b) (normed (rows 32 slices_S256x1024_o32_0_S32x1024 v) g b)
    (normed (rows 64 slices_S256x1024_o64_0_S32x1024 v) g b) (normed (rows 96 slices_S256x1024_o96_0_S32x1024 v) g b)
    (normed (rows 128 slices_S256x1024_o128_0_S32x1024 v) g b) (normed (rows 160 slices_S256x1024_o160_0_S32x1024 v) g b)
    (normed (rows 192 slices_S256x1024_o192_0_S32x1024 v) g b) (normed (rows 224 slices_S256x1024_o224_0_S32x1024 v) g b)

/-! ## Mixing along the sequence -/

/-- One head's mixing matrix, cut to its lower triangle. -/
def mask (w : Vec F S1x128x128 .f32) : FVec F S128x128 .bf16 :=
  truncf .bf16 (select (cmpi .sge (iota .tc S128x128 32 [0] iota_S128x128_d0_w32) (iota .tc S128x128 32 [1] iota_S128x128_d1_w32))
    (shapeCast S128x128 w shapeCasts_S1x128x128_S128x128) (broadcast S128x128 (Scalar.ofBits .f32 0x00000000#32))) bitsLt_bf16_f32

/-- One head of one 128-row chunk: the masked mixing of the normalised half plus the row's bias, times the other half. -/
def head (w : Vec F S1x128x128 .f32) (b : Vec F S1x128x1 .f32) (u : FVec F S256x1024 .f32) (vn : FVec F S256x1024 .bf16)
    (r c : Nat) (h : S256x1024.Slices ![r, c] S128x128) : FVec F S128x128 .bf16 :=
  truncf .bf16 (mulf (extractStridedSlice S128x128 ![r, c] u h)
    (addf (matmul dot_S128x128_S128x128_S128x128_1_0_0_1_n_n none (mask w) (extractStridedSlice S128x128 ![r, c] vn h)
        (constant S128x128 .f32 0x00000000#32))
      (broadcastTo S128x128 (shapeCast S128x1 b shapeCasts_S1x128x1_S128x1) broadcasts_S128x1_S128x128))) bitsLt_bf16_f32

/-- The eight heads of one chunk, side by side. -/
abbrev side8 (p0 p1 p2 p3 p4 p5 p6 p7 : FVec F S128x128 .bf16) : FVec F S128x1024 .bf16 :=
  concatenate S128x1024 1 [⟨S128x128, p0⟩, ⟨S128x128, p1⟩, ⟨S128x128, p2⟩, ⟨S128x128, p3⟩, ⟨S128x128, p4⟩, ⟨S128x128, p5⟩,
    ⟨S128x128, p6⟩, ⟨S128x128, p7⟩]
    concatenates_S128x128_S128x128_S128x128_S128x128_S128x128_S128x128_S128x128_S128x128_S128x1024_d1

/-- The gated tile: both of its chunks, one under the other. -/
def gated (w0 w1 w2 w3 w4 w5 w6 w7 : Vec F S1x128x128 .f32) (b0 b1 b2 b3 b4 b5 b6 b7 : Vec F S1x128x1 .f32)
    (u : FVec F S256x1024 .f32) (vn : FVec F S256x1024 .bf16) : FVec F S256x1024 .bf16 :=
  concatenate S256x1024 0 [
    ⟨S128x1024, side8 (head w0 b0 u vn 0 0 slices_S256x1024_o0_0_S128x128) (head w1 b1 u vn 0 128 slices_S256x1024_o0_128_S128x128)
      (head w2 b2 u vn 0 256 slices_S256x1024_o0_256_S128x128) (head w3 b3 u vn 0 384 slices_S256x1024_o0_384_S128x128)
      (head w4 b4 u vn 0 512 slices_S256x1024_o0_512_S128x128) (head w5 b5 u vn 0 640 slices_S256x1024_o0_640_S128x128)
      (head w6 b6 u vn 0 768 slices_S256x1024_o0_768_S128x128) (head w7 b7 u vn 0 896 slices_S256x1024_o0_896_S128x128)⟩,
    ⟨S128x1024, side8 (head w0 b0 u vn 128 0 slices_S256x1024_o128_0_S128x128) (head w1 b1 u vn 128 128 slices_S256x1024_o128_128_S128x128)
      (head w2 b2 u vn 128 256 slices_S256x1024_o128_256_S128x128) (head w3 b3 u vn 128 384 slices_S256x1024_o128_384_S128x128)
      (head w4 b4 u vn 128 512 slices_S256x1024_o128_512_S128x128) (head w5 b5 u vn 128 640 slices_S256x1024_o128_640_S128x128)
      (head w6 b6 u vn 128 768 slices_S256x1024_o128_768_S128x128) (head w7 b7 u vn 128 896 slices_S256x1024_o128_896_S128x128)⟩]
    concatenates_S128x1024_S128x1024_S256x1024_d0

/-! ## The two residual sums, the MLP and the gated embedding -/

/-- Two pieces of 512 columns side by side. -/
abbrev side2 (p q : FVec F S256x512 .f32) : FVec F S256x1024 .f32 :=
  concatenate S256x1024 1 [⟨S256x512, p⟩, ⟨S256x512, q⟩] concatenates_S256x512_S256x512_S256x1024_d1

/-- The mixer's output projection. -/
def mixTile (g : FVec F S256x1024 .bf16) (w0 w1 : Vec F S1024x512 .bf16) : FVec F S256x1024 .f32 :=
  side2 (times g (shapeCast S1024x512 w0 shapeCasts_S1024x512_S1024x512))
    (times g (shapeCast S1024x512 w1 shapeCasts_S1024x512_S1024x512))

/-- The scaled residual plus a branch's output, 32 rows. -/
def resid (x y : FVec F S32x1024 .f32) : FVec F S32x1024 .f32 :=
  addf (mulf (broadcast S32x1024 (Scalar.ofBits .f32 0x3FD744FD#32)) x) y

/-- A norm's gain or offset as a row. -/
abbrev rowOf (g : Vec F S1x1x1024 .f32) : FVec F S1x1024 .f32 := shapeCast S1x1024 g shapeCasts_S1x1x1024_S1x1024

/-- 32 rows of the block's input. -/
abbrev xRows (x : Vec F S1x32x1024 .f32) : FVec F S32x1024 .f32 := shapeCast S32x1024 x shapeCasts_S1x32x1024_S32x1024

/-- The first residual sum, normalised. -/
def x1Tile (x0 x1 x2 x3 x4 x5 x6 x7 : Vec F S1x32x1024 .f32) (y : FVec F S256x1024 .f32) (g b : Vec F S1x1x1024 .f32) :
    FVec F S256x1024 .f32 :=
  stack8 (normed (resid (xRows x0) (rows 0 slices_S256x1024_o0_0_S32x1024 y)) (rowOf g) (rowOf b))
    (normed (resid (xRows x1) (rows 32 slices_S256x1024_o32_0_S32x1024 y)) (rowOf g) (rowOf b))
    (normed (resid (xRows x2) (rows 64 slices_S256x1024_o64_0_S32x1024 y)) (rowOf g) (rowOf b))
    (normed (resid (xRows x3) (rows 96 slices_S256x1024_o96_0_S32x1024 y)) (rowOf g) (rowOf b))
    (normed (resid (xRows x4) (rows 128 slices_S256x1024_o128_0_S32x1024 y)) (rowOf g) (rowOf b))
    (normed (resid (xRows x5) (rows 160 slices_S256x1024_o160_0_S32x1024 y)) (rowOf g) (rowOf b))
    (normed (resid (xRows x6) (rows 192 slices_S256x1024_o192_0_S32x1024 y)) (rowOf g) (rowOf b))
    (normed (resid (xRows x7) (rows 224 slices_S256x1024_o224_0_S32x1024 y)) (rowOf g) (rowOf b))

/-- The first residual sum, normalised and rounded. -/
def x1TileB (x0 x1 x2 x3 x4 x5 x6 x7 : Vec F S1x32x1024 .f32) (y : FVec F S256x1024 .f32) (g b : Vec F S1x1x1024 .f32) :
    FVec F S256x1024 .bf16 :=
  stack8b (normed (resid (xRows x0) (rows 0 slices_S256x1024_o0_0_S32x1024 y)) (rowOf g) (rowOf b))
    (normed (resid (xRows x1) (rows 32 slices_S256x1024_o32_0_S32x1024 y)) (rowOf g) (rowOf b))
    (normed (resid (xRows x2) (rows 64 slices_S256x1024_o64_0_S32x1024 y)) (rowOf g) (rowOf b))
    (normed (resid (xRows x3) (rows 96 slices_S256x1024_o96_0_S32x1024 y)) (rowOf g) (rowOf b))
    (normed (resid (xRows x4) (rows 128 slices_S256x1024_o128_0_S32x1024 y)) (rowOf g) (rowOf b))
    (normed (resid (xRows x5) (rows 160 slices_S256x1024_o160_0_S32x1024 y)) (rowOf g) (rowOf b))
    (normed (resid (xRows x6) (rows 192 slices_S256x1024_o192_0_S32x1024 y)) (rowOf g) (rowOf b))
    (normed (resid (xRows x7) (rows 224 slices_S256x1024_o224_0_S32x1024 y)) (rowOf g) (rowOf b))

/-- 512 hidden columns of the MLP: the square of the ReLU. -/
def hidPiece (x : FVec F S256x1024 .bf16) (w : Vec F S1x1024x512 .bf16) : FVec F S256x512 .bf16 :=
  let h := maximumf (times x (shapeCast S1024x512 w shapeCasts_S1x1024x512_S1024x512))
    (broadcast S256x512 (Scalar.ofBits .f32 0x00000000#32))
  truncf .bf16 (mulf h h) bitsLt_bf16_f32

/-- The MLP's hidden tile: eight column pieces side by side. -/
def hidTile (x : FVec F S256x1024 .bf16) (w0 w1 w2 w3 w4 w5 w6 w7 : Vec F S1x1024x512 .bf16) : FVec F S256x4096 .bf16 :=
  concatenate S256x4096 1 [⟨S256x512, hidPiece x w0⟩, ⟨S256x512, hidPiece x w1⟩, ⟨S256x512, hidPiece x w2⟩,
    ⟨S256x512, hidPiece x w3⟩, ⟨S256x512, hidPiece x w4⟩, ⟨S256x512, hidPiece x w5⟩, ⟨S256x512, hidPiece x w6⟩,
    ⟨S256x512, hidPiece x w7⟩] concatenates_S256x512_S256x512_S256x512_S256x512_S256x512_S256x512_S256x512_S256x512_S256x4096_d1

/-- The MLP's output: two column pieces side by side. -/
def downTile (h : FVec F S256x4096 .bf16) (w0 w1 : Vec F S1x4096x512 .bf16) : FVec F S256x1024 .f32 :=
  side2 (matmul dot_S256x4096_S4096x512_S256x512_1_0_0_1_n_n none h (shapeCast S4096x512 w0 shapeCasts_S1x4096x512_S4096x512)
      (constant S256x512 .f32 0x00000000#32))
    (matmul dot_S256x4096_S4096x512_S256x512_1_0_0_1_n_n none h (shapeCast S4096x512 w1 shapeCasts_S1x4096x512_S4096x512)
      (constant S256x512 .f32 0x00000000#32))

/-- The second residual sum, normalised. -/
def x2Tile (x y : FVec F S256x1024 .f32) (g b : Vec F S1x1x1024 .f32) : FVec F S256x1024 .f32 :=
  stack8 (normed (resid (rows 0 slices_S256x1024_o0_0_S32x1024 x) (rows 0 slices_S256x1024_o0_0_S32x1024 y)) (rowOf g) (rowOf b))
    (normed (resid (rows 32 slices_S256x1024_o32_0_S32x1024 x) (rows 32 slices_S256x1024_o32_0_S32x1024 y)) (rowOf g) (rowOf b))
    (normed (resid (rows 64 slices_S256x1024_o64_0_S32x1024 x) (rows 64 slices_S256x1024_o64_0_S32x1024 y)) (rowOf g) (rowOf b))
    (normed (resid (rows 96 slices_S256x1024_o96_0_S32x1024 x) (rows 96 slices_S256x1024_o96_0_S32x1024 y)) (rowOf g) (rowOf b))
    (normed (resid (rows 128 slices_S256x1024_o128_0_S32x1024 x) (rows 128 slices_S256x1024_o128_0_S32x1024 y)) (rowOf g) (rowOf b))
    (normed (resid (rows 160 slices_S256x1024_o160_0_S32x1024 x) (rows 160 slices_S256x1024_o160_0_S32x1024 y)) (rowOf g) (rowOf b))
    (normed (resid (rows 192 slices_S256x1024_o192_0_S32x1024 x) (rows 192 slices_S256x1024_o192_0_S32x1024 y)) (rowOf g) (rowOf b))
    (normed (resid (rows 224 slices_S256x1024_o224_0_S32x1024 x) (rows 224 slices_S256x1024_o224_0_S32x1024 y)) (rowOf g) (rowOf b))

/-- The second residual sum, normalised and rounded. -/
def x2TileB (x y : FVec F S256x1024 .f32) (g b : Vec F S1x1x1024 .f32) : FVec F S256x1024 .bf16 :=
  stack8b (normed (resid (rows 0 slices_S256x1024_o0_0_S32x1024 x) (rows 0 slices_S256x1024_o0_0_S32x1024 y)) (rowOf g) (rowOf b))
    (normed (resid (rows 32 slices_S256x1024_o32_0_S32x1024 x) (rows 32 slices_S256x1024_o32_0_S32x1024 y)) (rowOf g) (rowOf b))
    (normed (resid (rows 64 slices_S256x1024_o64_0_S32x1024 x) (rows 64 slices_S256x1024_o64_0_S32x1024 y)) (rowOf g) (rowOf b))
    (normed (resid (rows 96 slices_S256x1024_o96_0_S32x1024 x) (rows 96 slices_S256x1024_o96_0_S32x1024 y)) (rowOf g) (rowOf b))
    (normed (resid (rows 128 slices_S256x1024_o128_0_S32x1024 x) (rows 128 slices_S256x1024_o128_0_S32x1024 y)) (rowOf g) (rowOf b))
    (normed (resid (rows 160 slices_S256x1024_o160_0_S32x1024 x) (rows 160 slices_S256x1024_o160_0_S32x1024 y)) (rowOf g) (rowOf b))
    (normed (resid (rows 192 slices_S256x1024_o192_0_S32x1024 x) (rows 192 slices_S256x1024_o192_0_S32x1024 y)) (rowOf g) (rowOf b))
    (normed (resid (rows 224 slices_S256x1024_o224_0_S32x1024 x) (rows 224 slices_S256x1024_o224_0_S32x1024 y)) (rowOf g) (rowOf b))

/-- 512 columns (from column `c`) of the layer's output: the normalised sum plus the embedding's projection times its gate. -/
def outPiece (x : FVec F S256x1024 .f32) (xb : FVec F S256x1024 .bf16) (c : Nat) (h : S256x1024.Slices ![0, c] S256x512)
    (wg : Vec F S1x1024x512 .bf16) (p : Vec F S1x1x256x256 .f32) (wp : Vec F S1x256x512 .bf16) : FVec F S1x256x512 .f32 :=
  shapeCast S1x256x512 (addf (extractStridedSlice S256x512 ![0, c] x h)
    (mulf (matmul dot_S256x256_S256x512_S256x512_1_0_0_1_n_n none
        (truncf .bf16 (shapeCast S256x256 p shapeCasts_S1x1x256x256_S256x256) bitsLt_bf16_f32)
        (shapeCast S256x512 wp shapeCasts_S1x256x512_S256x512) (constant S256x512 .f32 0x00000000#32))
      (logistic (times xb (shapeCast S1024x512 wg shapeCasts_S1x1024x512_S1024x512))))) shapeCasts_S256x512_S1x256x512

end Cert.Tile

end
-- ==== Proof.Stage.lean ====
/- The values the kernel's body computes, stage by stage, are the named tile operations of `Tile`: each theorem takes the
   body's values of one stage, as functions of the stage before, to one named operation. -/
module

public import proofs.«01_k».proof.Proof.Tile

@[expose] public section

set_option maxRecDepth 16384

noncomputable section

namespace Cert.Stage

open Idealize.ShloMosaic Cert.KernelIdeal Cert.KernelIdeal.Gen Cert.Tile

variable {F : FTy → Type} [FloatOps F]

/-- The first tile's rounded input. -/
theorem x_0 (x_0_0_0 : Vec F S1x256x1024 .f32) :
    k0_pay11 x_0_0_0 =
      xbTile x_0_0_0 := rfl

/-- The first tile's first half of the input projection. -/
theorem u_0 (x_0_0_0 : Vec F S1x256x1024 .f32) (wi_0_0 : Vec F S1024x512 .bf16) (bi_0_0 : Vec F S1x512 .f32) (wi_0_512 : Vec F S1024x512 .bf16)
    (bi_0_512 : Vec F S1x512 .f32) (wi_0_1024 : Vec F S1024x512 .bf16) (bi_0_1024 : Vec F S1x512 .f32) (wi_0_1536 : Vec F S1024x512 .bf16) (bi_0_1536
    : Vec F S1x512 .f32) :
    k0_pay16 (xbTile x_0_0_0) (k0_pay12 x_0_0_0 wi_0_0 bi_0_0) (k0_pay13 (xbTile x_0_0_0) wi_0_512 bi_0_512) (k0_pay14 (xbTile x_0_0_0) wi_0_1024
        bi_0_1024) wi_0_1536 bi_0_1536 =
      uTile (inTile (xbTile x_0_0_0) wi_0_0 wi_0_512 wi_0_1024 wi_0_1536 bi_0_0 bi_0_512 bi_0_1024 bi_0_1536) := rfl

/-- The first tile's second half of the input projection. -/
theorem v_0 (x_0_0_0 : Vec F S1x256x1024 .f32) (wi_0_0 : Vec F S1024x512 .bf16) (bi_0_0 : Vec F S1x512 .f32) (wi_0_512 : Vec F S1024x512 .bf16)
    (bi_0_512 : Vec F S1x512 .f32) (wi_0_1024 : Vec F S1024x512 .bf16) (bi_0_1024 : Vec F S1x512 .f32) (wi_0_1536 : Vec F S1024x512 .bf16) (bi_0_1536
    : Vec F S1x512 .f32) :
    k0_pay17 (xbTile x_0_0_0) (k0_pay12 x_0_0_0 wi_0_0 bi_0_0) (k0_pay13 (xbTile x_0_0_0) wi_0_512 bi_0_512) (k0_pay14 (xbTile x_0_0_0) wi_0_1024
        bi_0_1024) wi_0_1536 bi_0_1536 =
      vTile (inTile (xbTile x_0_0_0) wi_0_0 wi_0_512 wi_0_1024 wi_0_1536 bi_0_0 bi_0_512 bi_0_1024 bi_0_1536) := rfl

/-- The first tile's normalised half, rounded. -/
theorem vnb_0 (lb : Vec F S1x1024 .f32) (x_0_0_0 : Vec F S1x256x1024 .f32) (wi_0_0 : Vec F S1024x512 .bf16) (bi_0_0 : Vec F S1x512 .f32) (wi_0_512 :
    Vec F S1024x512 .bf16) (bi_0_512 : Vec F S1x512 .f32) (wi_0_1024 : Vec F S1024x512 .bf16) (bi_0_1024 : Vec F S1x512 .f32) (wi_0_1536 : Vec F
    S1024x512 .bf16) (bi_0_1536 : Vec F S1x512 .f32) (lg : Vec F S1x1024 .f32) :
    k0_pay50 (k0_pay21 (k0_pay18 lb) (k0_pay19 (xbTile x_0_0_0) (k0_pay12 x_0_0_0 wi_0_0 bi_0_0) (k0_pay13 (xbTile x_0_0_0) wi_0_512 bi_0_512)
        (k0_pay14 (xbTile x_0_0_0) wi_0_1024 bi_0_1024) wi_0_1536 bi_0_1536) (k0_pay20 lg)) (k0_pay28 (k0_pay24 lg) (k0_pay25 lb) (k0_pay26 (vTile
        (inTile (xbTile x_0_0_0) wi_0_0 wi_0_512 wi_0_1024 wi_0_1536 bi_0_0 bi_0_512 bi_0_1024 bi_0_1536))) (k0_pay27 (vTile (inTile (xbTile x_0_0_0)
        wi_0_0 wi_0_512 wi_0_1024 wi_0_1536 bi_0_0 bi_0_512 bi_0_1024 bi_0_1536)))) (k0_pay33 (k0_pay30 lg) (k0_pay31 lb) (k0_pay32 (vTile (inTile
        (xbTile x_0_0_0) wi_0_0 wi_0_512 wi_0_1024 wi_0_1536 bi_0_0 bi_0_512 bi_0_1024 bi_0_1536)))) (k0_pay34 (vTile (inTile (xbTile x_0_0_0) wi_0_0
        wi_0_512 wi_0_1024 wi_0_1536 bi_0_0 bi_0_512 bi_0_1024 bi_0_1536)) lg lb) (k0_pay37 (vTile (inTile (xbTile x_0_0_0) wi_0_0 wi_0_512 wi_0_1024
        wi_0_1536 bi_0_0 bi_0_512 bi_0_1024 bi_0_1536)) lg lb) (k0_pay39 (k0_pay38 (vTile (inTile (xbTile x_0_0_0) wi_0_0 wi_0_512 wi_0_1024
        wi_0_1536 bi_0_0 bi_0_512 bi_0_1024 bi_0_1536))) lg lb) (k0_pay45 (vTile (inTile (xbTile x_0_0_0) wi_0_0 wi_0_512 wi_0_1024 wi_0_1536 bi_0_0
        bi_0_512 bi_0_1024 bi_0_1536)) lg lb) (k0_pay46 lg) (k0_pay47 lb) (k0_pay48 (vTile (inTile (xbTile x_0_0_0) wi_0_0 wi_0_512 wi_0_1024
        wi_0_1536 bi_0_0 bi_0_512 bi_0_1024 bi_0_1536))) (k0_pay49 (vTile (inTile (xbTile x_0_0_0) wi_0_0 wi_0_512 wi_0_1024 wi_0_1536 bi_0_0
        bi_0_512 bi_0_1024 bi_0_1536))) =
      vnTileB (vTile (inTile (xbTile x_0_0_0) wi_0_0 wi_0_512 wi_0_1024 wi_0_1536 bi_0_0 bi_0_512 bi_0_1024 bi_0_1536)) (shapeCast S1x1024 lg
          shapeCasts_S1x1024_S1x1024) (shapeCast S1x1024 lb shapeCasts_S1x1024_S1x1024) := rfl

/-- The first tile, gated. -/
theorem g_0 (v134 : FVec F S256x1024 .f32) (ws_0_0_0 : Vec F S1x128x128 .f32) (lb : Vec F S1x1024 .f32) (x_0_0_0 : Vec F S1x256x1024 .f32) (wi_0_0 :
    Vec F S1024x512 .bf16) (bi_0_0 : Vec F S1x512 .f32) (wi_0_512 : Vec F S1024x512 .bf16) (bi_0_512 : Vec F S1x512 .f32) (wi_0_1024 : Vec F
    S1024x512 .bf16) (bi_0_1024 : Vec F S1x512 .f32) (wi_0_1536 : Vec F S1024x512 .bf16) (bi_0_1536 : Vec F S1x512 .f32) (lg : Vec F S1x1024 .f32)
    (bs_0_0_0 : Vec F S1x128x1 .f32) (ws_1_0_0 : Vec F S1x128x128 .f32) (bs_1_0_0 : Vec F S1x128x1 .f32) (ws_2_0_0 : Vec F S1x128x128 .f32) (bs_2_0_0
    : Vec F S1x128x1 .f32) (ws_3_0_0 : Vec F S1x128x128 .f32) (bs_3_0_0 : Vec F S1x128x1 .f32) (ws_4_0_0 : Vec F S1x128x128 .f32) (bs_4_0_0 : Vec F
    S1x128x1 .f32) (ws_5_0_0 : Vec F S1x128x128 .f32) (bs_5_0_0 : Vec F S1x128x1 .f32) (ws_6_0_0 : Vec F S1x128x128 .f32) (bs_6_0_0 : Vec F S1x128x1
    .f32) (ws_7_0_0 : Vec F S1x128x128 .f32) (bs_7_0_0 : Vec F S1x128x1 .f32) :
    k0_pay87 v134 (k0_pay68 v134 (k0_pay51 (k0_pay1 ws_0_0_0) v134 (k0_pay21 (k0_pay18 lb) (k0_pay19 (xbTile x_0_0_0) (k0_pay12 x_0_0_0 wi_0_0
        bi_0_0) (k0_pay13 (xbTile x_0_0_0) wi_0_512 bi_0_512) (k0_pay14 (xbTile x_0_0_0) wi_0_1024 bi_0_1024) wi_0_1536 bi_0_1536) (k0_pay20 lg))
        (k0_pay28 (k0_pay24 lg) (k0_pay25 lb) (k0_pay26 (vTile (inTile (xbTile x_0_0_0) wi_0_0 wi_0_512 wi_0_1024 wi_0_1536 bi_0_0 bi_0_512 bi_0_1024
        bi_0_1536))) (k0_pay27 (vTile (inTile (xbTile x_0_0_0) wi_0_0 wi_0_512 wi_0_1024 wi_0_1536 bi_0_0 bi_0_512 bi_0_1024 bi_0_1536)))) (k0_pay33
        (k0_pay30 lg) (k0_pay31 lb) (k0_pay32 (vTile (inTile (xbTile x_0_0_0) wi_0_0 wi_0_512 wi_0_1024 wi_0_1536 bi_0_0 bi_0_512 bi_0_1024
        bi_0_1536)))) (k0_pay34 (vTile (inTile (xbTile x_0_0_0) wi_0_0 wi_0_512 wi_0_1024 wi_0_1536 bi_0_0 bi_0_512 bi_0_1024 bi_0_1536)) lg lb)
        (k0_pay37 (vTile (inTile (xbTile x_0_0_0) wi_0_0 wi_0_512 wi_0_1024 wi_0_1536 bi_0_0 bi_0_512 bi_0_1024 bi_0_1536)) lg lb) (k0_pay39
        (k0_pay38 (vTile (inTile (xbTile x_0_0_0) wi_0_0 wi_0_512 wi_0_1024 wi_0_1536 bi_0_0 bi_0_512 bi_0_1024 bi_0_1536))) lg lb) (k0_pay45 (vTile
        (inTile (xbTile x_0_0_0) wi_0_0 wi_0_512 wi_0_1024 wi_0_1536 bi_0_0 bi_0_512 bi_0_1024 bi_0_1536)) lg lb) (k0_pay46 lg) (k0_pay47 lb)
        (k0_pay48 (vTile (inTile (xbTile x_0_0_0) wi_0_0 wi_0_512 wi_0_1024 wi_0_1536 bi_0_0 bi_0_512 bi_0_1024 bi_0_1536))) (k0_pay49 (vTile (inTile
        (xbTile x_0_0_0) wi_0_0 wi_0_512 wi_0_1024 wi_0_1536 bi_0_0 bi_0_512 bi_0_1024 bi_0_1536))) bs_0_0_0) (k0_pay52 (k0_pay2 ws_1_0_0) v134
        (k0_pay21 (k0_pay18 lb) (k0_pay19 (xbTile x_0_0_0) (k0_pay12 x_0_0_0 wi_0_0 bi_0_0) (k0_pay13 (xbTile x_0_0_0) wi_0_512 bi_0_512) (k0_pay14
        (xbTile x_0_0_0) wi_0_1024 bi_0_1024) wi_0_1536 bi_0_1536) (k0_pay20 lg)) (k0_pay28 (k0_pay24 lg) (k0_pay25 lb) (k0_pay26 (vTile (inTile
        (xbTile x_0_0_0) wi_0_0 wi_0_512 wi_0_1024 wi_0_1536 bi_0_0 bi_0_512 bi_0_1024 bi_0_1536))) (k0_pay27 (vTile (inTile (xbTile x_0_0_0) wi_0_0
        wi_0_512 wi_0_1024 wi_0_1536 bi_0_0 bi_0_512 bi_0_1024 bi_0_1536)))) (k0_pay33 (k0_pay30 lg) (k0_pay31 lb) (k0_pay32 (vTile (inTile (xbTile
        x_0_0_0) wi_0_0 wi_0_512 wi_0_1024 wi_0_1536 bi_0_0 bi_0_512 bi_0_1024 bi_0_1536)))) (k0_pay34 (vTile (inTile (xbTile x_0_0_0) wi_0_0
        wi_0_512 wi_0_1024 wi_0_1536 bi_0_0 bi_0_512 bi_0_1024 bi_0_1536)) lg lb) (k0_pay37 (vTile (inTile (xbTile x_0_0_0) wi_0_0 wi_0_512 wi_0_1024
        wi_0_1536 bi_0_0 bi_0_512 bi_0_1024 bi_0_1536)) lg lb) (k0_pay39 (k0_pay38 (vTile (inTile (xbTile x_0_0_0) wi_0_0 wi_0_512 wi_0_1024
        wi_0_1536 bi_0_0 bi_0_512 bi_0_1024 bi_0_1536))) lg lb) (k0_pay45 (vTile (inTile (xbTile x_0_0_0) wi_0_0 wi_0_512 wi_0_1024 wi_0_1536 bi_0_0
        bi_0_512 bi_0_1024 bi_0_1536)) lg lb) (k0_pay46 lg) (k0_pay47 lb) (k0_pay48 (vTile (inTile (xbTile x_0_0_0) wi_0_0 wi_0_512 wi_0_1024
        wi_0_1536 bi_0_0 bi_0_512 bi_0_1024 bi_0_1536))) (k0_pay49 (vTile (inTile (xbTile x_0_0_0) wi_0_0 wi_0_512 wi_0_1024 wi_0_1536 bi_0_0
        bi_0_512 bi_0_1024 bi_0_1536))) bs_1_0_0) (k0_pay59 (k0_pay3 ws_2_0_0) v134 (vnTileB (vTile (inTile (xbTile x_0_0_0) wi_0_0 wi_0_512
        wi_0_1024 wi_0_1536 bi_0_0 bi_0_512 bi_0_1024 bi_0_1536)) (shapeCast S1x1024 lg shapeCasts_S1x1024_S1x1024) (shapeCast S1x1024 lb
        shapeCasts_S1x1024_S1x1024)) bs_2_0_0) (k0_pay60 (k0_pay4 ws_3_0_0) v134 (vnTileB (vTile (inTile (xbTile x_0_0_0) wi_0_0 wi_0_512 wi_0_1024
        wi_0_1536 bi_0_0 bi_0_512 bi_0_1024 bi_0_1536)) (shapeCast S1x1024 lg shapeCasts_S1x1024_S1x1024) (shapeCast S1x1024 lb
        shapeCasts_S1x1024_S1x1024)) bs_3_0_0) (k0_pay61 (k0_pay5 ws_4_0_0) v134 (vnTileB (vTile (inTile (xbTile x_0_0_0) wi_0_0 wi_0_512 wi_0_1024
        wi_0_1536 bi_0_0 bi_0_512 bi_0_1024 bi_0_1536)) (shapeCast S1x1024 lg shapeCasts_S1x1024_S1x1024) (shapeCast S1x1024 lb
        shapeCasts_S1x1024_S1x1024)) bs_4_0_0) (k0_pay63 v134 (k0_pay62 (k0_pay8 k0_pay6 (k0_pay7 ws_5_0_0)) (vnTileB (vTile (inTile (xbTile x_0_0_0)
        wi_0_0 wi_0_512 wi_0_1024 wi_0_1536 bi_0_0 bi_0_512 bi_0_1024 bi_0_1536)) (shapeCast S1x1024 lg shapeCasts_S1x1024_S1x1024) (shapeCast
        S1x1024 lb shapeCasts_S1x1024_S1x1024))) bs_5_0_0) (k0_pay66 (k0_pay9 (iota .tc S128x128 32 ([0] : List (Fin 2)) iota_S128x128_d0_w32) (iota .tc S128x128 32 ([1] : List (Fin 2)) iota_S128x128_d1_w32) ws_6_0_0) v134 (vnTileB (vTile (inTile (xbTile x_0_0_0) wi_0_0 wi_0_512 wi_0_1024 wi_0_1536 bi_0_0 bi_0_512
        bi_0_1024 bi_0_1536)) (shapeCast S1x1024 lg shapeCasts_S1x1024_S1x1024) (shapeCast S1x1024 lb shapeCasts_S1x1024_S1x1024)) bs_6_0_0)
        (k0_pay67 (k0_pay10 (iota .tc S128x128 32 ([0] : List (Fin 2)) iota_S128x128_d0_w32) (iota .tc S128x128 32 ([1] : List (Fin 2)) iota_S128x128_d1_w32) ws_7_0_0) (vnTileB (vTile
        (inTile (xbTile x_0_0_0) wi_0_0 wi_0_512 wi_0_1024 wi_0_1536 bi_0_0 bi_0_512 bi_0_1024 bi_0_1536)) (shapeCast S1x1024 lg
        shapeCasts_S1x1024_S1x1024) (shapeCast S1x1024 lb shapeCasts_S1x1024_S1x1024))) bs_7_0_0) (k0_pay69 (k0_pay1 ws_0_0_0) v134 (vnTileB (vTile
        (inTile (xbTile x_0_0_0) wi_0_0 wi_0_512 wi_0_1024 wi_0_1536 bi_0_0 bi_0_512 bi_0_1024 bi_0_1536)) (shapeCast S1x1024 lg
        shapeCasts_S1x1024_S1x1024) (shapeCast S1x1024 lb shapeCasts_S1x1024_S1x1024)) bs_0_0_0) (k0_pay70 (k0_pay2 ws_1_0_0) v134 (vnTileB (vTile
        (inTile (xbTile x_0_0_0) wi_0_0 wi_0_512 wi_0_1024 wi_0_1536 bi_0_0 bi_0_512 bi_0_1024 bi_0_1536)) (shapeCast S1x1024 lg
        shapeCasts_S1x1024_S1x1024) (shapeCast S1x1024 lb shapeCasts_S1x1024_S1x1024)) bs_1_0_0) (k0_pay77 (k0_pay3 ws_2_0_0) v134 (vnTileB (vTile
        (inTile (xbTile x_0_0_0) wi_0_0 wi_0_512 wi_0_1024 wi_0_1536 bi_0_0 bi_0_512 bi_0_1024 bi_0_1536)) (shapeCast S1x1024 lg
        shapeCasts_S1x1024_S1x1024) (shapeCast S1x1024 lb shapeCasts_S1x1024_S1x1024)) bs_2_0_0) (k0_pay78 (k0_pay4 ws_3_0_0) v134 (vnTileB (vTile
        (inTile (xbTile x_0_0_0) wi_0_0 wi_0_512 wi_0_1024 wi_0_1536 bi_0_0 bi_0_512 bi_0_1024 bi_0_1536)) (shapeCast S1x1024 lg
        shapeCasts_S1x1024_S1x1024) (shapeCast S1x1024 lb shapeCasts_S1x1024_S1x1024)) bs_3_0_0) (k0_pay79 (k0_pay5 ws_4_0_0) v134 (vnTileB (vTile
        (inTile (xbTile x_0_0_0) wi_0_0 wi_0_512 wi_0_1024 wi_0_1536 bi_0_0 bi_0_512 bi_0_1024 bi_0_1536)) (shapeCast S1x1024 lg
        shapeCasts_S1x1024_S1x1024) (shapeCast S1x1024 lb shapeCasts_S1x1024_S1x1024)) bs_4_0_0) (k0_pay81 v134 (k0_pay80 (k0_pay8 k0_pay6 (k0_pay7
        ws_5_0_0)) (vnTileB (vTile (inTile (xbTile x_0_0_0) wi_0_0 wi_0_512 wi_0_1024 wi_0_1536 bi_0_0 bi_0_512 bi_0_1024 bi_0_1536)) (shapeCast
        S1x1024 lg shapeCasts_S1x1024_S1x1024) (shapeCast S1x1024 lb shapeCasts_S1x1024_S1x1024)) bs_5_0_0)) (k0_pay84 (k0_pay9 (iota .tc S128x128 32 ([0] : List (Fin 2)) iota_S128x128_d0_w32) (iota .tc S128x128 32 ([1] : List (Fin 2)) iota_S128x128_d1_w32) ws_6_0_0) v134 (vnTileB (vTile (inTile (xbTile x_0_0_0) wi_0_0
        wi_0_512 wi_0_1024 wi_0_1536 bi_0_0 bi_0_512 bi_0_1024 bi_0_1536)) (shapeCast S1x1024 lg shapeCasts_S1x1024_S1x1024) (shapeCast S1x1024 lb
        shapeCasts_S1x1024_S1x1024)) bs_6_0_0) (k0_pay85 (k0_pay10 (iota .tc S128x128 32 ([0] : List (Fin 2)) iota_S128x128_d0_w32) (iota .tc S128x128 32 ([1] : List (Fin 2)) iota_S128x128_d1_w32) ws_7_0_0) (vnTileB (vTile (inTile (xbTile x_0_0_0) wi_0_0 wi_0_512 wi_0_1024 wi_0_1536 bi_0_0 bi_0_512 bi_0_1024
        bi_0_1536)) (shapeCast S1x1024 lg shapeCasts_S1x1024_S1x1024) (shapeCast S1x1024 lb shapeCasts_S1x1024_S1x1024))) (k0_pay86 bs_7_0_0) =
      gated ws_0_0_0 ws_1_0_0 ws_2_0_0 ws_3_0_0 ws_4_0_0 ws_5_0_0 ws_6_0_0 ws_7_0_0 bs_0_0_0 bs_1_0_0 bs_2_0_0 bs_3_0_0 bs_4_0_0 bs_5_0_0 bs_6_0_0
          bs_7_0_0 v134 (vnTileB (vTile (inTile (xbTile x_0_0_0) wi_0_0 wi_0_512 wi_0_1024 wi_0_1536 bi_0_0 bi_0_512 bi_0_1024 bi_0_1536)) (shapeCast
          S1x1024 lg shapeCasts_S1x1024_S1x1024) (shapeCast S1x1024 lb shapeCasts_S1x1024_S1x1024)) := rfl

/-- 512 columns of the first tile's mixer output. -/
theorem t_0 (v134 : FVec F S256x1024 .f32) (ws_0_0_0 : Vec F S1x128x128 .f32) (lb : Vec F S1x1024 .f32) (x_0_0_0 : Vec F S1x256x1024 .f32) (wi_0_0 :
    Vec F S1024x512 .bf16) (bi_0_0 : Vec F S1x512 .f32) (wi_0_512 : Vec F S1024x512 .bf16) (bi_0_512 : Vec F S1x512 .f32) (wi_0_1024 : Vec F
    S1024x512 .bf16) (bi_0_1024 : Vec F S1x512 .f32) (wi_0_1536 : Vec F S1024x512 .bf16) (bi_0_1536 : Vec F S1x512 .f32) (lg : Vec F S1x1024 .f32)
    (bs_0_0_0 : Vec F S1x128x1 .f32) (ws_1_0_0 : Vec F S1x128x128 .f32) (bs_1_0_0 : Vec F S1x128x1 .f32) (ws_2_0_0 : Vec F S1x128x128 .f32) (bs_2_0_0
    : Vec F S1x128x1 .f32) (ws_3_0_0 : Vec F S1x128x128 .f32) (bs_3_0_0 : Vec F S1x128x1 .f32) (ws_4_0_0 : Vec F S1x128x128 .f32) (bs_4_0_0 : Vec F
    S1x128x1 .f32) (ws_5_0_0 : Vec F S1x128x128 .f32) (bs_5_0_0 : Vec F S1x128x1 .f32) (ws_6_0_0 : Vec F S1x128x128 .f32) (bs_6_0_0 : Vec F S1x128x1
    .f32) (ws_7_0_0 : Vec F S1x128x128 .f32) (bs_7_0_0 : Vec F S1x128x1 .f32) (wo_0_0 : Vec F S1024x512 .bf16) :
    k0_pay88 v134 (k0_pay68 v134 (k0_pay51 (k0_pay1 ws_0_0_0) v134 (k0_pay21 (k0_pay18 lb) (k0_pay19 (xbTile x_0_0_0) (k0_pay12 x_0_0_0 wi_0_0
        bi_0_0) (k0_pay13 (xbTile x_0_0_0) wi_0_512 bi_0_512) (k0_pay14 (xbTile x_0_0_0) wi_0_1024 bi_0_1024) wi_0_1536 bi_0_1536) (k0_pay20 lg))
        (k0_pay28 (k0_pay24 lg) (k0_pay25 lb) (k0_pay26 (vTile (inTile (xbTile x_0_0_0) wi_0_0 wi_0_512 wi_0_1024 wi_0_1536 bi_0_0 bi_0_512 bi_0_1024
        bi_0_1536))) (k0_pay27 (vTile (inTile (xbTile x_0_0_0) wi_0_0 wi_0_512 wi_0_1024 wi_0_1536 bi_0_0 bi_0_512 bi_0_1024 bi_0_1536)))) (k0_pay33
        (k0_pay30 lg) (k0_pay31 lb) (k0_pay32 (vTile (inTile (xbTile x_0_0_0) wi_0_0 wi_0_512 wi_0_1024 wi_0_1536 bi_0_0 bi_0_512 bi_0_1024
        bi_0_1536)))) (k0_pay34 (vTile (inTile (xbTile x_0_0_0) wi_0_0 wi_0_512 wi_0_1024 wi_0_1536 bi_0_0 bi_0_512 bi_0_1024 bi_0_1536)) lg lb)
        (k0_pay37 (vTile (inTile (xbTile x_0_0_0) wi_0_0 wi_0_512 wi_0_1024 wi_0_1536 bi_0_0 bi_0_512 bi_0_1024 bi_0_1536)) lg lb) (k0_pay39
        (k0_pay38 (vTile (inTile (xbTile x_0_0_0) wi_0_0 wi_0_512 wi_0_1024 wi_0_1536 bi_0_0 bi_0_512 bi_0_1024 bi_0_1536))) lg lb) (k0_pay45 (vTile
        (inTile (xbTile x_0_0_0) wi_0_0 wi_0_512 wi_0_1024 wi_0_1536 bi_0_0 bi_0_512 bi_0_1024 bi_0_1536)) lg lb) (k0_pay46 lg) (k0_pay47 lb)
        (k0_pay48 (vTile (inTile (xbTile x_0_0_0) wi_0_0 wi_0_512 wi_0_1024 wi_0_1536 bi_0_0 bi_0_512 bi_0_1024 bi_0_1536))) (k0_pay49 (vTile (inTile
        (xbTile x_0_0_0) wi_0_0 wi_0_512 wi_0_1024 wi_0_1536 bi_0_0 bi_0_512 bi_0_1024 bi_0_1536))) bs_0_0_0) (k0_pay52 (k0_pay2 ws_1_0_0) v134
        (k0_pay21 (k0_pay18 lb) (k0_pay19 (xbTile x_0_0_0) (k0_pay12 x_0_0_0 wi_0_0 bi_0_0) (k0_pay13 (xbTile x_0_0_0) wi_0_512 bi_0_512) (k0_pay14
        (xbTile x_0_0_0) wi_0_1024 bi_0_1024) wi_0_1536 bi_0_1536) (k0_pay20 lg)) (k0_pay28 (k0_pay24 lg) (k0_pay25 lb) (k0_pay26 (vTile (inTile
        (xbTile x_0_0_0) wi_0_0 wi_0_512 wi_0_1024 wi_0_1536 bi_0_0 bi_0_512 bi_0_1024 bi_0_1536))) (k0_pay27 (vTile (inTile (xbTile x_0_0_0) wi_0_0
        wi_0_512 wi_0_1024 wi_0_1536 bi_0_0 bi_0_512 bi_0_1024 bi_0_1536)))) (k0_pay33 (k0_pay30 lg) (k0_pay31 lb) (k0_pay32 (vTile (inTile (xbTile
        x_0_0_0) wi_0_0 wi_0_512 wi_0_1024 wi_0_1536 bi_0_0 bi_0_512 bi_0_1024 bi_0_1536)))) (k0_pay34 (vTile (inTile (xbTile x_0_0_0) wi_0_0
        wi_0_512 wi_0_1024 wi_0_1536 bi_0_0 bi_0_512 bi_0_1024 bi_0_1536)) lg lb) (k0_pay37 (vTile (inTile (xbTile x_0_0_0) wi_0_0 wi_0_512 wi_0_1024
        wi_0_1536 bi_0_0 bi_0_512 bi_0_1024 bi_0_1536)) lg lb) (k0_pay39 (k0_pay38 (vTile (inTile (xbTile x_0_0_0) wi_0_0 wi_0_512 wi_0_1024
        wi_0_1536 bi_0_0 bi_0_512 bi_0_1024 bi_0_1536))) lg lb) (k0_pay45 (vTile (inTile (xbTile x_0_0_0) wi_0_0 wi_0_512 wi_0_1024 wi_0_1536 bi_0_0
        bi_0_512 bi_0_1024 bi_0_1536)) lg lb) (k0_pay46 lg) (k0_pay47 lb) (k0_pay48 (vTile (inTile (xbTile x_0_0_0) wi_0_0 wi_0_512 wi_0_1024
        wi_0_1536 bi_0_0 bi_0_512 bi_0_1024 bi_0_1536))) (k0_pay49 (vTile (inTile (xbTile x_0_0_0) wi_0_0 wi_0_512 wi_0_1024 wi_0_1536 bi_0_0
        bi_0_512 bi_0_1024 bi_0_1536))) bs_1_0_0) (k0_pay59 (k0_pay3 ws_2_0_0) v134 (vnTileB (vTile (inTile (xbTile x_0_0_0) wi_0_0 wi_0_512
        wi_0_1024 wi_0_1536 bi_0_0 bi_0_512 bi_0_1024 bi_0_1536)) (shapeCast S1x1024 lg shapeCasts_S1x1024_S1x1024) (shapeCast S1x1024 lb
        shapeCasts_S1x1024_S1x1024)) bs_2_0_0) (k0_pay60 (k0_pay4 ws_3_0_0) v134 (vnTileB (vTile (inTile (xbTile x_0_0_0) wi_0_0 wi_0_512 wi_0_1024
        wi_0_1536 bi_0_0 bi_0_512 bi_0_1024 bi_0_1536)) (shapeCast S1x1024 lg shapeCasts_S1x1024_S1x1024) (shapeCast S1x1024 lb
        shapeCasts_S1x1024_S1x1024)) bs_3_0_0) (k0_pay61 (k0_pay5 ws_4_0_0) v134 (vnTileB (vTile (inTile (xbTile x_0_0_0) wi_0_0 wi_0_512 wi_0_1024
        wi_0_1536 bi_0_0 bi_0_512 bi_0_1024 bi_0_1536)) (shapeCast S1x1024 lg shapeCasts_S1x1024_S1x1024) (shapeCast S1x1024 lb
        shapeCasts_S1x1024_S1x1024)) bs_4_0_0) (k0_pay63 v134 (k0_pay62 (k0_pay8 k0_pay6 (k0_pay7 ws_5_0_0)) (vnTileB (vTile (inTile (xbTile x_0_0_0)
        wi_0_0 wi_0_512 wi_0_1024 wi_0_1536 bi_0_0 bi_0_512 bi_0_1024 bi_0_1536)) (shapeCast S1x1024 lg shapeCasts_S1x1024_S1x1024) (shapeCast
        S1x1024 lb shapeCasts_S1x1024_S1x1024))) bs_5_0_0) (k0_pay66 (k0_pay9 (iota .tc S128x128 32 ([0] : List (Fin 2)) iota_S128x128_d0_w32) (iota .tc S128x128 32 ([1] : List (Fin 2)) iota_S128x128_d1_w32) ws_6_0_0) v134 (vnTileB (vTile (inTile (xbTile x_0_0_0) wi_0_0 wi_0_512 wi_0_1024 wi_0_1536 bi_0_0 bi_0_512
        bi_0_1024 bi_0_1536)) (shapeCast S1x1024 lg shapeCasts_S1x1024_S1x1024) (shapeCast S1x1024 lb shapeCasts_S1x1024_S1x1024)) bs_6_0_0)
        (k0_pay67 (k0_pay10 (iota .tc S128x128 32 ([0] : List (Fin 2)) iota_S128x128_d0_w32) (iota .tc S128x128 32 ([1] : List (Fin 2)) iota_S128x128_d1_w32) ws_7_0_0) (vnTileB (vTile
        (inTile (xbTile x_0_0_0) wi_0_0 wi_0_512 wi_0_1024 wi_0_1536 bi_0_0 bi_0_512 bi_0_1024 bi_0_1536)) (shapeCast S1x1024 lg
        shapeCasts_S1x1024_S1x1024) (shapeCast S1x1024 lb shapeCasts_S1x1024_S1x1024))) bs_7_0_0) (k0_pay69 (k0_pay1 ws_0_0_0) v134 (vnTileB (vTile
        (inTile (xbTile x_0_0_0) wi_0_0 wi_0_512 wi_0_1024 wi_0_1536 bi_0_0 bi_0_512 bi_0_1024 bi_0_1536)) (shapeCast S1x1024 lg
        shapeCasts_S1x1024_S1x1024) (shapeCast S1x1024 lb shapeCasts_S1x1024_S1x1024)) bs_0_0_0) (k0_pay70 (k0_pay2 ws_1_0_0) v134 (vnTileB (vTile
        (inTile (xbTile x_0_0_0) wi_0_0 wi_0_512 wi_0_1024 wi_0_1536 bi_0_0 bi_0_512 bi_0_1024 bi_0_1536)) (shapeCast S1x1024 lg
        shapeCasts_S1x1024_S1x1024) (shapeCast S1x1024 lb shapeCasts_S1x1024_S1x1024)) bs_1_0_0) (k0_pay77 (k0_pay3 ws_2_0_0) v134 (vnTileB (vTile
        (inTile (xbTile x_0_0_0) wi_0_0 wi_0_512 wi_0_1024 wi_0_1536 bi_0_0 bi_0_512 bi_0_1024 bi_0_1536)) (shapeCast S1x1024 lg
        shapeCasts_S1x1024_S1x1024) (shapeCast S1x1024 lb shapeCasts_S1x1024_S1x1024)) bs_2_0_0) (k0_pay78 (k0_pay4 ws_3_0_0) v134 (vnTileB (vTile
        (inTile (xbTile x_0_0_0) wi_0_0 wi_0_512 wi_0_1024 wi_0_1536 bi_0_0 bi_0_512 bi_0_1024 bi_0_1536)) (shapeCast S1x1024 lg
        shapeCasts_S1x1024_S1x1024) (shapeCast S1x1024 lb shapeCasts_S1x1024_S1x1024)) bs_3_0_0) (k0_pay79 (k0_pay5 ws_4_0_0) v134 (vnTileB (vTile
        (inTile (xbTile x_0_0_0) wi_0_0 wi_0_512 wi_0_1024 wi_0_1536 bi_0_0 bi_0_512 bi_0_1024 bi_0_1536)) (shapeCast S1x1024 lg
        shapeCasts_S1x1024_S1x1024) (shapeCast S1x1024 lb shapeCasts_S1x1024_S1x1024)) bs_4_0_0) (k0_pay81 v134 (k0_pay80 (k0_pay8 k0_pay6 (k0_pay7
        ws_5_0_0)) (vnTileB (vTile (inTile (xbTile x_0_0_0) wi_0_0 wi_0_512 wi_0_1024 wi_0_1536 bi_0_0 bi_0_512 bi_0_1024 bi_0_1536)) (shapeCast
        S1x1024 lg shapeCasts_S1x1024_S1x1024) (shapeCast S1x1024 lb shapeCasts_S1x1024_S1x1024)) bs_5_0_0)) (k0_pay84 (k0_pay9 (iota .tc S128x128 32 ([0] : List (Fin 2)) iota_S128x128_d0_w32) (iota .tc S128x128 32 ([1] : List (Fin 2)) iota_S128x128_d1_w32) ws_6_0_0) v134 (vnTileB (vTile (inTile (xbTile x_0_0_0) wi_0_0
        wi_0_512 wi_0_1024 wi_0_1536 bi_0_0 bi_0_512 bi_0_1024 bi_0_1536)) (shapeCast S1x1024 lg shapeCasts_S1x1024_S1x1024) (shapeCast S1x1024 lb
        shapeCasts_S1x1024_S1x1024)) bs_6_0_0) (k0_pay85 (k0_pay10 (iota .tc S128x128 32 ([0] : List (Fin 2)) iota_S128x128_d0_w32) (iota .tc S128x128 32 ([1] : List (Fin 2)) iota_S128x128_d1_w32) ws_7_0_0) (vnTileB (vTile (inTile (xbTile x_0_0_0) wi_0_0 wi_0_512 wi_0_1024 wi_0_1536 bi_0_0 bi_0_512 bi_0_1024
        bi_0_1536)) (shapeCast S1x1024 lg shapeCasts_S1x1024_S1x1024) (shapeCast S1x1024 lb shapeCasts_S1x1024_S1x1024))) (k0_pay86 bs_7_0_0) wo_0_0 =
      times (gated ws_0_0_0 ws_1_0_0 ws_2_0_0 ws_3_0_0 ws_4_0_0 ws_5_0_0 ws_6_0_0 ws_7_0_0 bs_0_0_0 bs_1_0_0 bs_2_0_0 bs_3_0_0 bs_4_0_0 bs_5_0_0
          bs_6_0_0 bs_7_0_0 v134 (vnTileB (vTile (inTile (xbTile x_0_0_0) wi_0_0 wi_0_512 wi_0_1024 wi_0_1536 bi_0_0 bi_0_512 bi_0_1024 bi_0_1536))
          (shapeCast S1x1024 lg shapeCasts_S1x1024_S1x1024) (shapeCast S1x1024 lb shapeCasts_S1x1024_S1x1024))) (shapeCast S1024x512 wo_0_0
          shapeCasts_S1024x512_S1024x512) := rfl

/-- The first tile's mixer output. -/
theorem mix_0 (v681 : FVec F S256x1024 .bf16) (wo_0_0 : Vec F S1024x512 .bf16) (wo_0_512 : Vec F S1024x512 .bf16) :
    k0_pay103 v681 (times v681 (shapeCast S1024x512 wo_0_0 shapeCasts_S1024x512_S1024x512)) wo_0_512 =
      mixTile v681 wo_0_0 wo_0_512 := rfl

/-- The first tile after the first norm. -/
theorem x1_0 (v681 : FVec F S256x1024 .bf16) (wo_0_0 : Vec F S1024x512 .bf16) (wo_0_512 : Vec F S1024x512 .bf16) (x_0_0_0r : Vec F S1x32x1024 .f32)
    (g1 : Vec F S1x1x1024 .f32) (h1 : Vec F S1x1x1024 .f32) (x_0_32_0r : Vec F S1x32x1024 .f32) (x_0_64_0r : Vec F S1x32x1024 .f32) (x_0_96_0r : Vec
    F S1x32x1024 .f32) (x_0_128_0r : Vec F S1x32x1024 .f32) (x_0_160_0r : Vec F S1x32x1024 .f32) (x_0_192_0r : Vec F S1x32x1024 .f32) (x_0_224_0r :
    Vec F S1x32x1024 .f32) :
    k0_pay150 (mixTile v681 wo_0_0 wo_0_512) (k0_pay106 (k0_pay104 v681 (times v681 (shapeCast S1024x512 wo_0_0 shapeCasts_S1024x512_S1024x512))
        wo_0_512 x_0_0_0r) (k0_pay105 g1) h1) (k0_pay112 (mixTile v681 wo_0_0 wo_0_512) (k0_pay110 x_0_32_0r) k0_pay111 g1 h1) (k0_pay118 (mixTile
        v681 wo_0_0 wo_0_512) x_0_64_0r g1 h1) (k0_pay126 (k0_pay124 h1) (k0_pay125 (mixTile v681 wo_0_0 wo_0_512) x_0_96_0r g1)) (k0_pay133
        (k0_pay129 g1) (k0_pay130 h1) (k0_pay131 (mixTile v681 wo_0_0 wo_0_512) x_0_128_0r) (k0_pay132 (mixTile v681 wo_0_0 wo_0_512) x_0_128_0r))
        (k0_pay139 (k0_pay137 (mixTile v681 wo_0_0 wo_0_512) x_0_160_0r) (k0_pay138 g1) h1) (k0_pay144 (mixTile v681 wo_0_0 wo_0_512) (k0_pay143
        x_0_192_0r) (FloatOps.ofBits .f32 1071072509#32) g1 h1) x_0_224_0r g1 h1 =
      x1Tile x_0_0_0r x_0_32_0r x_0_64_0r x_0_96_0r x_0_128_0r x_0_160_0r x_0_192_0r x_0_224_0r (mixTile v681 wo_0_0 wo_0_512) g1 h1 := rfl

/-- The first tile after the first norm, rounded. -/
theorem x1b_0 (v681 : FVec F S256x1024 .bf16) (wo_0_0 : Vec F S1024x512 .bf16) (wo_0_512 : Vec F S1024x512 .bf16) (x_0_0_0r : Vec F S1x32x1024 .f32)
    (g1 : Vec F S1x1x1024 .f32) (h1 : Vec F S1x1x1024 .f32) (x_0_32_0r : Vec F S1x32x1024 .f32) (x_0_64_0r : Vec F S1x32x1024 .f32) (x_0_96_0r : Vec
    F S1x32x1024 .f32) (x_0_128_0r : Vec F S1x32x1024 .f32) (x_0_160_0r : Vec F S1x32x1024 .f32) (x_0_192_0r : Vec F S1x32x1024 .f32) (x_0_224_0r :
    Vec F S1x32x1024 .f32) :
    k0_pay151 (mixTile v681 wo_0_0 wo_0_512) (k0_pay107 (k0_pay104 v681 (times v681 (shapeCast S1024x512 wo_0_0 shapeCasts_S1024x512_S1024x512))
        wo_0_512 x_0_0_0r) (k0_pay105 g1) h1) (k0_pay113 (mixTile v681 wo_0_0 wo_0_512) (k0_pay110 x_0_32_0r) k0_pay111 g1 h1) (k0_pay119 (mixTile
        v681 wo_0_0 wo_0_512) x_0_64_0r g1 h1) (k0_pay127 (k0_pay124 h1) (k0_pay125 (mixTile v681 wo_0_0 wo_0_512) x_0_96_0r g1)) (k0_pay134
        (k0_pay129 g1) (k0_pay130 h1) (k0_pay131 (mixTile v681 wo_0_0 wo_0_512) x_0_128_0r) (k0_pay132 (mixTile v681 wo_0_0 wo_0_512) x_0_128_0r))
        (k0_pay140 (k0_pay137 (mixTile v681 wo_0_0 wo_0_512) x_0_160_0r) (k0_pay138 g1) h1) (k0_pay145 (mixTile v681 wo_0_0 wo_0_512) (k0_pay143
        x_0_192_0r) (FloatOps.ofBits .f32 1071072509#32) g1 h1) x_0_224_0r g1 h1 =
      x1TileB x_0_0_0r x_0_32_0r x_0_64_0r x_0_96_0r x_0_128_0r x_0_160_0r x_0_192_0r x_0_224_0r (mixTile v681 wo_0_0 wo_0_512) g1 h1 := rfl

/-- The first tile's hidden layer. -/
theorem h_0 (v1171 : FVec F S256x1024 .bf16) (wu_0_0_0 : Vec F S1x1024x512 .bf16) (wu_0_0_512 : Vec F S1x1024x512 .bf16) (wu_0_0_1024 : Vec F
    S1x1024x512 .bf16) (wu_0_0_1536 : Vec F S1x1024x512 .bf16) (wu_0_0_2048 : Vec F S1x1024x512 .bf16) (wu_0_0_2560 : Vec F S1x1024x512 .bf16)
    (wu_0_0_3072 : Vec F S1x1024x512 .bf16) (wu_0_0_3584 : Vec F S1x1024x512 .bf16) :
    k0_pay157 v1171 (k0_pay154 v1171 wu_0_0_0) (k0_pay155 v1171 wu_0_0_512) (k0_pay156 v1171 wu_0_0_1024) wu_0_0_1536 wu_0_0_2048 wu_0_0_2560
        wu_0_0_3072 wu_0_0_3584 =
      hidTile v1171 wu_0_0_0 wu_0_0_512 wu_0_0_1024 wu_0_0_1536 wu_0_0_2048 wu_0_0_2560 wu_0_0_3072 wu_0_0_3584 := rfl

/-- The first tile's MLP output. -/
theorem dn_0 (v1248 : FVec F S256x4096 .bf16) (wd_0_0_0 : Vec F S1x4096x512 .bf16) (wd_0_0_512 : Vec F S1x4096x512 .bf16) :
    k0_pay158 v1248 wd_0_0_0 wd_0_0_512 =
      downTile v1248 wd_0_0_0 wd_0_0_512 := rfl

/-- The first tile after the second norm. -/
theorem x2_0 (v1170 : FVec F S256x1024 .f32) (v1248 : FVec F S256x4096 .bf16) (wd_0_0_0 : Vec F S1x4096x512 .bf16) (wd_0_0_512 : Vec F S1x4096x512
    .bf16) (g2 : Vec F S1x1x1024 .f32) (h2 : Vec F S1x1x1024 .f32) :
    k0_pay193 (k0_pay159 v1170 v1248 wd_0_0_0 wd_0_0_512 g2 h2) (k0_pay163 v1170 (downTile v1248 wd_0_0_0 wd_0_0_512) g2 h2) (k0_pay168 (k0_pay165
        v1170 (downTile v1248 wd_0_0_0 wd_0_0_512)) (k0_pay166 g2) (k0_pay167 h2)) (k0_pay174 (k0_pay170 g2) (k0_pay171 h2) (k0_pay172 v1170
        (downTile v1248 wd_0_0_0 wd_0_0_512)) (k0_pay173 v1170 (downTile v1248 wd_0_0_0 wd_0_0_512))) (k0_pay176 v1170 (downTile v1248 wd_0_0_0
        wd_0_0_512) g2 h2) (k0_pay181 (downTile v1248 wd_0_0_0 wd_0_0_512) (k0_pay180 v1170) (FloatOps.ofBits .f32 1071072509#32) g2 h2) (k0_pay187
        (k0_pay183 v1170 (downTile v1248 wd_0_0_0 wd_0_0_512)) (k0_pay184 g2) (k0_pay185 h2) (k0_pay186 v1170 (downTile v1248 wd_0_0_0 wd_0_0_512))
        (FloatOps.ofBits .f32 1149239296#32)) (k0_pay189 h2) (k0_pay190 v1170 (downTile v1248 wd_0_0_0 wd_0_0_512)) (k0_pay191 g2) =
      x2Tile v1170 (downTile v1248 wd_0_0_0 wd_0_0_512) g2 h2 := rfl

/-- The first tile after the second norm, rounded. -/
theorem x2b_0 (v1170 : FVec F S256x1024 .f32) (v1248 : FVec F S256x4096 .bf16) (wd_0_0_0 : Vec F S1x4096x512 .bf16) (wd_0_0_512 : Vec F S1x4096x512
    .bf16) (g2 : Vec F S1x1x1024 .f32) (h2 : Vec F S1x1x1024 .f32) :
    k0_pay194 (k0_pay160 v1170 v1248 wd_0_0_0 wd_0_0_512 g2 h2) (k0_pay164 v1170 (downTile v1248 wd_0_0_0 wd_0_0_512) g2 h2) (k0_pay169 (k0_pay165
        v1170 (downTile v1248 wd_0_0_0 wd_0_0_512)) (k0_pay166 g2) (k0_pay167 h2)) (k0_pay175 (k0_pay170 g2) (k0_pay171 h2) (k0_pay172 v1170
        (downTile v1248 wd_0_0_0 wd_0_0_512)) (k0_pay173 v1170 (downTile v1248 wd_0_0_0 wd_0_0_512))) (k0_pay177 v1170 (downTile v1248 wd_0_0_0
        wd_0_0_512) g2 h2) (k0_pay182 (downTile v1248 wd_0_0_0 wd_0_0_512) (k0_pay180 v1170) (FloatOps.ofBits .f32 1071072509#32) g2 h2) (k0_pay188
        (k0_pay183 v1170 (downTile v1248 wd_0_0_0 wd_0_0_512)) (k0_pay184 g2) (k0_pay185 h2) (k0_pay186 v1170 (downTile v1248 wd_0_0_0 wd_0_0_512))
        (FloatOps.ofBits .f32 1149239296#32)) (k0_pay189 h2) (k0_pay190 v1170 (downTile v1248 wd_0_0_0 wd_0_0_512)) (k0_pay191 g2) =
      x2TileB v1170 (downTile v1248 wd_0_0_0 wd_0_0_512) g2 h2 := rfl

/-- 512 columns of the first tile's output. -/
theorem out_0_0 (v1170 : FVec F S256x1024 .f32) (v1248 : FVec F S256x4096 .bf16) (wd_0_0_0 : Vec F S1x4096x512 .bf16) (wd_0_0_512 : Vec F S1x4096x512
    .bf16) (g2 : Vec F S1x1x1024 .f32) (h2 : Vec F S1x1x1024 .f32) (wg_0_0_0 : Vec F S1x1024x512 .bf16) (p_0_0_0_0 : Vec F S1x1x256x256 .f32)
    (wp_0_0_0 : Vec F S1x256x512 .bf16) :
    k0_pay195 (k0_pay159 v1170 v1248 wd_0_0_0 wd_0_0_512 g2 h2) (k0_pay160 v1170 v1248 wd_0_0_0 wd_0_0_512 g2 h2) (k0_pay163 v1170 (downTile v1248
        wd_0_0_0 wd_0_0_512) g2 h2) (k0_pay164 v1170 (downTile v1248 wd_0_0_0 wd_0_0_512) g2 h2) (k0_pay168 (k0_pay165 v1170 (downTile v1248 wd_0_0_0
        wd_0_0_512)) (k0_pay166 g2) (k0_pay167 h2)) (k0_pay169 (k0_pay165 v1170 (downTile v1248 wd_0_0_0 wd_0_0_512)) (k0_pay166 g2) (k0_pay167 h2))
        (k0_pay174 (k0_pay170 g2) (k0_pay171 h2) (k0_pay172 v1170 (downTile v1248 wd_0_0_0 wd_0_0_512)) (k0_pay173 v1170 (downTile v1248 wd_0_0_0
        wd_0_0_512))) (k0_pay175 (k0_pay170 g2) (k0_pay171 h2) (k0_pay172 v1170 (downTile v1248 wd_0_0_0 wd_0_0_512)) (k0_pay173 v1170 (downTile
        v1248 wd_0_0_0 wd_0_0_512))) (k0_pay176 v1170 (downTile v1248 wd_0_0_0 wd_0_0_512) g2 h2) (k0_pay177 v1170 (downTile v1248 wd_0_0_0
        wd_0_0_512) g2 h2) (k0_pay181 (downTile v1248 wd_0_0_0 wd_0_0_512) (k0_pay180 v1170) (FloatOps.ofBits .f32 1071072509#32) g2 h2) (k0_pay182
        (downTile v1248 wd_0_0_0 wd_0_0_512) (k0_pay180 v1170) (FloatOps.ofBits .f32 1071072509#32) g2 h2) (k0_pay187 (k0_pay183 v1170 (downTile
        v1248 wd_0_0_0 wd_0_0_512)) (k0_pay184 g2) (k0_pay185 h2) (k0_pay186 v1170 (downTile v1248 wd_0_0_0 wd_0_0_512)) (FloatOps.ofBits .f32
        1149239296#32)) (k0_pay188 (k0_pay183 v1170 (downTile v1248 wd_0_0_0 wd_0_0_512)) (k0_pay184 g2) (k0_pay185 h2) (k0_pay186 v1170 (downTile
        v1248 wd_0_0_0 wd_0_0_512)) (FloatOps.ofBits .f32 1149239296#32)) (k0_pay189 h2) (k0_pay190 v1170 (downTile v1248 wd_0_0_0 wd_0_0_512))
        (k0_pay191 g2) wg_0_0_0 p_0_0_0_0 wp_0_0_0 =
      outPiece (x2Tile v1170 (downTile v1248 wd_0_0_0 wd_0_0_512) g2 h2) (x2TileB v1170 (downTile v1248 wd_0_0_0 wd_0_0_512) g2 h2) 0
          slices_S256x1024_o0_0_S256x512 wg_0_0_0 p_0_0_0_0 wp_0_0_0 := rfl

/-- 512 columns of the first tile's output. -/
theorem out_0_512 (v1170 : FVec F S256x1024 .f32) (v1248 : FVec F S256x4096 .bf16) (wd_0_0_0 : Vec F S1x4096x512 .bf16) (wd_0_0_512 : Vec F
    S1x4096x512 .bf16) (g2 : Vec F S1x1x1024 .f32) (h2 : Vec F S1x1x1024 .f32) (wg_0_0_512 : Vec F S1x1024x512 .bf16) (p_0_0_0_0 : Vec F S1x1x256x256
    .f32) (wp_0_0_512 : Vec F S1x256x512 .bf16) :
    k0_pay215 (k0_pay212 (x2TileB v1170 (downTile v1248 wd_0_0_0 wd_0_0_512) g2 h2) wg_0_0_512) (k0_pay213 (x2Tile v1170 (downTile v1248 wd_0_0_0
        wd_0_0_512) g2 h2)) (k0_pay214 p_0_0_0_0) wp_0_0_512 =
      outPiece (x2Tile v1170 (downTile v1248 wd_0_0_0 wd_0_0_512) g2 h2) (x2TileB v1170 (downTile v1248 wd_0_0_0 wd_0_0_512) g2 h2) 512
          slices_S256x1024_o0_512_S256x512 wg_0_0_512 p_0_0_0_0 wp_0_0_512 := rfl

/-- The second tile's rounded input. -/
theorem x_1 (x_0_256_0 : Vec F S1x256x1024 .f32) :
    k0_pay22 x_0_256_0 =
      xbTile x_0_256_0 := rfl

/-- The second tile's first half of the input projection. -/
theorem u_1 (x_0_256_0 : Vec F S1x256x1024 .f32) (wi_0_0 : Vec F S1024x512 .bf16) (bi_0_0 : Vec F S1x512 .f32) (wi_0_512 : Vec F S1024x512 .bf16)
    (bi_0_512 : Vec F S1x512 .f32) (wi_0_1024 : Vec F S1024x512 .bf16) (bi_0_1024 : Vec F S1x512 .f32) (wi_0_1536 : Vec F S1024x512 .bf16) (bi_0_1536
    : Vec F S1x512 .f32) :
    k0_pay43 (k0_pay23 x_0_256_0 wi_0_0 bi_0_0) (k0_pay29 (xbTile x_0_256_0) wi_0_512 bi_0_512) (k0_pay36 (k0_pay35 (xbTile x_0_256_0) wi_0_1024)
        bi_0_1024) (k0_pay40 (xbTile x_0_256_0) wi_0_1536 bi_0_1536) (k0_pay41 (xbTile x_0_256_0) wi_0_1536 bi_0_1536) =
      uTile (inTile (xbTile x_0_256_0) wi_0_0 wi_0_512 wi_0_1024 wi_0_1536 bi_0_0 bi_0_512 bi_0_1024 bi_0_1536) := rfl

/-- The second tile's second half of the input projection. -/
theorem v_1 (x_0_256_0 : Vec F S1x256x1024 .f32) (wi_0_0 : Vec F S1024x512 .bf16) (bi_0_0 : Vec F S1x512 .f32) (wi_0_512 : Vec F S1024x512 .bf16)
    (bi_0_512 : Vec F S1x512 .f32) (wi_0_1024 : Vec F S1024x512 .bf16) (bi_0_1024 : Vec F S1x512 .f32) (wi_0_1536 : Vec F S1024x512 .bf16) (bi_0_1536
    : Vec F S1x512 .f32) :
    k0_pay44 (k0_pay23 x_0_256_0 wi_0_0 bi_0_0) (k0_pay29 (xbTile x_0_256_0) wi_0_512 bi_0_512) (k0_pay36 (k0_pay35 (xbTile x_0_256_0) wi_0_1024)
        bi_0_1024) (k0_pay40 (xbTile x_0_256_0) wi_0_1536 bi_0_1536) (k0_pay41 (xbTile x_0_256_0) wi_0_1536 bi_0_1536) =
      vTile (inTile (xbTile x_0_256_0) wi_0_0 wi_0_512 wi_0_1024 wi_0_1536 bi_0_0 bi_0_512 bi_0_1024 bi_0_1536) := rfl

/-- The second tile's normalised half, rounded. -/
theorem vnb_1 (lg : Vec F S1x1024 .f32) (lb : Vec F S1x1024 .f32) (v377 : FVec F S256x1024 .f32) :
    k0_pay102 (k0_pay58 (k0_pay53 lg) (k0_pay54 lb) (k0_pay55 v377) (k0_pay56 v377)) (k0_pay65 v377 lg lb) (k0_pay76 (k0_pay71 lg) (k0_pay72 lb)
        (k0_pay73 v377) (k0_pay74 v377)) (k0_pay83 v377 lg lb) (k0_pay90 v377 lg lb) (k0_pay96 (k0_pay91 v377) (k0_pay92 lg) (k0_pay93 lb) (k0_pay94
        v377) (FloatOps.ofBits .f32 1149239296#32)) (k0_pay98 v377 lg lb) (k0_pay99 v377) lg lb =
      vnTileB v377 (shapeCast S1x1024 lg shapeCasts_S1x1024_S1x1024) (shapeCast S1x1024 lb shapeCasts_S1x1024_S1x1024) := rfl

/-- The second tile's normalised half. -/
theorem vn_1 (lg : Vec F S1x1024 .f32) (lb : Vec F S1x1024 .f32) (v377 : FVec F S256x1024 .f32) :
    k0_pay101 (k0_pay57 (k0_pay53 lg) (k0_pay54 lb) (k0_pay55 v377) (k0_pay56 v377)) (k0_pay64 v377 lg lb) (k0_pay75 (k0_pay71 lg) (k0_pay72 lb)
        (k0_pay73 v377) (k0_pay74 v377)) (k0_pay82 v377 lg lb) (k0_pay89 v377 lg lb) (k0_pay95 (k0_pay91 v377) (k0_pay92 lg) (k0_pay93 lb) (k0_pay94
        v377) (FloatOps.ofBits .f32 1149239296#32)) (k0_pay97 v377 lg lb) (k0_pay99 v377) lg lb =
      vnTile v377 (shapeCast S1x1024 lg shapeCasts_S1x1024_S1x1024) (shapeCast S1x1024 lb shapeCasts_S1x1024_S1x1024) := rfl

/-- The second tile, gated. -/
theorem g_1 (ws_7_0_0 : Vec F S1x128x128 .f32) (v376 : FVec F S256x1024 .f32) (v790 : FVec F S256x1024 .bf16) (ws_6_0_0 : Vec F S1x128x128 .f32)
    (ws_0_0_0 : Vec F S1x128x128 .f32) (bs_0_0_0 : Vec F S1x128x1 .f32) (ws_1_0_0 : Vec F S1x128x128 .f32) (bs_1_0_0 : Vec F S1x128x1 .f32) (ws_2_0_0
    : Vec F S1x128x128 .f32) (bs_2_0_0 : Vec F S1x128x1 .f32) (ws_3_0_0 : Vec F S1x128x128 .f32) (bs_3_0_0 : Vec F S1x128x1 .f32) (ws_4_0_0 : Vec F
    S1x128x128 .f32) (bs_4_0_0 : Vec F S1x128x1 .f32) (ws_5_0_0 : Vec F S1x128x128 .f32) (bs_5_0_0 : Vec F S1x128x1 .f32) (bs_6_0_0 : Vec F S1x128x1
    .f32) (bs_7_0_0 : Vec F S1x128x1 .f32) :
    k0_pay153 (k0_pay10 (iota .tc S128x128 32 ([0] : List (Fin 2)) iota_S128x128_d0_w32) (iota .tc S128x128 32 ([1] : List (Fin 2)) iota_S128x128_d1_w32) ws_7_0_0) v376 v790
        (k0_pay128 (k0_pay9 (iota .tc S128x128 32 ([0] : List (Fin 2)) iota_S128x128_d0_w32) (iota .tc S128x128 32 ([1] : List (Fin 2)) iota_S128x128_d1_w32) ws_6_0_0) (k0_pay10 (iota .tc S128x128 32 ([0] : List (Fin 2)) iota_S128x128_d0_w32) (iota .tc S128x128 32 ([1] : List (Fin 2)) iota_S128x128_d1_w32) ws_7_0_0) v376 v790 (k0_pay108 (k0_pay1 ws_0_0_0)
        v376 v790 bs_0_0_0) (k0_pay109 (k0_pay2 ws_1_0_0) v376 v790 bs_1_0_0) (k0_pay114 (k0_pay3 ws_2_0_0) v376 v790 bs_2_0_0) (k0_pay117 v376
        (k0_pay115 (k0_pay4 ws_3_0_0) v790) (k0_pay116 bs_3_0_0)) (k0_pay122 v376 (k0_pay120 (k0_pay5 ws_4_0_0) v790) (k0_pay121 bs_4_0_0))
        (k0_pay123 (k0_pay8 k0_pay6 (k0_pay7 ws_5_0_0)) v376 v790 bs_5_0_0) bs_6_0_0 bs_7_0_0) (k0_pay135 (k0_pay1 ws_0_0_0) v376 v790 bs_0_0_0)
        (k0_pay136 (k0_pay2 ws_1_0_0) v376 v790 bs_1_0_0) (k0_pay141 (k0_pay3 ws_2_0_0) v376 v790 bs_2_0_0) (k0_pay142 (k0_pay4 ws_3_0_0) v376 v790
        bs_3_0_0) (k0_pay146 (k0_pay5 ws_4_0_0) v376 v790 bs_4_0_0) (k0_pay148 v376 (k0_pay147 (k0_pay8 k0_pay6 (k0_pay7 ws_5_0_0)) v790) bs_5_0_0)
        (k0_pay152 (k0_pay9 (iota .tc S128x128 32 ([0] : List (Fin 2)) iota_S128x128_d0_w32) (iota .tc S128x128 32 ([1] : List (Fin 2)) iota_S128x128_d1_w32) ws_6_0_0) v790) bs_6_0_0
        bs_7_0_0 =
      gated ws_0_0_0 ws_1_0_0 ws_2_0_0 ws_3_0_0 ws_4_0_0 ws_5_0_0 ws_6_0_0 ws_7_0_0 bs_0_0_0 bs_1_0_0 bs_2_0_0 bs_3_0_0 bs_4_0_0 bs_5_0_0 bs_6_0_0
          bs_7_0_0 v376 v790 := rfl

/-- The second tile's mixer output. -/
theorem mix_1 (v1191 : FVec F S256x1024 .bf16) (wo_0_0 : Vec F S1024x512 .bf16) (wo_0_512 : Vec F S1024x512 .bf16) :
    k0_pay178 v1191 (k0_pay162 v1191 (k0_pay161 wo_0_0)) wo_0_512 =
      mixTile v1191 wo_0_0 wo_0_512 := rfl

/-- The second tile after the first norm. -/
theorem x1_1 (v1412 : FVec F S256x1024 .f32) (x_0_256_0r : Vec F S1x32x1024 .f32) (g1 : Vec F S1x1x1024 .f32) (h1 : Vec F S1x1x1024 .f32) (x_0_288_0r
    : Vec F S1x32x1024 .f32) (x_0_320_0r : Vec F S1x32x1024 .f32) (x_0_352_0r : Vec F S1x32x1024 .f32) (x_0_384_0r : Vec F S1x32x1024 .f32)
    (x_0_416_0r : Vec F S1x32x1024 .f32) (x_0_448_0r : Vec F S1x32x1024 .f32) (x_0_480_0r : Vec F S1x32x1024 .f32) :
    k0_pay227 (k0_pay200 (k0_pay196 v1412 x_0_256_0r) (k0_pay197 g1) (k0_pay198 h1) (k0_pay199 v1412 x_0_256_0r)) (k0_pay206 (k0_pay202 g1)
        (k0_pay203 h1) (k0_pay204 v1412 x_0_288_0r) (k0_pay205 v1412 x_0_288_0r) (FloatOps.ofBits .f32 925353388#32)) (k0_pay208 v1412 x_0_320_0r g1
        h1) (k0_pay210 v1412 x_0_352_0r g1 h1) (k0_pay216 v1412 x_0_384_0r g1 h1) (k0_pay218 v1412 x_0_416_0r g1 h1) (k0_pay221 (k0_pay220 v1412
        x_0_448_0r) g1 h1) (k0_pay223 g1) (k0_pay224 h1) (k0_pay225 v1412 x_0_480_0r) =
      x1Tile x_0_256_0r x_0_288_0r x_0_320_0r x_0_352_0r x_0_384_0r x_0_416_0r x_0_448_0r x_0_480_0r v1412 g1 h1 := rfl

/-- The second tile after the first norm, rounded. -/
theorem x1b_1 (v1412 : FVec F S256x1024 .f32) (x_0_256_0r : Vec F S1x32x1024 .f32) (g1 : Vec F S1x1x1024 .f32) (h1 : Vec F S1x1x1024 .f32)
    (x_0_288_0r : Vec F S1x32x1024 .f32) (x_0_320_0r : Vec F S1x32x1024 .f32) (x_0_352_0r : Vec F S1x32x1024 .f32) (x_0_384_0r : Vec F S1x32x1024
    .f32) (x_0_416_0r : Vec F S1x32x1024 .f32) (x_0_448_0r : Vec F S1x32x1024 .f32) (x_0_480_0r : Vec F S1x32x1024 .f32) :
    k0_pay228 (k0_pay201 (k0_pay196 v1412 x_0_256_0r) (k0_pay197 g1) (k0_pay198 h1) (k0_pay199 v1412 x_0_256_0r)) (k0_pay207 (k0_pay202 g1)
        (k0_pay203 h1) (k0_pay204 v1412 x_0_288_0r) (k0_pay205 v1412 x_0_288_0r) (FloatOps.ofBits .f32 925353388#32)) (k0_pay209 v1412 x_0_320_0r g1
        h1) (k0_pay211 v1412 x_0_352_0r g1 h1) (k0_pay217 v1412 x_0_384_0r g1 h1) (k0_pay219 v1412 x_0_416_0r g1 h1) (k0_pay222 (k0_pay220 v1412
        x_0_448_0r) g1 h1) (k0_pay223 g1) (k0_pay224 h1) (k0_pay225 v1412 x_0_480_0r) =
      x1TileB x_0_256_0r x_0_288_0r x_0_320_0r x_0_352_0r x_0_384_0r x_0_416_0r x_0_448_0r x_0_480_0r v1412 g1 h1 := rfl

/-- The second tile's hidden layer. -/
theorem h_1 (x_0_256_0r : Vec F S1x32x1024 .f32) (x_0_288_0r : Vec F S1x32x1024 .f32) (x_0_320_0r : Vec F S1x32x1024 .f32) (x_0_352_0r : Vec F
    S1x32x1024 .f32) (x_0_384_0r : Vec F S1x32x1024 .f32) (x_0_416_0r : Vec F S1x32x1024 .f32) (x_0_448_0r : Vec F S1x32x1024 .f32) (x_0_480_0r : Vec
    F S1x32x1024 .f32) (v1412 : FVec F S256x1024 .f32) (g1 : Vec F S1x1x1024 .f32) (h1 : Vec F S1x1x1024 .f32) (wu_0_0_0 : Vec F S1x1024x512 .bf16)
    (wu_0_0_512 : Vec F S1x1024x512 .bf16) (wu_0_0_1024 : Vec F S1x1024x512 .bf16) (wu_0_0_1536 : Vec F S1x1024x512 .bf16) (wu_0_0_2048 : Vec F
    S1x1024x512 .bf16) (wu_0_0_2560 : Vec F S1x1024x512 .bf16) (wu_0_0_3072 : Vec F S1x1024x512 .bf16) (wu_0_0_3584 : Vec F S1x1024x512 .bf16) :
    k0_pay232 (x1TileB x_0_256_0r x_0_288_0r x_0_320_0r x_0_352_0r x_0_384_0r x_0_416_0r x_0_448_0r x_0_480_0r v1412 g1 h1) (k0_pay229 (k0_pay201
        (k0_pay196 v1412 x_0_256_0r) (k0_pay197 g1) (k0_pay198 h1) (k0_pay199 v1412 x_0_256_0r)) (k0_pay207 (k0_pay202 g1) (k0_pay203 h1) (k0_pay204
        v1412 x_0_288_0r) (k0_pay205 v1412 x_0_288_0r) (FloatOps.ofBits .f32 925353388#32)) (k0_pay209 v1412 x_0_320_0r g1 h1) (k0_pay211 v1412
        x_0_352_0r g1 h1) (k0_pay217 v1412 x_0_384_0r g1 h1) (k0_pay219 v1412 x_0_416_0r g1 h1) (k0_pay222 (k0_pay220 v1412 x_0_448_0r) g1 h1)
        (k0_pay223 g1) (k0_pay224 h1) (k0_pay225 v1412 x_0_480_0r) wu_0_0_0) (k0_pay230 (k0_pay201 (k0_pay196 v1412 x_0_256_0r) (k0_pay197 g1)
        (k0_pay198 h1) (k0_pay199 v1412 x_0_256_0r)) (k0_pay207 (k0_pay202 g1) (k0_pay203 h1) (k0_pay204 v1412 x_0_288_0r) (k0_pay205 v1412
        x_0_288_0r) (FloatOps.ofBits .f32 925353388#32)) (k0_pay209 v1412 x_0_320_0r g1 h1) (k0_pay211 v1412 x_0_352_0r g1 h1) (k0_pay217 v1412
        x_0_384_0r g1 h1) (k0_pay219 v1412 x_0_416_0r g1 h1) (k0_pay222 (k0_pay220 v1412 x_0_448_0r) g1 h1) (k0_pay223 g1) (k0_pay224 h1) (k0_pay225
        v1412 x_0_480_0r) wu_0_0_512) (k0_pay231 (k0_pay201 (k0_pay196 v1412 x_0_256_0r) (k0_pay197 g1) (k0_pay198 h1) (k0_pay199 v1412 x_0_256_0r))
        (k0_pay207 (k0_pay202 g1) (k0_pay203 h1) (k0_pay204 v1412 x_0_288_0r) (k0_pay205 v1412 x_0_288_0r) (FloatOps.ofBits .f32 925353388#32))
        (k0_pay209 v1412 x_0_320_0r g1 h1) (k0_pay211 v1412 x_0_352_0r g1 h1) (k0_pay217 v1412 x_0_384_0r g1 h1) (k0_pay219 v1412 x_0_416_0r g1 h1)
        (k0_pay222 (k0_pay220 v1412 x_0_448_0r) g1 h1) (k0_pay223 g1) (k0_pay224 h1) (k0_pay225 v1412 x_0_480_0r) wu_0_0_1024) wu_0_0_1536
        wu_0_0_2048 wu_0_0_2560 wu_0_0_3072 wu_0_0_3584 =
      hidTile (x1TileB x_0_256_0r x_0_288_0r x_0_320_0r x_0_352_0r x_0_384_0r x_0_416_0r x_0_448_0r x_0_480_0r v1412 g1 h1) wu_0_0_0 wu_0_0_512
          wu_0_0_1024 wu_0_0_1536 wu_0_0_2048 wu_0_0_2560 wu_0_0_3072 wu_0_0_3584 := rfl

/-- The second tile's MLP output. -/
theorem dn_1 (v1844 : FVec F S256x4096 .bf16) (wd_0_0_0 : Vec F S1x4096x512 .bf16) (wd_0_0_512 : Vec F S1x4096x512 .bf16) :
    k0_pay233 v1844 wd_0_0_0 wd_0_0_512 =
      downTile v1844 wd_0_0_0 wd_0_0_512 := rfl

/-- The second tile after the second norm. -/
theorem x2_1 (v1786 : FVec F S256x1024 .f32) (v1844 : FVec F S256x4096 .bf16) (wd_0_0_0 : Vec F S1x4096x512 .bf16) (wd_0_0_512 : Vec F S1x4096x512
    .bf16) (g2 : Vec F S1x1x1024 .f32) (h2 : Vec F S1x1x1024 .f32) :
    k0_pay260 v1786 (downTile v1844 wd_0_0_0 wd_0_0_512) (k0_pay234 v1786 v1844 wd_0_0_0 wd_0_0_512 g2 h2) (k0_pay237 (k0_pay236 v1786 v1844 wd_0_0_0
        wd_0_0_512) g2 h2) (k0_pay242 (k0_pay239 g2) (k0_pay240 h2) (k0_pay241 v1786 (downTile v1844 wd_0_0_0 wd_0_0_512))) (k0_pay244 v1786
        (downTile v1844 wd_0_0_0 wd_0_0_512) g2 h2) (k0_pay246 v1786 (downTile v1844 wd_0_0_0 wd_0_0_512) g2 h2) (k0_pay252 (k0_pay248 v1786
        (downTile v1844 wd_0_0_0 wd_0_0_512)) (k0_pay249 g2) (k0_pay250 h2) (k0_pay251 v1786 (downTile v1844 wd_0_0_0 wd_0_0_512))) (k0_pay254 g2)
        (k0_pay255 h2) (k0_pay256 v1786 (downTile v1844 wd_0_0_0 wd_0_0_512)) (k0_pay257 v1786 (downTile v1844 wd_0_0_0 wd_0_0_512)) g2 h2 =
      x2Tile v1786 (downTile v1844 wd_0_0_0 wd_0_0_512) g2 h2 := rfl

/-- The second tile after the second norm, rounded. -/
theorem x2b_1 (v1786 : FVec F S256x1024 .f32) (v1844 : FVec F S256x4096 .bf16) (wd_0_0_0 : Vec F S1x4096x512 .bf16) (wd_0_0_512 : Vec F S1x4096x512
    .bf16) (g2 : Vec F S1x1x1024 .f32) (h2 : Vec F S1x1x1024 .f32) :
    k0_pay261 v1786 (downTile v1844 wd_0_0_0 wd_0_0_512) (k0_pay235 v1786 v1844 wd_0_0_0 wd_0_0_512 g2 h2) (k0_pay238 (k0_pay236 v1786 v1844 wd_0_0_0
        wd_0_0_512) g2 h2) (k0_pay243 (k0_pay239 g2) (k0_pay240 h2) (k0_pay241 v1786 (downTile v1844 wd_0_0_0 wd_0_0_512))) (k0_pay245 v1786
        (downTile v1844 wd_0_0_0 wd_0_0_512) g2 h2) (k0_pay247 v1786 (downTile v1844 wd_0_0_0 wd_0_0_512) g2 h2) (k0_pay253 (k0_pay248 v1786
        (downTile v1844 wd_0_0_0 wd_0_0_512)) (k0_pay249 g2) (k0_pay250 h2) (k0_pay251 v1786 (downTile v1844 wd_0_0_0 wd_0_0_512))) (k0_pay254 g2)
        (k0_pay255 h2) (k0_pay256 v1786 (downTile v1844 wd_0_0_0 wd_0_0_512)) (k0_pay257 v1786 (downTile v1844 wd_0_0_0 wd_0_0_512)) g2 h2 =
      x2TileB v1786 (downTile v1844 wd_0_0_0 wd_0_0_512) g2 h2 := rfl

/-- 512 columns of the second tile's output. -/
theorem out_1_0 (v1786 : FVec F S256x1024 .f32) (v1844 : FVec F S256x4096 .bf16) (wd_0_0_0 : Vec F S1x4096x512 .bf16) (wd_0_0_512 : Vec F S1x4096x512
    .bf16) (g2 : Vec F S1x1x1024 .f32) (h2 : Vec F S1x1x1024 .f32) (wg_0_0_0 : Vec F S1x1024x512 .bf16) (p_0_0_256_0 : Vec F S1x1x256x256 .f32)
    (wp_0_0_0 : Vec F S1x256x512 .bf16) :
    k0_pay264 (k0_pay262 v1786 (downTile v1844 wd_0_0_0 wd_0_0_512) (k0_pay235 v1786 v1844 wd_0_0_0 wd_0_0_512 g2 h2) (k0_pay238 (k0_pay236 v1786
        v1844 wd_0_0_0 wd_0_0_512) g2 h2) (k0_pay243 (k0_pay239 g2) (k0_pay240 h2) (k0_pay241 v1786 (downTile v1844 wd_0_0_0 wd_0_0_512))) (k0_pay245
        v1786 (downTile v1844 wd_0_0_0 wd_0_0_512) g2 h2) (k0_pay247 v1786 (downTile v1844 wd_0_0_0 wd_0_0_512) g2 h2) (k0_pay253 (k0_pay248 v1786
        (downTile v1844 wd_0_0_0 wd_0_0_512)) (k0_pay249 g2) (k0_pay250 h2) (k0_pay251 v1786 (downTile v1844 wd_0_0_0 wd_0_0_512))) (k0_pay254 g2)
        (k0_pay255 h2) (k0_pay256 v1786 (downTile v1844 wd_0_0_0 wd_0_0_512)) (k0_pay257 v1786 (downTile v1844 wd_0_0_0 wd_0_0_512)) g2 h2 wg_0_0_0)
        (k0_pay263 v1786 (downTile v1844 wd_0_0_0 wd_0_0_512) (k0_pay234 v1786 v1844 wd_0_0_0 wd_0_0_512 g2 h2) (k0_pay237 (k0_pay236 v1786 v1844
        wd_0_0_0 wd_0_0_512) g2 h2) (k0_pay242 (k0_pay239 g2) (k0_pay240 h2) (k0_pay241 v1786 (downTile v1844 wd_0_0_0 wd_0_0_512))) (k0_pay244 v1786
        (downTile v1844 wd_0_0_0 wd_0_0_512) g2 h2) (k0_pay246 v1786 (downTile v1844 wd_0_0_0 wd_0_0_512) g2 h2) (k0_pay252 (k0_pay248 v1786
        (downTile v1844 wd_0_0_0 wd_0_0_512)) (k0_pay249 g2) (k0_pay250 h2) (k0_pay251 v1786 (downTile v1844 wd_0_0_0 wd_0_0_512))) (k0_pay254 g2)
        (k0_pay255 h2) (k0_pay256 v1786 (downTile v1844 wd_0_0_0 wd_0_0_512)) (k0_pay257 v1786 (downTile v1844 wd_0_0_0 wd_0_0_512)) g2 h2)
        p_0_0_256_0 wp_0_0_0 =
      outPiece (x2Tile v1786 (downTile v1844 wd_0_0_0 wd_0_0_512) g2 h2) (x2TileB v1786 (downTile v1844 wd_0_0_0 wd_0_0_512) g2 h2) 0
          slices_S256x1024_o0_0_S256x512 wg_0_0_0 p_0_0_256_0 wp_0_0_0 := rfl

/-- 512 columns of the second tile's output. -/
theorem out_1_512 (v1786 : FVec F S256x1024 .f32) (v1844 : FVec F S256x4096 .bf16) (wd_0_0_0 : Vec F S1x4096x512 .bf16) (wd_0_0_512 : Vec F
    S1x4096x512 .bf16) (g2 : Vec F S1x1x1024 .f32) (h2 : Vec F S1x1x1024 .f32) (wg_0_0_512 : Vec F S1x1024x512 .bf16) (p_0_0_256_0 : Vec F
    S1x1x256x256 .f32) (wp_0_0_512 : Vec F S1x256x512 .bf16) :
    k0_pay265 (x2Tile v1786 (downTile v1844 wd_0_0_0 wd_0_0_512) g2 h2) (x2TileB v1786 (downTile v1844 wd_0_0_0 wd_0_0_512) g2 h2) wg_0_0_512
        p_0_0_256_0 wp_0_0_512 =
      outPiece (x2Tile v1786 (downTile v1844 wd_0_0_0 wd_0_0_512) g2 h2) (x2TileB v1786 (downTile v1844 wd_0_0_0 wd_0_0_512) g2 h2) 512
          slices_S256x1024_o0_512_S256x512 wg_0_0_512 p_0_0_256_0 wp_0_0_512 := rfl

/-- The second chunk of the normalised half. -/
theorem aux (v789 : FVec F S256x1024 .f32) :
    k0_pay266 (k0_pay179 v789) =
      shapeCast S1x128x1024 (extractStridedSlice S128x1024 ![128, 0] v789 slices_S256x1024_o128_0_S128x1024) shapeCasts_S128x1024_S1x128x1024 := rfl

end Cert.Stage

end
-- ==== Proof.Block.lean ====
/- What the kernel writes at one grid point, in the vocabulary of `Tile`: the output block is four pieces, the two column
   halves of two 256-row tiles, and the second output of a sequence's last grid point is the normalised half of that
   point's last 128 rows. -/
module

public import proofs.«01_k».proof.Proof.Stage
public import proofs.«01_k».proof.Proof.Gen.KernelIdeal.Value
public import Idealize.ShloMosaic.Lib.Pipeline.ValueKit

@[expose] public section

set_option maxRecDepth 16384

noncomputable section

namespace Cert.Block

open Idealize.ShloMosaic Idealize.ShloMosaic.TcCoe Idealize.SL.Sem
open Cert.KernelIdeal Cert.KernelIdeal.Gen Cert.Tile

variable {F : FTy → Type} [FloatOps F]

/-- The input projection of a tile, from the whole weight and bias. -/
def zTile (x : Vec F S1x256x1024 .f32) (wi : Vec F S1024x2048 .bf16) (bi : Vec F S1x2048 .f32) : FVec F S256x2048 .f32 :=
  inTile (xbTile x) (View.ld wi (Rect.unit ![0, 0] ![1024, 512] inb_S1024x2048_S1024x512_0_0))
    (View.ld wi (Rect.unit ![0, 512] ![1024, 512] inb_S1024x2048_S1024x512_0_512))
    (View.ld wi (Rect.unit ![0, 1024] ![1024, 512] inb_S1024x2048_S1024x512_0_1024))
    (View.ld wi (Rect.unit ![0, 1536] ![1024, 512] inb_S1024x2048_S1024x512_0_1536))
    (View.ld bi (Rect.unit ![0, 0] ![1, 512] inb_S1x2048_S1x512_0_0))
    (View.ld bi (Rect.unit ![0, 512] ![1, 512] inb_S1x2048_S1x512_0_512))
    (View.ld bi (Rect.unit ![0, 1024] ![1, 512] inb_S1x2048_S1x512_0_1024))
    (View.ld bi (Rect.unit ![0, 1536] ![1, 512] inb_S1x2048_S1x512_0_1536))

/-- The gated tile, from the whole mixing matrices and biases. -/
def gTile (z : FVec F S256x2048 .f32) (ws : Vec F S8x128x128 .f32) (lg lb : Vec F S1x1024 .f32) (bs : Vec F S8x128x1 .f32) :
    FVec F S256x1024 .bf16 :=
  gated (View.ld ws (Rect.unit ![0, 0, 0] ![1, 128, 128] inb_S8x128x128_S1x128x128_0_0_0))
    (View.ld ws (Rect.unit ![1, 0, 0] ![1, 128, 128] inb_S8x128x128_S1x128x128_1_0_0))
    (View.ld ws (Rect.unit ![2, 0, 0] ![1, 128, 128] inb_S8x128x128_S1x128x128_2_0_0))
    (View.ld ws (Rect.unit ![3, 0, 0] ![1, 128, 128] inb_S8x128x128_S1x128x128_3_0_0))
    (View.ld ws (Rect.unit ![4, 0, 0] ![1, 128, 128] inb_S8x128x128_S1x128x128_4_0_0))
    (View.ld ws (Rect.unit ![5, 0, 0] ![1, 128, 128] inb_S8x128x128_S1x128x128_5_0_0))
    (View.ld ws (Rect.unit ![6, 0, 0] ![1, 128, 128] inb_S8x128x128_S1x128x128_6_0_0))
    (View.ld ws (Rect.unit ![7, 0, 0] ![1, 128, 128] inb_S8x128x128_S1x128x128_7_0_0))
    (View.ld bs (Rect.unit ![0, 0, 0] ![1, 128, 1] inb_S8x128x1_S1x128x1_0_0_0))
    (View.ld bs (Rect.unit ![1, 0, 0] ![1, 128, 1] inb_S8x128x1_S1x128x1_1_0_0))
    (View.ld bs (Rect.unit ![2, 0, 0] ![1, 128, 1] inb_S8x128x1_S1x128x1_2_0_0))
    (View.ld bs (Rect.unit ![3, 0, 0] ![1, 128, 1] inb_S8x128x1_S1x128x1_3_0_0))
    (View.ld bs (Rect.unit ![4, 0, 0] ![1, 128, 1] inb_S8x128x1_S1x128x1_4_0_0))
    (View.ld bs (Rect.unit ![5, 0, 0] ![1, 128, 1] inb_S8x128x1_S1x128x1_5_0_0))
    (View.ld bs (Rect.unit ![6, 0, 0] ![1, 128, 1] inb_S8x128x1_S1x128x1_6_0_0))
    (View.ld bs (Rect.unit ![7, 0, 0] ![1, 128, 1] inb_S8x128x1_S1x128x1_7_0_0))
    (uTile z) (vnTileB (vTile z) (shapeCast S1x1024 lg shapeCasts_S1x1024_S1x1024) (shapeCast S1x1024 lb shapeCasts_S1x1024_S1x1024))

/-- The mixer's output for a tile. -/
def yTile (x : Vec F S1x256x1024 .f32) (ws : Vec F S8x128x128 .f32) (wi : Vec F S1024x2048 .bf16) (bi : Vec F S1x2048 .f32)
    (lg lb : Vec F S1x1024 .f32) (bs : Vec F S8x128x1 .f32) (wo : Vec F S1024x1024 .bf16) : FVec F S256x1024 .f32 :=
  mixTile (gTile (zTile x wi bi) ws lg lb bs) (View.ld wo (Rect.unit ![0, 0] ![1024, 512] inb_S1024x1024_S1024x512_0_0))
    (View.ld wo (Rect.unit ![0, 512] ![1024, 512] inb_S1024x1024_S1024x512_0_512))

/-- The MLP's output for a tile. -/
def dTile (x : FVec F S256x1024 .bf16) (wu : Vec F S1x1024x4096 .bf16) (wd : Vec F S1x4096x1024 .bf16) : FVec F S256x1024 .f32 :=
  downTile (hidTile x (View.ld wu (Rect.unit ![0, 0, 0] ![1, 1024, 512] inb_S1x1024x4096_S1x1024x512_0_0_0))
    (View.ld wu (Rect.unit ![0, 0, 512] ![1, 1024, 512] inb_S1x1024x4096_S1x1024x512_0_0_512))
    (View.ld wu (Rect.unit ![0, 0, 1024] ![1, 1024, 512] inb_S1x1024x4096_S1x1024x512_0_0_1024))
    (View.ld wu (Rect.unit ![0, 0, 1536] ![1, 1024, 512] inb_S1x1024x4096_S1x1024x512_0_0_1536))
    (View.ld wu (Rect.unit ![0, 0, 2048] ![1, 1024, 512] inb_S1x1024x4096_S1x1024x512_0_0_2048))
    (View.ld wu (Rect.unit ![0, 0, 2560] ![1, 1024, 512] inb_S1x1024x4096_S1x1024x512_0_0_2560))
    (View.ld wu (Rect.unit ![0, 0, 3072] ![1, 1024, 512] inb_S1x1024x4096_S1x1024x512_0_0_3072))
    (View.ld wu (Rect.unit ![0, 0, 3584] ![1, 1024, 512] inb_S1x1024x4096_S1x1024x512_0_0_3584)))
    (View.ld wd (Rect.unit ![0, 0, 0] ![1, 4096, 512] inb_S1x4096x1024_S1x4096x512_0_0_0))
    (View.ld wd (Rect.unit ![0, 0, 512] ![1, 4096, 512] inb_S1x4096x1024_S1x4096x512_0_0_512))

/-- 512 columns of the layer's output for a tile `x` (its rows again as `x0 … x7`) with the embedding rows `p`. -/
def tileOut (x : Vec F S1x256x1024 .f32) (x0 x1 x2 x3 x4 x5 x6 x7 : Vec F S1x32x1024 .f32) (p : Vec F S1x1x256x256 .f32)
    (ws : Vec F S8x128x128 .f32) (wi : Vec F S1024x2048 .bf16) (bi : Vec F S1x2048 .f32)
    (lg lb : Vec F S1x1024 .f32) (bs : Vec F S8x128x1 .f32) (wo : Vec F S1024x1024 .bf16) (g1 h1 : Vec F S1x1x1024 .f32) (wu : Vec F S1x1024x4096 .bf16)
    (wd : Vec F S1x4096x1024 .bf16) (g2 h2 : Vec F S1x1x1024 .f32) (c : Nat) (h : S256x1024.Slices ![0, c] S256x512)
    (wp : Vec F S1x256x512 .bf16) (wg : Vec F S1x1024x512 .bf16) : FVec F S1x256x512 .f32 :=
  outPiece
    (x2Tile (x1Tile x0 x1 x2 x3 x4 x5 x6 x7 (yTile x ws wi bi lg lb bs wo) g1 h1)
      (dTile (x1TileB x0 x1 x2 x3 x4 x5 x6 x7 (yTile x ws wi bi lg lb bs wo) g1 h1) wu wd) g2 h2)
    (x2TileB (x1Tile x0 x1 x2 x3 x4 x5 x6 x7 (yTile x ws wi bi lg lb bs wo) g1 h1)
      (dTile (x1TileB x0 x1 x2 x3 x4 x5 x6 x7 (yTile x ws wi bi lg lb bs wo) g1 h1) wu wd) g2 h2)
    c h wg p wp

/-- The four pieces a grid point writes: two column halves of each of two 256-row tiles. -/
def pieces (x : Vec F S1x512x1024 .f32) (p : Vec F S1x1x512x256 .f32) (ws : Vec F S8x128x128 .f32) (wi : Vec F S1024x2048 .bf16) (bi : Vec F S1x2048 .f32)
    (lg lb : Vec F S1x1024 .f32) (bs : Vec F S8x128x1 .f32) (wo : Vec F S1024x1024 .bf16)
    (g1 h1 : Vec F S1x1x1024 .f32) (wu : Vec F S1x1024x4096 .bf16)
    (wd : Vec F S1x4096x1024 .bf16) (g2 h2 : Vec F S1x1x1024 .f32) (wp : Vec F S1x256x1024 .bf16) (wg : Vec F S1x1024x1024 .bf16) :
    List (View.Piece (Elt F) S1x512x1024 .f32) :=
  [⟨Rect.unit ![0, 256, 512] ![1, 256, 512] inb_S1x512x1024_S1x256x512_0_256_512, (tileOut (View.ld x (Rect.unit ![0, 256, 0] ![1, 256, 1024] inb_S1x512x1024_S1x256x1024_0_256_0))
    (View.ld x (Rect.unit ![0, 256, 0] ![1, 32, 1024] inb_S1x512x1024_S1x32x1024_0_256_0))
    (View.ld x (Rect.unit ![0, 288, 0] ![1, 32, 1024] inb_S1x512x1024_S1x32x1024_0_288_0))
    (View.ld x (Rect.unit ![0, 320, 0] ![1, 32, 1024] inb_S1x512x1024_S1x32x1024_0_320_0))
    (View.ld x (Rect.unit ![0, 352, 0] ![1, 32, 1024] inb_S1x512x1024_S1x32x1024_0_352_0))
    (View.ld x (Rect.unit ![0, 384, 0] ![1, 32, 1024] inb_S1x512x1024_S1x32x1024_0_384_0))
    (View.ld x (Rect.unit ![0, 416, 0] ![1, 32, 1024] inb_S1x512x1024_S1x32x1024_0_416_0))
    (View.ld x (Rect.unit ![0, 448, 0] ![1, 32, 1024] inb_S1x512x1024_S1x32x1024_0_448_0))
    (View.ld x (Rect.unit ![0, 480, 0] ![1, 32, 1024] inb_S1x512x1024_S1x32x1024_0_480_0))
    (View.ld p (Rect.unit ![0, 0, 256, 0] ![1, 1, 256, 256] inb_S1x1x512x256_S1x1x256x256_0_0_256_0)) ws wi bi lg lb bs wo g1 h1 wu wd g2 h2 512 slices_S256x1024_o0_512_S256x512
    (View.ld wp (Rect.unit ![0, 0, 512] ![1, 256, 512] inb_S1x256x1024_S1x256x512_0_0_512)) (View.ld wg (Rect.unit ![0, 0, 512] ![1, 1024, 512] inb_S1x1024x1024_S1x1024x512_0_0_512)))⟩,
   ⟨Rect.unit ![0, 256, 0] ![1, 256, 512] inb_S1x512x1024_S1x256x512_0_256_0, (tileOut (View.ld x (Rect.unit ![0, 256, 0] ![1, 256, 1024] inb_S1x512x1024_S1x256x1024_0_256_0))
    (View.ld x (Rect.unit ![0, 256, 0] ![1, 32, 1024] inb_S1x512x1024_S1x32x1024_0_256_0))
    (View.ld x (Rect.unit ![0, 288, 0] ![1, 32, 1024] inb_S1x512x1024_S1x32x1024_0_288_0))
    (View.ld x (Rect.unit ![0, 320, 0] ![1, 32, 1024] inb_S1x512x1024_S1x32x1024_0_320_0))
    (View.ld x (Rect.unit ![0, 352, 0] ![1, 32, 1024] inb_S1x512x1024_S1x32x1024_0_352_0))
    (View.ld x (Rect.unit ![0, 384, 0] ![1, 32, 1024] inb_S1x512x1024_S1x32x1024_0_384_0))
    (View.ld x (Rect.unit ![0, 416, 0] ![1, 32, 1024] inb_S1x512x1024_S1x32x1024_0_416_0))
    (View.ld x (Rect.unit ![0, 448, 0] ![1, 32, 1024] inb_S1x512x1024_S1x32x1024_0_448_0))
    (View.ld x (Rect.unit ![0, 480, 0] ![1, 32, 1024] inb_S1x512x1024_S1x32x1024_0_480_0))
    (View.ld p (Rect.unit ![0, 0, 256, 0] ![1, 1, 256, 256] inb_S1x1x512x256_S1x1x256x256_0_0_256_0)) ws wi bi lg lb bs wo g1 h1 wu wd g2 h2 0 slices_S256x1024_o0_0_S256x512
    (View.ld wp (Rect.unit ![0, 0, 0] ![1, 256, 512] inb_S1x256x1024_S1x256x512_0_0_0)) (View.ld wg (Rect.unit ![0, 0, 0] ![1, 1024, 512] inb_S1x1024x1024_S1x1024x512_0_0_0)))⟩,
   ⟨Rect.unit ![0, 0, 512] ![1, 256, 512] inb_S1x512x1024_S1x256x512_0_0_512, (tileOut (View.ld x (Rect.unit ![0, 0, 0] ![1, 256, 1024] inb_S1x512x1024_S1x256x1024_0_0_0))
    (View.ld x (Rect.unit ![0, 0, 0] ![1, 32, 1024] inb_S1x512x1024_S1x32x1024_0_0_0))
    (View.ld x (Rect.unit ![0, 32, 0] ![1, 32, 1024] inb_S1x512x1024_S1x32x1024_0_32_0))
    (View.ld x (Rect.unit ![0, 64, 0] ![1, 32, 1024] inb_S1x512x1024_S1x32x1024_0_64_0))
    (View.ld x (Rect.unit ![0, 96, 0] ![1, 32, 1024] inb_S1x512x1024_S1x32x1024_0_96_0))
    (View.ld x (Rect.unit ![0, 128, 0] ![1, 32, 1024] inb_S1x512x1024_S1x32x1024_0_128_0))
    (View.ld x (Rect.unit ![0, 160, 0] ![1, 32, 1024] inb_S1x512x1024_S1x32x1024_0_160_0))
    (View.ld x (Rect.unit ![0, 192, 0] ![1, 32, 1024] inb_S1x512x1024_S1x32x1024_0_192_0))
    (View.ld x (Rect.unit ![0, 224, 0] ![1, 32, 1024] inb_S1x512x1024_S1x32x1024_0_224_0))
    (View.ld p (Rect.unit ![0, 0, 0, 0] ![1, 1, 256, 256] inb_S1x1x512x256_S1x1x256x256_0_0_0_0)) ws wi bi lg lb bs wo g1 h1 wu wd g2 h2 512 slices_S256x1024_o0_512_S256x512
    (View.ld wp (Rect.unit ![0, 0, 512] ![1, 256, 512] inb_S1x256x1024_S1x256x512_0_0_512)) (View.ld wg (Rect.unit ![0, 0, 512] ![1, 1024, 512] inb_S1x1024x1024_S1x1024x512_0_0_512)))⟩,
   ⟨Rect.unit ![0, 0, 0] ![1, 256, 512] inb_S1x512x1024_S1x256x512_0_0_0, (tileOut (View.ld x (Rect.unit ![0, 0, 0] ![1, 256, 1024] inb_S1x512x1024_S1x256x1024_0_0_0))
    (View.ld x (Rect.unit ![0, 0, 0] ![1, 32, 1024] inb_S1x512x1024_S1x32x1024_0_0_0))
    (View.ld x (Rect.unit ![0, 32, 0] ![1, 32, 1024] inb_S1x512x1024_S1x32x1024_0_32_0))
    (View.ld x (Rect.unit ![0, 64, 0] ![1, 32, 1024] inb_S1x512x1024_S1x32x1024_0_64_0))
    (View.ld x (Rect.unit ![0, 96, 0] ![1, 32, 1024] inb_S1x512x1024_S1x32x1024_0_96_0))
    (View.ld x (Rect.unit ![0, 128, 0] ![1, 32, 1024] inb_S1x512x1024_S1x32x1024_0_128_0))
    (View.ld x (Rect.unit ![0, 160, 0] ![1, 32, 1024] inb_S1x512x1024_S1x32x1024_0_160_0))
    (View.ld x (Rect.unit ![0, 192, 0] ![1, 32, 1024] inb_S1x512x1024_S1x32x1024_0_192_0))
    (View.ld x (Rect.unit ![0, 224, 0] ![1, 32, 1024] inb_S1x512x1024_S1x32x1024_0_224_0))
    (View.ld p (Rect.unit ![0, 0, 0, 0] ![1, 1, 256, 256] inb_S1x1x512x256_S1x1x256x256_0_0_0_0)) ws wi bi lg lb bs wo g1 h1 wu wd g2 h2 0 slices_S256x1024_o0_0_S256x512
    (View.ld wp (Rect.unit ![0, 0, 0] ![1, 256, 512] inb_S1x256x1024_S1x256x512_0_0_0)) (View.ld wg (Rect.unit ![0, 0, 0] ![1, 1024, 512] inb_S1x1024x1024_S1x1024x512_0_0_0)))⟩]

/-- The last 128 rows of a block's normalised half. -/
def auxTile (x : Vec F S1x512x1024 .f32) (wi : Vec F S1024x2048 .bf16) (bi : Vec F S1x2048 .f32) (lg lb : Vec F S1x1024 .f32) :
    FVec F S1x128x1024 .f32 :=
  shapeCast S1x128x1024 (extractStridedSlice S128x1024 ![128, 0]
    (vnTile (vTile (zTile (View.ld x (Rect.unit ![0, 256, 0] ![1, 256, 1024] inb_S1x512x1024_S1x256x1024_0_256_0)) wi bi))
      (shapeCast S1x1024 lg shapeCasts_S1x1024_S1x1024) (shapeCast S1x1024 lb shapeCasts_S1x1024_S1x1024))
    slices_S256x1024_o128_0_S128x1024) shapeCasts_S128x1024_S1x128x1024

variable (m : (ℓ : Loc nD τ sig) → Buf (Elt F) ℓ)

set_option maxHeartbeats 4000000 in
open Cert.Stage in
/-- A grid point that isn't a sequence's last writes its block's four pieces. -/
theorem block_A (c : Dev nD) (t : Fin cfg0.N) (h : ¬ t.val % 4 = 3) :
    (outsAt0 m c t.val t.isLt).1 = View.canon (pieces (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t)) := by
  rw [outsAt0_A m c t h]
  dsimp only
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize iblk m c 9 t = X9
  generalize iblk m c 10 t = X10
  generalize iblk m c 11 t = X11
  generalize iblk m c 12 t = X12
  generalize iblk m c 13 t = X13
  generalize iblk m c 14 t = X14
  generalize iblk m c 15 t = X15
  generalize iblk m c 16 t = X16
  frame_out
  simp only [x_0, u_0, v_0, vnb_0, g_0, t_0, mix_0, x1_0, x1b_0, h_0, dn_0, x2_0, x2b_0, out_0_0, out_0_512, x_1, u_1, v_1, vnb_1, vn_1, g_1, mix_1,
    x1_1, x1b_1, h_1, dn_1, x2_1, x2b_1, out_1_0, out_1_512, aux]
  rfl

set_option maxHeartbeats 4000000 in
open Cert.Stage in
/-- A sequence's last grid point writes its block's four pieces. -/
theorem block_B (c : Dev nD) (t : Fin cfg0.N) (h : t.val % 4 = 3) :
    (outsAt0 m c t.val t.isLt).1 = View.canon (pieces (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t)) := by
  rw [outsAt0_B m c t h]
  dsimp only
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize iblk m c 9 t = X9
  generalize iblk m c 10 t = X10
  generalize iblk m c 11 t = X11
  generalize iblk m c 12 t = X12
  generalize iblk m c 13 t = X13
  generalize iblk m c 14 t = X14
  generalize iblk m c 15 t = X15
  generalize iblk m c 16 t = X16
  frame_out
  simp only [x_0, u_0, v_0, vnb_0, g_0, t_0, mix_0, x1_0, x1b_0, h_0, dn_0, x2_0, x2b_0, out_0_0, out_0_512, x_1, u_1, v_1, vnb_1, vn_1, g_1, mix_1,
    x1_1, x1b_1, h_1, dn_1, x2_1, x2b_1, out_1_0, out_1_512, aux]
  rfl

set_option maxHeartbeats 4000000 in
open Cert.Stage in
/-- A sequence's last grid point writes the normalised half of its last 128 rows to the second output. -/
theorem aux_B (c : Dev nD) (t : Fin cfg0.N) (h : t.val % 4 = 3) :
    (outsAt0 m c t.val t.isLt).2 = auxTile (iblk m c 0 t) (iblk m c 3 t) (iblk m c 4 t) (iblk m c 5 t) (iblk m c 6 t) := by
  rw [outsAt0_B m c t h]
  dsimp only
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize iblk m c 9 t = X9
  generalize iblk m c 10 t = X10
  generalize iblk m c 11 t = X11
  generalize iblk m c 12 t = X12
  generalize iblk m c 13 t = X13
  generalize iblk m c 14 t = X14
  generalize iblk m c 15 t = X15
  generalize iblk m c 16 t = X16
  frame_out
  simp only [x_0, u_0, v_0, vnb_0, g_0, t_0, mix_0, x1_0, x1b_0, h_0, dn_0, x2_0, x2b_0, out_0_0, out_0_512, x_1, u_1, v_1, vnb_1, vn_1, g_1, mix_1,
    x1_1, x1b_1, h_1, dn_1, x2_1, x2b_1, out_1_0, out_1_512, aux]
  rfl

end Cert.Block

end
-- ==== Proof.Spec.lean ====
/- The layer's mathematics on rows: layer normalisation, the GELU projection, the masked mixing along the sequence with its
   gate, and the layer's two residual branches. Both programs are shown to compute these functions of their arguments. -/
module

public import Idealize.ShloMosaic.Lib.Pointwise

@[expose] public section

noncomputable section

namespace Cert.Spec

open Idealize.ShloMosaic

/-- A row of the model's width. -/
abbrev Row := Fin 1024 → EReal

/-- The mean of a row. -/
def mean (x : Row) : EReal := Ideal.div (∑ k, x k) (Ideal.ofBits .f32 0x44800000#32)

/-- Layer normalisation of a row with gain `g` and offset `b`. -/
def nrm (x g b : Row) : Row := fun c =>
  (x c - mean x) * Ideal.rsqrt (mean (fun k => (x k - mean x) * (x k - mean x)) + Ideal.ofBits .f32 0x3727C5AC#32) * g c + b c

/-- The tanh form of GELU. -/
def gelu (h : EReal) : EReal :=
  h * (Ideal.ofBits .f32 0x3F000000#32 * (1 + Ideal.tanh (Ideal.ofBits .f32 0x3F4C422A#32 *
    (h + Ideal.ofBits .f32 0x3D372713#32 * (h * (h * h))))))

/-- A row times a matrix. -/
def lin {n k : Nat} (x : Fin n → EReal) (w : Fin n → Fin k → EReal) : Fin k → EReal := fun c => ∑ i, x i * w i c

/-- The input projection of a row with its GELU. -/
def proj (x : Row) (w : Fin 1024 → Fin 2048 → EReal) (b : Fin 2048 → EReal) : Fin 2048 → EReal := fun e => gelu (lin x w e + b e)

/-- The gating half of the projection, normalised. -/
def side (x : Row) (w : Fin 1024 → Fin 2048 → EReal) (b : Fin 2048 → EReal) (lg lb : Row) : Row :=
  nrm (fun d => proj x w b ⟨1024 + d.val, by omega⟩) lg lb

/-- Row `r` of a 128-row chunk, gated: the other half times the masked mixing of the chunk's normalised rows plus a bias.
    Feature `d` belongs to head `d / 128`. -/
def gate (X : Fin 128 → Row) (ws : Fin 8 → Fin 128 → Fin 128 → EReal) (w : Fin 1024 → Fin 2048 → EReal) (b : Fin 2048 → EReal)
    (lg lb : Row) (bs : Fin 8 → Fin 128 → EReal) (r : Fin 128) : Row := fun d =>
  proj (X r) w b ⟨d.val, by omega⟩ *
    (∑ j, Scalar.select (IntOp.cmpi .sge (BitVec.ofNat 32 r.val) (BitVec.ofNat 32 j.val))
        (ws ⟨d.val / 128, by omega⟩ r j * side (X j) w b lg lb d) 0 + bs ⟨d.val / 128, by omega⟩ r)

/-- The scaled residual plus a branch's output. -/
def resid (x y : Row) : Row := fun c => Ideal.ofBits .f32 0x3FD744FD#32 * x c + y c

/-- The square of the ReLU. -/
def relu2 (h : EReal) : EReal := max h 0 * max h 0

/-- The MLP's output for a row. -/
def mlp (x : Row) (wu : Fin 1024 → Fin 4096 → EReal) (wd : Fin 4096 → Fin 1024 → EReal) : Row :=
  lin (fun n => relu2 (lin x wu n)) wd

/-- The rows after the two norms. -/
def after1 (x y g1 h1 : Row) : Row := nrm (resid x y) g1 h1

/-- The row after the second norm. -/
def after2 (x y g1 h1 : Row) (wu : Fin 1024 → Fin 4096 → EReal) (wd : Fin 4096 → Fin 1024 → EReal) (g2 h2 : Row) : Row :=
  nrm (resid (after1 x y g1 h1) (mlp (after1 x y g1 h1) wu wd)) g2 h2

/-- The layer's output for a row `x` with its mixer output `y` and embedding `p`: the row after both norms plus the gated
    embedding. -/
def out (x y : Row) (p : Fin 256 → EReal) (g1 h1 : Row) (wu : Fin 1024 → Fin 4096 → EReal) (wd : Fin 4096 → Fin 1024 → EReal)
    (g2 h2 : Row) (wp : Fin 256 → Fin 1024 → EReal) (wg : Fin 1024 → Fin 1024 → EReal) : Row := fun c =>
  after2 x y g1 h1 wu wd g2 h2 c + lin p wp c * Ideal.logistic (lin (after2 x y g1 h1 wu wd g2 h2) wg c)

/-- The layer's output for row `s` of a sequence with rows `X`: `s` belongs to the chunk of 128 rows that begins at
    `s / 128 * 128`. -/
def gmlp (X : Fin 2048 → Row) (p : Fin 256 → EReal) (ws : Fin 8 → Fin 128 → Fin 128 → EReal) (w : Fin 1024 → Fin 2048 → EReal)
    (b : Fin 2048 → EReal) (lg lb : Row) (bs : Fin 8 → Fin 128 → EReal) (wo : Fin 1024 → Fin 1024 → EReal)
    (g1 h1 : Row) (wu : Fin 1024 → Fin 4096 → EReal) (wd : Fin 4096 → Fin 1024 → EReal)
    (g2 h2 : Row) (wp : Fin 256 → Fin 1024 → EReal) (wg : Fin 1024 → Fin 1024 → EReal) (s : Fin 2048) : Row :=
  out (X s) (lin (gate (fun j => X ⟨s.val / 128 * 128 + j.val, by omega⟩) ws w b lg lb bs ⟨s.val % 128, by omega⟩) wo)
    p g1 h1 wu wd g2 h2 wp wg

end Cert.Spec

end
-- ==== Proof.TileIdeal.lean ====
/- The tile operations of `Tile` over the extended reals, read at an index: each is a function of `Spec` on the tile's rows. -/
module

public import proofs.«01_k».proof.Proof.Tile
public import proofs.«01_k».proof.Proof.Spec

@[expose] public section

set_option maxRecDepth 16384

noncomputable section

namespace Cert.TileIdeal

open Idealize.ShloMosaic Cert.KernelIdeal Cert.KernelIdeal.Gen Cert.Tile

/-- Layer normalisation of 32 rows, at an index. -/
theorem normed_apply (x : FVec Ideal S32x1024 .f32) (g b : FVec Ideal S1x1024 .f32) (r : Fin 32) (c : Fin 1024) :
    normed x g b (ix2 r c) = Spec.nrm (fun k => x (ix2 r k)) (fun k => g (ix2 0 k)) (fun k => b (ix2 0 k)) c := by
  pointwise [normed, centred, rowMean, Spec.nrm, Spec.mean]

/-- Eight 32-row pieces that hold rows of `f`, one under the other, hold `f`. -/
theorem stack8_apply {φ : FTy} (p0 p1 p2 p3 p4 p5 p6 p7 : FVec Ideal S32x1024 φ) (f : Fin 256 → Fin 1024 → EReal)
    (h0 : ∀ (r : Fin 32) c, p0 (ix2 r c) = f ⟨0 + r.val, by omega⟩ c) (h1 : ∀ (r : Fin 32) c, p1 (ix2 r c) = f ⟨32 + r.val, by omega⟩ c)
    (h2 : ∀ (r : Fin 32) c, p2 (ix2 r c) = f ⟨64 + r.val, by omega⟩ c) (h3 : ∀ (r : Fin 32) c, p3 (ix2 r c) = f ⟨96 + r.val, by omega⟩ c)
    (h4 : ∀ (r : Fin 32) c, p4 (ix2 r c) = f ⟨128 + r.val, by omega⟩ c) (h5 : ∀ (r : Fin 32) c, p5 (ix2 r c) = f ⟨160 + r.val, by omega⟩ c)
    (h6 : ∀ (r : Fin 32) c, p6 (ix2 r c) = f ⟨192 + r.val, by omega⟩ c) (h7 : ∀ (r : Fin 32) c, p7 (ix2 r c) = f ⟨224 + r.val, by omega⟩ c)
    (r : Fin 256) (c : Fin 1024) : stack8 p0 p1 p2 p3 p4 p5 p6 p7 (ix2 r c) = f r c := by
  pointwise [stack8]
  repeat' split
  all_goals first
    | (rw [h0]; congr 1; apply Fin.ext; simp only []; omega) | (rw [h1]; congr 1; apply Fin.ext; simp only []; omega)
    | (rw [h2]; congr 1; apply Fin.ext; simp only []; omega) | (rw [h3]; congr 1; apply Fin.ext; simp only []; omega)
    | (rw [h4]; congr 1; apply Fin.ext; simp only []; omega) | (rw [h5]; congr 1; apply Fin.ext; simp only []; omega)
    | (rw [h6]; congr 1; apply Fin.ext; simp only []; omega) | (rw [h7]; congr 1; apply Fin.ext; simp only []; omega)

/-- Four 512-column pieces side by side. -/
theorem side4_apply (p0 p1 p2 p3 : FVec Ideal S256x512 .f32) (f : Fin 256 → Fin 2048 → EReal)
    (h0 : ∀ r (c : Fin 512), p0 (ix2 r c) = f r ⟨0 + c.val, by omega⟩) (h1 : ∀ r (c : Fin 512), p1 (ix2 r c) = f r ⟨512 + c.val, by omega⟩)
    (h2 : ∀ r (c : Fin 512), p2 (ix2 r c) = f r ⟨1024 + c.val, by omega⟩) (h3 : ∀ r (c : Fin 512), p3 (ix2 r c) = f r ⟨1536 + c.val, by omega⟩)
    (r : Fin 256) (c : Fin 2048) :
    concatenate S256x2048 1 [⟨S256x512, p0⟩, ⟨S256x512, p1⟩, ⟨S256x512, p2⟩, ⟨S256x512, p3⟩]
      concatenates_S256x512_S256x512_S256x512_S256x512_S256x2048_d1 (ix2 r c) = f r c := by
  pointwise []
  repeat' split
  all_goals first
    | (rw [h0]; congr 1; apply Fin.ext; simp only []; omega) | (rw [h1]; congr 1; apply Fin.ext; simp only []; omega)
    | (rw [h2]; congr 1; apply Fin.ext; simp only []; omega) | (rw [h3]; congr 1; apply Fin.ext; simp only []; omega)

/-- Two 512-column pieces side by side. -/
theorem side2_apply (p q : FVec Ideal S256x512 .f32) (f : Fin 256 → Fin 1024 → EReal)
    (h0 : ∀ r (c : Fin 512), p (ix2 r c) = f r ⟨0 + c.val, by omega⟩) (h1 : ∀ r (c : Fin 512), q (ix2 r c) = f r ⟨512 + c.val, by omega⟩)
    (r : Fin 256) (c : Fin 1024) : side2 p q (ix2 r c) = f r c := by
  pointwise [side2]
  repeat' split
  all_goals first
    | (rw [h0]; congr 1; apply Fin.ext; simp only []; omega) | (rw [h1]; congr 1; apply Fin.ext; simp only []; omega)

/-- Eight 512-column pieces side by side. -/
theorem side8w_apply (p0 p1 p2 p3 p4 p5 p6 p7 : FVec Ideal S256x512 .bf16) (f : Fin 256 → Fin 4096 → EReal)
    (h0 : ∀ r (c : Fin 512), p0 (ix2 r c) = f r ⟨0 + c.val, by omega⟩) (h1 : ∀ r (c : Fin 512), p1 (ix2 r c) = f r ⟨512 + c.val, by omega⟩)
    (h2 : ∀ r (c : Fin 512), p2 (ix2 r c) = f r ⟨1024 + c.val, by omega⟩) (h3 : ∀ r (c : Fin 512), p3 (ix2 r c) = f r ⟨1536 + c.val, by omega⟩)
    (h4 : ∀ r (c : Fin 512), p4 (ix2 r c) = f r ⟨2048 + c.val, by omega⟩) (h5 : ∀ r (c : Fin 512), p5 (ix2 r c) = f r ⟨2560 + c.val, by omega⟩)
    (h6 : ∀ r (c : Fin 512), p6 (ix2 r c) = f r ⟨3072 + c.val, by omega⟩) (h7 : ∀ r (c : Fin 512), p7 (ix2 r c) = f r ⟨3584 + c.val, by omega⟩)
    (r : Fin 256) (c : Fin 4096) :
    concatenate S256x4096 1 [⟨S256x512, p0⟩, ⟨S256x512, p1⟩, ⟨S256x512, p2⟩, ⟨S256x512, p3⟩, ⟨S256x512, p4⟩, ⟨S256x512, p5⟩,
      ⟨S256x512, p6⟩, ⟨S256x512, p7⟩]
      concatenates_S256x512_S256x512_S256x512_S256x512_S256x512_S256x512_S256x512_S256x512_S256x4096_d1 (ix2 r c) = f r c := by
  pointwise []
  repeat' split
  all_goals first
    | (rw [h0]; congr 1; apply Fin.ext; simp only []; omega) | (rw [h1]; congr 1; apply Fin.ext; simp only []; omega)
    | (rw [h2]; congr 1; apply Fin.ext; simp only []; omega) | (rw [h3]; congr 1; apply Fin.ext; simp only []; omega)
    | (rw [h4]; congr 1; apply Fin.ext; simp only []; omega) | (rw [h5]; congr 1; apply Fin.ext; simp only []; omega)
    | (rw [h6]; congr 1; apply Fin.ext; simp only []; omega) | (rw [h7]; congr 1; apply Fin.ext; simp only []; omega)

/-- The eight heads side by side. -/
theorem side8_apply (p0 p1 p2 p3 p4 p5 p6 p7 : FVec Ideal S128x128 .bf16) (f : Fin 128 → Fin 1024 → EReal)
    (h0 : ∀ r (c : Fin 128), p0 (ix2 r c) = f r ⟨0 + c.val, by omega⟩) (h1 : ∀ r (c : Fin 128), p1 (ix2 r c) = f r ⟨128 + c.val, by omega⟩)
    (h2 : ∀ r (c : Fin 128), p2 (ix2 r c) = f r ⟨256 + c.val, by omega⟩) (h3 : ∀ r (c : Fin 128), p3 (ix2 r c) = f r ⟨384 + c.val, by omega⟩)
    (h4 : ∀ r (c : Fin 128), p4 (ix2 r c) = f r ⟨512 + c.val, by omega⟩) (h5 : ∀ r (c : Fin 128), p5 (ix2 r c) = f r ⟨640 + c.val, by omega⟩)
    (h6 : ∀ r (c : Fin 128), p6 (ix2 r c) = f r ⟨768 + c.val, by omega⟩) (h7 : ∀ r (c : Fin 128), p7 (ix2 r c) = f r ⟨896 + c.val, by omega⟩)
    (r : Fin 128) (c : Fin 1024) : side8 p0 p1 p2 p3 p4 p5 p6 p7 (ix2 r c) = f r c := by
  pointwise [side8]
  repeat' split
  all_goals first
    | (rw [h0]; congr 1; apply Fin.ext; simp only []; omega) | (rw [h1]; congr 1; apply Fin.ext; simp only []; omega)
    | (rw [h2]; congr 1; apply Fin.ext; simp only []; omega) | (rw [h3]; congr 1; apply Fin.ext; simp only []; omega)
    | (rw [h4]; congr 1; apply Fin.ext; simp only []; omega) | (rw [h5]; congr 1; apply Fin.ext; simp only []; omega)
    | (rw [h6]; congr 1; apply Fin.ext; simp only []; omega) | (rw [h7]; congr 1; apply Fin.ext; simp only []; omega)

/-- GELU at an index. -/
theorem gelu_apply (h : FVec Ideal S256x512 .f32) (r : Fin 256) (c : Fin 512) : gelu h (ix2 r c) = Spec.gelu (h (ix2 r c)) := by
  pointwise [gelu, Spec.gelu]

/-- 512 columns of the input projection at an index. -/
theorem inPiece_apply (x : FVec Ideal S256x1024 .bf16) (w : Vec Ideal S1024x512 .bf16) (b : Vec Ideal S1x512 .f32) (r : Fin 256) (c : Fin 512) :
    inPiece x w b (ix2 r c) = Spec.gelu ((∑ k, x (ix2 r k) * w (ix2 k c)) + b (ix2 0 c)) := by
  rw [inPiece, gelu_apply]
  congr 1
  pointwise [times]

/-- 512 hidden columns at an index. -/
theorem hidPiece_apply (x : FVec Ideal S256x1024 .bf16) (w : Vec Ideal S1x1024x512 .bf16) (r : Fin 256) (c : Fin 512) :
    hidPiece x w (ix2 r c) = Spec.relu2 (∑ k, x (ix2 r k) * w (ix3 0 k c)) := by
  pointwise [hidPiece, times, Spec.relu2]

/-- The scaled residual sum at an index. -/
theorem resid_apply (x y : FVec Ideal S32x1024 .f32) (r : Fin 32) (c : Fin 1024) :
    Tile.resid x y (ix2 r c) = Ideal.ofBits .f32 0x3FD744FD#32 * x (ix2 r c) + y (ix2 r c) := by
  pointwise [Tile.resid]

/-- Two 128-row chunks, one under the other. -/
theorem over2_apply (p q : FVec Ideal S128x1024 .bf16) (f : Fin 256 → Fin 1024 → EReal)
    (h0 : ∀ (r : Fin 128) c, p (ix2 r c) = f ⟨0 + r.val, by omega⟩ c) (h1 : ∀ (r : Fin 128) c, q (ix2 r c) = f ⟨128 + r.val, by omega⟩ c)
    (r : Fin 256) (c : Fin 1024) :
    concatenate S256x1024 0 [⟨S128x1024, p⟩, ⟨S128x1024, q⟩] concatenates_S128x1024_S128x1024_S256x1024_d0 (ix2 r c) = f r c := by
  pointwise []
  repeat' split
  all_goals first
    | (rw [h0]; congr 1; apply Fin.ext; simp only []; omega) | (rw [h1]; congr 1; apply Fin.ext; simp only []; omega)

/-- One head of one chunk at an index. -/
theorem head_apply (w : Vec Ideal S1x128x128 .f32) (b : Vec Ideal S1x128x1 .f32) (u : FVec Ideal S256x1024 .f32)
    (vn : FVec Ideal S256x1024 .bf16) (R C : Nat) (h : S256x1024.Slices ![R, C] S128x128) (hR : R + 128 ≤ 256) (hC : C + 128 ≤ 1024)
    (r c : Fin 128) :
    head w b u vn R C h (ix2 r c) = u (ix2 ⟨R + r.val, by omega⟩ ⟨C + c.val, by omega⟩) *
      (∑ j : Fin 128, Scalar.select (IntOp.cmpi .sge (BitVec.ofNat 32 r.val) (BitVec.ofNat 32 j.val))
        (w (ix3 0 r j) * vn (ix2 ⟨R + j.val, by omega⟩ ⟨C + c.val, by omega⟩)) 0 + b (ix3 0 r 0)) := by
  pointwise [head, mask]

/-- The gating half normalised, at an index. -/
theorem vnTile_apply (v : FVec Ideal S256x1024 .f32) (g b : FVec Ideal S1x1024 .f32) (r : Fin 256) (c : Fin 1024) :
    vnTile v g b (ix2 r c) = Spec.nrm (fun k => v (ix2 r k)) (fun k => g (ix2 0 k)) (fun k => b (ix2 0 k)) c := by
  rw [vnTile]
  refine stack8_apply _ _ _ _ _ _ _ _ (fun r c => Spec.nrm (fun k => v (ix2 r k)) (fun k => g (ix2 0 k)) (fun k => b (ix2 0 k)) c)
    ?_ ?_ ?_ ?_ ?_ ?_ ?_ ?_ r c
  all_goals intro r c; rw [normed_apply]; pointwise [rows]

/-- The gating half normalised and rounded, at an index. -/
theorem vnTileB_apply (v : FVec Ideal S256x1024 .f32) (g b : FVec Ideal S1x1024 .f32) (r : Fin 256) (c : Fin 1024) :
    vnTileB v g b (ix2 r c) = Spec.nrm (fun k => v (ix2 r k)) (fun k => g (ix2 0 k)) (fun k => b (ix2 0 k)) c :=
  vnTile_apply v g b r c

/-- The second residual sum normalised, at an index. -/
theorem x2Tile_apply (x y : FVec Ideal S256x1024 .f32) (g b : Vec Ideal S1x1x1024 .f32) (r : Fin 256) (c : Fin 1024) :
    x2Tile x y g b (ix2 r c) = Spec.nrm (Spec.resid (fun k => x (ix2 r k)) (fun k => y (ix2 r k))) (fun k => g (ix3 0 0 k))
      (fun k => b (ix3 0 0 k)) c := by
  rw [x2Tile]
  refine stack8_apply _ _ _ _ _ _ _ _ (fun r c => Spec.nrm (Spec.resid (fun k => x (ix2 r k)) (fun k => y (ix2 r k)))
    (fun k => g (ix3 0 0 k)) (fun k => b (ix3 0 0 k)) c) ?_ ?_ ?_ ?_ ?_ ?_ ?_ ?_ r c
  all_goals intro r c; rw [normed_apply]; simp only [resid_apply, Spec.resid]; pointwise [rows, rowOf]
  all_goals rfl

/-- The second residual sum normalised and rounded, at an index. -/
theorem x2TileB_apply (x y : FVec Ideal S256x1024 .f32) (g b : Vec Ideal S1x1x1024 .f32) (r : Fin 256) (c : Fin 1024) :
    x2TileB x y g b (ix2 r c) = Spec.nrm (Spec.resid (fun k => x (ix2 r k)) (fun k => y (ix2 r k))) (fun k => g (ix3 0 0 k))
      (fun k => b (ix3 0 0 k)) c :=
  x2Tile_apply x y g b r c

/-- The first residual sum normalised, at an index: the eight row pieces hold the rows `X`. -/
theorem x1Tile_apply (x0 x1 x2 x3 x4 x5 x6 x7 : Vec Ideal S1x32x1024 .f32) (X : Fin 256 → Fin 1024 → EReal)
    (h0 : ∀ (r : Fin 32) c, x0 (ix3 0 r c) = X ⟨0 + r.val, by omega⟩ c) (h1 : ∀ (r : Fin 32) c, x1 (ix3 0 r c) = X ⟨32 + r.val, by omega⟩ c)
    (h2 : ∀ (r : Fin 32) c, x2 (ix3 0 r c) = X ⟨64 + r.val, by omega⟩ c) (h3 : ∀ (r : Fin 32) c, x3 (ix3 0 r c) = X ⟨96 + r.val, by omega⟩ c)
    (h4 : ∀ (r : Fin 32) c, x4 (ix3 0 r c) = X ⟨128 + r.val, by omega⟩ c) (h5 : ∀ (r : Fin 32) c, x5 (ix3 0 r c) = X ⟨160 + r.val, by omega⟩ c)
    (h6 : ∀ (r : Fin 32) c, x6 (ix3 0 r c) = X ⟨192 + r.val, by omega⟩ c) (h7 : ∀ (r : Fin 32) c, x7 (ix3 0 r c) = X ⟨224 + r.val, by omega⟩ c)
    (y : FVec Ideal S256x1024 .f32) (g b : Vec Ideal S1x1x1024 .f32) (r : Fin 256) (c : Fin 1024) :
    x1Tile x0 x1 x2 x3 x4 x5 x6 x7 y g b (ix2 r c) = Spec.nrm (Spec.resid (X r) (fun k => y (ix2 r k))) (fun k => g (ix3 0 0 k))
      (fun k => b (ix3 0 0 k)) c := by
  rw [x1Tile]
  refine stack8_apply _ _ _ _ _ _ _ _ (fun r c => Spec.nrm (Spec.resid (X r) (fun k => y (ix2 r k)))
    (fun k => g (ix3 0 0 k)) (fun k => b (ix3 0 0 k)) c) ?_ ?_ ?_ ?_ ?_ ?_ ?_ ?_ r c
  all_goals intro r c; rw [normed_apply]; simp only [resid_apply, Spec.resid]; pointwise [rows, rowOf, xRows]
  all_goals simp only [h0, h1, h2, h3, h4, h5, h6, h7, Nat.zero_add]; rfl

/-- The layer's output piece at an index. -/
theorem outPiece_apply (x : FVec Ideal S256x1024 .f32) (xb : FVec Ideal S256x1024 .bf16) (C : Nat) (h : S256x1024.Slices ![0, C] S256x512)
    (hC : C + 512 ≤ 1024) (wg : Vec Ideal S1x1024x512 .bf16) (p : Vec Ideal S1x1x256x256 .f32) (wp : Vec Ideal S1x256x512 .bf16)
    (r : Fin 256) (c : Fin 512) :
    outPiece x xb C h wg p wp (ix3 0 r c) = x (ix2 r ⟨C + c.val, by omega⟩) +
      (∑ k, p (ix4 0 0 r k) * wp (ix3 0 k c)) * Ideal.logistic (∑ k, xb (ix2 r k) * wg (ix3 0 k c)) := by
  pointwise [outPiece, times]

end Cert.TileIdeal

end
-- ==== Proof.BlockIdeal.lean ====
/- What one grid point writes, over the extended reals and at an index: `Spec` on the block's rows. -/
module

public import proofs.«01_k».proof.Proof.Block
public import proofs.«01_k».proof.Proof.TileIdeal

@[expose] public section

set_option maxRecDepth 16384

noncomputable section

namespace Cert.BlockIdeal

open Idealize.ShloMosaic Cert.KernelIdeal Cert.KernelIdeal.Gen Cert.Tile Cert.TileIdeal Cert.Block

/-- The input projection of a tile, at an index. -/
theorem zTile_apply (x : Vec Ideal S1x256x1024 .f32) (wi : Vec Ideal S1024x2048 .bf16) (bi : Vec Ideal S1x2048 .f32)
    (r : Fin 256) (e : Fin 2048) :
    zTile x wi bi (ix2 r e) = Spec.proj (fun k => x (ix3 0 r k)) (fun k e => wi (ix2 k e)) (fun e => bi (ix2 0 e)) e := by
  rw [zTile, inTile]
  refine side4_apply _ _ _ _ (fun r e => Spec.proj (fun k => x (ix3 0 r k)) (fun k e => wi (ix2 k e)) (fun e => bi (ix2 0 e)) e)
    ?_ ?_ ?_ ?_ r e
  all_goals intro r c; rw [inPiece_apply]; pointwise [xbTile, Spec.proj, Spec.lin]

/-- The normalised gating half of a tile, at an index. -/
theorem vn_apply (x : Vec Ideal S1x256x1024 .f32) (wi : Vec Ideal S1024x2048 .bf16) (bi : Vec Ideal S1x2048 .f32)
    (lg lb : Vec Ideal S1x1024 .f32) (r : Fin 256) (d : Fin 1024) :
    vnTile (vTile (zTile x wi bi)) (shapeCast S1x1024 lg shapeCasts_S1x1024_S1x1024) (shapeCast S1x1024 lb shapeCasts_S1x1024_S1x1024) (ix2 r d) =
      Spec.side (fun k => x (ix3 0 r k)) (fun k e => wi (ix2 k e)) (fun e => bi (ix2 0 e)) (fun k => lg (ix2 0 k)) (fun k => lb (ix2 0 k)) d := by
  have hv : ∀ (r : Fin 256) (d : Fin 1024), vTile (zTile x wi bi) (ix2 r d) = zTile x wi bi (ix2 r ⟨1024 + d.val, by omega⟩) := by
    intro r d; pointwise [vTile]
  rw [vnTile_apply]
  simp only [hv, zTile_apply]
  pointwise []
  rfl

/-- The gated tile, at an index: row `r` of the tile is row `r % 128` of the chunk that begins at row `r / 128 * 128`. -/
theorem gTile_apply (x : Vec Ideal S1x256x1024 .f32) (ws : Vec Ideal S8x128x128 .f32) (wi : Vec Ideal S1024x2048 .bf16)
    (bi : Vec Ideal S1x2048 .f32) (lg lb : Vec Ideal S1x1024 .f32) (bs : Vec Ideal S8x128x1 .f32) (r : Fin 256) (d : Fin 1024) :
    gTile (zTile x wi bi) ws lg lb bs (ix2 r d) =
      Spec.gate (fun j k => x (ix3 0 ⟨r.val / 128 * 128 + j.val, by omega⟩ k)) (fun h i j => ws (ix3 h i j)) (fun k e => wi (ix2 k e))
        (fun e => bi (ix2 0 e)) (fun k => lg (ix2 0 k)) (fun k => lb (ix2 0 k)) (fun h i => bs (ix3 h i 0)) ⟨r.val % 128, by omega⟩ d := by
  have hu : ∀ (r : Fin 256) (d : Fin 1024), uTile (zTile x wi bi) (ix2 r d) = zTile x wi bi (ix2 r ⟨d.val, by omega⟩) := by
    intro r d; pointwise [uTile]
  have hv : ∀ (r : Fin 256) (d : Fin 1024), vnTileB (vTile (zTile x wi bi)) (shapeCast S1x1024 lg shapeCasts_S1x1024_S1x1024)
      (shapeCast S1x1024 lb shapeCasts_S1x1024_S1x1024) (ix2 r d) = _ := fun r d => vn_apply x wi bi lg lb r d
  have key : ∀ (R : Nat) (hR : R + 128 ≤ 256) (C : Nat) (hC : C + 128 ≤ 1024) (H : Fin 8) (hH : C = H.val * 128)
      (w : Vec Ideal S1x128x128 .f32) (b : Vec Ideal S1x128x1 .f32) (hw : ∀ i j, w (ix3 0 i j) = ws (ix3 H i j))
      (hb : ∀ i, b (ix3 0 i 0) = bs (ix3 H i 0)) (h : S256x1024.Slices ![R, C] S128x128) (i c : Fin 128),
      head w b (uTile (zTile x wi bi)) (vnTileB (vTile (zTile x wi bi)) (shapeCast S1x1024 lg shapeCasts_S1x1024_S1x1024)
        (shapeCast S1x1024 lb shapeCasts_S1x1024_S1x1024)) R C h (ix2 i c) =
      Spec.gate (fun j k => x (ix3 0 ⟨R + j.val, by omega⟩ k)) (fun h i j => ws (ix3 h i j)) (fun k e => wi (ix2 k e))
        (fun e => bi (ix2 0 e)) (fun k => lg (ix2 0 k)) (fun k => lb (ix2 0 k)) (fun h i => bs (ix3 h i 0)) i ⟨C + c.val, by omega⟩ := by
    intro R hR C hC H hH w b hw hb h i c
    rw [head_apply _ _ _ _ R C h hR hC, hu, zTile_apply, hb]
    have hq : (⟨(C + c.val) / 128, by omega⟩ : Fin 8) = H := Fin.ext (by first | rfl | (simp only []; omega))
    simp only [hv, hw, Spec.gate, hq]
  rw [gTile, gated]
  refine over2_apply _ _ (fun r d => Spec.gate (fun j k => x (ix3 0 ⟨r.val / 128 * 128 + j.val, by omega⟩ k)) (fun h i j => ws (ix3 h i j))
    (fun k e => wi (ix2 k e)) (fun e => bi (ix2 0 e)) (fun k => lg (ix2 0 k)) (fun k => lb (ix2 0 k)) (fun h i => bs (ix3 h i 0))
    ⟨r.val % 128, by omega⟩ d) ?_ ?_ r d
  · intro r d
    have e1 : ∀ j : Fin 128, (⟨(0 + r.val) / 128 * 128 + j.val, by omega⟩ : Fin 256) = ⟨0 + j.val, by omega⟩ := fun j => Fin.ext (by first | rfl | (simp only []; omega))
    have e2 : (⟨(0 + r.val) % 128, by omega⟩ : Fin 128) = r := Fin.ext (by first | rfl | (simp only []; omega))
    simp only [e1, e2]
    refine side8_apply _ _ _ _ _ _ _ _ (fun r d => Spec.gate (fun j k => x (ix3 0 ⟨0 + j.val, by omega⟩ k)) (fun h i j => ws (ix3 h i j))
      (fun k e => wi (ix2 k e)) (fun e => bi (ix2 0 e)) (fun k => lg (ix2 0 k)) (fun k => lb (ix2 0 k)) (fun h i => bs (ix3 h i 0)) r d)
      (key 0 (by omega) 0 (by omega) 0 rfl _ _ ?_ ?_ _) (key 0 (by omega) 128 (by omega) 1 rfl _ _ ?_ ?_ _)
      (key 0 (by omega) 256 (by omega) 2 rfl _ _ ?_ ?_ _) (key 0 (by omega) 384 (by omega) 3 rfl _ _ ?_ ?_ _)
      (key 0 (by omega) 512 (by omega) 4 rfl _ _ ?_ ?_ _) (key 0 (by omega) 640 (by omega) 5 rfl _ _ ?_ ?_ _)
      (key 0 (by omega) 768 (by omega) 6 rfl _ _ ?_ ?_ _) (key 0 (by omega) 896 (by omega) 7 rfl _ _ ?_ ?_ _) r d
    all_goals intros; pointwise []
  · intro r d
    have e1 : ∀ j : Fin 128, (⟨(128 + r.val) / 128 * 128 + j.val, by omega⟩ : Fin 256) = ⟨128 + j.val, by omega⟩ := fun j => Fin.ext (by first | rfl | (simp only []; omega))
    have e2 : (⟨(128 + r.val) % 128, by omega⟩ : Fin 128) = r := Fin.ext (by first | rfl | (simp only []; omega))
    simp only [e1, e2]
    refine side8_apply _ _ _ _ _ _ _ _ (fun r d => Spec.gate (fun j k => x (ix3 0 ⟨128 + j.val, by omega⟩ k)) (fun h i j => ws (ix3 h i j))
      (fun k e => wi (ix2 k e)) (fun e => bi (ix2 0 e)) (fun k => lg (ix2 0 k)) (fun k => lb (ix2 0 k)) (fun h i => bs (ix3 h i 0)) r d)
      (key 128 (by omega) 0 (by omega) 0 rfl _ _ ?_ ?_ _) (key 128 (by omega) 128 (by omega) 1 rfl _ _ ?_ ?_ _)
      (key 128 (by omega) 256 (by omega) 2 rfl _ _ ?_ ?_ _) (key 128 (by omega) 384 (by omega) 3 rfl _ _ ?_ ?_ _)
      (key 128 (by omega) 512 (by omega) 4 rfl _ _ ?_ ?_ _) (key 128 (by omega) 640 (by omega) 5 rfl _ _ ?_ ?_ _)
      (key 128 (by omega) 768 (by omega) 6 rfl _ _ ?_ ?_ _) (key 128 (by omega) 896 (by omega) 7 rfl _ _ ?_ ?_ _) r d
    all_goals intros; pointwise []

/-- The mixer's output for a tile, at an index. -/
theorem yTile_apply (x : Vec Ideal S1x256x1024 .f32) (ws : Vec Ideal S8x128x128 .f32) (wi : Vec Ideal S1024x2048 .bf16)
    (bi : Vec Ideal S1x2048 .f32) (lg lb : Vec Ideal S1x1024 .f32) (bs : Vec Ideal S8x128x1 .f32) (wo : Vec Ideal S1024x1024 .bf16)
    (r : Fin 256) (d : Fin 1024) :
    yTile x ws wi bi lg lb bs wo (ix2 r d) =
      Spec.lin (Spec.gate (fun j k => x (ix3 0 ⟨r.val / 128 * 128 + j.val, by omega⟩ k)) (fun h i j => ws (ix3 h i j)) (fun k e => wi (ix2 k e))
        (fun e => bi (ix2 0 e)) (fun k => lg (ix2 0 k)) (fun k => lb (ix2 0 k)) (fun h i => bs (ix3 h i 0)) ⟨r.val % 128, by omega⟩)
        (fun k c => wo (ix2 k c)) d := by
  rw [yTile, mixTile]
  refine side2_apply _ _ (fun r d => Spec.lin (Spec.gate (fun j k => x (ix3 0 ⟨r.val / 128 * 128 + j.val, by omega⟩ k)) (fun h i j => ws (ix3 h i j))
    (fun k e => wi (ix2 k e)) (fun e => bi (ix2 0 e)) (fun k => lg (ix2 0 k)) (fun k => lb (ix2 0 k)) (fun h i => bs (ix3 h i 0))
    ⟨r.val % 128, by omega⟩) (fun k c => wo (ix2 k c)) d) ?_ ?_ r d
  all_goals
    intro r d
    simp only [Spec.lin, ← gTile_apply]
    pointwise [times]

/-- The MLP's output for a tile, at an index. -/
theorem dTile_apply (x : FVec Ideal S256x1024 .bf16) (wu : Vec Ideal S1x1024x4096 .bf16) (wd : Vec Ideal S1x4096x1024 .bf16)
    (r : Fin 256) (d : Fin 1024) :
    dTile x wu wd (ix2 r d) = Spec.mlp (fun k => x (ix2 r k)) (fun k n => wu (ix3 0 k n)) (fun n c => wd (ix3 0 n c)) d := by
  rw [dTile, downTile, hidTile]
  have hh := fun r n => side8w_apply _ _ _ _ _ _ _ _ (fun (r : Fin 256) n => Spec.relu2 (∑ k, x (ix2 r k) * wu (ix3 0 k n)))
    (fun r c => (hidPiece_apply x (View.ld wu (Rect.unit ![0, 0, 0] ![1, 1024, 512] inb_S1x1024x4096_S1x1024x512_0_0_0)) r c).trans (by pointwise []))
    (fun r c => (hidPiece_apply x (View.ld wu (Rect.unit ![0, 0, 512] ![1, 1024, 512] inb_S1x1024x4096_S1x1024x512_0_0_512)) r c).trans (by pointwise []))
    (fun r c => (hidPiece_apply x (View.ld wu (Rect.unit ![0, 0, 1024] ![1, 1024, 512] inb_S1x1024x4096_S1x1024x512_0_0_1024)) r c).trans (by pointwise []))
    (fun r c => (hidPiece_apply x (View.ld wu (Rect.unit ![0, 0, 1536] ![1, 1024, 512] inb_S1x1024x4096_S1x1024x512_0_0_1536)) r c).trans (by pointwise []))
    (fun r c => (hidPiece_apply x (View.ld wu (Rect.unit ![0, 0, 2048] ![1, 1024, 512] inb_S1x1024x4096_S1x1024x512_0_0_2048)) r c).trans (by pointwise []))
    (fun r c => (hidPiece_apply x (View.ld wu (Rect.unit ![0, 0, 2560] ![1, 1024, 512] inb_S1x1024x4096_S1x1024x512_0_0_2560)) r c).trans (by pointwise []))
    (fun r c => (hidPiece_apply x (View.ld wu (Rect.unit ![0, 0, 3072] ![1, 1024, 512] inb_S1x1024x4096_S1x1024x512_0_0_3072)) r c).trans (by pointwise []))
    (fun r c => (hidPiece_apply x (View.ld wu (Rect.unit ![0, 0, 3584] ![1, 1024, 512] inb_S1x1024x4096_S1x1024x512_0_0_3584)) r c).trans (by pointwise []))
    r n
  generalize concatenate S256x4096 1 _ _ = H at hh ⊢
  refine side2_apply _ _ (fun r d => Spec.mlp (fun k => x (ix2 r k)) (fun k n => wu (ix3 0 k n)) (fun n c => wd (ix3 0 n c)) d) ?_ ?_ r d
  all_goals
    intro r d
    simp only [Spec.mlp, Spec.lin, ← hh]
    pointwise []

/-- 512 columns of a tile's output, at an index: `X` are the tile's rows. -/
theorem tileOut_apply (X : Fin 256 → Fin 1024 → EReal) (x : Vec Ideal S1x256x1024 .f32) (x0 x1 x2 x3 x4 x5 x6 x7 : Vec Ideal S1x32x1024 .f32)
    (ex : ∀ r c, x (ix3 0 r c) = X r c)
    (e0 : ∀ (r : Fin 32) c, x0 (ix3 0 r c) = X ⟨0 + r.val, by omega⟩ c)
    (e1 : ∀ (r : Fin 32) c, x1 (ix3 0 r c) = X ⟨32 + r.val, by omega⟩ c)
    (e2 : ∀ (r : Fin 32) c, x2 (ix3 0 r c) = X ⟨64 + r.val, by omega⟩ c)
    (e3 : ∀ (r : Fin 32) c, x3 (ix3 0 r c) = X ⟨96 + r.val, by omega⟩ c)
    (e4 : ∀ (r : Fin 32) c, x4 (ix3 0 r c) = X ⟨128 + r.val, by omega⟩ c)
    (e5 : ∀ (r : Fin 32) c, x5 (ix3 0 r c) = X ⟨160 + r.val, by omega⟩ c)
    (e6 : ∀ (r : Fin 32) c, x6 (ix3 0 r c) = X ⟨192 + r.val, by omega⟩ c)
    (e7 : ∀ (r : Fin 32) c, x7 (ix3 0 r c) = X ⟨224 + r.val, by omega⟩ c)
    (p : Vec Ideal S1x1x256x256 .f32) (ws : Vec Ideal S8x128x128 .f32) (wi : Vec Ideal S1024x2048 .bf16)
    (bi : Vec Ideal S1x2048 .f32) (lg lb : Vec Ideal S1x1024 .f32) (bs : Vec Ideal S8x128x1 .f32) (wo : Vec Ideal S1024x1024 .bf16)
    (g1 h1 : Vec Ideal S1x1x1024 .f32) (wu : Vec Ideal S1x1024x4096 .bf16) (wd : Vec Ideal S1x4096x1024 .bf16)
    (g2 h2 : Vec Ideal S1x1x1024 .f32) (C : Nat) (hC : C + 512 ≤ 1024) (h : S256x1024.Slices ![0, C] S256x512)
    (wp : Vec Ideal S1x256x512 .bf16) (wg : Vec Ideal S1x1024x512 .bf16) (WP : Fin 256 → Fin 1024 → EReal) (WG : Fin 1024 → Fin 1024 → EReal)
    (hp : ∀ k (c : Fin 512), wp (ix3 0 k c) = WP k ⟨C + c.val, by omega⟩) (hg : ∀ k (c : Fin 512), wg (ix3 0 k c) = WG k ⟨C + c.val, by omega⟩)
    (r : Fin 256) (c : Fin 512) :
    tileOut x x0 x1 x2 x3 x4 x5 x6 x7 p ws wi bi lg lb bs wo g1 h1 wu wd g2 h2 C h wp wg (ix3 0 r c) =
      Spec.out (X r) (Spec.lin (Spec.gate (fun j => X ⟨r.val / 128 * 128 + j.val, by omega⟩) (fun h i j => ws (ix3 h i j)) (fun k e => wi (ix2 k e))
          (fun e => bi (ix2 0 e)) (fun k => lg (ix2 0 k)) (fun k => lb (ix2 0 k)) (fun h i => bs (ix3 h i 0)) ⟨r.val % 128, by omega⟩)
          (fun k c => wo (ix2 k c)))
        (fun k => p (ix4 0 0 r k)) (fun k => g1 (ix3 0 0 k)) (fun k => h1 (ix3 0 0 k)) (fun k n => wu (ix3 0 k n)) (fun n c => wd (ix3 0 n c))
        (fun k => g2 (ix3 0 0 k)) (fun k => h2 (ix3 0 0 k)) WP WG ⟨C + c.val, by omega⟩ := by
  have h1b : ∀ y r c, x1TileB x0 x1 x2 x3 x4 x5 x6 x7 y g1 h1 (ix2 r c) = x1Tile x0 x1 x2 x3 x4 x5 x6 x7 y g1 h1 (ix2 r c) := fun _ _ _ => rfl
  rw [tileOut, outPiece_apply _ _ C h hC]
  simp only [x2Tile_apply, x2TileB_apply, dTile_apply, h1b, x1Tile_apply x0 x1 x2 x3 x4 x5 x6 x7 X e0 e1 e2 e3 e4 e5 e6 e7, yTile_apply, ex, hp, hg]
  rfl

/-- One of the block's four pieces, at an index: rows `o …` and columns `C …` of the block. -/
theorem piece_at (x : Vec Ideal S1x512x1024 .f32) (o C : Nat) (ho : o + 256 ≤ 512) (hm : o % 128 = 0) (hC : C + 512 ≤ 1024)
    (xt : Vec Ideal S1x256x1024 .f32) (x0 x1 x2 x3 x4 x5 x6 x7 : Vec Ideal S1x32x1024 .f32)
    (ex : ∀ (r : Fin 256) c, xt (ix3 0 r c) = x (ix3 0 ⟨o + r.val, by omega⟩ c))
    (e0 : ∀ (r : Fin 32) c, x0 (ix3 0 r c) = x (ix3 0 ⟨o + (0 + r.val), by omega⟩ c))
    (e1 : ∀ (r : Fin 32) c, x1 (ix3 0 r c) = x (ix3 0 ⟨o + (32 + r.val), by omega⟩ c))
    (e2 : ∀ (r : Fin 32) c, x2 (ix3 0 r c) = x (ix3 0 ⟨o + (64 + r.val), by omega⟩ c))
    (e3 : ∀ (r : Fin 32) c, x3 (ix3 0 r c) = x (ix3 0 ⟨o + (96 + r.val), by omega⟩ c))
    (e4 : ∀ (r : Fin 32) c, x4 (ix3 0 r c) = x (ix3 0 ⟨o + (128 + r.val), by omega⟩ c))
    (e5 : ∀ (r : Fin 32) c, x5 (ix3 0 r c) = x (ix3 0 ⟨o + (160 + r.val), by omega⟩ c))
    (e6 : ∀ (r : Fin 32) c, x6 (ix3 0 r c) = x (ix3 0 ⟨o + (192 + r.val), by omega⟩ c))
    (e7 : ∀ (r : Fin 32) c, x7 (ix3 0 r c) = x (ix3 0 ⟨o + (224 + r.val), by omega⟩ c))
    (p : Vec Ideal S1x1x512x256 .f32) (pt : Vec Ideal S1x1x256x256 .f32)
    (ep : ∀ (r : Fin 256) c, pt (ix4 0 0 r c) = p (ix4 0 0 ⟨o + r.val, by omega⟩ c))
    (ws : Vec Ideal S8x128x128 .f32) (wi : Vec Ideal S1024x2048 .bf16)
    (bi : Vec Ideal S1x2048 .f32) (lg lb : Vec Ideal S1x1024 .f32) (bs : Vec Ideal S8x128x1 .f32) (wo : Vec Ideal S1024x1024 .bf16)
    (g1 h1 : Vec Ideal S1x1x1024 .f32) (wu : Vec Ideal S1x1024x4096 .bf16) (wd : Vec Ideal S1x4096x1024 .bf16)
    (g2 h2 : Vec Ideal S1x1x1024 .f32) (h : S256x1024.Slices ![0, C] S256x512)
    (wp : Vec Ideal S1x256x1024 .bf16) (wg : Vec Ideal S1x1024x1024 .bf16) (wpt : Vec Ideal S1x256x512 .bf16) (wgt : Vec Ideal S1x1024x512 .bf16)
    (hp : ∀ k (c : Fin 512), wpt (ix3 0 k c) = wp (ix3 0 k ⟨C + c.val, by omega⟩))
    (hg : ∀ k (c : Fin 512), wgt (ix3 0 k c) = wg (ix3 0 k ⟨C + c.val, by omega⟩))
    (r : Fin 512) (c : Fin 1024) (i : S1x256x512.Idx) (hr : r.val = o + (i 1).val) (hc : c.val = C + (i 2).val) :
    tileOut xt x0 x1 x2 x3 x4 x5 x6 x7 pt ws wi bi lg lb bs wo g1 h1 wu wd g2 h2 C h wpt wgt i =
      Spec.out (fun k => x (ix3 0 r k)) (Spec.lin (Spec.gate (fun j k => x (ix3 0 ⟨r.val / 128 * 128 + j.val, by omega⟩ k)) (fun h i j => ws (ix3 h i j)) (fun k e => wi (ix2 k e))
          (fun e => bi (ix2 0 e)) (fun k => lg (ix2 0 k)) (fun k => lb (ix2 0 k)) (fun h i => bs (ix3 h i 0)) ⟨r.val % 128, by omega⟩)
          (fun k c => wo (ix2 k c)))
        (fun k => p (ix4 0 0 r k)) (fun k => g1 (ix3 0 0 k)) (fun k => h1 (ix3 0 0 k)) (fun k n => wu (ix3 0 k n)) (fun n c => wd (ix3 0 n c))
        (fun k => g2 (ix3 0 0 k)) (fun k => h2 (ix3 0 0 k)) (fun k c => wp (ix3 0 k c)) (fun k c => wg (ix3 0 k c)) c := by
  obtain ⟨a, b, d, rfl⟩ : ∃ (a : Fin 1) (b : Fin 256) (d : Fin 512), i = ix3 a b d := ⟨i 0, i 1, i 2, by ext k; fin_cases k <;> rfl⟩
  have ha : a = 0 := Subsingleton.elim _ _
  subst ha
  change r.val = o + b.val at hr
  change c.val = C + d.val at hc
  refine (tileOut_apply (fun r k => x (ix3 0 ⟨o + r.val, by omega⟩ k)) xt x0 x1 x2 x3 x4 x5 x6 x7 ex e0 e1 e2 e3 e4 e5 e6 e7 pt ws wi bi lg lb bs wo
    g1 h1 wu wd g2 h2 C hC h wpt wgt (fun k c => wp (ix3 0 k c)) (fun k c => wg (ix3 0 k c)) hp hg b d).trans ?_
  have er : (⟨o + b.val, by omega⟩ : Fin 512) = r := Fin.ext hr.symm
  have ec : (⟨C + d.val, by omega⟩ : Fin 1024) = c := Fin.ext hc.symm
  have e1 : ∀ j : Fin 128, (⟨o + (b.val / 128 * 128 + j.val), by omega⟩ : Fin 512) = ⟨r.val / 128 * 128 + j.val, by omega⟩ :=
    fun j => Fin.ext (by simp only []; omega)
  have e2 : (⟨b.val % 128, by omega⟩ : Fin 128) = ⟨r.val % 128, by omega⟩ := Fin.ext (by simp only []; omega)
  simp only [er, ec, e1, e2, ep]

/-- A grid point's output block, at an index. -/
theorem pieces_apply (x : Vec Ideal S1x512x1024 .f32) (p : Vec Ideal S1x1x512x256 .f32) (ws : Vec Ideal S8x128x128 .f32) (wi : Vec Ideal S1024x2048 .bf16)
    (bi : Vec Ideal S1x2048 .f32) (lg lb : Vec Ideal S1x1024 .f32) (bs : Vec Ideal S8x128x1 .f32) (wo : Vec Ideal S1024x1024 .bf16)
    (g1 h1 : Vec Ideal S1x1x1024 .f32) (wu : Vec Ideal S1x1024x4096 .bf16) (wd : Vec Ideal S1x4096x1024 .bf16)
    (g2 h2 : Vec Ideal S1x1x1024 .f32)
    (wp : Vec Ideal S1x256x1024 .bf16) (wg : Vec Ideal S1x1024x1024 .bf16) (r : Fin 512) (c : Fin 1024) :
    View.canon (pieces x p ws wi bi lg lb bs wo g1 h1 wu wd g2 h2 wp wg) (ix3 0 r c) =
      Spec.out (fun k => x (ix3 0 r k)) (Spec.lin (Spec.gate (fun j k => x (ix3 0 ⟨r.val / 128 * 128 + j.val, by omega⟩ k)) (fun h i j => ws (ix3 h i j)) (fun k e => wi (ix2 k e))
          (fun e => bi (ix2 0 e)) (fun k => lg (ix2 0 k)) (fun k => lb (ix2 0 k)) (fun h i => bs (ix3 h i 0)) ⟨r.val % 128, by omega⟩)
          (fun k c => wo (ix2 k c)))
        (fun k => p (ix4 0 0 r k)) (fun k => g1 (ix3 0 0 k)) (fun k => h1 (ix3 0 0 k)) (fun k n => wu (ix3 0 k n)) (fun n c => wd (ix3 0 n c))
        (fun k => g2 (ix3 0 0 k)) (fun k => h2 (ix3 0 0 k)) (fun k c => wp (ix3 0 k c)) (fun k c => wg (ix3 0 k c)) c := by
  rw [pieces]
  canon_tiles i h
  · refine piece_at x 256 512 (by omega) (by omega) (by omega) _ _ _ _ _ _ _ _ _ ?_ ?_ ?_ ?_ ?_ ?_ ?_ ?_ ?_ p _ ?_ ws wi bi lg lb bs wo
      g1 _ wu wd g2 _ _ wp wg _ _ ?_ ?_ r c i h1 h2
    all_goals intro r k; pointwise []; try (congr 2; exact Fin.ext (by simp only []; omega))
  · refine piece_at x 256 0 (by omega) (by omega) (by omega) _ _ _ _ _ _ _ _ _ ?_ ?_ ?_ ?_ ?_ ?_ ?_ ?_ ?_ p _ ?_ ws wi bi lg lb bs wo
      g1 _ wu wd g2 _ _ wp wg _ _ ?_ ?_ r c i h1 (h2.trans (Nat.zero_add _).symm)
    all_goals intro r k; pointwise []; try (congr 2; exact Fin.ext (by simp only []; omega))
  · refine piece_at x 0 512 (by omega) (by omega) (by omega) _ _ _ _ _ _ _ _ _ ?_ ?_ ?_ ?_ ?_ ?_ ?_ ?_ ?_ p _ ?_ ws wi bi lg lb bs wo
      g1 _ wu wd g2 _ _ wp wg _ _ ?_ ?_ r c i (h1.trans (Nat.zero_add _).symm) h2
    all_goals intro r k; pointwise []; try (congr 2; exact Fin.ext (by simp only []; omega))
  · refine piece_at x 0 0 (by omega) (by omega) (by omega) _ _ _ _ _ _ _ _ _ ?_ ?_ ?_ ?_ ?_ ?_ ?_ ?_ ?_ p _ ?_ ws wi bi lg lb bs wo
      g1 _ wu wd g2 _ _ wp wg _ _ ?_ ?_ r c i (h1.trans (Nat.zero_add _).symm) (h2.trans (Nat.zero_add _).symm)
    all_goals intro r k; pointwise []; try (congr 2; exact Fin.ext (by simp only []; omega))

/-- The second result's block: the gate side v of the block's last 128 rows, after its layer norm. -/
theorem auxTile_apply (x : Vec Ideal S1x512x1024 .f32) (wi : Vec Ideal S1024x2048 .bf16) (bi : Vec Ideal S1x2048 .f32)
    (lg lb : Vec Ideal S1x1024 .f32) (j : Fin 128) (d : Fin 1024) :
    auxTile (F := Ideal) x wi bi lg lb (ix3 0 j d) = Spec.side (fun k => x (ix3 0 ⟨384 + j.val, by omega⟩ k)) (fun k e => wi (ix2 k e))
      (fun e => bi (ix2 0 e)) (fun k => lg (ix2 0 k)) (fun k => lb (ix2 0 k)) d := by
  have e : ∀ (r : Fin 256) (k : Fin 1024), View.ld x (Rect.unit ![0, 256, 0] ![1, 256, 1024] inb_S1x512x1024_S1x256x1024_0_256_0) (ix3 0 r k) =
      x (ix3 0 ⟨256 + r.val, by omega⟩ k) := by intro r k; pointwise []
  have a : auxTile (F := Ideal) x wi bi lg lb (ix3 0 j d) = vnTile (vTile (zTile (View.ld x (Rect.unit ![0, 256, 0] ![1, 256, 1024] inb_S1x512x1024_S1x256x1024_0_256_0)) wi bi))
      (shapeCast S1x1024 lg shapeCasts_S1x1024_S1x1024) (shapeCast S1x1024 lb shapeCasts_S1x1024_S1x1024) (ix2 ⟨128 + j.val, by omega⟩ d) := by
    unfold auxTile
    generalize vnTile (F := Ideal) _ _ _ = V
    pointwise []
  rw [a, vn_apply]
  simp only [e]
  have e' : (⟨256 + (128 + j.val), by omega⟩ : Fin 512) = ⟨384 + j.val, by omega⟩ := Fin.ext (by simp only []; omega)
  simp only [e']

end Cert.BlockIdeal

end
-- ==== Proof.KernelBlocks.lean ====
/- Each block that a grid point of the prompt call reads is an argument of the program, read at the block's place. -/
module

public import proofs.«01_k».proof.Proof.BlockIdeal

@[expose] public section

set_option maxRecDepth 16384

noncomputable section

namespace Cert.KernelBlocks

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- A grid point's sequence. -/
abbrev sq (t : Fin cfg0.N) : Fin 8 := ⟨t.val / 4, by have := t.isLt; change t.val < 32 at this; omega⟩

/-- Row `r` of a grid point's block, in its sequence. -/
abbrev rw_ (t : Fin cfg0.N) (r : Fin 512) : Fin 2048 := ⟨t.val % 4 * 512 + r.val, by omega⟩

/-- Window 0 stages the activations' rows. -/
theorem blk0 (c : Dev nD) (t : Fin cfg0.N) (r : Fin 512) (k : Fin 1024) :
    (iblk m c 0 t : Vec Ideal S1x512x1024 .f32) (ix3 0 r k) = (m ((c : Thread nD τ).loc main_arg0) : Vec Ideal S8x2048x1024 .f32) (ix3 (sq t) (rw_ t r) k) := by
  have idx : ∀ t : Fin cfg0.N, win0_0.index t = ![t.val / 4, t.val % 4, 0] := (by decide +kernel : ∀ t : Fin grid0.N, win0_0.index t = ![t.val / 4, t.val % 4, 0])
  blk_ext! [iblk, V, idx t]

/-- Window 1 stages layer 0's embeddings of those rows. -/
theorem blk1 (c : Dev nD) (t : Fin cfg0.N) (r : Fin 512) (k : Fin 256) :
    (iblk m c 1 t : Vec Ideal S1x1x512x256 .f32) (ix4 0 0 r k) = (m ((c : Thread nD τ).loc main_arg1) : Vec Ideal S4x8x2048x256 .f32) (ix4 0 (sq t) (rw_ t r) k) := by
  have idx : ∀ t : Fin cfg0.N, win0_1.index t = ![0, t.val / 4, t.val % 4, 0] := (by decide +kernel : ∀ t : Fin grid0.N, win0_1.index t = ![0, t.val / 4, t.val % 4, 0])
  blk_ext! [iblk, V, idx t]

/-- Window 2 stages the mixing weights. -/
theorem blk2 (c : Dev nD) (t : Fin cfg0.N) (h : Fin 8) (i j : Fin 128) :
    (iblk m c 2 t : Vec Ideal S8x128x128 .f32) (ix3 h i j) = (m ((c : Thread nD τ).loc main_arg6) : Vec Ideal S8x128x128 .f32) (ix3 h i j) := by
  have idx : ∀ t : Fin cfg0.N, win0_2.index t = ![0, 0, 0] := (by decide +kernel : ∀ t : Fin grid0.N, win0_2.index t = ![0, 0, 0])
  blk_ext! [iblk, V, idx t]

/-- Window 3 stages the input projection. -/
theorem blk3 (c : Dev nD) (t : Fin cfg0.N) (k : Fin 1024) (e : Fin 2048) :
    (iblk m c 3 t : Vec Ideal S1024x2048 .bf16) (ix2 k e) = (m ((c : Thread nD τ).loc main_arg2) : Vec Ideal S1024x2048 .f32) (ix2 k e) := by
  have idx : ∀ t : Fin cfg0.N, win0_3.index t = ![0, 0] := (by decide +kernel : ∀ t : Fin grid0.N, win0_3.index t = ![0, 0])
  blk_ext! [iblk, V, idx t]

/-- Window 4 stages its bias. -/
theorem blk4 (c : Dev nD) (t : Fin cfg0.N) (e : Fin 2048) :
    (iblk m c 4 t : Vec Ideal S1x2048 .f32) (ix2 0 e) = (m ((c : Thread nD τ).loc main_arg3) : Vec Ideal S2048 .f32) (ix1 e) := by
  have idx : ∀ t : Fin cfg0.N, win0_4.index t = ![0, 0] := (by decide +kernel : ∀ t : Fin grid0.N, win0_4.index t = ![0, 0])
  blk_ext! [iblk, V, idx t]

/-- Window 5 stages the gate norm's gain. -/
theorem blk5 (c : Dev nD) (t : Fin cfg0.N) (k : Fin 1024) :
    (iblk m c 5 t : Vec Ideal S1x1024 .f32) (ix2 0 k) = (m ((c : Thread nD τ).loc main_arg4) : Vec Ideal S1024 .f32) (ix1 k) := by
  have idx : ∀ t : Fin cfg0.N, win0_5.index t = ![0, 0] := (by decide +kernel : ∀ t : Fin grid0.N, win0_5.index t = ![0, 0])
  blk_ext! [iblk, V, idx t]

/-- Window 6 stages the gate norm's offset. -/
theorem blk6 (c : Dev nD) (t : Fin cfg0.N) (k : Fin 1024) :
    (iblk m c 6 t : Vec Ideal S1x1024 .f32) (ix2 0 k) = (m ((c : Thread nD τ).loc main_arg5) : Vec Ideal S1024 .f32) (ix1 k) := by
  have idx : ∀ t : Fin cfg0.N, win0_6.index t = ![0, 0] := (by decide +kernel : ∀ t : Fin grid0.N, win0_6.index t = ![0, 0])
  blk_ext! [iblk, V, idx t]

/-- Window 7 stages the mixing bias. -/
theorem blk7 (c : Dev nD) (t : Fin cfg0.N) (h : Fin 8) (i : Fin 128) :
    (iblk m c 7 t : Vec Ideal S8x128x1 .f32) (ix3 h i 0) = (m ((c : Thread nD τ).loc main_arg7) : Vec Ideal S8x128 .f32) (ix2 h i) := by
  have idx : ∀ t : Fin cfg0.N, win0_7.index t = ![0, 0, 0] := (by decide +kernel : ∀ t : Fin grid0.N, win0_7.index t = ![0, 0, 0])
  blk_ext! [iblk, V, idx t]

/-- Window 8 stages the output projection. -/
theorem blk8 (c : Dev nD) (t : Fin cfg0.N) (k q : Fin 1024) :
    (iblk m c 8 t : Vec Ideal S1024x1024 .bf16) (ix2 k q) = (m ((c : Thread nD τ).loc main_arg8) : Vec Ideal S1024x1024 .f32) (ix2 k q) := by
  have idx : ∀ t : Fin cfg0.N, win0_8.index t = ![0, 0] := (by decide +kernel : ∀ t : Fin grid0.N, win0_8.index t = ![0, 0])
  blk_ext! [iblk, V, idx t]

/-- Window 9 stages the first norm's gain. -/
theorem blk9 (c : Dev nD) (t : Fin cfg0.N) (k : Fin 1024) :
    (iblk m c 9 t : Vec Ideal S1x1x1024 .f32) (ix3 0 0 k) = (m ((c : Thread nD τ).loc main_arg9) : Vec Ideal S4x1024 .f32) (ix2 0 k) := by
  have idx : ∀ t : Fin cfg0.N, win0_9.index t = ![0, 0, 0] := (by decide +kernel : ∀ t : Fin grid0.N, win0_9.index t = ![0, 0, 0])
  blk_ext! [iblk, V, idx t]

/-- Window 10 stages the first norm's offset. -/
theorem blk10 (c : Dev nD) (t : Fin cfg0.N) (k : Fin 1024) :
    (iblk m c 10 t : Vec Ideal S1x1x1024 .f32) (ix3 0 0 k) = (m ((c : Thread nD τ).loc main_arg10) : Vec Ideal S4x1024 .f32) (ix2 0 k) := by
  have idx : ∀ t : Fin cfg0.N, win0_10.index t = ![0, 0, 0] := (by decide +kernel : ∀ t : Fin grid0.N, win0_10.index t = ![0, 0, 0])
  blk_ext! [iblk, V, idx t]

/-- Window 11 stages the MLP's first matrix. -/
theorem blk11 (c : Dev nD) (t : Fin cfg0.N) (k : Fin 1024) (n : Fin 4096) :
    (iblk m c 11 t : Vec Ideal S1x1024x4096 .bf16) (ix3 0 k n) = (m ((c : Thread nD τ).loc main_arg13) : Vec Ideal S4x1024x4096 .f32) (ix3 0 k n) := by
  have idx : ∀ t : Fin cfg0.N, win0_11.index t = ![0, 0, 0] := (by decide +kernel : ∀ t : Fin grid0.N, win0_11.index t = ![0, 0, 0])
  blk_ext! [iblk, V, idx t]

/-- Window 12 stages the MLP's second matrix. -/
theorem blk12 (c : Dev nD) (t : Fin cfg0.N) (n : Fin 4096) (k : Fin 1024) :
    (iblk m c 12 t : Vec Ideal S1x4096x1024 .bf16) (ix3 0 n k) = (m ((c : Thread nD τ).loc main_arg14) : Vec Ideal S4x4096x1024 .f32) (ix3 0 n k) := by
  have idx : ∀ t : Fin cfg0.N, win0_12.index t = ![0, 0, 0] := (by decide +kernel : ∀ t : Fin grid0.N, win0_12.index t = ![0, 0, 0])
  blk_ext! [iblk, V, idx t]

/-- Window 13 stages the second norm's gain. -/
theorem blk13 (c : Dev nD) (t : Fin cfg0.N) (k : Fin 1024) :
    (iblk m c 13 t : Vec Ideal S1x1x1024 .f32) (ix3 0 0 k) = (m ((c : Thread nD τ).loc main_arg11) : Vec Ideal S4x1024 .f32) (ix2 0 k) := by
  have idx : ∀ t : Fin cfg0.N, win0_13.index t = ![0, 0, 0] := (by decide +kernel : ∀ t : Fin grid0.N, win0_13.index t = ![0, 0, 0])
  blk_ext! [iblk, V, idx t]

/-- Window 14 stages the second norm's offset. -/
theorem blk14 (c : Dev nD) (t : Fin cfg0.N) (k : Fin 1024) :
    (iblk m c 14 t : Vec Ideal S1x1x1024 .f32) (ix3 0 0 k) = (m ((c : Thread nD τ).loc main_arg12) : Vec Ideal S4x1024 .f32) (ix2 0 k) := by
  have idx : ∀ t : Fin cfg0.N, win0_14.index t = ![0, 0, 0] := (by decide +kernel : ∀ t : Fin grid0.N, win0_14.index t = ![0, 0, 0])
  blk_ext! [iblk, V, idx t]

/-- Window 15 stages the embedding's projection. -/
theorem blk15 (c : Dev nD) (t : Fin cfg0.N) (k : Fin 256) (q : Fin 1024) :
    (iblk m c 15 t : Vec Ideal S1x256x1024 .bf16) (ix3 0 k q) = (m ((c : Thread nD τ).loc main_arg15) : Vec Ideal S4x256x1024 .f32) (ix3 0 k q) := by
  have idx : ∀ t : Fin cfg0.N, win0_15.index t = ![0, 0, 0] := (by decide +kernel : ∀ t : Fin grid0.N, win0_15.index t = ![0, 0, 0])
  blk_ext! [iblk, V, idx t]

/-- Window 16 stages the embedding's gate. -/
theorem blk16 (c : Dev nD) (t : Fin cfg0.N) (k q : Fin 1024) :
    (iblk m c 16 t : Vec Ideal S1x1024x1024 .bf16) (ix3 0 k q) = (m ((c : Thread nD τ).loc main_arg16) : Vec Ideal S4x1024x1024 .f32) (ix3 0 k q) := by
  have idx : ∀ t : Fin cfg0.N, win0_16.index t = ![0, 0, 0] := (by decide +kernel : ∀ t : Fin grid0.N, win0_16.index t = ![0, 0, 0])
  blk_ext! [iblk, V, idx t]

end Cert.KernelBlocks

end
-- ==== Proof.KernelValue.lean ====
/- What the prompt call's two result arrays hold after the run, as functions of the program's arguments: the blocks written
   back cover the arrays. -/
module

public import proofs.«01_k».proof.Proof.KernelBlocks

@[expose] public section

set_option maxRecDepth 16384

noncomputable section

namespace Cert.KernelValue

open Idealize.ShloMosaic Idealize.ShloMosaic.TcCoe Idealize.SL.Sem Cert.KernelIdeal Cert.KernelIdeal.Gen
open Cert.KernelBlocks Cert.BlockIdeal
open Idealize.ShloMosaic.Pipeline (Dat)

variable (m : (ℓ : Loc nD τ sig) → Buf (Elt Ideal) ℓ)

/-- The layer's output, of the program's arguments. -/
def G17 (c : Dev nD) : FVec Ideal S8x2048x1024 .f32 := fun i =>
  Spec.gmlp (fun s k => (m ((c : Thread nD τ).loc main_arg0) : Vec Ideal S8x2048x1024 .f32) (ix3 (i 0) s k)) (fun k => (m ((c : Thread nD τ).loc main_arg1) : Vec Ideal S4x8x2048x256 .f32) (ix4 0 (i 0) (i 1) k))
    (fun h i j => (m ((c : Thread nD τ).loc main_arg6) : Vec Ideal S8x128x128 .f32) (ix3 h i j))
    (fun k e => (m ((c : Thread nD τ).loc main_arg2) : Vec Ideal S1024x2048 .f32) (ix2 k e)) (fun e => (m ((c : Thread nD τ).loc main_arg3) : Vec Ideal S2048 .f32) (ix1 e)) (fun k => (m ((c : Thread nD τ).loc main_arg4) : Vec Ideal S1024 .f32) (ix1 k))
    (fun k => (m ((c : Thread nD τ).loc main_arg5) : Vec Ideal S1024 .f32) (ix1 k)) (fun h i => (m ((c : Thread nD τ).loc main_arg7) : Vec Ideal S8x128 .f32) (ix2 h i)) (fun k q => (m ((c : Thread nD τ).loc main_arg8) : Vec Ideal S1024x1024 .f32) (ix2 k q))
    (fun k => (m ((c : Thread nD τ).loc main_arg9) : Vec Ideal S4x1024 .f32) (ix2 0 k)) (fun k => (m ((c : Thread nD τ).loc main_arg10) : Vec Ideal S4x1024 .f32) (ix2 0 k)) (fun k n => (m ((c : Thread nD τ).loc main_arg13) : Vec Ideal S4x1024x4096 .f32) (ix3 0 k n))
    (fun n k => (m ((c : Thread nD τ).loc main_arg14) : Vec Ideal S4x4096x1024 .f32) (ix3 0 n k)) (fun k => (m ((c : Thread nD τ).loc main_arg11) : Vec Ideal S4x1024 .f32) (ix2 0 k)) (fun k => (m ((c : Thread nD τ).loc main_arg12) : Vec Ideal S4x1024 .f32) (ix2 0 k))
    (fun k q => (m ((c : Thread nD τ).loc main_arg15) : Vec Ideal S4x256x1024 .f32) (ix3 0 k q)) (fun k q => (m ((c : Thread nD τ).loc main_arg16) : Vec Ideal S4x1024x1024 .f32) (ix3 0 k q)) (i 1) (i 2)

/-- The rows carried on: the normalised gate side of each sequence's last 128 rows. -/
def G18 (c : Dev nD) : FVec Ideal S8x128x1024 .f32 := fun i =>
  Spec.side (fun k => (m ((c : Thread nD τ).loc main_arg0) : Vec Ideal S8x2048x1024 .f32) (ix3 (i 0) ⟨1920 + (i 1).val, by have := (i 1).isLt; change (i 1).val < 128 at this; omega⟩ k))
    (fun k e => (m ((c : Thread nD τ).loc main_arg2) : Vec Ideal S1024x2048 .f32) (ix2 k e)) (fun e => (m ((c : Thread nD τ).loc main_arg3) : Vec Ideal S2048 .f32) (ix1 e)) (fun k => (m ((c : Thread nD τ).loc main_arg4) : Vec Ideal S1024 .f32) (ix1 k))
    (fun k => (m ((c : Thread nD τ).loc main_arg5) : Vec Ideal S1024 .f32) (ix1 k)) (i 2)

/-- After the run the first result array holds the layer's output. -/
theorem final17 (c : Dev nD) : (dats m 0 c).arrAt 17 cfg0.N = G17 m c := by
  refine (dats m 0 c).arrAt_eq_of_covers 17 _ (by decide +kernel) fun t hf y => ?_
  have idx : ∀ t : Fin cfg0.N, win0_17.index t = ![t.val / 4, t.val % 4, 0] :=
    (by decide +kernel : ∀ t : Fin grid0.N, win0_17.index t = ![t.val / 4, t.val % 4, 0])
  have e : ∀ (r : Fin 512) (k : Fin 1024), ((win0_17.blk t).view.emb (ix3 0 r k : S1x512x1024.Idx) : S8x2048x1024.Idx) = ix3 (sq t) (rw_ t r) k := by
    intro r k; blk_ext [idx t]
  blk_simp
  have hb := (Classical.em (t.val % 4 = 3)).elim (fun h => Cert.Block.block_B m c t h) (fun h => Cert.Block.block_A m c t h)
  rw [after0_17, hb]
  obtain ⟨r, k, rfl⟩ : ∃ (r : Fin 512) (k : Fin 1024), y = (ix3 0 r k : S1x512x1024.Idx) :=
    ⟨y 1, y 2, by ext a; fin_cases a; · exact congrArg Fin.val (Subsingleton.elim (α := Fin 1) _ _)
                  all_goals rfl⟩
  rw [e]
  refine (pieces_apply _ _ _ _ _ _ _ _ _ _ _ _ _ _ _ _ _ r k).trans ?_
  simp only [blk0, blk1, blk2, blk3, blk4, blk5, blk6, blk7, blk8, blk9, blk10, blk11, blk12, blk13, blk14, blk15, blk16]
  have e1 : ∀ j : Fin 128, rw_ t ⟨r.val / 128 * 128 + j.val, by omega⟩ = ⟨(rw_ t r).val / 128 * 128 + j.val, by omega⟩ :=
    fun j => Fin.ext (by simp only []; omega)
  have e2 : (⟨r.val % 128, by omega⟩ : Fin 128) = ⟨(rw_ t r).val % 128, by omega⟩ := Fin.ext (by simp only []; omega)
  simp only [e1, e2]
  rfl

/-- After the run the second result array holds the rows carried on. -/
theorem final18 (c : Dev nD) : (dats m 0 c).arrAt 18 cfg0.N = G18 m c := by
  refine (dats m 0 c).arrAt_eq_of_covers 18 _ (by decide +kernel) fun t hf y => ?_
  have idx : ∀ t : Fin cfg0.N, win0_18.index t = ![t.val / 4, 0, 0] :=
    (by decide +kernel : ∀ t : Fin grid0.N, win0_18.index t = ![t.val / 4, 0, 0])
  have hf3 : t.val % 4 = 3 := by
    have : ∀ t : Fin cfg0.N, (cfg0.win 18).flush t = true → t.val % 4 = 3 := (by decide +kernel : ∀ t : Fin grid0.N, win0_18.flush t = true → t.val % 4 = 3)
    exact this t hf
  have e : ∀ (r : Fin 128) (k : Fin 1024), ((win0_18.blk t).view.emb (ix3 0 r k : S1x128x1024.Idx) : S8x128x1024.Idx) = ix3 (sq t) r k := by
    intro r k; blk_ext [idx t]
  blk_simp
  rw [after0_18, Cert.Block.aux_B m c t hf3]
  obtain ⟨r, k, rfl⟩ : ∃ (r : Fin 128) (k : Fin 1024), y = (ix3 0 r k : S1x128x1024.Idx) :=
    ⟨y 1, y 2, by ext a; fin_cases a; · exact congrArg Fin.val (Subsingleton.elim (α := Fin 1) _ _)
                  all_goals rfl⟩
  rw [e]
  refine (auxTile_apply _ _ _ _ _ r k).trans ?_
  simp only [blk0, blk3, blk4, blk5, blk6]
  have e1 : rw_ t ⟨384 + r.val, by omega⟩ = ⟨1920 + r.val, by omega⟩ := Fin.ext (by simp only []; omega)
  simp only [e1]
  rfl

end Cert.KernelValue

end
-- ==== Proof.RefValue.lean ====
/- What the reference computes, row by row: its host operations read at an index are the layer's mathematics. -/
module

public import proofs.«01_k».proof.Proof.Spec
public import proofs.«01_k».proof.Proof.Gen.ReferenceIdeal.Read

@[expose] public section

set_option maxRecDepth 16384

noncomputable section

namespace Cert.RefValue

open Idealize.ShloMosaic Cert.ReferenceIdeal Cert.ReferenceIdeal.Gen Cert.ReferenceIdeal.Read

/-- The projection with its GELU. -/
theorem v16_apply (x0 : Vec Ideal S8x2048x1024 .f32) (x2 : Vec Ideal S1024x2048 .f32) (x3 : Vec Ideal S2048 .f32) (b : Fin 8) (s e : Fin 2048) :
    val_main_v16 x0 x2 x3 (ix3 b s e) = Spec.proj (fun k => x0 (ix3 b s k)) (fun k e => x2 (ix2 k e)) (fun e => x3 (ix1 e)) e := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_cst_2, Spec.proj, Spec.gelu, Spec.lin]
  generalize ∑ x, x0 (ix3 b s x) * x2 (ix2 x e) + x3 (ix1 e) = h
  rw [mul_assoc h h h]

/-- The normalised gate side. -/
theorem v40_apply (x0 : Vec Ideal S8x2048x1024 .f32) (x2 : Vec Ideal S1024x2048 .f32) (x3 : Vec Ideal S2048 .f32) (x4 : Vec Ideal S1024 .f32) (x5 : Vec Ideal S1024 .f32) (b : Fin 8) (s : Fin 2048) (d : Fin 1024) :
    val_main_v40 x0 x2 x3 x4 x5 (ix3 b s d) = Spec.side (fun k => x0 (ix3 b s k)) (fun k e => x2 (ix2 k e)) (fun e => x3 (ix1 e)) (fun k => x4 (ix1 k)) (fun k => x5 (ix1 k)) d := by
  have h : ∀ d, val_main_v18 x0 x2 x3 (ix3 b s d) = Spec.proj (fun k => x0 (ix3 b s k)) (fun k e => x2 (ix2 k e)) (fun e => x3 (ix1 e)) ⟨1024 + d.val, by omega⟩ := by
    intro d; rw [← v16_apply]; pointwise [val_main_v18]
  pointwise [val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_cst_3, val_main_cst_4, val_main_cst_5, val_main_cst_6, val_main_cst_7]
  simp only [h]
  rfl

/-- The gated rows. -/
theorem v54_apply (x0 : Vec Ideal S8x2048x1024 .f32) (x2 : Vec Ideal S1024x2048 .f32) (x3 : Vec Ideal S2048 .f32) (x4 : Vec Ideal S1024 .f32) (x5 : Vec Ideal S1024 .f32) (x6 : Vec Ideal S8x128x128 .f32) (x7 : Vec Ideal S8x128 .f32) (b : Fin 8) (s : Fin 2048) (d : Fin 1024) :
    val_main_v54 x0 x2 x3 x4 x5 x6 x7 (ix3 b s d) =
      Spec.gate (fun j k => x0 (ix3 b ⟨s.val / 128 * 128 + j.val, by omega⟩ k)) (fun h i j => x6 (ix3 h i j)) (fun k e => x2 (ix2 k e)) (fun e => x3 (ix1 e)) (fun k => x4 (ix1 k)) (fun k => x5 (ix1 k)) (fun h i => x7 (ix2 h i))
        ⟨s.val % 128, by omega⟩ d := by
  have h : val_main_v17 x0 x2 x3 (ix3 b s d) = Spec.proj (fun k => x0 (ix3 b s k)) (fun k e => x2 (ix2 k e)) (fun e => x3 (ix1 e)) ⟨d.val, by omega⟩ := by
    rw [← v16_apply]; pointwise [val_main_v17]
  pointwise [val_main_v41, val_main_v42, val_main_v43, val_main_v44, val_main_v45, val_main_v46, val_main_v47, val_main_v48, val_main_v49, val_main_v50, val_main_v51, val_main_v52, val_main_v53, val_main_v54, val_main_cst_8, val_main_c, val_main_call0_v0, val_main_call0_c, val_main_call0_v1, val_main_call0_v2, val_main_call0_v3, val_main_call0_v4, val_main_call0_c_0, val_main_call0_v5, val_main_call1_v0]
  have hs : ∀ q : BitVec 1, Scalar.select q 1#1 0#1 = q := by decide
  have ha : ∀ q : BitVec 32, IntOp.addi q 0#32 = q := fun q => by simp [IntOp.addi]
  simp only [hs, ha, h, v40_apply, Spec.gate]
  have e : (⟨s.val / 128 * 128 + s.val % 128, by omega⟩ : Fin 2048) = s := Fin.ext (by simp only []; omega)
  simp only [e, mul_comm (Spec.side _ _ _ _ _ _)]

/-- The mixer's output. -/
theorem v55_apply (x0 : Vec Ideal S8x2048x1024 .f32) (x2 : Vec Ideal S1024x2048 .f32) (x3 : Vec Ideal S2048 .f32) (x4 : Vec Ideal S1024 .f32) (x5 : Vec Ideal S1024 .f32) (x6 : Vec Ideal S8x128x128 .f32) (x7 : Vec Ideal S8x128 .f32) (x8 : Vec Ideal S1024x1024 .f32) (b : Fin 8) (s : Fin 2048) (d : Fin 1024) :
    val_main_v55 x0 x2 x3 x4 x5 x6 x7 x8 (ix3 b s d) =
      Spec.lin (Spec.gate (fun j k => x0 (ix3 b ⟨s.val / 128 * 128 + j.val, by omega⟩ k)) (fun h i j => x6 (ix3 h i j)) (fun k e => x2 (ix2 k e)) (fun e => x3 (ix1 e)) (fun k => x4 (ix1 k)) (fun k => x5 (ix1 k)) (fun h i => x7 (ix2 h i))
        ⟨s.val % 128, by omega⟩) (fun k c => x8 (ix2 k c)) d := by
  simp only [Spec.lin, ← v54_apply]
  pointwise [val_main_v55]

/-- The rows after the first norm, over the mixer's output. -/
theorem v85_apply (x0 : Vec Ideal S8x2048x1024 .f32) (x2 : Vec Ideal S1024x2048 .f32) (x3 : Vec Ideal S2048 .f32) (x4 : Vec Ideal S1024 .f32) (x5 : Vec Ideal S1024 .f32) (x6 : Vec Ideal S8x128x128 .f32) (x7 : Vec Ideal S8x128 .f32) (x8 : Vec Ideal S1024x1024 .f32) (x9 : Vec Ideal S4x1024 .f32) (x10 : Vec Ideal S4x1024 .f32) (b : Fin 8) (s : Fin 2048) (d : Fin 1024) :
    val_main_v85 x0 x2 x3 x4 x5 x6 x7 x8 x9 x10 (ix3 b s d) = Spec.after1 (fun k => x0 (ix3 b s k)) (fun d => val_main_v55 x0 x2 x3 x4 x5 x6 x7 x8 (ix3 b s d)) (fun k => x9 (ix2 0 k)) (fun k => x10 (ix2 0 k)) d := by
  pointwise [val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_cst_9, val_main_cst_10, val_main_cst_11, val_main_cst_12, val_main_cst_13, val_main_cst_14]
  simp only [Spec.after1, Spec.nrm, Spec.mean, Spec.resid]

/-- The rows after the second norm, over those after the first. -/
theorem v122_apply (x0 : Vec Ideal S8x2048x1024 .f32) (x2 : Vec Ideal S1024x2048 .f32) (x3 : Vec Ideal S2048 .f32) (x4 : Vec Ideal S1024 .f32) (x5 : Vec Ideal S1024 .f32) (x6 : Vec Ideal S8x128x128 .f32) (x7 : Vec Ideal S8x128 .f32) (x8 : Vec Ideal S1024x1024 .f32) (x9 : Vec Ideal S4x1024 .f32) (x10 : Vec Ideal S4x1024 .f32) (x11 : Vec Ideal S4x1024 .f32) (x12 : Vec Ideal S4x1024 .f32) (x13 : Vec Ideal S4x1024x4096 .f32) (x14 : Vec Ideal S4x4096x1024 .f32) (b : Fin 8) (s : Fin 2048) (d : Fin 1024) :
    val_main_v122 x0 x2 x3 x4 x5 x6 x7 x8 x9 x10 x11 x12 x13 x14 (ix3 b s d) =
      Spec.after2 (fun k => x0 (ix3 b s k)) (fun d => val_main_v55 x0 x2 x3 x4 x5 x6 x7 x8 (ix3 b s d)) (fun k => x9 (ix2 0 k)) (fun k => x10 (ix2 0 k))
        (fun k n => x13 (ix3 0 k n)) (fun n k => x14 (ix3 0 n k)) (fun k => x11 (ix2 0 k)) (fun k => x12 (ix2 0 k)) d := by
  have h : ∀ d, val_main_v95 x0 x2 x3 x4 x5 x6 x7 x8 x9 x10 x13 x14 (ix3 b s d) = Spec.mlp (fun d => val_main_v85 x0 x2 x3 x4 x5 x6 x7 x8 x9 x10 (ix3 b s d)) (fun k n => x13 (ix3 0 k n)) (fun n k => x14 (ix3 0 n k)) d := by
    intro d
    pointwise [val_main_v86, val_main_v87, val_main_v88, val_main_v89, val_main_v90, val_main_v93, val_main_v94, val_main_v95, val_main_call2_cst, val_main_call2_v0, Spec.mlp, Spec.lin, Spec.relu2]
  pointwise [val_main_v91, val_main_v92, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_cst_15, val_main_cst_16, val_main_cst_17, val_main_cst_18, val_main_cst_19, val_main_cst_20]
  simp only [h, v85_apply]
  rfl

/-- The reference's first result is the layer of its arguments. -/
theorem v138_apply (x0 : Vec Ideal S8x2048x1024 .f32) (x1 : Vec Ideal S4x8x2048x256 .f32) (x2 : Vec Ideal S1024x2048 .f32) (x3 : Vec Ideal S2048 .f32) (x4 : Vec Ideal S1024 .f32) (x5 : Vec Ideal S1024 .f32) (x6 : Vec Ideal S8x128x128 .f32) (x7 : Vec Ideal S8x128 .f32) (x8 : Vec Ideal S1024x1024 .f32) (x9 : Vec Ideal S4x1024 .f32) (x10 : Vec Ideal S4x1024 .f32) (x11 : Vec Ideal S4x1024 .f32) (x12 : Vec Ideal S4x1024 .f32) (x13 : Vec Ideal S4x1024x4096 .f32) (x14 : Vec Ideal S4x4096x1024 .f32) (x15 : Vec Ideal S4x256x1024 .f32) (x16 : Vec Ideal S4x1024x1024 .f32) (b : Fin 8) (s : Fin 2048) (d : Fin 1024) :
    val_main_v138 x0 x1 x2 x3 x4 x5 x6 x7 x8 x9 x10 x11 x12 x13 x14 x15 x16 (ix3 b s d) =
      Spec.gmlp (fun s k => x0 (ix3 b s k)) (fun k => x1 (ix4 0 b s k)) (fun h i j => x6 (ix3 h i j)) (fun k e => x2 (ix2 k e)) (fun e => x3 (ix1 e)) (fun k => x4 (ix1 k)) (fun k => x5 (ix1 k)) (fun h i => x7 (ix2 h i))
        (fun k c => x8 (ix2 k c)) (fun k => x9 (ix2 0 k)) (fun k => x10 (ix2 0 k))
        (fun k n => x13 (ix3 0 k n)) (fun n k => x14 (ix3 0 n k)) (fun k => x11 (ix2 0 k)) (fun k => x12 (ix2 0 k))
        (fun k c => x15 (ix3 0 k c)) (fun k c => x16 (ix3 0 k c)) s d := by
  pointwise [val_main_v123, val_main_v124, val_main_v125, val_main_v126, val_main_v127, val_main_v128, val_main_v129, val_main_v130, val_main_v131, val_main_v132, val_main_v133, val_main_v134, val_main_v135, val_main_v136, val_main_v137, val_main_v138, val_main_cst_21, val_main_cst_22]
  simp only [v122_apply, v55_apply]
  rfl

/-- The reference's second result is the normalised gate side of each sequence's last 128 rows. -/
theorem v56_apply (x0 : Vec Ideal S8x2048x1024 .f32) (x2 : Vec Ideal S1024x2048 .f32) (x3 : Vec Ideal S2048 .f32) (x4 : Vec Ideal S1024 .f32) (x5 : Vec Ideal S1024 .f32) (b : Fin 8) (j : Fin 128) (d : Fin 1024) :
    val_main_v56 x0 x2 x3 x4 x5 (ix3 b j d) = Spec.side (fun k => x0 (ix3 b ⟨1920 + j.val, by omega⟩ k)) (fun k e => x2 (ix2 k e)) (fun e => x3 (ix1 e)) (fun k => x4 (ix1 k)) (fun k => x5 (ix1 k)) d := by
  rw [← v40_apply]; pointwise [val_main_v56]

end Cert.RefValue

end
-- ==== Proof.Equation.lean ====
/- The kernel's two result arrays are the reference's, as functions of the arguments; so the two programs compute the same
   function over the extended reals. -/
module

public import proofs.«01_k».proof.Proof.KernelValue
public import proofs.«01_k».proof.Proof.RefValue
public import proofs.«01_k».proof.Proof.Gen.KernelIdeal.Value
public import proofs.«01_k».proof.Proof.Gen.ReferenceIdeal.Run
public import proofs.«01_k».proof.Defs

@[expose] public section

set_option maxRecDepth 16384

noncomputable section

namespace Cert.Equation

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- From equal arguments, the reference's first result is the kernel's. -/
theorem first (c : Dev Cert.KernelIdeal.nD)
    (h0 : (m' ((c.tc : Thread Cert.ReferenceIdeal.nD Cert.ReferenceIdeal.τ).loc Cert.ReferenceIdeal.main_arg0) : Vec Ideal Cert.KernelIdeal.S8x2048x1024 .f32) = m ((c.tc : Thread Cert.KernelIdeal.nD Cert.KernelIdeal.τ).loc Cert.KernelIdeal.main_arg0))
    (h1 : (m' ((c.tc : Thread Cert.ReferenceIdeal.nD Cert.ReferenceIdeal.τ).loc Cert.ReferenceIdeal.main_arg1) : Vec Ideal Cert.KernelIdeal.S4x8x2048x256 .f32) = m ((c.tc : Thread Cert.KernelIdeal.nD Cert.KernelIdeal.τ).loc Cert.KernelIdeal.main_arg1))
    (h2 : (m' ((c.tc : Thread Cert.ReferenceIdeal.nD Cert.ReferenceIdeal.τ).loc Cert.ReferenceIdeal.main_arg2) : Vec Ideal Cert.KernelIdeal.S1024x2048 .f32) = m ((c.tc : Thread Cert.KernelIdeal.nD Cert.KernelIdeal.τ).loc Cert.KernelIdeal.main_arg2))
    (h3 : (m' ((c.tc : Thread Cert.ReferenceIdeal.nD Cert.ReferenceIdeal.τ).loc Cert.ReferenceIdeal.main_arg3) : Vec Ideal Cert.KernelIdeal.S2048 .f32) = m ((c.tc : Thread Cert.KernelIdeal.nD Cert.KernelIdeal.τ).loc Cert.KernelIdeal.main_arg3))
    (h4 : (m' ((c.tc : Thread Cert.ReferenceIdeal.nD Cert.ReferenceIdeal.τ).loc Cert.ReferenceIdeal.main_arg4) : Vec Ideal Cert.KernelIdeal.S1024 .f32) = m ((c.tc : Thread Cert.KernelIdeal.nD Cert.KernelIdeal.τ).loc Cert.KernelIdeal.main_arg4))
    (h5 : (m' ((c.tc : Thread Cert.ReferenceIdeal.nD Cert.ReferenceIdeal.τ).loc Cert.ReferenceIdeal.main_arg5) : Vec Ideal Cert.KernelIdeal.S1024 .f32) = m ((c.tc : Thread Cert.KernelIdeal.nD Cert.KernelIdeal.τ).loc Cert.KernelIdeal.main_arg5))
    (h6 : (m' ((c.tc : Thread Cert.ReferenceIdeal.nD Cert.ReferenceIdeal.τ).loc Cert.ReferenceIdeal.main_arg6) : Vec Ideal Cert.KernelIdeal.S8x128x128 .f32) = m ((c.tc : Thread Cert.KernelIdeal.nD Cert.KernelIdeal.τ).loc Cert.KernelIdeal.main_arg6))
    (h7 : (m' ((c.tc : Thread Cert.ReferenceIdeal.nD Cert.ReferenceIdeal.τ).loc Cert.ReferenceIdeal.main_arg7) : Vec Ideal Cert.KernelIdeal.S8x128 .f32) = m ((c.tc : Thread Cert.KernelIdeal.nD Cert.KernelIdeal.τ).loc Cert.KernelIdeal.main_arg7))
    (h8 : (m' ((c.tc : Thread Cert.ReferenceIdeal.nD Cert.ReferenceIdeal.τ).loc Cert.ReferenceIdeal.main_arg8) : Vec Ideal Cert.KernelIdeal.S1024x1024 .f32) = m ((c.tc : Thread Cert.KernelIdeal.nD Cert.KernelIdeal.τ).loc Cert.KernelIdeal.main_arg8))
    (h9 : (m' ((c.tc : Thread Cert.ReferenceIdeal.nD Cert.ReferenceIdeal.τ).loc Cert.ReferenceIdeal.main_arg9) : Vec Ideal Cert.KernelIdeal.S4x1024 .f32) = m ((c.tc : Thread Cert.KernelIdeal.nD Cert.KernelIdeal.τ).loc Cert.KernelIdeal.main_arg9))
    (h10 : (m' ((c.tc : Thread Cert.ReferenceIdeal.nD Cert.ReferenceIdeal.τ).loc Cert.ReferenceIdeal.main_arg10) : Vec Ideal Cert.KernelIdeal.S4x1024 .f32) = m ((c.tc : Thread Cert.KernelIdeal.nD Cert.KernelIdeal.τ).loc Cert.KernelIdeal.main_arg10))
    (h11 : (m' ((c.tc : Thread Cert.ReferenceIdeal.nD Cert.ReferenceIdeal.τ).loc Cert.ReferenceIdeal.main_arg11) : Vec Ideal Cert.KernelIdeal.S4x1024 .f32) = m ((c.tc : Thread Cert.KernelIdeal.nD Cert.KernelIdeal.τ).loc Cert.KernelIdeal.main_arg11))
    (h12 : (m' ((c.tc : Thread Cert.ReferenceIdeal.nD Cert.ReferenceIdeal.τ).loc Cert.ReferenceIdeal.main_arg12) : Vec Ideal Cert.KernelIdeal.S4x1024 .f32) = m ((c.tc : Thread Cert.KernelIdeal.nD Cert.KernelIdeal.τ).loc Cert.KernelIdeal.main_arg12))
    (h13 : (m' ((c.tc : Thread Cert.ReferenceIdeal.nD Cert.ReferenceIdeal.τ).loc Cert.ReferenceIdeal.main_arg13) : Vec Ideal Cert.KernelIdeal.S4x1024x4096 .f32) = m ((c.tc : Thread Cert.KernelIdeal.nD Cert.KernelIdeal.τ).loc Cert.KernelIdeal.main_arg13))
    (h14 : (m' ((c.tc : Thread Cert.ReferenceIdeal.nD Cert.ReferenceIdeal.τ).loc Cert.ReferenceIdeal.main_arg14) : Vec Ideal Cert.KernelIdeal.S4x4096x1024 .f32) = m ((c.tc : Thread Cert.KernelIdeal.nD Cert.KernelIdeal.τ).loc Cert.KernelIdeal.main_arg14))
    (h15 : (m' ((c.tc : Thread Cert.ReferenceIdeal.nD Cert.ReferenceIdeal.τ).loc Cert.ReferenceIdeal.main_arg15) : Vec Ideal Cert.KernelIdeal.S4x256x1024 .f32) = m ((c.tc : Thread Cert.KernelIdeal.nD Cert.KernelIdeal.τ).loc Cert.KernelIdeal.main_arg15))
    (h16 : (m' ((c.tc : Thread Cert.ReferenceIdeal.nD Cert.ReferenceIdeal.τ).loc Cert.ReferenceIdeal.main_arg16) : Vec Ideal Cert.KernelIdeal.S4x1024x1024 .f32) = m ((c.tc : Thread Cert.KernelIdeal.nD Cert.KernelIdeal.τ).loc Cert.KernelIdeal.main_arg16)) :
    Cert.ReferenceIdeal.Read.val_main_v138 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = Cert.KernelValue.G17 m c := by
  funext i
  obtain ⟨b, s, d, rfl⟩ : ∃ (b : Fin 8) (s : Fin 2048) (d : Fin 1024), i = ix3 b s d := ⟨i 0, i 1, i 2, by ext k; fin_cases k <;> rfl⟩
  refine (Cert.RefValue.v138_apply _ _ _ _ _ _ _ _ _ _ _ _ _ _ _ _ _ b s d).trans ?_
  rw [h0, h1, h2, h3, h4, h5, h6, h7, h8, h9, h10, h11, h12, h13, h14, h15, h16]
  rfl

/-- From equal arguments, the reference's second result is the kernel's. -/
theorem second (c : Dev Cert.KernelIdeal.nD)
    (h0 : (m' ((c.tc : Thread Cert.ReferenceIdeal.nD Cert.ReferenceIdeal.τ).loc Cert.ReferenceIdeal.main_arg0) : Vec Ideal Cert.KernelIdeal.S8x2048x1024 .f32) = m ((c.tc : Thread Cert.KernelIdeal.nD Cert.KernelIdeal.τ).loc Cert.KernelIdeal.main_arg0))
    (h2 : (m' ((c.tc : Thread Cert.ReferenceIdeal.nD Cert.ReferenceIdeal.τ).loc Cert.ReferenceIdeal.main_arg2) : Vec Ideal Cert.KernelIdeal.S1024x2048 .f32) = m ((c.tc : Thread Cert.KernelIdeal.nD Cert.KernelIdeal.τ).loc Cert.KernelIdeal.main_arg2))
    (h3 : (m' ((c.tc : Thread Cert.ReferenceIdeal.nD Cert.ReferenceIdeal.τ).loc Cert.ReferenceIdeal.main_arg3) : Vec Ideal Cert.KernelIdeal.S2048 .f32) = m ((c.tc : Thread Cert.KernelIdeal.nD Cert.KernelIdeal.τ).loc Cert.KernelIdeal.main_arg3))
    (h4 : (m' ((c.tc : Thread Cert.ReferenceIdeal.nD Cert.ReferenceIdeal.τ).loc Cert.ReferenceIdeal.main_arg4) : Vec Ideal Cert.KernelIdeal.S1024 .f32) = m ((c.tc : Thread Cert.KernelIdeal.nD Cert.KernelIdeal.τ).loc Cert.KernelIdeal.main_arg4))
    (h5 : (m' ((c.tc : Thread Cert.ReferenceIdeal.nD Cert.ReferenceIdeal.τ).loc Cert.ReferenceIdeal.main_arg5) : Vec Ideal Cert.KernelIdeal.S1024 .f32) = m ((c.tc : Thread Cert.KernelIdeal.nD Cert.KernelIdeal.τ).loc Cert.KernelIdeal.main_arg5)) :
    Cert.ReferenceIdeal.Read.val_main_v56 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = Cert.KernelValue.G18 m c := by
  funext i
  obtain ⟨b, s, d, rfl⟩ : ∃ (b : Fin 8) (s : Fin 128) (d : Fin 1024), i = ix3 b s d := ⟨i 0, i 1, i 2, by ext k; fin_cases k <;> rfl⟩
  refine (Cert.RefValue.v56_apply _ _ _ _ _ b s d).trans ?_
  rw [h0, h2, h3, h4, h5]
  rfl

/-- Kernel and reference compute the same function over the extended reals. -/
theorem equal : @Cert.algebraic_KernelIdeal_ReferenceIdeal Cert.KernelIdeal.Gen.facts Cert.ReferenceIdeal.Gen.facts := by
  intro m g m' g' _ hargs
  refine ⟨Cert.KernelValue.G17 m, Cert.KernelValue.G18 m, ?_, ?_⟩
  · refine (θ_run _ _ _).mono (fun r h c => ?_) (Cert.KernelIdeal.Value.run_blocks (F := Ideal) m g)
    exact ⟨(h c).1.trans (Cert.KernelValue.final17 m c), (h c).2.1.trans (Cert.KernelValue.final18 m c), (h c).2.2⟩
  · refine (θ_run _ _ _).mono (fun r h c => ?_) (Cert.ReferenceIdeal.Value.run (F := Ideal) m' g')
    obtain ⟨h0, h1, h2, h3, h4, h5, h6, h7, h8, h9, h10, h11, h12, h13, h14, h15, h16⟩ := hargs c
    exact ⟨(h c).1.trans ((Cert.ReferenceIdeal.Read.val_main_v138_eq _).trans (first m m' c h0 h1 h2 h3 h4 h5 h6 h7 h8 h9 h10 h11 h12 h13 h14 h15 h16)),
      (h c).2.1.trans ((Cert.ReferenceIdeal.Read.val_main_v56_eq _).trans (second m m' c h0 h2 h3 h4 h5)), (h c).2.2⟩

end Cert.Equation

end
-- ==== Proof.SconvTile.lean ====
/- The gated short convolution's arithmetic on one 256-row tile, as named vector operations: 256 columns at a time, the
   product of two projections, its convolution with the rows before it, and the gate. Nothing here is proved; the
   definitions follow the kernel's own operations, in its order and its shapes. -/
module

public import proofs.«01_k».proof.Proof.Tile
public import proofs.«01_k».proof.Proof.Gen.Kernel2Ideal.Skeleton

@[expose] public section

set_option maxRecDepth 16384

noncomputable section

namespace Cert.SconvTile

open Idealize.ShloMosaic Cert.Kernel2Ideal Cert.Kernel2Ideal.Gen

variable {F : FTy → Type} [FloatOps F]

/-- A tile against 256 columns of a 1024-row matrix. -/
abbrev times (x : FVec F S256x1024 .bf16) (w : Vec F S1024x256 .bf16) : FVec F S256x256 .f32 :=
  matmul dot_S256x1024_S1024x256_S256x256_1_0_0_1_n_n none x (shapeCast S1024x256 w shapeCasts_S1024x256_S1024x256)
    (constant S256x256 .f32 0x00000000#32)

/-- 256 columns of the product of two projections. -/
def qPiece (x : FVec F S256x1024 .bf16) (wc wh : Vec F S1024x256 .bf16) : FVec F S256x256 .f32 := mulf (times x wc) (times x wh)

/-- The last eight rows of 256 columns. -/
def lastRows (q : FVec F S256x256 .f32) : FVec F S8x256 .f32 := extractStridedSlice S8x256 ![248, 0] q slices_S256x256_o248_0_S8x256

/-- Eight rows of history above the tile's rows. -/
abbrev under (h : FVec F S8x256 .f32) (q : FVec F S256x256 .f32) : FVec F S264x256 .f32 :=
  concatenate S264x256 0 [⟨S8x256, h⟩, ⟨S256x256, q⟩] concatenates_S8x256_S256x256_S264x256_d0

/-- The rows `s` places before the tile's, from the history and the tile. -/
abbrev back (s : BitVec 32) (h : FVec F S8x256 .f32) (q : FVec F S256x256 .f32) : FVec F S256x256 .f32 :=
  extractStridedSlice S256x256 ![8, 0] (dynamicRotate 0 s none (under h q) rotates_S264x256_d0) slices_S264x256_o8_0_S256x256

/-- A tap of the convolution, the same for every row. -/
abbrev tap (k : Vec F S1x256 .f32) : FVec F S256x256 .f32 := broadcastTo S256x256 k broadcasts_S1x256_S256x256

/-- The product convolved with three taps, from the history `h`. -/
def convPiece (q : FVec F S256x256 .f32) (h : FVec F S8x256 .f32) (k2 k1 k0 : Vec F S1x256 .f32) : FVec F S256x256 .f32 :=
  addf (addf (mulf q (tap k2)) (mulf (back 1#32 h q) (tap k1))) (mulf (back 2#32 h q) (tap k0))

/-- 256 columns of the gated convolution. -/
def sconvPiece (x : FVec F S256x1024 .bf16) (wb wc wh : Vec F S1024x256 .bf16) (h : FVec F S8x256 .f32) (k2 k1 k0 : Vec F S1x256 .f32) :
    FVec F S256x256 .bf16 :=
  truncf .bf16 (mulf (times x wb) (convPiece (qPiece x wc wh) h k2 k1 k0)) bitsLt_bf16_f32

/-- Four column pieces side by side. -/
def sconvTile (p0 p1 p2 p3 : FVec F S256x256 .bf16) : FVec F S256x1024 .bf16 :=
  concatenate S256x1024 1 [⟨S256x256, p0⟩, ⟨S256x256, p1⟩, ⟨S256x256, p2⟩, ⟨S256x256, p3⟩]
    concatenates_S256x256_S256x256_S256x256_S256x256_S256x1024_d1

end Cert.SconvTile

end
-- ==== Proof.SconvStage.lean ====
/- The values the short convolution's body computes, stage by stage, are the named tile operations of `Tile` and
   `SconvTile`: each theorem takes the body's values of one stage, as functions of the stage before, to one named
   operation. -/
module

public import proofs.«01_k».proof.Proof.SconvTile

@[expose] public section

set_option maxRecDepth 16384

noncomputable section

namespace Cert.SconvStage

open Idealize.ShloMosaic Cert.Kernel2Ideal Cert.Kernel2Ideal.Gen Cert.Tile Cert.SconvTile

variable {F : FTy → Type} [FloatOps F]

/-- The first tile's rounded input. -/
theorem x_0 (x_0_0_0 : Vec F S1x256x1024 .f32) :
    k0_pay4 x_0_0_0 =
      xbTile x_0_0_0 := rfl

/-- The last rows of columns 0 … of the first tile's product. -/
theorem kp_0_0 (x_0_0_0 : Vec F S1x256x1024 .f32) (wi_0_1024 wi_0_2048 : Vec F S1024x256 .bf16) :
    k0_pay7 x_0_0_0 wi_0_1024 wi_0_2048 =
      lastRows (qPiece (xbTile x_0_0_0) wi_0_1024 wi_0_2048) := rfl

/-- The last rows of columns 256 … of the first tile's product. -/
theorem kp_0_256 (x_0_0_0 : Vec F S1x256x1024 .f32) (wi_0_1280 wi_0_2304 : Vec F S1024x256 .bf16) :
    k0_pay13 (xbTile x_0_0_0) wi_0_1280 wi_0_2304 =
      lastRows (qPiece (xbTile x_0_0_0) wi_0_1280 wi_0_2304) := rfl

/-- The last rows of columns 512 … of the first tile's product. -/
theorem kp_0_512 (x_0_0_0 : Vec F S1x256x1024 .f32) (wi_0_1536 wi_0_2560 : Vec F S1024x256 .bf16) :
    k0_pay17 (xbTile x_0_0_0) wi_0_1536 wi_0_2560 =
      lastRows (qPiece (xbTile x_0_0_0) wi_0_1536 wi_0_2560) := rfl

/-- The last rows of columns 768 … of the first tile's product. -/
theorem kp_0_768 (x_0_0_0 : Vec F S1x256x1024 .f32) (wi_0_1792 wi_0_2816 : Vec F S1024x256 .bf16) :
    k0_pay21 (k0_pay20 (xbTile x_0_0_0) wi_0_1792 wi_0_2816) =
      lastRows (qPiece (xbTile x_0_0_0) wi_0_1792 wi_0_2816) := rfl

/-- Columns 0 … of the first tile, gated. -/
theorem gp_0_0 (x_0_0_0 : Vec F S1x256x1024 .f32) (wi_0_0 wi_0_1024 wi_0_2048 : Vec F S1024x256 .bf16) (hh_0_0 : Vec F S8x256 .f32) (kc_2_0 kc_1_0
    kc_0_0 : Vec F S1x256 .f32) :
    k0_pay11 (k0_pay5 x_0_0_0 wi_0_0) (k0_pay9 x_0_0_0 wi_0_1024 wi_0_2048 hh_0_0 kc_2_0 kc_1_0) (k0_pay10 x_0_0_0 wi_0_1024 wi_0_2048 hh_0_0 kc_0_0)
        =
      sconvPiece (xbTile x_0_0_0) wi_0_0 wi_0_1024 wi_0_2048 hh_0_0 kc_2_0 kc_1_0 kc_0_0 := rfl

/-- Columns 256 … of the first tile, gated. -/
theorem gp_0_256 (x_0_0_0 : Vec F S1x256x1024 .f32) (wi_0_256 wi_0_1280 wi_0_2304 : Vec F S1024x256 .bf16) (hh_0_256 : Vec F S8x256 .f32) (kc_2_256
    kc_1_256 kc_0_256 : Vec F S1x256 .f32) :
    k0_pay14 (xbTile x_0_0_0) wi_0_256 wi_0_1280 wi_0_2304 hh_0_256 kc_2_256 kc_1_256 kc_0_256 =
      sconvPiece (xbTile x_0_0_0) wi_0_256 wi_0_1280 wi_0_2304 hh_0_256 kc_2_256 kc_1_256 kc_0_256 := rfl

/-- Columns 512 … of the first tile, gated. -/
theorem gp_0_512 (x_0_0_0 : Vec F S1x256x1024 .f32) (wi_0_512 wi_0_1536 wi_0_2560 : Vec F S1024x256 .bf16) (hh_0_512 : Vec F S8x256 .f32) (kc_2_512
    kc_1_512 kc_0_512 : Vec F S1x256 .f32) :
    k0_pay18 (xbTile x_0_0_0) (k0_pay15 (xbTile x_0_0_0) wi_0_512) wi_0_1536 wi_0_2560 hh_0_512 kc_2_512 kc_1_512 kc_0_512 =
      sconvPiece (xbTile x_0_0_0) wi_0_512 wi_0_1536 wi_0_2560 hh_0_512 kc_2_512 kc_1_512 kc_0_512 := rfl

/-- The first tile's mixer output. -/
theorem mix_0 (v35 v65 v95 : FVec F S256x256 .bf16) (x_0_0_0 : Vec F S1x256x1024 .f32) (wi_0_768 wi_0_1792 wi_0_2816 : Vec F S1024x256 .bf16)
    (hh_0_768 : Vec F S8x256 .f32) (kc_2_768 kc_1_768 kc_0_768 : Vec F S1x256 .f32) (wo_0_0 wo_0_512 : Vec F S1024x512 .bf16) :
    k0_pay22 v35 v65 v95 (k0_pay19 (xbTile x_0_0_0) wi_0_768) (k0_pay20 (xbTile x_0_0_0) wi_0_1792 wi_0_2816) hh_0_768 kc_2_768 kc_1_768 kc_0_768
        wo_0_0 wo_0_512 =
      mixTile (sconvTile v35 v65 v95 (sconvPiece (xbTile x_0_0_0) wi_0_768 wi_0_1792 wi_0_2816 hh_0_768 kc_2_768 kc_1_768 kc_0_768)) wo_0_0 wo_0_512
          := rfl

/-- The first tile after the first norm. -/
theorem x1_0 (v35 v65 v95 : FVec F S256x256 .bf16) (x_0_0_0 : Vec F S1x256x1024 .f32) (wi_0_768 wi_0_1792 wi_0_2816 : Vec F S1024x256 .bf16)
    (hh_0_768 : Vec F S8x256 .f32) (kc_2_768 kc_1_768 kc_0_768 : Vec F S1x256 .f32) (wo_0_0 wo_0_512 : Vec F S1024x512 .bf16) (x_0_0_0r : Vec F
    S1x32x1024 .f32) (g1 h1 : Vec F S1x1x1024 .f32) (x_0_32_0r x_0_64_0r x_0_96_0r x_0_128_0r x_0_160_0r x_0_192_0r x_0_224_0r : Vec F S1x32x1024
    .f32) :
    k0_pay63 (k0_pay25 (k0_pay23 v35 v65 v95 (k0_pay19 (xbTile x_0_0_0) wi_0_768) (k0_pay20 (xbTile x_0_0_0) wi_0_1792 wi_0_2816) hh_0_768 kc_2_768
        kc_1_768 kc_0_768 wo_0_0 wo_0_512 x_0_0_0r) (k0_pay24 g1) h1) (k0_pay37 (k0_pay33 g1) (k0_pay34 h1) (k0_pay35 (mixTile (sconvTile v35 v65 v95
        (sconvPiece (xbTile x_0_0_0) wi_0_768 wi_0_1792 wi_0_2816 hh_0_768 kc_2_768 kc_1_768 kc_0_768)) wo_0_0 wo_0_512) x_0_32_0r) (k0_pay36
        (mixTile (sconvTile v35 v65 v95 (sconvPiece (xbTile x_0_0_0) wi_0_768 wi_0_1792 wi_0_2816 hh_0_768 kc_2_768 kc_1_768 kc_0_768)) wo_0_0
        wo_0_512) x_0_32_0r)) (k0_pay39 (mixTile (sconvTile v35 v65 v95 (sconvPiece (xbTile x_0_0_0) wi_0_768 wi_0_1792 wi_0_2816 hh_0_768 kc_2_768
        kc_1_768 kc_0_768)) wo_0_0 wo_0_512) x_0_64_0r g1 h1) (k0_pay42 (mixTile (sconvTile v35 v65 v95 (sconvPiece (xbTile x_0_0_0) wi_0_768
        wi_0_1792 wi_0_2816 hh_0_768 kc_2_768 kc_1_768 kc_0_768)) wo_0_0 wo_0_512) (k0_pay41 x_0_96_0r) (FloatOps.ofBits .f32 1071072509#32) g1 h1)
        (k0_pay47 (k0_pay44 (mixTile (sconvTile v35 v65 v95 (sconvPiece (xbTile x_0_0_0) wi_0_768 wi_0_1792 wi_0_2816 hh_0_768 kc_2_768 kc_1_768
        kc_0_768)) wo_0_0 wo_0_512) x_0_128_0r) (k0_pay45 g1) (k0_pay46 h1)) (k0_pay56 (mixTile (sconvTile v35 v65 v95 (sconvPiece (xbTile x_0_0_0)
        wi_0_768 wi_0_1792 wi_0_2816 hh_0_768 kc_2_768 kc_1_768 kc_0_768)) wo_0_0 wo_0_512) x_0_160_0r g1 h1) (k0_pay58 (mixTile (sconvTile v35 v65
        v95 (sconvPiece (xbTile x_0_0_0) wi_0_768 wi_0_1792 wi_0_2816 hh_0_768 kc_2_768 kc_1_768 kc_0_768)) wo_0_0 wo_0_512) x_0_192_0r g1 h1)
        (k0_pay60 (mixTile (sconvTile v35 v65 v95 (sconvPiece (xbTile x_0_0_0) wi_0_768 wi_0_1792 wi_0_2816 hh_0_768 kc_2_768 kc_1_768 kc_0_768))
        wo_0_0 wo_0_512) x_0_224_0r) (k0_pay61 g1) h1 =
      x1Tile x_0_0_0r x_0_32_0r x_0_64_0r x_0_96_0r x_0_128_0r x_0_160_0r x_0_192_0r x_0_224_0r (mixTile (sconvTile v35 v65 v95 (sconvPiece (xbTile
          x_0_0_0) wi_0_768 wi_0_1792 wi_0_2816 hh_0_768 kc_2_768 kc_1_768 kc_0_768)) wo_0_0 wo_0_512) g1 h1 := rfl

/-- The first tile after the first norm, rounded. -/
theorem x1b_0 (v35 v65 v95 : FVec F S256x256 .bf16) (x_0_0_0 : Vec F S1x256x1024 .f32) (wi_0_768 wi_0_1792 wi_0_2816 : Vec F S1024x256 .bf16)
    (hh_0_768 : Vec F S8x256 .f32) (kc_2_768 kc_1_768 kc_0_768 : Vec F S1x256 .f32) (wo_0_0 wo_0_512 : Vec F S1024x512 .bf16) (x_0_0_0r : Vec F
    S1x32x1024 .f32) (g1 h1 : Vec F S1x1x1024 .f32) (x_0_32_0r x_0_64_0r x_0_96_0r x_0_128_0r x_0_160_0r x_0_192_0r x_0_224_0r : Vec F S1x32x1024
    .f32) :
    k0_pay64 (k0_pay26 (k0_pay23 v35 v65 v95 (k0_pay19 (xbTile x_0_0_0) wi_0_768) (k0_pay20 (xbTile x_0_0_0) wi_0_1792 wi_0_2816) hh_0_768 kc_2_768
        kc_1_768 kc_0_768 wo_0_0 wo_0_512 x_0_0_0r) (k0_pay24 g1) h1) (k0_pay38 (k0_pay33 g1) (k0_pay34 h1) (k0_pay35 (mixTile (sconvTile v35 v65 v95
        (sconvPiece (xbTile x_0_0_0) wi_0_768 wi_0_1792 wi_0_2816 hh_0_768 kc_2_768 kc_1_768 kc_0_768)) wo_0_0 wo_0_512) x_0_32_0r) (k0_pay36
        (mixTile (sconvTile v35 v65 v95 (sconvPiece (xbTile x_0_0_0) wi_0_768 wi_0_1792 wi_0_2816 hh_0_768 kc_2_768 kc_1_768 kc_0_768)) wo_0_0
        wo_0_512) x_0_32_0r)) (k0_pay40 (mixTile (sconvTile v35 v65 v95 (sconvPiece (xbTile x_0_0_0) wi_0_768 wi_0_1792 wi_0_2816 hh_0_768 kc_2_768
        kc_1_768 kc_0_768)) wo_0_0 wo_0_512) x_0_64_0r g1 h1) (k0_pay43 (mixTile (sconvTile v35 v65 v95 (sconvPiece (xbTile x_0_0_0) wi_0_768
        wi_0_1792 wi_0_2816 hh_0_768 kc_2_768 kc_1_768 kc_0_768)) wo_0_0 wo_0_512) (k0_pay41 x_0_96_0r) (FloatOps.ofBits .f32 1071072509#32) g1 h1)
        (k0_pay48 (k0_pay44 (mixTile (sconvTile v35 v65 v95 (sconvPiece (xbTile x_0_0_0) wi_0_768 wi_0_1792 wi_0_2816 hh_0_768 kc_2_768 kc_1_768
        kc_0_768)) wo_0_0 wo_0_512) x_0_128_0r) (k0_pay45 g1) (k0_pay46 h1)) (k0_pay57 (mixTile (sconvTile v35 v65 v95 (sconvPiece (xbTile x_0_0_0)
        wi_0_768 wi_0_1792 wi_0_2816 hh_0_768 kc_2_768 kc_1_768 kc_0_768)) wo_0_0 wo_0_512) x_0_160_0r g1 h1) (k0_pay59 (mixTile (sconvTile v35 v65
        v95 (sconvPiece (xbTile x_0_0_0) wi_0_768 wi_0_1792 wi_0_2816 hh_0_768 kc_2_768 kc_1_768 kc_0_768)) wo_0_0 wo_0_512) x_0_192_0r g1 h1)
        (k0_pay60 (mixTile (sconvTile v35 v65 v95 (sconvPiece (xbTile x_0_0_0) wi_0_768 wi_0_1792 wi_0_2816 hh_0_768 kc_2_768 kc_1_768 kc_0_768))
        wo_0_0 wo_0_512) x_0_224_0r) (k0_pay61 g1) h1 =
      x1TileB x_0_0_0r x_0_32_0r x_0_64_0r x_0_96_0r x_0_128_0r x_0_160_0r x_0_192_0r x_0_224_0r (mixTile (sconvTile v35 v65 v95 (sconvPiece (xbTile
          x_0_0_0) wi_0_768 wi_0_1792 wi_0_2816 hh_0_768 kc_2_768 kc_1_768 kc_0_768)) wo_0_0 wo_0_512) g1 h1 := rfl

/-- Piece 0 of the first tile's hidden layer. -/
theorem hp_0_0 (v35 v65 v95 : FVec F S256x256 .bf16) (x_0_0_0 : Vec F S1x256x1024 .f32) (wi_0_768 wi_0_1792 wi_0_2816 : Vec F S1024x256 .bf16)
    (hh_0_768 : Vec F S8x256 .f32) (kc_2_768 kc_1_768 kc_0_768 : Vec F S1x256 .f32) (wo_0_0 wo_0_512 : Vec F S1024x512 .bf16) (x_0_0_0r : Vec F
    S1x32x1024 .f32) (g1 h1 : Vec F S1x1x1024 .f32) (x_0_32_0r x_0_64_0r x_0_96_0r x_0_128_0r x_0_160_0r x_0_192_0r x_0_224_0r : Vec F S1x32x1024
    .f32) (wu_0_0_0 : Vec F S1x1024x512 .bf16) :
    k0_pay65 (k0_pay26 (k0_pay23 v35 v65 v95 (k0_pay19 (xbTile x_0_0_0) wi_0_768) (k0_pay20 (xbTile x_0_0_0) wi_0_1792 wi_0_2816) hh_0_768 kc_2_768
        kc_1_768 kc_0_768 wo_0_0 wo_0_512 x_0_0_0r) (k0_pay24 g1) h1) (k0_pay38 (k0_pay33 g1) (k0_pay34 h1) (k0_pay35 (mixTile (sconvTile v35 v65 v95
        (sconvPiece (xbTile x_0_0_0) wi_0_768 wi_0_1792 wi_0_2816 hh_0_768 kc_2_768 kc_1_768 kc_0_768)) wo_0_0 wo_0_512) x_0_32_0r) (k0_pay36
        (mixTile (sconvTile v35 v65 v95 (sconvPiece (xbTile x_0_0_0) wi_0_768 wi_0_1792 wi_0_2816 hh_0_768 kc_2_768 kc_1_768 kc_0_768)) wo_0_0
        wo_0_512) x_0_32_0r)) (k0_pay40 (mixTile (sconvTile v35 v65 v95 (sconvPiece (xbTile x_0_0_0) wi_0_768 wi_0_1792 wi_0_2816 hh_0_768 kc_2_768
        kc_1_768 kc_0_768)) wo_0_0 wo_0_512) x_0_64_0r g1 h1) (k0_pay43 (mixTile (sconvTile v35 v65 v95 (sconvPiece (xbTile x_0_0_0) wi_0_768
        wi_0_1792 wi_0_2816 hh_0_768 kc_2_768 kc_1_768 kc_0_768)) wo_0_0 wo_0_512) (k0_pay41 x_0_96_0r) (FloatOps.ofBits .f32 1071072509#32) g1 h1)
        (k0_pay48 (k0_pay44 (mixTile (sconvTile v35 v65 v95 (sconvPiece (xbTile x_0_0_0) wi_0_768 wi_0_1792 wi_0_2816 hh_0_768 kc_2_768 kc_1_768
        kc_0_768)) wo_0_0 wo_0_512) x_0_128_0r) (k0_pay45 g1) (k0_pay46 h1)) (k0_pay57 (mixTile (sconvTile v35 v65 v95 (sconvPiece (xbTile x_0_0_0)
        wi_0_768 wi_0_1792 wi_0_2816 hh_0_768 kc_2_768 kc_1_768 kc_0_768)) wo_0_0 wo_0_512) x_0_160_0r g1 h1) (k0_pay59 (mixTile (sconvTile v35 v65
        v95 (sconvPiece (xbTile x_0_0_0) wi_0_768 wi_0_1792 wi_0_2816 hh_0_768 kc_2_768 kc_1_768 kc_0_768)) wo_0_0 wo_0_512) x_0_192_0r g1 h1)
        (k0_pay60 (mixTile (sconvTile v35 v65 v95 (sconvPiece (xbTile x_0_0_0) wi_0_768 wi_0_1792 wi_0_2816 hh_0_768 kc_2_768 kc_1_768 kc_0_768))
        wo_0_0 wo_0_512) x_0_224_0r) (k0_pay61 g1) h1 wu_0_0_0 =
      hidPiece (x1TileB x_0_0_0r x_0_32_0r x_0_64_0r x_0_96_0r x_0_128_0r x_0_160_0r x_0_192_0r x_0_224_0r (mixTile (sconvTile v35 v65 v95
          (sconvPiece (xbTile x_0_0_0) wi_0_768 wi_0_1792 wi_0_2816 hh_0_768 kc_2_768 kc_1_768 kc_0_768)) wo_0_0 wo_0_512) g1 h1) wu_0_0_0 := rfl

/-- Piece 1 of the first tile's hidden layer. -/
theorem hp_0_1 (v35 v65 v95 : FVec F S256x256 .bf16) (x_0_0_0 : Vec F S1x256x1024 .f32) (wi_0_768 wi_0_1792 wi_0_2816 : Vec F S1024x256 .bf16)
    (hh_0_768 : Vec F S8x256 .f32) (kc_2_768 kc_1_768 kc_0_768 : Vec F S1x256 .f32) (wo_0_0 wo_0_512 : Vec F S1024x512 .bf16) (x_0_0_0r : Vec F
    S1x32x1024 .f32) (g1 h1 : Vec F S1x1x1024 .f32) (x_0_32_0r x_0_64_0r x_0_96_0r x_0_128_0r x_0_160_0r x_0_192_0r x_0_224_0r : Vec F S1x32x1024
    .f32) (wu_0_0_512 : Vec F S1x1024x512 .bf16) :
    k0_pay66 (k0_pay26 (k0_pay23 v35 v65 v95 (k0_pay19 (xbTile x_0_0_0) wi_0_768) (k0_pay20 (xbTile x_0_0_0) wi_0_1792 wi_0_2816) hh_0_768 kc_2_768
        kc_1_768 kc_0_768 wo_0_0 wo_0_512 x_0_0_0r) (k0_pay24 g1) h1) (k0_pay38 (k0_pay33 g1) (k0_pay34 h1) (k0_pay35 (mixTile (sconvTile v35 v65 v95
        (sconvPiece (xbTile x_0_0_0) wi_0_768 wi_0_1792 wi_0_2816 hh_0_768 kc_2_768 kc_1_768 kc_0_768)) wo_0_0 wo_0_512) x_0_32_0r) (k0_pay36
        (mixTile (sconvTile v35 v65 v95 (sconvPiece (xbTile x_0_0_0) wi_0_768 wi_0_1792 wi_0_2816 hh_0_768 kc_2_768 kc_1_768 kc_0_768)) wo_0_0
        wo_0_512) x_0_32_0r)) (k0_pay40 (mixTile (sconvTile v35 v65 v95 (sconvPiece (xbTile x_0_0_0) wi_0_768 wi_0_1792 wi_0_2816 hh_0_768 kc_2_768
        kc_1_768 kc_0_768)) wo_0_0 wo_0_512) x_0_64_0r g1 h1) (k0_pay43 (mixTile (sconvTile v35 v65 v95 (sconvPiece (xbTile x_0_0_0) wi_0_768
        wi_0_1792 wi_0_2816 hh_0_768 kc_2_768 kc_1_768 kc_0_768)) wo_0_0 wo_0_512) (k0_pay41 x_0_96_0r) (FloatOps.ofBits .f32 1071072509#32) g1 h1)
        (k0_pay48 (k0_pay44 (mixTile (sconvTile v35 v65 v95 (sconvPiece (xbTile x_0_0_0) wi_0_768 wi_0_1792 wi_0_2816 hh_0_768 kc_2_768 kc_1_768
        kc_0_768)) wo_0_0 wo_0_512) x_0_128_0r) (k0_pay45 g1) (k0_pay46 h1)) (k0_pay57 (mixTile (sconvTile v35 v65 v95 (sconvPiece (xbTile x_0_0_0)
        wi_0_768 wi_0_1792 wi_0_2816 hh_0_768 kc_2_768 kc_1_768 kc_0_768)) wo_0_0 wo_0_512) x_0_160_0r g1 h1) (k0_pay59 (mixTile (sconvTile v35 v65
        v95 (sconvPiece (xbTile x_0_0_0) wi_0_768 wi_0_1792 wi_0_2816 hh_0_768 kc_2_768 kc_1_768 kc_0_768)) wo_0_0 wo_0_512) x_0_192_0r g1 h1)
        (k0_pay60 (mixTile (sconvTile v35 v65 v95 (sconvPiece (xbTile x_0_0_0) wi_0_768 wi_0_1792 wi_0_2816 hh_0_768 kc_2_768 kc_1_768 kc_0_768))
        wo_0_0 wo_0_512) x_0_224_0r) (k0_pay61 g1) h1 wu_0_0_512 =
      hidPiece (x1TileB x_0_0_0r x_0_32_0r x_0_64_0r x_0_96_0r x_0_128_0r x_0_160_0r x_0_192_0r x_0_224_0r (mixTile (sconvTile v35 v65 v95
          (sconvPiece (xbTile x_0_0_0) wi_0_768 wi_0_1792 wi_0_2816 hh_0_768 kc_2_768 kc_1_768 kc_0_768)) wo_0_0 wo_0_512) g1 h1) wu_0_0_512 := rfl

/-- Piece 2 of the first tile's hidden layer. -/
theorem hp_0_2 (v444 : FVec F S256x1024 .bf16) (wu_0_0_1024 : Vec F S1x1024x512 .bf16) :
    k0_pay67 v444 wu_0_0_1024 =
      hidPiece v444 wu_0_0_1024 := rfl

/-- Piece 3 of the first tile's hidden layer. -/
theorem hp_0_3 (v444 : FVec F S256x1024 .bf16) (wu_0_0_1536 : Vec F S1x1024x512 .bf16) :
    k0_pay68 v444 wu_0_0_1536 =
      hidPiece v444 wu_0_0_1536 := rfl

/-- Piece 4 of the first tile's hidden layer. -/
theorem hp_0_4 (v444 : FVec F S256x1024 .bf16) (wu_0_0_2048 : Vec F S1x1024x512 .bf16) :
    k0_pay69 v444 wu_0_0_2048 =
      hidPiece v444 wu_0_0_2048 := rfl

/-- Piece 5 of the first tile's hidden layer. -/
theorem hp_0_5 (v444 : FVec F S256x1024 .bf16) (wu_0_0_2560 : Vec F S1x1024x512 .bf16) :
    k0_pay70 v444 wu_0_0_2560 =
      hidPiece v444 wu_0_0_2560 := rfl

/-- Piece 6 of the first tile's hidden layer. -/
theorem hp_0_6 (v444 : FVec F S256x1024 .bf16) (wu_0_0_3072 : Vec F S1x1024x512 .bf16) :
    k0_pay71 v444 wu_0_0_3072 =
      hidPiece v444 wu_0_0_3072 := rfl

/-- The first tile's MLP output. -/
theorem dn_0 (v444 : FVec F S256x1024 .bf16) (wu_0_0_0 wu_0_0_512 wu_0_0_1024 wu_0_0_1536 wu_0_0_2048 wu_0_0_2560 wu_0_0_3072 wu_0_0_3584 : Vec F
    S1x1024x512 .bf16) (wd_0_0_0 wd_0_0_512 : Vec F S1x4096x512 .bf16) :
    k0_pay72 v444 (hidPiece v444 wu_0_0_0) (hidPiece v444 wu_0_0_512) (hidPiece v444 wu_0_0_1024) (hidPiece v444 wu_0_0_1536) (hidPiece v444
        wu_0_0_2048) (hidPiece v444 wu_0_0_2560) (hidPiece v444 wu_0_0_3072) wu_0_0_3584 wd_0_0_0 wd_0_0_512 =
      downTile (hidTile v444 wu_0_0_0 wu_0_0_512 wu_0_0_1024 wu_0_0_1536 wu_0_0_2048 wu_0_0_2560 wu_0_0_3072 wu_0_0_3584) wd_0_0_0 wd_0_0_512 := rfl

/-- The first tile after the second norm. -/
theorem x2_0 (g2 h2 : Vec F S1x1x1024 .f32) (v443 : FVec F S256x1024 .f32) (v444 : FVec F S256x1024 .bf16) (wu_0_0_0 wu_0_0_512 wu_0_0_1024
    wu_0_0_1536 wu_0_0_2048 wu_0_0_2560 wu_0_0_3072 wu_0_0_3584 : Vec F S1x1024x512 .bf16) (wd_0_0_0 wd_0_0_512 : Vec F S1x4096x512 .bf16) :
    k0_pay111 (k0_pay77 (k0_pay73 g2) (k0_pay74 h2) (k0_pay75 v443 v444 (hidPiece v444 wu_0_0_0) (hidPiece v444 wu_0_0_512) (hidPiece v444
        wu_0_0_1024) (hidPiece v444 wu_0_0_1536) (hidPiece v444 wu_0_0_2048) (hidPiece v444 wu_0_0_2560) (hidPiece v444 wu_0_0_3072) wu_0_0_3584
        wd_0_0_0 wd_0_0_512) (k0_pay76 v443 v444 (hidPiece v444 wu_0_0_0) (hidPiece v444 wu_0_0_512) (hidPiece v444 wu_0_0_1024) (hidPiece v444
        wu_0_0_1536) (hidPiece v444 wu_0_0_2048) (hidPiece v444 wu_0_0_2560) (hidPiece v444 wu_0_0_3072) wu_0_0_3584 wd_0_0_0 wd_0_0_512)) (k0_pay83
        (k0_pay82 v443 (downTile (hidTile v444 wu_0_0_0 wu_0_0_512 wu_0_0_1024 wu_0_0_1536 wu_0_0_2048 wu_0_0_2560 wu_0_0_3072 wu_0_0_3584) wd_0_0_0
        wd_0_0_512)) g2 h2) (k0_pay89 (k0_pay85 g2) (k0_pay86 h2) (k0_pay87 v443 (downTile (hidTile v444 wu_0_0_0 wu_0_0_512 wu_0_0_1024 wu_0_0_1536
        wu_0_0_2048 wu_0_0_2560 wu_0_0_3072 wu_0_0_3584) wd_0_0_0 wd_0_0_512)) (k0_pay88 v443 (downTile (hidTile v444 wu_0_0_0 wu_0_0_512 wu_0_0_1024
        wu_0_0_1536 wu_0_0_2048 wu_0_0_2560 wu_0_0_3072 wu_0_0_3584) wd_0_0_0 wd_0_0_512))) (k0_pay91 v443 (downTile (hidTile v444 wu_0_0_0
        wu_0_0_512 wu_0_0_1024 wu_0_0_1536 wu_0_0_2048 wu_0_0_2560 wu_0_0_3072 wu_0_0_3584) wd_0_0_0 wd_0_0_512) g2 h2) (k0_pay94 (downTile (hidTile
        v444 wu_0_0_0 wu_0_0_512 wu_0_0_1024 wu_0_0_1536 wu_0_0_2048 wu_0_0_2560 wu_0_0_3072 wu_0_0_3584) wd_0_0_0 wd_0_0_512) (k0_pay93 v443)
        (FloatOps.ofBits .f32 1071072509#32) g2 h2) (k0_pay105 (k0_pay100 g2) (k0_pay101 h2) (k0_pay102 v443 (downTile (hidTile v444 wu_0_0_0
        wu_0_0_512 wu_0_0_1024 wu_0_0_1536 wu_0_0_2048 wu_0_0_2560 wu_0_0_3072 wu_0_0_3584) wd_0_0_0 wd_0_0_512)) (k0_pay103 v443 (downTile (hidTile
        v444 wu_0_0_0 wu_0_0_512 wu_0_0_1024 wu_0_0_1536 wu_0_0_2048 wu_0_0_2560 wu_0_0_3072 wu_0_0_3584) wd_0_0_0 wd_0_0_512)) k0_pay104) (k0_pay107
        v443 (downTile (hidTile v444 wu_0_0_0 wu_0_0_512 wu_0_0_1024 wu_0_0_1536 wu_0_0_2048 wu_0_0_2560 wu_0_0_3072 wu_0_0_3584) wd_0_0_0
        wd_0_0_512) g2 h2) (k0_pay109 v443 (downTile (hidTile v444 wu_0_0_0 wu_0_0_512 wu_0_0_1024 wu_0_0_1536 wu_0_0_2048 wu_0_0_2560 wu_0_0_3072
        wu_0_0_3584) wd_0_0_0 wd_0_0_512)) g2 h2 =
      x2Tile v443 (downTile (hidTile v444 wu_0_0_0 wu_0_0_512 wu_0_0_1024 wu_0_0_1536 wu_0_0_2048 wu_0_0_2560 wu_0_0_3072 wu_0_0_3584) wd_0_0_0
          wd_0_0_512) g2 h2 := rfl

/-- The first tile after the second norm, rounded. -/
theorem x2b_0 (g2 h2 : Vec F S1x1x1024 .f32) (v443 : FVec F S256x1024 .f32) (v444 : FVec F S256x1024 .bf16) (wu_0_0_0 wu_0_0_512 wu_0_0_1024
    wu_0_0_1536 wu_0_0_2048 wu_0_0_2560 wu_0_0_3072 wu_0_0_3584 : Vec F S1x1024x512 .bf16) (wd_0_0_0 wd_0_0_512 : Vec F S1x4096x512 .bf16) :
    k0_pay112 (k0_pay78 (k0_pay73 g2) (k0_pay74 h2) (k0_pay75 v443 v444 (hidPiece v444 wu_0_0_0) (hidPiece v444 wu_0_0_512) (hidPiece v444
        wu_0_0_1024) (hidPiece v444 wu_0_0_1536) (hidPiece v444 wu_0_0_2048) (hidPiece v444 wu_0_0_2560) (hidPiece v444 wu_0_0_3072) wu_0_0_3584
        wd_0_0_0 wd_0_0_512) (k0_pay76 v443 v444 (hidPiece v444 wu_0_0_0) (hidPiece v444 wu_0_0_512) (hidPiece v444 wu_0_0_1024) (hidPiece v444
        wu_0_0_1536) (hidPiece v444 wu_0_0_2048) (hidPiece v444 wu_0_0_2560) (hidPiece v444 wu_0_0_3072) wu_0_0_3584 wd_0_0_0 wd_0_0_512)) (k0_pay84
        (k0_pay82 v443 (downTile (hidTile v444 wu_0_0_0 wu_0_0_512 wu_0_0_1024 wu_0_0_1536 wu_0_0_2048 wu_0_0_2560 wu_0_0_3072 wu_0_0_3584) wd_0_0_0
        wd_0_0_512)) g2 h2) (k0_pay90 (k0_pay85 g2) (k0_pay86 h2) (k0_pay87 v443 (downTile (hidTile v444 wu_0_0_0 wu_0_0_512 wu_0_0_1024 wu_0_0_1536
        wu_0_0_2048 wu_0_0_2560 wu_0_0_3072 wu_0_0_3584) wd_0_0_0 wd_0_0_512)) (k0_pay88 v443 (downTile (hidTile v444 wu_0_0_0 wu_0_0_512 wu_0_0_1024
        wu_0_0_1536 wu_0_0_2048 wu_0_0_2560 wu_0_0_3072 wu_0_0_3584) wd_0_0_0 wd_0_0_512))) (k0_pay92 v443 (downTile (hidTile v444 wu_0_0_0
        wu_0_0_512 wu_0_0_1024 wu_0_0_1536 wu_0_0_2048 wu_0_0_2560 wu_0_0_3072 wu_0_0_3584) wd_0_0_0 wd_0_0_512) g2 h2) (k0_pay95 (downTile (hidTile
        v444 wu_0_0_0 wu_0_0_512 wu_0_0_1024 wu_0_0_1536 wu_0_0_2048 wu_0_0_2560 wu_0_0_3072 wu_0_0_3584) wd_0_0_0 wd_0_0_512) (k0_pay93 v443)
        (FloatOps.ofBits .f32 1071072509#32) g2 h2) (k0_pay106 (k0_pay100 g2) (k0_pay101 h2) (k0_pay102 v443 (downTile (hidTile v444 wu_0_0_0
        wu_0_0_512 wu_0_0_1024 wu_0_0_1536 wu_0_0_2048 wu_0_0_2560 wu_0_0_3072 wu_0_0_3584) wd_0_0_0 wd_0_0_512)) (k0_pay103 v443 (downTile (hidTile
        v444 wu_0_0_0 wu_0_0_512 wu_0_0_1024 wu_0_0_1536 wu_0_0_2048 wu_0_0_2560 wu_0_0_3072 wu_0_0_3584) wd_0_0_0 wd_0_0_512)) k0_pay104) (k0_pay108
        v443 (downTile (hidTile v444 wu_0_0_0 wu_0_0_512 wu_0_0_1024 wu_0_0_1536 wu_0_0_2048 wu_0_0_2560 wu_0_0_3072 wu_0_0_3584) wd_0_0_0
        wd_0_0_512) g2 h2) (k0_pay109 v443 (downTile (hidTile v444 wu_0_0_0 wu_0_0_512 wu_0_0_1024 wu_0_0_1536 wu_0_0_2048 wu_0_0_2560 wu_0_0_3072
        wu_0_0_3584) wd_0_0_0 wd_0_0_512)) g2 h2 =
      x2TileB v443 (downTile (hidTile v444 wu_0_0_0 wu_0_0_512 wu_0_0_1024 wu_0_0_1536 wu_0_0_2048 wu_0_0_2560 wu_0_0_3072 wu_0_0_3584) wd_0_0_0
          wd_0_0_512) g2 h2 := rfl

/-- 512 columns of the first tile's output. -/
theorem out_0_0 (g2 h2 : Vec F S1x1x1024 .f32) (v443 : FVec F S256x1024 .f32) (v444 : FVec F S256x1024 .bf16) (wu_0_0_0 wu_0_0_512 wu_0_0_1024
    wu_0_0_1536 wu_0_0_2048 wu_0_0_2560 wu_0_0_3072 wu_0_0_3584 : Vec F S1x1024x512 .bf16) (wd_0_0_0 wd_0_0_512 : Vec F S1x4096x512 .bf16) (wg_0_0_0
    : Vec F S1x1024x512 .bf16) (p_0_0_0_0 : Vec F S1x1x256x256 .f32) (wp_0_0_0 : Vec F S1x256x512 .bf16) :
    k0_pay114 (k0_pay113 (k0_pay77 (k0_pay73 g2) (k0_pay74 h2) (k0_pay75 v443 v444 (hidPiece v444 wu_0_0_0) (hidPiece v444 wu_0_0_512) (hidPiece v444
        wu_0_0_1024) (hidPiece v444 wu_0_0_1536) (hidPiece v444 wu_0_0_2048) (hidPiece v444 wu_0_0_2560) (hidPiece v444 wu_0_0_3072) wu_0_0_3584
        wd_0_0_0 wd_0_0_512) (k0_pay76 v443 v444 (hidPiece v444 wu_0_0_0) (hidPiece v444 wu_0_0_512) (hidPiece v444 wu_0_0_1024) (hidPiece v444
        wu_0_0_1536) (hidPiece v444 wu_0_0_2048) (hidPiece v444 wu_0_0_2560) (hidPiece v444 wu_0_0_3072) wu_0_0_3584 wd_0_0_0 wd_0_0_512)) (k0_pay78
        (k0_pay73 g2) (k0_pay74 h2) (k0_pay75 v443 v444 (hidPiece v444 wu_0_0_0) (hidPiece v444 wu_0_0_512) (hidPiece v444 wu_0_0_1024) (hidPiece
        v444 wu_0_0_1536) (hidPiece v444 wu_0_0_2048) (hidPiece v444 wu_0_0_2560) (hidPiece v444 wu_0_0_3072) wu_0_0_3584 wd_0_0_0 wd_0_0_512)
        (k0_pay76 v443 v444 (hidPiece v444 wu_0_0_0) (hidPiece v444 wu_0_0_512) (hidPiece v444 wu_0_0_1024) (hidPiece v444 wu_0_0_1536) (hidPiece
        v444 wu_0_0_2048) (hidPiece v444 wu_0_0_2560) (hidPiece v444 wu_0_0_3072) wu_0_0_3584 wd_0_0_0 wd_0_0_512)) (k0_pay83 (k0_pay82 v443
        (downTile (hidTile v444 wu_0_0_0 wu_0_0_512 wu_0_0_1024 wu_0_0_1536 wu_0_0_2048 wu_0_0_2560 wu_0_0_3072 wu_0_0_3584) wd_0_0_0 wd_0_0_512)) g2
        h2) (k0_pay84 (k0_pay82 v443 (downTile (hidTile v444 wu_0_0_0 wu_0_0_512 wu_0_0_1024 wu_0_0_1536 wu_0_0_2048 wu_0_0_2560 wu_0_0_3072
        wu_0_0_3584) wd_0_0_0 wd_0_0_512)) g2 h2) (k0_pay89 (k0_pay85 g2) (k0_pay86 h2) (k0_pay87 v443 (downTile (hidTile v444 wu_0_0_0 wu_0_0_512
        wu_0_0_1024 wu_0_0_1536 wu_0_0_2048 wu_0_0_2560 wu_0_0_3072 wu_0_0_3584) wd_0_0_0 wd_0_0_512)) (k0_pay88 v443 (downTile (hidTile v444
        wu_0_0_0 wu_0_0_512 wu_0_0_1024 wu_0_0_1536 wu_0_0_2048 wu_0_0_2560 wu_0_0_3072 wu_0_0_3584) wd_0_0_0 wd_0_0_512))) (k0_pay90 (k0_pay85 g2)
        (k0_pay86 h2) (k0_pay87 v443 (downTile (hidTile v444 wu_0_0_0 wu_0_0_512 wu_0_0_1024 wu_0_0_1536 wu_0_0_2048 wu_0_0_2560 wu_0_0_3072
        wu_0_0_3584) wd_0_0_0 wd_0_0_512)) (k0_pay88 v443 (downTile (hidTile v444 wu_0_0_0 wu_0_0_512 wu_0_0_1024 wu_0_0_1536 wu_0_0_2048 wu_0_0_2560
        wu_0_0_3072 wu_0_0_3584) wd_0_0_0 wd_0_0_512))) (k0_pay91 v443 (downTile (hidTile v444 wu_0_0_0 wu_0_0_512 wu_0_0_1024 wu_0_0_1536
        wu_0_0_2048 wu_0_0_2560 wu_0_0_3072 wu_0_0_3584) wd_0_0_0 wd_0_0_512) g2 h2) (k0_pay92 v443 (downTile (hidTile v444 wu_0_0_0 wu_0_0_512
        wu_0_0_1024 wu_0_0_1536 wu_0_0_2048 wu_0_0_2560 wu_0_0_3072 wu_0_0_3584) wd_0_0_0 wd_0_0_512) g2 h2) (k0_pay94 (downTile (hidTile v444
        wu_0_0_0 wu_0_0_512 wu_0_0_1024 wu_0_0_1536 wu_0_0_2048 wu_0_0_2560 wu_0_0_3072 wu_0_0_3584) wd_0_0_0 wd_0_0_512) (k0_pay93 v443)
        (FloatOps.ofBits .f32 1071072509#32) g2 h2) (k0_pay95 (downTile (hidTile v444 wu_0_0_0 wu_0_0_512 wu_0_0_1024 wu_0_0_1536 wu_0_0_2048
        wu_0_0_2560 wu_0_0_3072 wu_0_0_3584) wd_0_0_0 wd_0_0_512) (k0_pay93 v443) (FloatOps.ofBits .f32 1071072509#32) g2 h2) (k0_pay105 (k0_pay100
        g2) (k0_pay101 h2) (k0_pay102 v443 (downTile (hidTile v444 wu_0_0_0 wu_0_0_512 wu_0_0_1024 wu_0_0_1536 wu_0_0_2048 wu_0_0_2560 wu_0_0_3072
        wu_0_0_3584) wd_0_0_0 wd_0_0_512)) (k0_pay103 v443 (downTile (hidTile v444 wu_0_0_0 wu_0_0_512 wu_0_0_1024 wu_0_0_1536 wu_0_0_2048
        wu_0_0_2560 wu_0_0_3072 wu_0_0_3584) wd_0_0_0 wd_0_0_512)) k0_pay104) (k0_pay106 (k0_pay100 g2) (k0_pay101 h2) (k0_pay102 v443 (downTile
        (hidTile v444 wu_0_0_0 wu_0_0_512 wu_0_0_1024 wu_0_0_1536 wu_0_0_2048 wu_0_0_2560 wu_0_0_3072 wu_0_0_3584) wd_0_0_0 wd_0_0_512)) (k0_pay103
        v443 (downTile (hidTile v444 wu_0_0_0 wu_0_0_512 wu_0_0_1024 wu_0_0_1536 wu_0_0_2048 wu_0_0_2560 wu_0_0_3072 wu_0_0_3584) wd_0_0_0
        wd_0_0_512)) k0_pay104) (k0_pay107 v443 (downTile (hidTile v444 wu_0_0_0 wu_0_0_512 wu_0_0_1024 wu_0_0_1536 wu_0_0_2048 wu_0_0_2560
        wu_0_0_3072 wu_0_0_3584) wd_0_0_0 wd_0_0_512) g2 h2) (k0_pay108 v443 (downTile (hidTile v444 wu_0_0_0 wu_0_0_512 wu_0_0_1024 wu_0_0_1536
        wu_0_0_2048 wu_0_0_2560 wu_0_0_3072 wu_0_0_3584) wd_0_0_0 wd_0_0_512) g2 h2) (k0_pay109 v443 (downTile (hidTile v444 wu_0_0_0 wu_0_0_512
        wu_0_0_1024 wu_0_0_1536 wu_0_0_2048 wu_0_0_2560 wu_0_0_3072 wu_0_0_3584) wd_0_0_0 wd_0_0_512)) g2 h2 wg_0_0_0 p_0_0_0_0 wp_0_0_0) =
      outPiece (x2Tile v443 (downTile (hidTile v444 wu_0_0_0 wu_0_0_512 wu_0_0_1024 wu_0_0_1536 wu_0_0_2048 wu_0_0_2560 wu_0_0_3072 wu_0_0_3584)
          wd_0_0_0 wd_0_0_512) g2 h2) (x2TileB v443 (downTile (hidTile v444 wu_0_0_0 wu_0_0_512 wu_0_0_1024 wu_0_0_1536 wu_0_0_2048 wu_0_0_2560
          wu_0_0_3072 wu_0_0_3584) wd_0_0_0 wd_0_0_512) g2 h2) 0 slices_S256x1024_o0_0_S256x512 wg_0_0_0 p_0_0_0_0 wp_0_0_0 := rfl

/-- 512 columns of the first tile's output. -/
theorem out_0_512 (v443 : FVec F S256x1024 .f32) (v444 : FVec F S256x1024 .bf16) (wu_0_0_0 wu_0_0_512 wu_0_0_1024 wu_0_0_1536 wu_0_0_2048 wu_0_0_2560
    wu_0_0_3072 wu_0_0_3584 : Vec F S1x1024x512 .bf16) (wd_0_0_0 wd_0_0_512 : Vec F S1x4096x512 .bf16) (g2 h2 : Vec F S1x1x1024 .f32) (wg_0_0_512 :
    Vec F S1x1024x512 .bf16) (p_0_0_0_0 : Vec F S1x1x256x256 .f32) (wp_0_0_512 : Vec F S1x256x512 .bf16) :
    k0_pay115 (x2Tile v443 (downTile (hidTile v444 wu_0_0_0 wu_0_0_512 wu_0_0_1024 wu_0_0_1536 wu_0_0_2048 wu_0_0_2560 wu_0_0_3072 wu_0_0_3584)
        wd_0_0_0 wd_0_0_512) g2 h2) (x2TileB v443 (downTile (hidTile v444 wu_0_0_0 wu_0_0_512 wu_0_0_1024 wu_0_0_1536 wu_0_0_2048 wu_0_0_2560
        wu_0_0_3072 wu_0_0_3584) wd_0_0_0 wd_0_0_512) g2 h2) wg_0_0_512 p_0_0_0_0 wp_0_0_512 =
      outPiece (x2Tile v443 (downTile (hidTile v444 wu_0_0_0 wu_0_0_512 wu_0_0_1024 wu_0_0_1536 wu_0_0_2048 wu_0_0_2560 wu_0_0_3072 wu_0_0_3584)
          wd_0_0_0 wd_0_0_512) g2 h2) (x2TileB v443 (downTile (hidTile v444 wu_0_0_0 wu_0_0_512 wu_0_0_1024 wu_0_0_1536 wu_0_0_2048 wu_0_0_2560
          wu_0_0_3072 wu_0_0_3584) wd_0_0_0 wd_0_0_512) g2 h2) 512 slices_S256x1024_o0_512_S256x512 wg_0_0_512 p_0_0_0_0 wp_0_0_512 := rfl

/-- The second tile's rounded input. -/
theorem x_1 (x_0_256_0 : Vec F S1x256x1024 .f32) :
    k0_pay27 x_0_256_0 =
      xbTile x_0_256_0 := rfl

/-- The last rows of columns 0 … of the second tile's product. -/
theorem kp_1_0 (x_0_256_0 : Vec F S1x256x1024 .f32) (wi_0_1024 wi_0_2048 : Vec F S1024x256 .bf16) :
    k0_pay30 x_0_256_0 wi_0_1024 wi_0_2048 =
      lastRows (qPiece (xbTile x_0_256_0) wi_0_1024 wi_0_2048) := rfl

/-- The last rows of columns 256 … of the second tile's product. -/
theorem kp_1_256 (x_0_256_0 : Vec F S1x256x1024 .f32) (wi_0_1280 wi_0_2304 : Vec F S1024x256 .bf16) :
    k0_pay51 (xbTile x_0_256_0) wi_0_1280 wi_0_2304 =
      lastRows (qPiece (xbTile x_0_256_0) wi_0_1280 wi_0_2304) := rfl

/-- The last rows of columns 512 … of the second tile's product. -/
theorem kp_1_512 (x_0_256_0 : Vec F S1x256x1024 .f32) (wi_0_1536 wi_0_2560 : Vec F S1024x256 .bf16) :
    k0_pay80 (xbTile x_0_256_0) wi_0_1536 wi_0_2560 =
      lastRows (qPiece (xbTile x_0_256_0) wi_0_1536 wi_0_2560) := rfl

/-- The last rows of columns 768 … of the second tile's product. -/
theorem kp_1_768 (x_0_256_0 : Vec F S1x256x1024 .f32) (wi_0_1792 wi_0_2816 : Vec F S1024x256 .bf16) :
    k0_pay98 (xbTile x_0_256_0) wi_0_1792 wi_0_2816 =
      lastRows (qPiece (xbTile x_0_256_0) wi_0_1792 wi_0_2816) := rfl

/-- Columns 0 … of the second tile, gated. -/
theorem gp_1_0 (x_0_256_0 : Vec F S1x256x1024 .f32) (wi_0_0 wi_0_1024 wi_0_2048 : Vec F S1024x256 .bf16) (v16 : FVec F S8x256 .f32) (kc_2_0 kc_1_0
    kc_0_0 : Vec F S1x256 .f32) :
    k0_pay32 (k0_pay28 x_0_256_0 wi_0_0) (k0_pay29 x_0_256_0 wi_0_1024 wi_0_2048) (k0_pay31 v16 x_0_256_0 wi_0_1024 wi_0_2048) kc_2_0 kc_1_0 kc_0_0 =
      sconvPiece (xbTile x_0_256_0) wi_0_0 wi_0_1024 wi_0_2048 v16 kc_2_0 kc_1_0 kc_0_0 := rfl

/-- Columns 256 … of the second tile, gated. -/
theorem gp_1_256 (x_0_256_0 : Vec F S1x256x1024 .f32) (wi_0_256 : Vec F S1024x256 .bf16) (v46 : FVec F S8x256 .f32) (wi_0_1280 wi_0_2304 : Vec F
    S1024x256 .bf16) (kc_2_256 kc_1_256 kc_0_256 : Vec F S1x256 .f32) :
    k0_pay55 (k0_pay49 (xbTile x_0_256_0) wi_0_256) (k0_pay52 v46 (xbTile x_0_256_0) wi_0_1280 wi_0_2304) (k0_pay53 (xbTile x_0_256_0) wi_0_1280
        wi_0_2304 kc_2_256) (k0_pay54 v46 (xbTile x_0_256_0) wi_0_1280 wi_0_2304 kc_1_256) kc_0_256 =
      sconvPiece (xbTile x_0_256_0) wi_0_256 wi_0_1280 wi_0_2304 v46 kc_2_256 kc_1_256 kc_0_256 := rfl

/-- Columns 512 … of the second tile, gated. -/
theorem gp_1_512 (v76 : FVec F S8x256 .f32) (x_0_256_0 : Vec F S1x256x1024 .f32) (wi_0_512 wi_0_1536 wi_0_2560 : Vec F S1024x256 .bf16) (kc_2_512
    kc_1_512 kc_0_512 : Vec F S1x256 .f32) :
    k0_pay81 v76 (xbTile x_0_256_0) wi_0_512 wi_0_1536 wi_0_2560 kc_2_512 kc_1_512 kc_0_512 =
      sconvPiece (xbTile x_0_256_0) wi_0_512 wi_0_1536 wi_0_2560 v76 kc_2_512 kc_1_512 kc_0_512 := rfl

/-- The second tile, gated. -/
theorem g_1 (v106 : FVec F S8x256 .f32) (v196 v349 v567 : FVec F S256x256 .bf16) (x_0_256_0 : Vec F S1x256x1024 .f32) (wi_0_768 wi_0_1792 wi_0_2816 :
    Vec F S1024x256 .bf16) (kc_2_768 kc_1_768 kc_0_768 : Vec F S1x256 .f32) :
    k0_pay99 v106 v196 v349 v567 (k0_pay96 (xbTile x_0_256_0) wi_0_768) (k0_pay97 (xbTile x_0_256_0) wi_0_1792 wi_0_2816) kc_2_768 kc_1_768 kc_0_768 =
      sconvTile v196 v349 v567 (sconvPiece (xbTile x_0_256_0) wi_0_768 wi_0_1792 wi_0_2816 v106 kc_2_768 kc_1_768 kc_0_768) := rfl

/-- The second tile's mixer output. -/
theorem mix_1 (v717 : FVec F S256x1024 .bf16) (wo_0_0 wo_0_512 : Vec F S1024x512 .bf16) :
    k0_pay116 v717 wo_0_0 wo_0_512 =
      mixTile v717 wo_0_0 wo_0_512 := rfl

/-- The second tile after the first norm. -/
theorem x1_1 (v848 : FVec F S256x1024 .f32) (x_0_256_0r : Vec F S1x32x1024 .f32) (g1 h1 : Vec F S1x1x1024 .f32) (x_0_288_0r x_0_320_0r x_0_352_0r
    x_0_384_0r x_0_416_0r x_0_448_0r x_0_480_0r : Vec F S1x32x1024 .f32) :
    k0_pay158 v848 (k0_pay118 v848 (k0_pay117 x_0_256_0r) g1 h1) (k0_pay131 (k0_pay127 g1) (k0_pay128 h1) (k0_pay129 v848 x_0_288_0r) (k0_pay130 v848
        x_0_288_0r)) (k0_pay135 (k0_pay133 v848 x_0_320_0r g1) (k0_pay134 h1)) (k0_pay137 v848 x_0_352_0r g1 h1) (k0_pay140 (k0_pay139 v848
        x_0_384_0r) g1 h1) (k0_pay152 (k0_pay148 g1) (k0_pay149 h1) (k0_pay150 v848 x_0_416_0r) (k0_pay151 v848 x_0_416_0r)) (k0_pay154 v848
        x_0_448_0r g1 h1) (k0_pay156 x_0_480_0r) g1 h1 =
      x1Tile x_0_256_0r x_0_288_0r x_0_320_0r x_0_352_0r x_0_384_0r x_0_416_0r x_0_448_0r x_0_480_0r v848 g1 h1 := rfl

/-- The second tile after the first norm, rounded. -/
theorem x1b_1 (v848 : FVec F S256x1024 .f32) (x_0_256_0r : Vec F S1x32x1024 .f32) (g1 h1 : Vec F S1x1x1024 .f32) (x_0_288_0r x_0_320_0r x_0_352_0r
    x_0_384_0r x_0_416_0r x_0_448_0r x_0_480_0r : Vec F S1x32x1024 .f32) :
    k0_pay159 v848 (k0_pay119 v848 (k0_pay117 x_0_256_0r) g1 h1) (k0_pay132 (k0_pay127 g1) (k0_pay128 h1) (k0_pay129 v848 x_0_288_0r) (k0_pay130 v848
        x_0_288_0r)) (k0_pay136 (k0_pay133 v848 x_0_320_0r g1) (k0_pay134 h1)) (k0_pay138 v848 x_0_352_0r g1 h1) (k0_pay141 (k0_pay139 v848
        x_0_384_0r) g1 h1) (k0_pay153 (k0_pay148 g1) (k0_pay149 h1) (k0_pay150 v848 x_0_416_0r) (k0_pay151 v848 x_0_416_0r)) (k0_pay155 v848
        x_0_448_0r g1 h1) (k0_pay156 x_0_480_0r) g1 h1 =
      x1TileB x_0_256_0r x_0_288_0r x_0_320_0r x_0_352_0r x_0_384_0r x_0_416_0r x_0_448_0r x_0_480_0r v848 g1 h1 := rfl

/-- Piece 0 of the second tile's hidden layer. -/
theorem hp_1_0 (v848 : FVec F S256x1024 .f32) (x_0_256_0r : Vec F S1x32x1024 .f32) (g1 h1 : Vec F S1x1x1024 .f32) (x_0_288_0r x_0_320_0r x_0_352_0r
    x_0_384_0r x_0_416_0r x_0_448_0r x_0_480_0r : Vec F S1x32x1024 .f32) (wu_0_0_0 : Vec F S1x1024x512 .bf16) :
    k0_pay160 v848 (k0_pay119 v848 (k0_pay117 x_0_256_0r) g1 h1) (k0_pay132 (k0_pay127 g1) (k0_pay128 h1) (k0_pay129 v848 x_0_288_0r) (k0_pay130 v848
        x_0_288_0r)) (k0_pay136 (k0_pay133 v848 x_0_320_0r g1) (k0_pay134 h1)) (k0_pay138 v848 x_0_352_0r g1 h1) (k0_pay141 (k0_pay139 v848
        x_0_384_0r) g1 h1) (k0_pay153 (k0_pay148 g1) (k0_pay149 h1) (k0_pay150 v848 x_0_416_0r) (k0_pay151 v848 x_0_416_0r)) (k0_pay155 v848
        x_0_448_0r g1 h1) (k0_pay156 x_0_480_0r) g1 h1 wu_0_0_0 =
      hidPiece (x1TileB x_0_256_0r x_0_288_0r x_0_320_0r x_0_352_0r x_0_384_0r x_0_416_0r x_0_448_0r x_0_480_0r v848 g1 h1) wu_0_0_0 := rfl

/-- Piece 1 of the second tile's hidden layer. -/
theorem hp_1_1 (v848 : FVec F S256x1024 .f32) (x_0_256_0r : Vec F S1x32x1024 .f32) (g1 h1 : Vec F S1x1x1024 .f32) (x_0_288_0r x_0_320_0r x_0_352_0r
    x_0_384_0r x_0_416_0r x_0_448_0r x_0_480_0r : Vec F S1x32x1024 .f32) (wu_0_0_512 : Vec F S1x1024x512 .bf16) :
    k0_pay162 (k0_pay161 v848 (k0_pay119 v848 (k0_pay117 x_0_256_0r) g1 h1) (k0_pay132 (k0_pay127 g1) (k0_pay128 h1) (k0_pay129 v848 x_0_288_0r)
        (k0_pay130 v848 x_0_288_0r)) (k0_pay136 (k0_pay133 v848 x_0_320_0r g1) (k0_pay134 h1)) (k0_pay138 v848 x_0_352_0r g1 h1) (k0_pay141
        (k0_pay139 v848 x_0_384_0r) g1 h1) (k0_pay153 (k0_pay148 g1) (k0_pay149 h1) (k0_pay150 v848 x_0_416_0r) (k0_pay151 v848 x_0_416_0r))
        (k0_pay155 v848 x_0_448_0r g1 h1) (k0_pay156 x_0_480_0r) g1 h1 wu_0_0_512) (FloatOps.ofBits .f32 0#32) =
      hidPiece (x1TileB x_0_256_0r x_0_288_0r x_0_320_0r x_0_352_0r x_0_384_0r x_0_416_0r x_0_448_0r x_0_480_0r v848 g1 h1) wu_0_0_512 := rfl

/-- Piece 2 of the second tile's hidden layer. -/
theorem hp_1_2 (v1159 : FVec F S256x1024 .bf16) (wu_0_0_1024 : Vec F S1x1024x512 .bf16) :
    k0_pay163 v1159 wu_0_0_1024 =
      hidPiece v1159 wu_0_0_1024 := rfl

/-- Piece 3 of the second tile's hidden layer. -/
theorem hp_1_3 (v1159 : FVec F S256x1024 .bf16) (wu_0_0_1536 : Vec F S1x1024x512 .bf16) :
    k0_pay164 v1159 wu_0_0_1536 =
      hidPiece v1159 wu_0_0_1536 := rfl

/-- Piece 4 of the second tile's hidden layer. -/
theorem hp_1_4 (v1159 : FVec F S256x1024 .bf16) (wu_0_0_2048 : Vec F S1x1024x512 .bf16) :
    k0_pay165 v1159 wu_0_0_2048 =
      hidPiece v1159 wu_0_0_2048 := rfl

/-- Piece 5 of the second tile's hidden layer. -/
theorem hp_1_5 (v1159 : FVec F S256x1024 .bf16) (wu_0_0_2560 : Vec F S1x1024x512 .bf16) :
    k0_pay166 v1159 wu_0_0_2560 =
      hidPiece v1159 wu_0_0_2560 := rfl

/-- The second tile's MLP output. -/
theorem dn_1 (v1159 : FVec F S256x1024 .bf16) (wu_0_0_0 wu_0_0_512 wu_0_0_1024 wu_0_0_1536 wu_0_0_2048 wu_0_0_2560 wu_0_0_3072 wu_0_0_3584 : Vec F
    S1x1024x512 .bf16) (wd_0_0_0 wd_0_0_512 : Vec F S1x4096x512 .bf16) :
    k0_pay168 v1159 (hidPiece v1159 wu_0_0_0) (hidPiece v1159 wu_0_0_512) (hidPiece v1159 wu_0_0_1024) (hidPiece v1159 wu_0_0_1536) (hidPiece v1159
        wu_0_0_2048) (hidPiece v1159 wu_0_0_2560) (k0_pay167 v1159 wu_0_0_3072) (FloatOps.ofBits .f32 0#32) wu_0_0_3584 wd_0_0_0 wd_0_0_512 =
      downTile (hidTile v1159 wu_0_0_0 wu_0_0_512 wu_0_0_1024 wu_0_0_1536 wu_0_0_2048 wu_0_0_2560 wu_0_0_3072 wu_0_0_3584) wd_0_0_0 wd_0_0_512 := rfl

/-- The second tile after the second norm. -/
theorem x2_1 (v1159 : FVec F S256x1024 .bf16) (wu_0_0_0 wu_0_0_512 wu_0_0_1024 wu_0_0_1536 wu_0_0_2048 wu_0_0_2560 wu_0_0_3072 wu_0_0_3584 : Vec F
    S1x1024x512 .bf16) (wd_0_0_0 wd_0_0_512 : Vec F S1x4096x512 .bf16) (g2 h2 : Vec F S1x1x1024 .f32) (v1158 : FVec F S256x1024 .f32) :
    k0_pay209 (downTile (hidTile v1159 wu_0_0_0 wu_0_0_512 wu_0_0_1024 wu_0_0_1536 wu_0_0_2048 wu_0_0_2560 wu_0_0_3072 wu_0_0_3584) wd_0_0_0
        wd_0_0_512) (k0_pay173 (k0_pay169 g2) (k0_pay170 h2) (k0_pay171 v1158 v1159 (hidPiece v1159 wu_0_0_0) (hidPiece v1159 wu_0_0_512) (hidPiece
        v1159 wu_0_0_1024) (hidPiece v1159 wu_0_0_1536) (hidPiece v1159 wu_0_0_2048) (hidPiece v1159 wu_0_0_2560) (k0_pay167 v1159 wu_0_0_3072)
        (FloatOps.ofBits .f32 0#32) wu_0_0_3584 wd_0_0_0 wd_0_0_512) (k0_pay172 v1158 v1159 (hidPiece v1159 wu_0_0_0) (hidPiece v1159 wu_0_0_512)
        (hidPiece v1159 wu_0_0_1024) (hidPiece v1159 wu_0_0_1536) (hidPiece v1159 wu_0_0_2048) (hidPiece v1159 wu_0_0_2560) (k0_pay167 v1159
        wu_0_0_3072) (FloatOps.ofBits .f32 0#32) wu_0_0_3584 wd_0_0_0 wd_0_0_512)) (k0_pay178 v1158 (downTile (hidTile v1159 wu_0_0_0 wu_0_0_512
        wu_0_0_1024 wu_0_0_1536 wu_0_0_2048 wu_0_0_2560 wu_0_0_3072 wu_0_0_3584) wd_0_0_0 wd_0_0_512) g2 h2) (k0_pay184 (k0_pay180 v1158 (downTile
        (hidTile v1159 wu_0_0_0 wu_0_0_512 wu_0_0_1024 wu_0_0_1536 wu_0_0_2048 wu_0_0_2560 wu_0_0_3072 wu_0_0_3584) wd_0_0_0 wd_0_0_512)) (k0_pay181
        g2) (k0_pay182 h2) (k0_pay183 v1158 (downTile (hidTile v1159 wu_0_0_0 wu_0_0_512 wu_0_0_1024 wu_0_0_1536 wu_0_0_2048 wu_0_0_2560 wu_0_0_3072
        wu_0_0_3584) wd_0_0_0 wd_0_0_512))) (k0_pay190 (k0_pay186 g2) (k0_pay187 h2) (k0_pay188 v1158 (downTile (hidTile v1159 wu_0_0_0 wu_0_0_512
        wu_0_0_1024 wu_0_0_1536 wu_0_0_2048 wu_0_0_2560 wu_0_0_3072 wu_0_0_3584) wd_0_0_0 wd_0_0_512)) (k0_pay189 v1158 (downTile (hidTile v1159
        wu_0_0_0 wu_0_0_512 wu_0_0_1024 wu_0_0_1536 wu_0_0_2048 wu_0_0_2560 wu_0_0_3072 wu_0_0_3584) wd_0_0_0 wd_0_0_512))) (k0_pay192 v1158
        (downTile (hidTile v1159 wu_0_0_0 wu_0_0_512 wu_0_0_1024 wu_0_0_1536 wu_0_0_2048 wu_0_0_2560 wu_0_0_3072 wu_0_0_3584) wd_0_0_0 wd_0_0_512) g2
        h2) (k0_pay203 (k0_pay199 g2) (k0_pay200 h2) (k0_pay201 v1158 (downTile (hidTile v1159 wu_0_0_0 wu_0_0_512 wu_0_0_1024 wu_0_0_1536
        wu_0_0_2048 wu_0_0_2560 wu_0_0_3072 wu_0_0_3584) wd_0_0_0 wd_0_0_512)) (k0_pay202 v1158 (downTile (hidTile v1159 wu_0_0_0 wu_0_0_512
        wu_0_0_1024 wu_0_0_1536 wu_0_0_2048 wu_0_0_2560 wu_0_0_3072 wu_0_0_3584) wd_0_0_0 wd_0_0_512))) (k0_pay205 v1158 (downTile (hidTile v1159
        wu_0_0_0 wu_0_0_512 wu_0_0_1024 wu_0_0_1536 wu_0_0_2048 wu_0_0_2560 wu_0_0_3072 wu_0_0_3584) wd_0_0_0 wd_0_0_512) g2 h2) (k0_pay207 v1158) g2
        h2 =
      x2Tile v1158 (downTile (hidTile v1159 wu_0_0_0 wu_0_0_512 wu_0_0_1024 wu_0_0_1536 wu_0_0_2048 wu_0_0_2560 wu_0_0_3072 wu_0_0_3584) wd_0_0_0
          wd_0_0_512) g2 h2 := rfl

/-- The second tile after the second norm, rounded. -/
theorem x2b_1 (v1159 : FVec F S256x1024 .bf16) (wu_0_0_0 wu_0_0_512 wu_0_0_1024 wu_0_0_1536 wu_0_0_2048 wu_0_0_2560 wu_0_0_3072 wu_0_0_3584 : Vec F
    S1x1024x512 .bf16) (wd_0_0_0 wd_0_0_512 : Vec F S1x4096x512 .bf16) (g2 h2 : Vec F S1x1x1024 .f32) (v1158 : FVec F S256x1024 .f32) :
    k0_pay210 (downTile (hidTile v1159 wu_0_0_0 wu_0_0_512 wu_0_0_1024 wu_0_0_1536 wu_0_0_2048 wu_0_0_2560 wu_0_0_3072 wu_0_0_3584) wd_0_0_0
        wd_0_0_512) (k0_pay174 (k0_pay169 g2) (k0_pay170 h2) (k0_pay171 v1158 v1159 (hidPiece v1159 wu_0_0_0) (hidPiece v1159 wu_0_0_512) (hidPiece
        v1159 wu_0_0_1024) (hidPiece v1159 wu_0_0_1536) (hidPiece v1159 wu_0_0_2048) (hidPiece v1159 wu_0_0_2560) (k0_pay167 v1159 wu_0_0_3072)
        (FloatOps.ofBits .f32 0#32) wu_0_0_3584 wd_0_0_0 wd_0_0_512) (k0_pay172 v1158 v1159 (hidPiece v1159 wu_0_0_0) (hidPiece v1159 wu_0_0_512)
        (hidPiece v1159 wu_0_0_1024) (hidPiece v1159 wu_0_0_1536) (hidPiece v1159 wu_0_0_2048) (hidPiece v1159 wu_0_0_2560) (k0_pay167 v1159
        wu_0_0_3072) (FloatOps.ofBits .f32 0#32) wu_0_0_3584 wd_0_0_0 wd_0_0_512)) (k0_pay179 v1158 (downTile (hidTile v1159 wu_0_0_0 wu_0_0_512
        wu_0_0_1024 wu_0_0_1536 wu_0_0_2048 wu_0_0_2560 wu_0_0_3072 wu_0_0_3584) wd_0_0_0 wd_0_0_512) g2 h2) (k0_pay185 (k0_pay180 v1158 (downTile
        (hidTile v1159 wu_0_0_0 wu_0_0_512 wu_0_0_1024 wu_0_0_1536 wu_0_0_2048 wu_0_0_2560 wu_0_0_3072 wu_0_0_3584) wd_0_0_0 wd_0_0_512)) (k0_pay181
        g2) (k0_pay182 h2) (k0_pay183 v1158 (downTile (hidTile v1159 wu_0_0_0 wu_0_0_512 wu_0_0_1024 wu_0_0_1536 wu_0_0_2048 wu_0_0_2560 wu_0_0_3072
        wu_0_0_3584) wd_0_0_0 wd_0_0_512))) (k0_pay191 (k0_pay186 g2) (k0_pay187 h2) (k0_pay188 v1158 (downTile (hidTile v1159 wu_0_0_0 wu_0_0_512
        wu_0_0_1024 wu_0_0_1536 wu_0_0_2048 wu_0_0_2560 wu_0_0_3072 wu_0_0_3584) wd_0_0_0 wd_0_0_512)) (k0_pay189 v1158 (downTile (hidTile v1159
        wu_0_0_0 wu_0_0_512 wu_0_0_1024 wu_0_0_1536 wu_0_0_2048 wu_0_0_2560 wu_0_0_3072 wu_0_0_3584) wd_0_0_0 wd_0_0_512))) (k0_pay193 v1158
        (downTile (hidTile v1159 wu_0_0_0 wu_0_0_512 wu_0_0_1024 wu_0_0_1536 wu_0_0_2048 wu_0_0_2560 wu_0_0_3072 wu_0_0_3584) wd_0_0_0 wd_0_0_512) g2
        h2) (k0_pay204 (k0_pay199 g2) (k0_pay200 h2) (k0_pay201 v1158 (downTile (hidTile v1159 wu_0_0_0 wu_0_0_512 wu_0_0_1024 wu_0_0_1536
        wu_0_0_2048 wu_0_0_2560 wu_0_0_3072 wu_0_0_3584) wd_0_0_0 wd_0_0_512)) (k0_pay202 v1158 (downTile (hidTile v1159 wu_0_0_0 wu_0_0_512
        wu_0_0_1024 wu_0_0_1536 wu_0_0_2048 wu_0_0_2560 wu_0_0_3072 wu_0_0_3584) wd_0_0_0 wd_0_0_512))) (k0_pay206 v1158 (downTile (hidTile v1159
        wu_0_0_0 wu_0_0_512 wu_0_0_1024 wu_0_0_1536 wu_0_0_2048 wu_0_0_2560 wu_0_0_3072 wu_0_0_3584) wd_0_0_0 wd_0_0_512) g2 h2) (k0_pay207 v1158) g2
        h2 =
      x2TileB v1158 (downTile (hidTile v1159 wu_0_0_0 wu_0_0_512 wu_0_0_1024 wu_0_0_1536 wu_0_0_2048 wu_0_0_2560 wu_0_0_3072 wu_0_0_3584) wd_0_0_0
          wd_0_0_512) g2 h2 := rfl

/-- 512 columns of the second tile's output. -/
theorem out_1_0 (v1159 : FVec F S256x1024 .bf16) (wu_0_0_0 wu_0_0_512 wu_0_0_1024 wu_0_0_1536 wu_0_0_2048 wu_0_0_2560 wu_0_0_3072 wu_0_0_3584 : Vec F
    S1x1024x512 .bf16) (wd_0_0_0 wd_0_0_512 : Vec F S1x4096x512 .bf16) (g2 h2 : Vec F S1x1x1024 .f32) (v1158 : FVec F S256x1024 .f32) (wg_0_0_0 : Vec
    F S1x1024x512 .bf16) (p_0_0_256_0 : Vec F S1x1x256x256 .f32) (wp_0_0_0 : Vec F S1x256x512 .bf16) :
    k0_pay214 (k0_pay211 (downTile (hidTile v1159 wu_0_0_0 wu_0_0_512 wu_0_0_1024 wu_0_0_1536 wu_0_0_2048 wu_0_0_2560 wu_0_0_3072 wu_0_0_3584)
        wd_0_0_0 wd_0_0_512) (k0_pay174 (k0_pay169 g2) (k0_pay170 h2) (k0_pay171 v1158 v1159 (hidPiece v1159 wu_0_0_0) (hidPiece v1159 wu_0_0_512)
        (hidPiece v1159 wu_0_0_1024) (hidPiece v1159 wu_0_0_1536) (hidPiece v1159 wu_0_0_2048) (hidPiece v1159 wu_0_0_2560) (k0_pay167 v1159
        wu_0_0_3072) (FloatOps.ofBits .f32 0#32) wu_0_0_3584 wd_0_0_0 wd_0_0_512) (k0_pay172 v1158 v1159 (hidPiece v1159 wu_0_0_0) (hidPiece v1159
        wu_0_0_512) (hidPiece v1159 wu_0_0_1024) (hidPiece v1159 wu_0_0_1536) (hidPiece v1159 wu_0_0_2048) (hidPiece v1159 wu_0_0_2560) (k0_pay167
        v1159 wu_0_0_3072) (FloatOps.ofBits .f32 0#32) wu_0_0_3584 wd_0_0_0 wd_0_0_512)) (k0_pay179 v1158 (downTile (hidTile v1159 wu_0_0_0
        wu_0_0_512 wu_0_0_1024 wu_0_0_1536 wu_0_0_2048 wu_0_0_2560 wu_0_0_3072 wu_0_0_3584) wd_0_0_0 wd_0_0_512) g2 h2) (k0_pay185 (k0_pay180 v1158
        (downTile (hidTile v1159 wu_0_0_0 wu_0_0_512 wu_0_0_1024 wu_0_0_1536 wu_0_0_2048 wu_0_0_2560 wu_0_0_3072 wu_0_0_3584) wd_0_0_0 wd_0_0_512))
        (k0_pay181 g2) (k0_pay182 h2) (k0_pay183 v1158 (downTile (hidTile v1159 wu_0_0_0 wu_0_0_512 wu_0_0_1024 wu_0_0_1536 wu_0_0_2048 wu_0_0_2560
        wu_0_0_3072 wu_0_0_3584) wd_0_0_0 wd_0_0_512))) (k0_pay191 (k0_pay186 g2) (k0_pay187 h2) (k0_pay188 v1158 (downTile (hidTile v1159 wu_0_0_0
        wu_0_0_512 wu_0_0_1024 wu_0_0_1536 wu_0_0_2048 wu_0_0_2560 wu_0_0_3072 wu_0_0_3584) wd_0_0_0 wd_0_0_512)) (k0_pay189 v1158 (downTile (hidTile
        v1159 wu_0_0_0 wu_0_0_512 wu_0_0_1024 wu_0_0_1536 wu_0_0_2048 wu_0_0_2560 wu_0_0_3072 wu_0_0_3584) wd_0_0_0 wd_0_0_512))) (k0_pay193 v1158
        (downTile (hidTile v1159 wu_0_0_0 wu_0_0_512 wu_0_0_1024 wu_0_0_1536 wu_0_0_2048 wu_0_0_2560 wu_0_0_3072 wu_0_0_3584) wd_0_0_0 wd_0_0_512) g2
        h2) (k0_pay204 (k0_pay199 g2) (k0_pay200 h2) (k0_pay201 v1158 (downTile (hidTile v1159 wu_0_0_0 wu_0_0_512 wu_0_0_1024 wu_0_0_1536
        wu_0_0_2048 wu_0_0_2560 wu_0_0_3072 wu_0_0_3584) wd_0_0_0 wd_0_0_512)) (k0_pay202 v1158 (downTile (hidTile v1159 wu_0_0_0 wu_0_0_512
        wu_0_0_1024 wu_0_0_1536 wu_0_0_2048 wu_0_0_2560 wu_0_0_3072 wu_0_0_3584) wd_0_0_0 wd_0_0_512))) (k0_pay206 v1158 (downTile (hidTile v1159
        wu_0_0_0 wu_0_0_512 wu_0_0_1024 wu_0_0_1536 wu_0_0_2048 wu_0_0_2560 wu_0_0_3072 wu_0_0_3584) wd_0_0_0 wd_0_0_512) g2 h2) (k0_pay207 v1158) g2
        h2 wg_0_0_0) (k0_pay212 (downTile (hidTile v1159 wu_0_0_0 wu_0_0_512 wu_0_0_1024 wu_0_0_1536 wu_0_0_2048 wu_0_0_2560 wu_0_0_3072 wu_0_0_3584)
        wd_0_0_0 wd_0_0_512) (k0_pay173 (k0_pay169 g2) (k0_pay170 h2) (k0_pay171 v1158 v1159 (hidPiece v1159 wu_0_0_0) (hidPiece v1159 wu_0_0_512)
        (hidPiece v1159 wu_0_0_1024) (hidPiece v1159 wu_0_0_1536) (hidPiece v1159 wu_0_0_2048) (hidPiece v1159 wu_0_0_2560) (k0_pay167 v1159
        wu_0_0_3072) (FloatOps.ofBits .f32 0#32) wu_0_0_3584 wd_0_0_0 wd_0_0_512) (k0_pay172 v1158 v1159 (hidPiece v1159 wu_0_0_0) (hidPiece v1159
        wu_0_0_512) (hidPiece v1159 wu_0_0_1024) (hidPiece v1159 wu_0_0_1536) (hidPiece v1159 wu_0_0_2048) (hidPiece v1159 wu_0_0_2560) (k0_pay167
        v1159 wu_0_0_3072) (FloatOps.ofBits .f32 0#32) wu_0_0_3584 wd_0_0_0 wd_0_0_512)) (k0_pay178 v1158 (downTile (hidTile v1159 wu_0_0_0
        wu_0_0_512 wu_0_0_1024 wu_0_0_1536 wu_0_0_2048 wu_0_0_2560 wu_0_0_3072 wu_0_0_3584) wd_0_0_0 wd_0_0_512) g2 h2) (k0_pay184 (k0_pay180 v1158
        (downTile (hidTile v1159 wu_0_0_0 wu_0_0_512 wu_0_0_1024 wu_0_0_1536 wu_0_0_2048 wu_0_0_2560 wu_0_0_3072 wu_0_0_3584) wd_0_0_0 wd_0_0_512))
        (k0_pay181 g2) (k0_pay182 h2) (k0_pay183 v1158 (downTile (hidTile v1159 wu_0_0_0 wu_0_0_512 wu_0_0_1024 wu_0_0_1536 wu_0_0_2048 wu_0_0_2560
        wu_0_0_3072 wu_0_0_3584) wd_0_0_0 wd_0_0_512))) (k0_pay190 (k0_pay186 g2) (k0_pay187 h2) (k0_pay188 v1158 (downTile (hidTile v1159 wu_0_0_0
        wu_0_0_512 wu_0_0_1024 wu_0_0_1536 wu_0_0_2048 wu_0_0_2560 wu_0_0_3072 wu_0_0_3584) wd_0_0_0 wd_0_0_512)) (k0_pay189 v1158 (downTile (hidTile
        v1159 wu_0_0_0 wu_0_0_512 wu_0_0_1024 wu_0_0_1536 wu_0_0_2048 wu_0_0_2560 wu_0_0_3072 wu_0_0_3584) wd_0_0_0 wd_0_0_512))) (k0_pay192 v1158
        (downTile (hidTile v1159 wu_0_0_0 wu_0_0_512 wu_0_0_1024 wu_0_0_1536 wu_0_0_2048 wu_0_0_2560 wu_0_0_3072 wu_0_0_3584) wd_0_0_0 wd_0_0_512) g2
        h2) (k0_pay203 (k0_pay199 g2) (k0_pay200 h2) (k0_pay201 v1158 (downTile (hidTile v1159 wu_0_0_0 wu_0_0_512 wu_0_0_1024 wu_0_0_1536
        wu_0_0_2048 wu_0_0_2560 wu_0_0_3072 wu_0_0_3584) wd_0_0_0 wd_0_0_512)) (k0_pay202 v1158 (downTile (hidTile v1159 wu_0_0_0 wu_0_0_512
        wu_0_0_1024 wu_0_0_1536 wu_0_0_2048 wu_0_0_2560 wu_0_0_3072 wu_0_0_3584) wd_0_0_0 wd_0_0_512))) (k0_pay205 v1158 (downTile (hidTile v1159
        wu_0_0_0 wu_0_0_512 wu_0_0_1024 wu_0_0_1536 wu_0_0_2048 wu_0_0_2560 wu_0_0_3072 wu_0_0_3584) wd_0_0_0 wd_0_0_512) g2 h2) (k0_pay207 v1158) g2
        h2) (k0_pay213 p_0_0_256_0) wp_0_0_0 =
      outPiece (x2Tile v1158 (downTile (hidTile v1159 wu_0_0_0 wu_0_0_512 wu_0_0_1024 wu_0_0_1536 wu_0_0_2048 wu_0_0_2560 wu_0_0_3072 wu_0_0_3584)
          wd_0_0_0 wd_0_0_512) g2 h2) (x2TileB v1158 (downTile (hidTile v1159 wu_0_0_0 wu_0_0_512 wu_0_0_1024 wu_0_0_1536 wu_0_0_2048 wu_0_0_2560
          wu_0_0_3072 wu_0_0_3584) wd_0_0_0 wd_0_0_512) g2 h2) 0 slices_S256x1024_o0_0_S256x512 wg_0_0_0 p_0_0_256_0 wp_0_0_0 := rfl

/-- 512 columns of the second tile's output. -/
theorem out_1_512 (v1158 : FVec F S256x1024 .f32) (v1159 : FVec F S256x1024 .bf16) (wu_0_0_0 wu_0_0_512 wu_0_0_1024 wu_0_0_1536 wu_0_0_2048
    wu_0_0_2560 wu_0_0_3072 wu_0_0_3584 : Vec F S1x1024x512 .bf16) (wd_0_0_0 wd_0_0_512 : Vec F S1x4096x512 .bf16) (g2 h2 : Vec F S1x1x1024 .f32)
    (wg_0_0_512 : Vec F S1x1024x512 .bf16) (p_0_0_256_0 : Vec F S1x1x256x256 .f32) (wp_0_0_512 : Vec F S1x256x512 .bf16) :
    k0_pay215 (x2Tile v1158 (downTile (hidTile v1159 wu_0_0_0 wu_0_0_512 wu_0_0_1024 wu_0_0_1536 wu_0_0_2048 wu_0_0_2560 wu_0_0_3072 wu_0_0_3584)
        wd_0_0_0 wd_0_0_512) g2 h2) (x2TileB v1158 (downTile (hidTile v1159 wu_0_0_0 wu_0_0_512 wu_0_0_1024 wu_0_0_1536 wu_0_0_2048 wu_0_0_2560
        wu_0_0_3072 wu_0_0_3584) wd_0_0_0 wd_0_0_512) g2 h2) wg_0_0_512 p_0_0_256_0 wp_0_0_512 =
      outPiece (x2Tile v1158 (downTile (hidTile v1159 wu_0_0_0 wu_0_0_512 wu_0_0_1024 wu_0_0_1536 wu_0_0_2048 wu_0_0_2560 wu_0_0_3072 wu_0_0_3584)
          wd_0_0_0 wd_0_0_512) g2 h2) (x2TileB v1158 (downTile (hidTile v1159 wu_0_0_0 wu_0_0_512 wu_0_0_1024 wu_0_0_1536 wu_0_0_2048 wu_0_0_2560
          wu_0_0_3072 wu_0_0_3584) wd_0_0_0 wd_0_0_512) g2 h2) 512 slices_S256x1024_o0_512_S256x512 wg_0_0_512 p_0_0_256_0 wp_0_0_512 := rfl

/-- The third tile's rounded input. -/
theorem x_2 (x_0_512_0 : Vec F S1x256x1024 .f32) :
    k0_pay120 x_0_512_0 =
      xbTile x_0_512_0 := rfl

/-- The last rows of columns 0 … of the third tile's product. -/
theorem kp_2_0 (x_0_512_0 : Vec F S1x256x1024 .f32) (wi_0_1024 wi_0_2048 : Vec F S1024x256 .bf16) :
    k0_pay125 (xbTile x_0_512_0) (k0_pay122 x_0_512_0 wi_0_1024) (k0_pay123 wi_0_2048) =
      lastRows (qPiece (xbTile x_0_512_0) wi_0_1024 wi_0_2048) := rfl

/-- The last rows of columns 256 … of the third tile's product. -/
theorem kp_2_256 (x_0_512_0 : Vec F S1x256x1024 .f32) (wi_0_1280 wi_0_2304 : Vec F S1024x256 .bf16) :
    k0_pay144 (xbTile x_0_512_0) wi_0_1280 wi_0_2304 =
      lastRows (qPiece (xbTile x_0_512_0) wi_0_1280 wi_0_2304) := rfl

/-- The last rows of columns 512 … of the third tile's product. -/
theorem kp_2_512 (x_0_512_0 : Vec F S1x256x1024 .f32) (wi_0_1536 wi_0_2560 : Vec F S1024x256 .bf16) :
    k0_pay176 (xbTile x_0_512_0) wi_0_1536 wi_0_2560 =
      lastRows (qPiece (xbTile x_0_512_0) wi_0_1536 wi_0_2560) := rfl

/-- The last rows of columns 768 … of the third tile's product. -/
theorem kp_2_768 (x_0_512_0 : Vec F S1x256x1024 .f32) (wi_0_1792 wi_0_2816 : Vec F S1024x256 .bf16) :
    k0_pay197 (xbTile x_0_512_0) (k0_pay195 (xbTile x_0_512_0) wi_0_1792) wi_0_2816 =
      lastRows (qPiece (xbTile x_0_512_0) wi_0_1792 wi_0_2816) := rfl

/-- Columns 0 … of the third tile, gated. -/
theorem gp_2_0 (v178 : FVec F S8x256 .f32) (x_0_512_0 : Vec F S1x256x1024 .f32) (wi_0_0 wi_0_1024 wi_0_2048 : Vec F S1024x256 .bf16) (kc_2_0 kc_1_0
    kc_0_0 : Vec F S1x256 .f32) :
    k0_pay126 v178 (xbTile x_0_512_0) (k0_pay121 x_0_512_0 wi_0_0) (k0_pay122 x_0_512_0 wi_0_1024) (k0_pay123 wi_0_2048) kc_2_0 kc_1_0 kc_0_0 =
      sconvPiece (xbTile x_0_512_0) wi_0_0 wi_0_1024 wi_0_2048 v178 kc_2_0 kc_1_0 kc_0_0 := rfl

/-- Columns 256 … of the third tile, gated. -/
theorem gp_2_256 (x_0_512_0 : Vec F S1x256x1024 .f32) (wi_0_256 : Vec F S1024x256 .bf16) (v331 : FVec F S8x256 .f32) (wi_0_1280 wi_0_2304 : Vec F
    S1024x256 .bf16) (kc_2_256 kc_1_256 kc_0_256 : Vec F S1x256 .f32) :
    k0_pay147 (k0_pay142 (xbTile x_0_512_0) wi_0_256) (k0_pay145 v331 (xbTile x_0_512_0) wi_0_1280 wi_0_2304) (k0_pay146 (xbTile x_0_512_0) wi_0_1280
        wi_0_2304 kc_2_256) kc_1_256 kc_0_256 =
      sconvPiece (xbTile x_0_512_0) wi_0_256 wi_0_1280 wi_0_2304 v331 kc_2_256 kc_1_256 kc_0_256 := rfl

/-- Columns 512 … of the third tile, gated. -/
theorem gp_2_512 (v549 : FVec F S8x256 .f32) (x_0_512_0 : Vec F S1x256x1024 .f32) (wi_0_512 wi_0_1536 wi_0_2560 : Vec F S1024x256 .bf16) (kc_2_512
    kc_1_512 kc_0_512 : Vec F S1x256 .f32) :
    k0_pay177 v549 (xbTile x_0_512_0) wi_0_512 wi_0_1536 wi_0_2560 kc_2_512 kc_1_512 kc_0_512 =
      sconvPiece (xbTile x_0_512_0) wi_0_512 wi_0_1536 wi_0_2560 v549 kc_2_512 kc_1_512 kc_0_512 := rfl

/-- The third tile, gated. -/
theorem g_2 (v698 : FVec F S8x256 .f32) (x_0_512_0 : Vec F S1x256x1024 .f32) (v911 v1064 v1282 : FVec F S256x256 .bf16) (wi_0_768 wi_0_1792 wi_0_2816
    : Vec F S1024x256 .bf16) (kc_2_768 kc_1_768 kc_0_768 : Vec F S1x256 .f32) :
    k0_pay198 v698 (xbTile x_0_512_0) v911 v1064 v1282 (k0_pay194 (xbTile x_0_512_0) wi_0_768) (k0_pay195 (xbTile x_0_512_0) wi_0_1792) wi_0_2816
        kc_2_768 kc_1_768 kc_0_768 =
      sconvTile v911 v1064 v1282 (sconvPiece (xbTile x_0_512_0) wi_0_768 wi_0_1792 wi_0_2816 v698 kc_2_768 kc_1_768 kc_0_768) := rfl

/-- The third tile's mixer output. -/
theorem mix_2 (v1432 : FVec F S256x1024 .bf16) (wo_0_0 wo_0_512 : Vec F S1024x512 .bf16) :
    k0_pay216 v1432 wo_0_0 wo_0_512 =
      mixTile v1432 wo_0_0 wo_0_512 := rfl

/-- The third tile after the first norm. -/
theorem x1_2 (v1563 : FVec F S256x1024 .f32) (x_0_512_0r : Vec F S1x32x1024 .f32) (g1 h1 : Vec F S1x1x1024 .f32) (x_0_544_0r x_0_576_0r x_0_608_0r
    x_0_640_0r x_0_672_0r x_0_704_0r x_0_736_0r : Vec F S1x32x1024 .f32) :
    k0_pay257 v1563 (k0_pay217 v1563 x_0_512_0r g1 h1) (k0_pay226 (k0_pay224 v1563 x_0_544_0r) (k0_pay225 g1) h1) (k0_pay232 (k0_pay228 g1)
        (k0_pay229 h1) (k0_pay230 v1563 x_0_576_0r) (k0_pay231 v1563 x_0_576_0r)) (k0_pay236 (k0_pay234 v1563 x_0_608_0r g1) (k0_pay235 h1))
        (k0_pay238 v1563 x_0_640_0r g1 h1) (k0_pay248 (k0_pay245 v1563 x_0_672_0r) (k0_pay246 g1) (k0_pay247 h1)) (k0_pay250 g1) (k0_pay251 h1)
        (k0_pay252 v1563 x_0_704_0r) (k0_pay253 v1563 x_0_704_0r) k0_pay254 x_0_736_0r g1 h1 =
      x1Tile x_0_512_0r x_0_544_0r x_0_576_0r x_0_608_0r x_0_640_0r x_0_672_0r x_0_704_0r x_0_736_0r v1563 g1 h1 := rfl

/-- The third tile after the first norm, rounded. -/
theorem x1b_2 (v1563 : FVec F S256x1024 .f32) (x_0_512_0r : Vec F S1x32x1024 .f32) (g1 h1 : Vec F S1x1x1024 .f32) (x_0_544_0r x_0_576_0r x_0_608_0r
    x_0_640_0r x_0_672_0r x_0_704_0r x_0_736_0r : Vec F S1x32x1024 .f32) :
    k0_pay258 v1563 (k0_pay218 v1563 x_0_512_0r g1 h1) (k0_pay227 (k0_pay224 v1563 x_0_544_0r) (k0_pay225 g1) h1) (k0_pay233 (k0_pay228 g1)
        (k0_pay229 h1) (k0_pay230 v1563 x_0_576_0r) (k0_pay231 v1563 x_0_576_0r)) (k0_pay237 (k0_pay234 v1563 x_0_608_0r g1) (k0_pay235 h1))
        (k0_pay239 v1563 x_0_640_0r g1 h1) (k0_pay249 (k0_pay245 v1563 x_0_672_0r) (k0_pay246 g1) (k0_pay247 h1)) (k0_pay250 g1) (k0_pay251 h1)
        (k0_pay252 v1563 x_0_704_0r) (k0_pay253 v1563 x_0_704_0r) k0_pay254 x_0_736_0r g1 h1 =
      x1TileB x_0_512_0r x_0_544_0r x_0_576_0r x_0_608_0r x_0_640_0r x_0_672_0r x_0_704_0r x_0_736_0r v1563 g1 h1 := rfl

/-- Piece 0 of the third tile's hidden layer. -/
theorem hp_2_0 (v1880 : FVec F S256x1024 .bf16) (wu_0_0_0 : Vec F S1x1024x512 .bf16) :
    k0_pay259 v1880 wu_0_0_0 =
      hidPiece v1880 wu_0_0_0 := rfl

/-- Piece 1 of the third tile's hidden layer. -/
theorem hp_2_1 (v1880 : FVec F S256x1024 .bf16) (wu_0_0_512 : Vec F S1x1024x512 .bf16) :
    k0_pay260 v1880 wu_0_0_512 =
      hidPiece v1880 wu_0_0_512 := rfl

/-- Piece 2 of the third tile's hidden layer. -/
theorem hp_2_2 (v1880 : FVec F S256x1024 .bf16) (wu_0_0_1024 : Vec F S1x1024x512 .bf16) :
    k0_pay261 v1880 wu_0_0_1024 =
      hidPiece v1880 wu_0_0_1024 := rfl

/-- Piece 3 of the third tile's hidden layer. -/
theorem hp_2_3 (v1880 : FVec F S256x1024 .bf16) (wu_0_0_1536 : Vec F S1x1024x512 .bf16) :
    k0_pay262 v1880 wu_0_0_1536 =
      hidPiece v1880 wu_0_0_1536 := rfl

/-- Piece 4 of the third tile's hidden layer. -/
theorem hp_2_4 (v1880 : FVec F S256x1024 .bf16) (wu_0_0_2048 : Vec F S1x1024x512 .bf16) :
    k0_pay263 v1880 wu_0_0_2048 =
      hidPiece v1880 wu_0_0_2048 := rfl

/-- The third tile's MLP output. -/
theorem dn_2 (v1880 : FVec F S256x1024 .bf16) (wu_0_0_0 wu_0_0_512 wu_0_0_1024 wu_0_0_1536 wu_0_0_2048 wu_0_0_2560 wu_0_0_3072 wu_0_0_3584 : Vec F
    S1x1024x512 .bf16) (wd_0_0_0 wd_0_0_512 : Vec F S1x4096x512 .bf16) :
    k0_pay264 v1880 (hidPiece v1880 wu_0_0_0) (hidPiece v1880 wu_0_0_512) (hidPiece v1880 wu_0_0_1024) (hidPiece v1880 wu_0_0_1536) (hidPiece v1880
        wu_0_0_2048) wu_0_0_2560 wu_0_0_3072 wu_0_0_3584 wd_0_0_0 wd_0_0_512 =
      downTile (hidTile v1880 wu_0_0_0 wu_0_0_512 wu_0_0_1024 wu_0_0_1536 wu_0_0_2048 wu_0_0_2560 wu_0_0_3072 wu_0_0_3584) wd_0_0_0 wd_0_0_512 := rfl

/-- The third tile after the second norm. -/
theorem x2_2 (v1879 : FVec F S256x1024 .f32) (v1880 : FVec F S256x1024 .bf16) (wu_0_0_0 wu_0_0_512 wu_0_0_1024 wu_0_0_1536 wu_0_0_2048 wu_0_0_2560
    wu_0_0_3072 wu_0_0_3584 : Vec F S1x1024x512 .bf16) (wd_0_0_0 wd_0_0_512 : Vec F S1x4096x512 .bf16) (g2 h2 : Vec F S1x1x1024 .f32) :
    k0_pay307 (k0_pay266 (k0_pay265 v1879 v1880 (hidPiece v1880 wu_0_0_0) (hidPiece v1880 wu_0_0_512) (hidPiece v1880 wu_0_0_1024) (hidPiece v1880
        wu_0_0_1536) (hidPiece v1880 wu_0_0_2048) wu_0_0_2560 wu_0_0_3072 wu_0_0_3584 wd_0_0_0 wd_0_0_512) g2 h2) (k0_pay276 (k0_pay272 g2)
        (k0_pay273 h2) (k0_pay274 v1879 (downTile (hidTile v1880 wu_0_0_0 wu_0_0_512 wu_0_0_1024 wu_0_0_1536 wu_0_0_2048 wu_0_0_2560 wu_0_0_3072
        wu_0_0_3584) wd_0_0_0 wd_0_0_512)) (k0_pay275 v1879 (downTile (hidTile v1880 wu_0_0_0 wu_0_0_512 wu_0_0_1024 wu_0_0_1536 wu_0_0_2048
        wu_0_0_2560 wu_0_0_3072 wu_0_0_3584) wd_0_0_0 wd_0_0_512))) (k0_pay278 v1879 (downTile (hidTile v1880 wu_0_0_0 wu_0_0_512 wu_0_0_1024
        wu_0_0_1536 wu_0_0_2048 wu_0_0_2560 wu_0_0_3072 wu_0_0_3584) wd_0_0_0 wd_0_0_512) g2 h2) (k0_pay281 (k0_pay280 v1879 (downTile (hidTile v1880
        wu_0_0_0 wu_0_0_512 wu_0_0_1024 wu_0_0_1536 wu_0_0_2048 wu_0_0_2560 wu_0_0_3072 wu_0_0_3584) wd_0_0_0 wd_0_0_512)) g2 h2) (k0_pay287
        (k0_pay283 g2) (k0_pay284 h2) (k0_pay285 v1879 (downTile (hidTile v1880 wu_0_0_0 wu_0_0_512 wu_0_0_1024 wu_0_0_1536 wu_0_0_2048 wu_0_0_2560
        wu_0_0_3072 wu_0_0_3584) wd_0_0_0 wd_0_0_512)) (k0_pay286 v1879 (downTile (hidTile v1880 wu_0_0_0 wu_0_0_512 wu_0_0_1024 wu_0_0_1536
        wu_0_0_2048 wu_0_0_2560 wu_0_0_3072 wu_0_0_3584) wd_0_0_0 wd_0_0_512))) (k0_pay296 v1879 (downTile (hidTile v1880 wu_0_0_0 wu_0_0_512
        wu_0_0_1024 wu_0_0_1536 wu_0_0_2048 wu_0_0_2560 wu_0_0_3072 wu_0_0_3584) wd_0_0_0 wd_0_0_512) g2 h2) (k0_pay300 (k0_pay298 v1879 (downTile
        (hidTile v1880 wu_0_0_0 wu_0_0_512 wu_0_0_1024 wu_0_0_1536 wu_0_0_2048 wu_0_0_2560 wu_0_0_3072 wu_0_0_3584) wd_0_0_0 wd_0_0_512)) (k0_pay299
        g2) h2) (k0_pay302 g2) (k0_pay303 h2) (k0_pay304 v1879 (downTile (hidTile v1880 wu_0_0_0 wu_0_0_512 wu_0_0_1024 wu_0_0_1536 wu_0_0_2048
        wu_0_0_2560 wu_0_0_3072 wu_0_0_3584) wd_0_0_0 wd_0_0_512)) (k0_pay305 v1879 (downTile (hidTile v1880 wu_0_0_0 wu_0_0_512 wu_0_0_1024
        wu_0_0_1536 wu_0_0_2048 wu_0_0_2560 wu_0_0_3072 wu_0_0_3584) wd_0_0_0 wd_0_0_512)) (FloatOps.ofBits .f32 1149239296#32) =
      x2Tile v1879 (downTile (hidTile v1880 wu_0_0_0 wu_0_0_512 wu_0_0_1024 wu_0_0_1536 wu_0_0_2048 wu_0_0_2560 wu_0_0_3072 wu_0_0_3584) wd_0_0_0
          wd_0_0_512) g2 h2 := rfl

/-- The third tile after the second norm, rounded. -/
theorem x2b_2 (v1879 : FVec F S256x1024 .f32) (v1880 : FVec F S256x1024 .bf16) (wu_0_0_0 wu_0_0_512 wu_0_0_1024 wu_0_0_1536 wu_0_0_2048 wu_0_0_2560
    wu_0_0_3072 wu_0_0_3584 : Vec F S1x1024x512 .bf16) (wd_0_0_0 wd_0_0_512 : Vec F S1x4096x512 .bf16) (g2 h2 : Vec F S1x1x1024 .f32) :
    k0_pay308 (k0_pay267 (k0_pay265 v1879 v1880 (hidPiece v1880 wu_0_0_0) (hidPiece v1880 wu_0_0_512) (hidPiece v1880 wu_0_0_1024) (hidPiece v1880
        wu_0_0_1536) (hidPiece v1880 wu_0_0_2048) wu_0_0_2560 wu_0_0_3072 wu_0_0_3584 wd_0_0_0 wd_0_0_512) g2 h2) (k0_pay277 (k0_pay272 g2)
        (k0_pay273 h2) (k0_pay274 v1879 (downTile (hidTile v1880 wu_0_0_0 wu_0_0_512 wu_0_0_1024 wu_0_0_1536 wu_0_0_2048 wu_0_0_2560 wu_0_0_3072
        wu_0_0_3584) wd_0_0_0 wd_0_0_512)) (k0_pay275 v1879 (downTile (hidTile v1880 wu_0_0_0 wu_0_0_512 wu_0_0_1024 wu_0_0_1536 wu_0_0_2048
        wu_0_0_2560 wu_0_0_3072 wu_0_0_3584) wd_0_0_0 wd_0_0_512))) (k0_pay279 v1879 (downTile (hidTile v1880 wu_0_0_0 wu_0_0_512 wu_0_0_1024
        wu_0_0_1536 wu_0_0_2048 wu_0_0_2560 wu_0_0_3072 wu_0_0_3584) wd_0_0_0 wd_0_0_512) g2 h2) (k0_pay282 (k0_pay280 v1879 (downTile (hidTile v1880
        wu_0_0_0 wu_0_0_512 wu_0_0_1024 wu_0_0_1536 wu_0_0_2048 wu_0_0_2560 wu_0_0_3072 wu_0_0_3584) wd_0_0_0 wd_0_0_512)) g2 h2) (k0_pay288
        (k0_pay283 g2) (k0_pay284 h2) (k0_pay285 v1879 (downTile (hidTile v1880 wu_0_0_0 wu_0_0_512 wu_0_0_1024 wu_0_0_1536 wu_0_0_2048 wu_0_0_2560
        wu_0_0_3072 wu_0_0_3584) wd_0_0_0 wd_0_0_512)) (k0_pay286 v1879 (downTile (hidTile v1880 wu_0_0_0 wu_0_0_512 wu_0_0_1024 wu_0_0_1536
        wu_0_0_2048 wu_0_0_2560 wu_0_0_3072 wu_0_0_3584) wd_0_0_0 wd_0_0_512))) (k0_pay297 v1879 (downTile (hidTile v1880 wu_0_0_0 wu_0_0_512
        wu_0_0_1024 wu_0_0_1536 wu_0_0_2048 wu_0_0_2560 wu_0_0_3072 wu_0_0_3584) wd_0_0_0 wd_0_0_512) g2 h2) (k0_pay301 (k0_pay298 v1879 (downTile
        (hidTile v1880 wu_0_0_0 wu_0_0_512 wu_0_0_1024 wu_0_0_1536 wu_0_0_2048 wu_0_0_2560 wu_0_0_3072 wu_0_0_3584) wd_0_0_0 wd_0_0_512)) (k0_pay299
        g2) h2) (k0_pay302 g2) (k0_pay303 h2) (k0_pay304 v1879 (downTile (hidTile v1880 wu_0_0_0 wu_0_0_512 wu_0_0_1024 wu_0_0_1536 wu_0_0_2048
        wu_0_0_2560 wu_0_0_3072 wu_0_0_3584) wd_0_0_0 wd_0_0_512)) (k0_pay305 v1879 (downTile (hidTile v1880 wu_0_0_0 wu_0_0_512 wu_0_0_1024
        wu_0_0_1536 wu_0_0_2048 wu_0_0_2560 wu_0_0_3072 wu_0_0_3584) wd_0_0_0 wd_0_0_512)) (FloatOps.ofBits .f32 1149239296#32) =
      x2TileB v1879 (downTile (hidTile v1880 wu_0_0_0 wu_0_0_512 wu_0_0_1024 wu_0_0_1536 wu_0_0_2048 wu_0_0_2560 wu_0_0_3072 wu_0_0_3584) wd_0_0_0
          wd_0_0_512) g2 h2 := rfl

/-- 512 columns of the third tile's output. -/
theorem out_2_0 (v1879 : FVec F S256x1024 .f32) (v1880 : FVec F S256x1024 .bf16) (wu_0_0_0 wu_0_0_512 wu_0_0_1024 wu_0_0_1536 wu_0_0_2048 wu_0_0_2560
    wu_0_0_3072 wu_0_0_3584 : Vec F S1x1024x512 .bf16) (wd_0_0_0 wd_0_0_512 : Vec F S1x4096x512 .bf16) (g2 h2 : Vec F S1x1x1024 .f32) (wg_0_0_0 : Vec
    F S1x1024x512 .bf16) (p_0_0_512_0 : Vec F S1x1x256x256 .f32) (wp_0_0_0 : Vec F S1x256x512 .bf16) :
    k0_pay309 (k0_pay266 (k0_pay265 v1879 v1880 (hidPiece v1880 wu_0_0_0) (hidPiece v1880 wu_0_0_512) (hidPiece v1880 wu_0_0_1024) (hidPiece v1880
        wu_0_0_1536) (hidPiece v1880 wu_0_0_2048) wu_0_0_2560 wu_0_0_3072 wu_0_0_3584 wd_0_0_0 wd_0_0_512) g2 h2) (k0_pay267 (k0_pay265 v1879 v1880
        (hidPiece v1880 wu_0_0_0) (hidPiece v1880 wu_0_0_512) (hidPiece v1880 wu_0_0_1024) (hidPiece v1880 wu_0_0_1536) (hidPiece v1880 wu_0_0_2048)
        wu_0_0_2560 wu_0_0_3072 wu_0_0_3584 wd_0_0_0 wd_0_0_512) g2 h2) (k0_pay276 (k0_pay272 g2) (k0_pay273 h2) (k0_pay274 v1879 (downTile (hidTile
        v1880 wu_0_0_0 wu_0_0_512 wu_0_0_1024 wu_0_0_1536 wu_0_0_2048 wu_0_0_2560 wu_0_0_3072 wu_0_0_3584) wd_0_0_0 wd_0_0_512)) (k0_pay275 v1879
        (downTile (hidTile v1880 wu_0_0_0 wu_0_0_512 wu_0_0_1024 wu_0_0_1536 wu_0_0_2048 wu_0_0_2560 wu_0_0_3072 wu_0_0_3584) wd_0_0_0 wd_0_0_512)))
        (k0_pay277 (k0_pay272 g2) (k0_pay273 h2) (k0_pay274 v1879 (downTile (hidTile v1880 wu_0_0_0 wu_0_0_512 wu_0_0_1024 wu_0_0_1536 wu_0_0_2048
        wu_0_0_2560 wu_0_0_3072 wu_0_0_3584) wd_0_0_0 wd_0_0_512)) (k0_pay275 v1879 (downTile (hidTile v1880 wu_0_0_0 wu_0_0_512 wu_0_0_1024
        wu_0_0_1536 wu_0_0_2048 wu_0_0_2560 wu_0_0_3072 wu_0_0_3584) wd_0_0_0 wd_0_0_512))) (k0_pay278 v1879 (downTile (hidTile v1880 wu_0_0_0
        wu_0_0_512 wu_0_0_1024 wu_0_0_1536 wu_0_0_2048 wu_0_0_2560 wu_0_0_3072 wu_0_0_3584) wd_0_0_0 wd_0_0_512) g2 h2) (k0_pay279 v1879 (downTile
        (hidTile v1880 wu_0_0_0 wu_0_0_512 wu_0_0_1024 wu_0_0_1536 wu_0_0_2048 wu_0_0_2560 wu_0_0_3072 wu_0_0_3584) wd_0_0_0 wd_0_0_512) g2 h2)
        (k0_pay281 (k0_pay280 v1879 (downTile (hidTile v1880 wu_0_0_0 wu_0_0_512 wu_0_0_1024 wu_0_0_1536 wu_0_0_2048 wu_0_0_2560 wu_0_0_3072
        wu_0_0_3584) wd_0_0_0 wd_0_0_512)) g2 h2) (k0_pay282 (k0_pay280 v1879 (downTile (hidTile v1880 wu_0_0_0 wu_0_0_512 wu_0_0_1024 wu_0_0_1536
        wu_0_0_2048 wu_0_0_2560 wu_0_0_3072 wu_0_0_3584) wd_0_0_0 wd_0_0_512)) g2 h2) (k0_pay287 (k0_pay283 g2) (k0_pay284 h2) (k0_pay285 v1879
        (downTile (hidTile v1880 wu_0_0_0 wu_0_0_512 wu_0_0_1024 wu_0_0_1536 wu_0_0_2048 wu_0_0_2560 wu_0_0_3072 wu_0_0_3584) wd_0_0_0 wd_0_0_512))
        (k0_pay286 v1879 (downTile (hidTile v1880 wu_0_0_0 wu_0_0_512 wu_0_0_1024 wu_0_0_1536 wu_0_0_2048 wu_0_0_2560 wu_0_0_3072 wu_0_0_3584)
        wd_0_0_0 wd_0_0_512))) (k0_pay288 (k0_pay283 g2) (k0_pay284 h2) (k0_pay285 v1879 (downTile (hidTile v1880 wu_0_0_0 wu_0_0_512 wu_0_0_1024
        wu_0_0_1536 wu_0_0_2048 wu_0_0_2560 wu_0_0_3072 wu_0_0_3584) wd_0_0_0 wd_0_0_512)) (k0_pay286 v1879 (downTile (hidTile v1880 wu_0_0_0
        wu_0_0_512 wu_0_0_1024 wu_0_0_1536 wu_0_0_2048 wu_0_0_2560 wu_0_0_3072 wu_0_0_3584) wd_0_0_0 wd_0_0_512))) (k0_pay296 v1879 (downTile
        (hidTile v1880 wu_0_0_0 wu_0_0_512 wu_0_0_1024 wu_0_0_1536 wu_0_0_2048 wu_0_0_2560 wu_0_0_3072 wu_0_0_3584) wd_0_0_0 wd_0_0_512) g2 h2)
        (k0_pay297 v1879 (downTile (hidTile v1880 wu_0_0_0 wu_0_0_512 wu_0_0_1024 wu_0_0_1536 wu_0_0_2048 wu_0_0_2560 wu_0_0_3072 wu_0_0_3584)
        wd_0_0_0 wd_0_0_512) g2 h2) (k0_pay300 (k0_pay298 v1879 (downTile (hidTile v1880 wu_0_0_0 wu_0_0_512 wu_0_0_1024 wu_0_0_1536 wu_0_0_2048
        wu_0_0_2560 wu_0_0_3072 wu_0_0_3584) wd_0_0_0 wd_0_0_512)) (k0_pay299 g2) h2) (k0_pay301 (k0_pay298 v1879 (downTile (hidTile v1880 wu_0_0_0
        wu_0_0_512 wu_0_0_1024 wu_0_0_1536 wu_0_0_2048 wu_0_0_2560 wu_0_0_3072 wu_0_0_3584) wd_0_0_0 wd_0_0_512)) (k0_pay299 g2) h2) (k0_pay302 g2)
        (k0_pay303 h2) (k0_pay304 v1879 (downTile (hidTile v1880 wu_0_0_0 wu_0_0_512 wu_0_0_1024 wu_0_0_1536 wu_0_0_2048 wu_0_0_2560 wu_0_0_3072
        wu_0_0_3584) wd_0_0_0 wd_0_0_512)) (k0_pay305 v1879 (downTile (hidTile v1880 wu_0_0_0 wu_0_0_512 wu_0_0_1024 wu_0_0_1536 wu_0_0_2048
        wu_0_0_2560 wu_0_0_3072 wu_0_0_3584) wd_0_0_0 wd_0_0_512)) (FloatOps.ofBits .f32 1149239296#32) wg_0_0_0 p_0_0_512_0 wp_0_0_0 =
      outPiece (x2Tile v1879 (downTile (hidTile v1880 wu_0_0_0 wu_0_0_512 wu_0_0_1024 wu_0_0_1536 wu_0_0_2048 wu_0_0_2560 wu_0_0_3072 wu_0_0_3584)
          wd_0_0_0 wd_0_0_512) g2 h2) (x2TileB v1879 (downTile (hidTile v1880 wu_0_0_0 wu_0_0_512 wu_0_0_1024 wu_0_0_1536 wu_0_0_2048 wu_0_0_2560
          wu_0_0_3072 wu_0_0_3584) wd_0_0_0 wd_0_0_512) g2 h2) 0 slices_S256x1024_o0_0_S256x512 wg_0_0_0 p_0_0_512_0 wp_0_0_0 := rfl

/-- 512 columns of the third tile's output. -/
theorem out_2_512 (v1879 : FVec F S256x1024 .f32) (v1880 : FVec F S256x1024 .bf16) (wu_0_0_0 wu_0_0_512 wu_0_0_1024 wu_0_0_1536 wu_0_0_2048
    wu_0_0_2560 wu_0_0_3072 wu_0_0_3584 : Vec F S1x1024x512 .bf16) (wd_0_0_0 wd_0_0_512 : Vec F S1x4096x512 .bf16) (g2 h2 : Vec F S1x1x1024 .f32)
    (wg_0_0_512 : Vec F S1x1024x512 .bf16) (p_0_0_512_0 : Vec F S1x1x256x256 .f32) (wp_0_0_512 : Vec F S1x256x512 .bf16) :
    k0_pay312 (k0_pay310 (k0_pay267 (k0_pay265 v1879 v1880 (hidPiece v1880 wu_0_0_0) (hidPiece v1880 wu_0_0_512) (hidPiece v1880 wu_0_0_1024)
        (hidPiece v1880 wu_0_0_1536) (hidPiece v1880 wu_0_0_2048) wu_0_0_2560 wu_0_0_3072 wu_0_0_3584 wd_0_0_0 wd_0_0_512) g2 h2) (k0_pay277
        (k0_pay272 g2) (k0_pay273 h2) (k0_pay274 v1879 (downTile (hidTile v1880 wu_0_0_0 wu_0_0_512 wu_0_0_1024 wu_0_0_1536 wu_0_0_2048 wu_0_0_2560
        wu_0_0_3072 wu_0_0_3584) wd_0_0_0 wd_0_0_512)) (k0_pay275 v1879 (downTile (hidTile v1880 wu_0_0_0 wu_0_0_512 wu_0_0_1024 wu_0_0_1536
        wu_0_0_2048 wu_0_0_2560 wu_0_0_3072 wu_0_0_3584) wd_0_0_0 wd_0_0_512))) (k0_pay279 v1879 (downTile (hidTile v1880 wu_0_0_0 wu_0_0_512
        wu_0_0_1024 wu_0_0_1536 wu_0_0_2048 wu_0_0_2560 wu_0_0_3072 wu_0_0_3584) wd_0_0_0 wd_0_0_512) g2 h2) (k0_pay282 (k0_pay280 v1879 (downTile
        (hidTile v1880 wu_0_0_0 wu_0_0_512 wu_0_0_1024 wu_0_0_1536 wu_0_0_2048 wu_0_0_2560 wu_0_0_3072 wu_0_0_3584) wd_0_0_0 wd_0_0_512)) g2 h2)
        (k0_pay288 (k0_pay283 g2) (k0_pay284 h2) (k0_pay285 v1879 (downTile (hidTile v1880 wu_0_0_0 wu_0_0_512 wu_0_0_1024 wu_0_0_1536 wu_0_0_2048
        wu_0_0_2560 wu_0_0_3072 wu_0_0_3584) wd_0_0_0 wd_0_0_512)) (k0_pay286 v1879 (downTile (hidTile v1880 wu_0_0_0 wu_0_0_512 wu_0_0_1024
        wu_0_0_1536 wu_0_0_2048 wu_0_0_2560 wu_0_0_3072 wu_0_0_3584) wd_0_0_0 wd_0_0_512))) (k0_pay297 v1879 (downTile (hidTile v1880 wu_0_0_0
        wu_0_0_512 wu_0_0_1024 wu_0_0_1536 wu_0_0_2048 wu_0_0_2560 wu_0_0_3072 wu_0_0_3584) wd_0_0_0 wd_0_0_512) g2 h2) (k0_pay301 (k0_pay298 v1879
        (downTile (hidTile v1880 wu_0_0_0 wu_0_0_512 wu_0_0_1024 wu_0_0_1536 wu_0_0_2048 wu_0_0_2560 wu_0_0_3072 wu_0_0_3584) wd_0_0_0 wd_0_0_512))
        (k0_pay299 g2) h2) (k0_pay302 g2) (k0_pay303 h2) (k0_pay304 v1879 (downTile (hidTile v1880 wu_0_0_0 wu_0_0_512 wu_0_0_1024 wu_0_0_1536
        wu_0_0_2048 wu_0_0_2560 wu_0_0_3072 wu_0_0_3584) wd_0_0_0 wd_0_0_512)) (k0_pay305 v1879 (downTile (hidTile v1880 wu_0_0_0 wu_0_0_512
        wu_0_0_1024 wu_0_0_1536 wu_0_0_2048 wu_0_0_2560 wu_0_0_3072 wu_0_0_3584) wd_0_0_0 wd_0_0_512)) (FloatOps.ofBits .f32 1149239296#32)
        wg_0_0_512) (k0_pay311 (k0_pay266 (k0_pay265 v1879 v1880 (hidPiece v1880 wu_0_0_0) (hidPiece v1880 wu_0_0_512) (hidPiece v1880 wu_0_0_1024)
        (hidPiece v1880 wu_0_0_1536) (hidPiece v1880 wu_0_0_2048) wu_0_0_2560 wu_0_0_3072 wu_0_0_3584 wd_0_0_0 wd_0_0_512) g2 h2) (k0_pay276
        (k0_pay272 g2) (k0_pay273 h2) (k0_pay274 v1879 (downTile (hidTile v1880 wu_0_0_0 wu_0_0_512 wu_0_0_1024 wu_0_0_1536 wu_0_0_2048 wu_0_0_2560
        wu_0_0_3072 wu_0_0_3584) wd_0_0_0 wd_0_0_512)) (k0_pay275 v1879 (downTile (hidTile v1880 wu_0_0_0 wu_0_0_512 wu_0_0_1024 wu_0_0_1536
        wu_0_0_2048 wu_0_0_2560 wu_0_0_3072 wu_0_0_3584) wd_0_0_0 wd_0_0_512))) (k0_pay278 v1879 (downTile (hidTile v1880 wu_0_0_0 wu_0_0_512
        wu_0_0_1024 wu_0_0_1536 wu_0_0_2048 wu_0_0_2560 wu_0_0_3072 wu_0_0_3584) wd_0_0_0 wd_0_0_512) g2 h2) (k0_pay281 (k0_pay280 v1879 (downTile
        (hidTile v1880 wu_0_0_0 wu_0_0_512 wu_0_0_1024 wu_0_0_1536 wu_0_0_2048 wu_0_0_2560 wu_0_0_3072 wu_0_0_3584) wd_0_0_0 wd_0_0_512)) g2 h2)
        (k0_pay287 (k0_pay283 g2) (k0_pay284 h2) (k0_pay285 v1879 (downTile (hidTile v1880 wu_0_0_0 wu_0_0_512 wu_0_0_1024 wu_0_0_1536 wu_0_0_2048
        wu_0_0_2560 wu_0_0_3072 wu_0_0_3584) wd_0_0_0 wd_0_0_512)) (k0_pay286 v1879 (downTile (hidTile v1880 wu_0_0_0 wu_0_0_512 wu_0_0_1024
        wu_0_0_1536 wu_0_0_2048 wu_0_0_2560 wu_0_0_3072 wu_0_0_3584) wd_0_0_0 wd_0_0_512))) (k0_pay296 v1879 (downTile (hidTile v1880 wu_0_0_0
        wu_0_0_512 wu_0_0_1024 wu_0_0_1536 wu_0_0_2048 wu_0_0_2560 wu_0_0_3072 wu_0_0_3584) wd_0_0_0 wd_0_0_512) g2 h2) (k0_pay300 (k0_pay298 v1879
        (downTile (hidTile v1880 wu_0_0_0 wu_0_0_512 wu_0_0_1024 wu_0_0_1536 wu_0_0_2048 wu_0_0_2560 wu_0_0_3072 wu_0_0_3584) wd_0_0_0 wd_0_0_512))
        (k0_pay299 g2) h2) (k0_pay302 g2) (k0_pay303 h2) (k0_pay304 v1879 (downTile (hidTile v1880 wu_0_0_0 wu_0_0_512 wu_0_0_1024 wu_0_0_1536
        wu_0_0_2048 wu_0_0_2560 wu_0_0_3072 wu_0_0_3584) wd_0_0_0 wd_0_0_512)) (k0_pay305 v1879 (downTile (hidTile v1880 wu_0_0_0 wu_0_0_512
        wu_0_0_1024 wu_0_0_1536 wu_0_0_2048 wu_0_0_2560 wu_0_0_3072 wu_0_0_3584) wd_0_0_0 wd_0_0_512)) (FloatOps.ofBits .f32 1149239296#32))
        p_0_0_512_0 wp_0_0_512 =
      outPiece (x2Tile v1879 (downTile (hidTile v1880 wu_0_0_0 wu_0_0_512 wu_0_0_1024 wu_0_0_1536 wu_0_0_2048 wu_0_0_2560 wu_0_0_3072 wu_0_0_3584)
          wd_0_0_0 wd_0_0_512) g2 h2) (x2TileB v1879 (downTile (hidTile v1880 wu_0_0_0 wu_0_0_512 wu_0_0_1024 wu_0_0_1536 wu_0_0_2048 wu_0_0_2560
          wu_0_0_3072 wu_0_0_3584) wd_0_0_0 wd_0_0_512) g2 h2) 512 slices_S256x1024_o0_512_S256x512 wg_0_0_512 p_0_0_512_0 wp_0_0_512 := rfl

/-- The fourth tile's rounded input. -/
theorem x_3 (x_0_768_0 : Vec F S1x256x1024 .f32) :
    k0_pay219 x_0_768_0 =
      xbTile x_0_768_0 := rfl

/-- The last rows of columns 0 … of the fourth tile's product. -/
theorem kp_3_0 (x_0_768_0 : Vec F S1x256x1024 .f32) (wi_0_1024 wi_0_2048 : Vec F S1024x256 .bf16) :
    k0_pay222 (xbTile x_0_768_0) wi_0_1024 wi_0_2048 =
      shapeCast S8x256 (lastRows (qPiece (xbTile x_0_768_0) wi_0_1024 wi_0_2048)) shapeCasts_S8x256_S8x256 := rfl

/-- The last rows of columns 256 … of the fourth tile's product. -/
theorem kp_3_256 (x_0_768_0 : Vec F S1x256x1024 .f32) (wi_0_1280 wi_0_2304 : Vec F S1024x256 .bf16) :
    k0_pay243 (xbTile x_0_768_0) (k0_pay241 (xbTile x_0_768_0) wi_0_1280) wi_0_2304 =
      shapeCast S8x256 (lastRows (qPiece (xbTile x_0_768_0) wi_0_1280 wi_0_2304)) shapeCasts_S8x256_S8x256 := rfl

/-- The last rows of columns 512 … of the fourth tile's product. -/
theorem kp_3_512 (x_0_768_0 : Vec F S1x256x1024 .f32) (wi_0_1536 wi_0_2560 : Vec F S1024x256 .bf16) :
    k0_pay270 (xbTile x_0_768_0) wi_0_1536 wi_0_2560 =
      shapeCast S8x256 (lastRows (qPiece (xbTile x_0_768_0) wi_0_1536 wi_0_2560)) shapeCasts_S8x256_S8x256 := rfl

/-- The last rows of columns 768 … of the fourth tile's product. -/
theorem kp_3_768 (x_0_768_0 : Vec F S1x256x1024 .f32) (wi_0_1792 wi_0_2816 : Vec F S1024x256 .bf16) :
    k0_pay291 (xbTile x_0_768_0) wi_0_1792 wi_0_2816 =
      shapeCast S8x256 (lastRows (qPiece (xbTile x_0_768_0) wi_0_1792 wi_0_2816)) shapeCasts_S8x256_S8x256 := rfl

/-- Columns 0 … of the fourth tile, gated. -/
theorem gp_3_0 (v893 : FVec F S8x256 .f32) (x_0_768_0 : Vec F S1x256x1024 .f32) (wi_0_0 wi_0_1024 wi_0_2048 : Vec F S1024x256 .bf16) (kc_2_0 kc_1_0
    kc_0_0 : Vec F S1x256 .f32) :
    k0_pay223 v893 (xbTile x_0_768_0) (k0_pay220 x_0_768_0 wi_0_0) wi_0_1024 wi_0_2048 kc_2_0 kc_1_0 kc_0_0 =
      sconvPiece (xbTile x_0_768_0) wi_0_0 wi_0_1024 wi_0_2048 v893 kc_2_0 kc_1_0 kc_0_0 := rfl

/-- Columns 256 … of the fourth tile, gated. -/
theorem gp_3_256 (v1046 : FVec F S8x256 .f32) (x_0_768_0 : Vec F S1x256x1024 .f32) (wi_0_256 wi_0_1280 wi_0_2304 : Vec F S1024x256 .bf16) (kc_2_256
    kc_1_256 kc_0_256 : Vec F S1x256 .f32) :
    k0_pay244 v1046 (xbTile x_0_768_0) (k0_pay240 (xbTile x_0_768_0) wi_0_256) (k0_pay241 (xbTile x_0_768_0) wi_0_1280) wi_0_2304 kc_2_256 kc_1_256
        kc_0_256 =
      sconvPiece (xbTile x_0_768_0) wi_0_256 wi_0_1280 wi_0_2304 v1046 kc_2_256 kc_1_256 kc_0_256 := rfl

/-- Columns 512 … of the fourth tile, gated. -/
theorem gp_3_512 (v1264 : FVec F S8x256 .f32) (x_0_768_0 : Vec F S1x256x1024 .f32) (wi_0_512 wi_0_1536 wi_0_2560 : Vec F S1024x256 .bf16) (kc_2_512
    kc_1_512 kc_0_512 : Vec F S1x256 .f32) :
    k0_pay271 v1264 (k0_pay268 (xbTile x_0_768_0) wi_0_512) (k0_pay269 (xbTile x_0_768_0) wi_0_1536 wi_0_2560) kc_2_512 kc_1_512 kc_0_512 =
      sconvPiece (xbTile x_0_768_0) wi_0_512 wi_0_1536 wi_0_2560 v1264 kc_2_512 kc_1_512 kc_0_512 := rfl

/-- The fourth tile, gated. -/
theorem g_3 (v1629 v1785 v2006 : FVec F S256x256 .bf16) (x_0_768_0 : Vec F S1x256x1024 .f32) (wi_0_768 : Vec F S1024x256 .bf16) (v1413 : FVec F
    S8x256 .f32) (wi_0_1792 wi_0_2816 : Vec F S1024x256 .bf16) (kc_2_768 kc_1_768 kc_0_768 : Vec F S1x256 .f32) :
    k0_pay295 v1629 v1785 v2006 (k0_pay289 (xbTile x_0_768_0) wi_0_768) (k0_pay293 v1413 (xbTile x_0_768_0) wi_0_1792 wi_0_2816 kc_2_768 kc_1_768)
        (k0_pay294 v1413 (xbTile x_0_768_0) wi_0_1792 wi_0_2816) kc_0_768 =
      sconvTile v1629 v1785 v2006 (sconvPiece (xbTile x_0_768_0) wi_0_768 wi_0_1792 wi_0_2816 v1413 kc_2_768 kc_1_768 kc_0_768) := rfl

/-- The fourth tile's mixer output. -/
theorem mix_3 (v2159 : FVec F S256x1024 .bf16) (wo_0_0 wo_0_512 : Vec F S1024x512 .bf16) :
    k0_pay313 v2159 wo_0_0 wo_0_512 =
      mixTile v2159 wo_0_0 wo_0_512 := rfl

/-- The fourth tile after the first norm. -/
theorem x1_3 (v2159 : FVec F S256x1024 .bf16) (wo_0_0 wo_0_512 : Vec F S1024x512 .bf16) (g1 h1 : Vec F S1x1x1024 .f32) (x_0_768_0r x_0_800_0r
    x_0_832_0r x_0_864_0r x_0_896_0r x_0_928_0r x_0_960_0r x_0_992_0r : Vec F S1x32x1024 .f32) :
    k0_pay345 (mixTile v2159 wo_0_0 wo_0_512) (k0_pay317 (k0_pay314 g1) (k0_pay315 h1) (k0_pay316 v2159 wo_0_0 wo_0_512 x_0_768_0r)) (k0_pay322
        (k0_pay319 h1) (k0_pay320 (mixTile v2159 wo_0_0 wo_0_512) x_0_800_0r) (k0_pay321 g1)) (k0_pay324 (mixTile v2159 wo_0_0 wo_0_512) x_0_832_0r
        g1 h1) (k0_pay327 (k0_pay326 (mixTile v2159 wo_0_0 wo_0_512) x_0_864_0r) g1 h1) (k0_pay333 (k0_pay329 (mixTile v2159 wo_0_0 wo_0_512)
        x_0_896_0r) (k0_pay330 g1) (k0_pay331 h1) (k0_pay332 (mixTile v2159 wo_0_0 wo_0_512) x_0_896_0r) (FloatOps.ofBits .f32 1149239296#32))
        (k0_pay339 (k0_pay335 g1) (k0_pay336 h1) (k0_pay337 (mixTile v2159 wo_0_0 wo_0_512) x_0_928_0r) (k0_pay338 (mixTile v2159 wo_0_0 wo_0_512)
        x_0_928_0r)) (k0_pay341 (mixTile v2159 wo_0_0 wo_0_512) x_0_960_0r g1 h1) (k0_pay343 x_0_992_0r) (FloatOps.ofBits .f32 1071072509#32) g1 h1 =
      x1Tile x_0_768_0r x_0_800_0r x_0_832_0r x_0_864_0r x_0_896_0r x_0_928_0r x_0_960_0r x_0_992_0r (mixTile v2159 wo_0_0 wo_0_512) g1 h1 := rfl

/-- The fourth tile after the first norm, rounded. -/
theorem x1b_3 (v2159 : FVec F S256x1024 .bf16) (wo_0_0 wo_0_512 : Vec F S1024x512 .bf16) (g1 h1 : Vec F S1x1x1024 .f32) (x_0_768_0r x_0_800_0r
    x_0_832_0r x_0_864_0r x_0_896_0r x_0_928_0r x_0_960_0r x_0_992_0r : Vec F S1x32x1024 .f32) :
    k0_pay346 (mixTile v2159 wo_0_0 wo_0_512) (k0_pay318 (k0_pay314 g1) (k0_pay315 h1) (k0_pay316 v2159 wo_0_0 wo_0_512 x_0_768_0r)) (k0_pay323
        (k0_pay319 h1) (k0_pay320 (mixTile v2159 wo_0_0 wo_0_512) x_0_800_0r) (k0_pay321 g1)) (k0_pay325 (mixTile v2159 wo_0_0 wo_0_512) x_0_832_0r
        g1 h1) (k0_pay328 (k0_pay326 (mixTile v2159 wo_0_0 wo_0_512) x_0_864_0r) g1 h1) (k0_pay334 (k0_pay329 (mixTile v2159 wo_0_0 wo_0_512)
        x_0_896_0r) (k0_pay330 g1) (k0_pay331 h1) (k0_pay332 (mixTile v2159 wo_0_0 wo_0_512) x_0_896_0r) (FloatOps.ofBits .f32 1149239296#32))
        (k0_pay340 (k0_pay335 g1) (k0_pay336 h1) (k0_pay337 (mixTile v2159 wo_0_0 wo_0_512) x_0_928_0r) (k0_pay338 (mixTile v2159 wo_0_0 wo_0_512)
        x_0_928_0r)) (k0_pay342 (mixTile v2159 wo_0_0 wo_0_512) x_0_960_0r g1 h1) (k0_pay343 x_0_992_0r) (FloatOps.ofBits .f32 1071072509#32) g1 h1 =
      x1TileB x_0_768_0r x_0_800_0r x_0_832_0r x_0_864_0r x_0_896_0r x_0_928_0r x_0_960_0r x_0_992_0r (mixTile v2159 wo_0_0 wo_0_512) g1 h1 := rfl

/-- Piece 0 of the fourth tile's hidden layer. -/
theorem hp_3_0 (v2159 : FVec F S256x1024 .bf16) (wo_0_0 wo_0_512 : Vec F S1024x512 .bf16) (g1 h1 : Vec F S1x1x1024 .f32) (x_0_768_0r x_0_800_0r
    x_0_832_0r x_0_864_0r x_0_896_0r x_0_928_0r x_0_960_0r x_0_992_0r : Vec F S1x32x1024 .f32) (wu_0_0_0 : Vec F S1x1024x512 .bf16) :
    k0_pay347 (mixTile v2159 wo_0_0 wo_0_512) (k0_pay318 (k0_pay314 g1) (k0_pay315 h1) (k0_pay316 v2159 wo_0_0 wo_0_512 x_0_768_0r)) (k0_pay323
        (k0_pay319 h1) (k0_pay320 (mixTile v2159 wo_0_0 wo_0_512) x_0_800_0r) (k0_pay321 g1)) (k0_pay325 (mixTile v2159 wo_0_0 wo_0_512) x_0_832_0r
        g1 h1) (k0_pay328 (k0_pay326 (mixTile v2159 wo_0_0 wo_0_512) x_0_864_0r) g1 h1) (k0_pay334 (k0_pay329 (mixTile v2159 wo_0_0 wo_0_512)
        x_0_896_0r) (k0_pay330 g1) (k0_pay331 h1) (k0_pay332 (mixTile v2159 wo_0_0 wo_0_512) x_0_896_0r) (FloatOps.ofBits .f32 1149239296#32))
        (k0_pay340 (k0_pay335 g1) (k0_pay336 h1) (k0_pay337 (mixTile v2159 wo_0_0 wo_0_512) x_0_928_0r) (k0_pay338 (mixTile v2159 wo_0_0 wo_0_512)
        x_0_928_0r)) (k0_pay342 (mixTile v2159 wo_0_0 wo_0_512) x_0_960_0r g1 h1) (k0_pay343 x_0_992_0r) (FloatOps.ofBits .f32 1071072509#32) g1 h1
        wu_0_0_0 =
      hidPiece (x1TileB x_0_768_0r x_0_800_0r x_0_832_0r x_0_864_0r x_0_896_0r x_0_928_0r x_0_960_0r x_0_992_0r (mixTile v2159 wo_0_0 wo_0_512) g1
          h1) wu_0_0_0 := rfl

/-- Piece 1 of the fourth tile's hidden layer. -/
theorem hp_3_1 (v2540 : FVec F S256x1024 .bf16) (wu_0_0_512 : Vec F S1x1024x512 .bf16) :
    k0_pay349 v2540 (k0_pay348 wu_0_0_512) (constant S256x512 .f32 0x00000000#32) =
      hidPiece v2540 wu_0_0_512 := rfl

/-- Piece 2 of the fourth tile's hidden layer. -/
theorem hp_3_2 (v2540 : FVec F S256x1024 .bf16) (wu_0_0_1024 : Vec F S1x1024x512 .bf16) :
    k0_pay350 v2540 wu_0_0_1024 =
      hidPiece v2540 wu_0_0_1024 := rfl

/-- Piece 3 of the fourth tile's hidden layer. -/
theorem hp_3_3 (v2540 : FVec F S256x1024 .bf16) (wu_0_0_1536 : Vec F S1x1024x512 .bf16) :
    k0_pay351 v2540 wu_0_0_1536 =
      hidPiece v2540 wu_0_0_1536 := rfl

/-- Piece 4 of the fourth tile's hidden layer. -/
theorem hp_3_4 (v2540 : FVec F S256x1024 .bf16) (wu_0_0_2048 : Vec F S1x1024x512 .bf16) :
    k0_pay352 v2540 wu_0_0_2048 =
      hidPiece v2540 wu_0_0_2048 := rfl

/-- Piece 5 of the fourth tile's hidden layer. -/
theorem hp_3_5 (v2540 : FVec F S256x1024 .bf16) (wu_0_0_2560 : Vec F S1x1024x512 .bf16) :
    k0_pay353 v2540 wu_0_0_2560 =
      hidPiece v2540 wu_0_0_2560 := rfl

/-- The fourth tile's MLP output. -/
theorem dn_3 (v2540 : FVec F S256x1024 .bf16) (wu_0_0_0 wu_0_0_512 wu_0_0_1024 wu_0_0_1536 wu_0_0_2048 wu_0_0_2560 wu_0_0_3072 wu_0_0_3584 : Vec F
    S1x1024x512 .bf16) (wd_0_0_0 wd_0_0_512 : Vec F S1x4096x512 .bf16) :
    k0_pay355 v2540 (hidPiece v2540 wu_0_0_0) (hidPiece v2540 wu_0_0_512) (hidPiece v2540 wu_0_0_1024) (hidPiece v2540 wu_0_0_1536) (hidPiece v2540
        wu_0_0_2048) (hidPiece v2540 wu_0_0_2560) (k0_pay354 wu_0_0_3072) (constant S256x512 .f32 0x00000000#32) wu_0_0_3584 wd_0_0_0 wd_0_0_512 =
      downTile (hidTile v2540 wu_0_0_0 wu_0_0_512 wu_0_0_1024 wu_0_0_1536 wu_0_0_2048 wu_0_0_2560 wu_0_0_3072 wu_0_0_3584) wd_0_0_0 wd_0_0_512 := rfl

/-- The fourth tile after the second norm. -/
theorem x2_3 (g2 h2 : Vec F S1x1x1024 .f32) (v2539 : FVec F S256x1024 .f32) (v2540 : FVec F S256x1024 .bf16) (wu_0_0_0 wu_0_0_512 wu_0_0_1024
    wu_0_0_1536 wu_0_0_2048 wu_0_0_2560 wu_0_0_3072 wu_0_0_3584 : Vec F S1x1024x512 .bf16) (wd_0_0_0 wd_0_0_512 : Vec F S1x4096x512 .bf16) :
    k0_pay389 (k0_pay360 (k0_pay356 g2) (k0_pay357 h2) (k0_pay358 v2539 v2540 (hidPiece v2540 wu_0_0_0) (hidPiece v2540 wu_0_0_512) (hidPiece v2540
        wu_0_0_1024) (hidPiece v2540 wu_0_0_1536) (hidPiece v2540 wu_0_0_2048) (hidPiece v2540 wu_0_0_2560) (k0_pay354 wu_0_0_3072) (constant
        S256x512 .f32 0x00000000#32) wu_0_0_3584 wd_0_0_0 wd_0_0_512) (k0_pay359 v2539 v2540 (hidPiece v2540 wu_0_0_0) (hidPiece v2540 wu_0_0_512)
        (hidPiece v2540 wu_0_0_1024) (hidPiece v2540 wu_0_0_1536) (hidPiece v2540 wu_0_0_2048) (hidPiece v2540 wu_0_0_2560) (k0_pay354 wu_0_0_3072)
        (constant S256x512 .f32 0x00000000#32) wu_0_0_3584 wd_0_0_0 wd_0_0_512)) (k0_pay362 v2539 (downTile (hidTile v2540 wu_0_0_0 wu_0_0_512
        wu_0_0_1024 wu_0_0_1536 wu_0_0_2048 wu_0_0_2560 wu_0_0_3072 wu_0_0_3584) wd_0_0_0 wd_0_0_512) g2 h2) (k0_pay365 (downTile (hidTile v2540
        wu_0_0_0 wu_0_0_512 wu_0_0_1024 wu_0_0_1536 wu_0_0_2048 wu_0_0_2560 wu_0_0_3072 wu_0_0_3584) wd_0_0_0 wd_0_0_512) (k0_pay364 v2539)
        (FloatOps.ofBits .f32 1071072509#32) g2 h2) (k0_pay371 (k0_pay367 v2539 (downTile (hidTile v2540 wu_0_0_0 wu_0_0_512 wu_0_0_1024 wu_0_0_1536
        wu_0_0_2048 wu_0_0_2560 wu_0_0_3072 wu_0_0_3584) wd_0_0_0 wd_0_0_512)) (k0_pay368 g2) (k0_pay369 h2) (k0_pay370 v2539 (downTile (hidTile
        v2540 wu_0_0_0 wu_0_0_512 wu_0_0_1024 wu_0_0_1536 wu_0_0_2048 wu_0_0_2560 wu_0_0_3072 wu_0_0_3584) wd_0_0_0 wd_0_0_512)) (FloatOps.ofBits
        .f32 1149239296#32)) (k0_pay376 (k0_pay373 h2) (k0_pay374 v2539 (downTile (hidTile v2540 wu_0_0_0 wu_0_0_512 wu_0_0_1024 wu_0_0_1536
        wu_0_0_2048 wu_0_0_2560 wu_0_0_3072 wu_0_0_3584) wd_0_0_0 wd_0_0_512)) (k0_pay375 g2)) (k0_pay378 v2539 (downTile (hidTile v2540 wu_0_0_0
        wu_0_0_512 wu_0_0_1024 wu_0_0_1536 wu_0_0_2048 wu_0_0_2560 wu_0_0_3072 wu_0_0_3584) wd_0_0_0 wd_0_0_512) g2 h2) (k0_pay382 (k0_pay380 v2539
        (downTile (hidTile v2540 wu_0_0_0 wu_0_0_512 wu_0_0_1024 wu_0_0_1536 wu_0_0_2048 wu_0_0_2560 wu_0_0_3072 wu_0_0_3584) wd_0_0_0 wd_0_0_512))
        (k0_pay381 g2) h2) (k0_pay384 g2) (k0_pay385 h2) (k0_pay386 v2539 (downTile (hidTile v2540 wu_0_0_0 wu_0_0_512 wu_0_0_1024 wu_0_0_1536
        wu_0_0_2048 wu_0_0_2560 wu_0_0_3072 wu_0_0_3584) wd_0_0_0 wd_0_0_512)) (k0_pay387 v2539 (downTile (hidTile v2540 wu_0_0_0 wu_0_0_512
        wu_0_0_1024 wu_0_0_1536 wu_0_0_2048 wu_0_0_2560 wu_0_0_3072 wu_0_0_3584) wd_0_0_0 wd_0_0_512)) (FloatOps.ofBits .f32 925353388#32) =
      x2Tile v2539 (downTile (hidTile v2540 wu_0_0_0 wu_0_0_512 wu_0_0_1024 wu_0_0_1536 wu_0_0_2048 wu_0_0_2560 wu_0_0_3072 wu_0_0_3584) wd_0_0_0
          wd_0_0_512) g2 h2 := rfl

/-- The fourth tile after the second norm, rounded. -/
theorem x2b_3 (g2 h2 : Vec F S1x1x1024 .f32) (v2539 : FVec F S256x1024 .f32) (v2540 : FVec F S256x1024 .bf16) (wu_0_0_0 wu_0_0_512 wu_0_0_1024
    wu_0_0_1536 wu_0_0_2048 wu_0_0_2560 wu_0_0_3072 wu_0_0_3584 : Vec F S1x1024x512 .bf16) (wd_0_0_0 wd_0_0_512 : Vec F S1x4096x512 .bf16) :
    k0_pay390 (k0_pay361 (k0_pay356 g2) (k0_pay357 h2) (k0_pay358 v2539 v2540 (hidPiece v2540 wu_0_0_0) (hidPiece v2540 wu_0_0_512) (hidPiece v2540
        wu_0_0_1024) (hidPiece v2540 wu_0_0_1536) (hidPiece v2540 wu_0_0_2048) (hidPiece v2540 wu_0_0_2560) (k0_pay354 wu_0_0_3072) (constant
        S256x512 .f32 0x00000000#32) wu_0_0_3584 wd_0_0_0 wd_0_0_512) (k0_pay359 v2539 v2540 (hidPiece v2540 wu_0_0_0) (hidPiece v2540 wu_0_0_512)
        (hidPiece v2540 wu_0_0_1024) (hidPiece v2540 wu_0_0_1536) (hidPiece v2540 wu_0_0_2048) (hidPiece v2540 wu_0_0_2560) (k0_pay354 wu_0_0_3072)
        (constant S256x512 .f32 0x00000000#32) wu_0_0_3584 wd_0_0_0 wd_0_0_512)) (k0_pay363 v2539 (downTile (hidTile v2540 wu_0_0_0 wu_0_0_512
        wu_0_0_1024 wu_0_0_1536 wu_0_0_2048 wu_0_0_2560 wu_0_0_3072 wu_0_0_3584) wd_0_0_0 wd_0_0_512) g2 h2) (k0_pay366 (downTile (hidTile v2540
        wu_0_0_0 wu_0_0_512 wu_0_0_1024 wu_0_0_1536 wu_0_0_2048 wu_0_0_2560 wu_0_0_3072 wu_0_0_3584) wd_0_0_0 wd_0_0_512) (k0_pay364 v2539)
        (FloatOps.ofBits .f32 1071072509#32) g2 h2) (k0_pay372 (k0_pay367 v2539 (downTile (hidTile v2540 wu_0_0_0 wu_0_0_512 wu_0_0_1024 wu_0_0_1536
        wu_0_0_2048 wu_0_0_2560 wu_0_0_3072 wu_0_0_3584) wd_0_0_0 wd_0_0_512)) (k0_pay368 g2) (k0_pay369 h2) (k0_pay370 v2539 (downTile (hidTile
        v2540 wu_0_0_0 wu_0_0_512 wu_0_0_1024 wu_0_0_1536 wu_0_0_2048 wu_0_0_2560 wu_0_0_3072 wu_0_0_3584) wd_0_0_0 wd_0_0_512)) (FloatOps.ofBits
        .f32 1149239296#32)) (k0_pay377 (k0_pay373 h2) (k0_pay374 v2539 (downTile (hidTile v2540 wu_0_0_0 wu_0_0_512 wu_0_0_1024 wu_0_0_1536
        wu_0_0_2048 wu_0_0_2560 wu_0_0_3072 wu_0_0_3584) wd_0_0_0 wd_0_0_512)) (k0_pay375 g2)) (k0_pay379 v2539 (downTile (hidTile v2540 wu_0_0_0
        wu_0_0_512 wu_0_0_1024 wu_0_0_1536 wu_0_0_2048 wu_0_0_2560 wu_0_0_3072 wu_0_0_3584) wd_0_0_0 wd_0_0_512) g2 h2) (k0_pay383 (k0_pay380 v2539
        (downTile (hidTile v2540 wu_0_0_0 wu_0_0_512 wu_0_0_1024 wu_0_0_1536 wu_0_0_2048 wu_0_0_2560 wu_0_0_3072 wu_0_0_3584) wd_0_0_0 wd_0_0_512))
        (k0_pay381 g2) h2) (k0_pay384 g2) (k0_pay385 h2) (k0_pay386 v2539 (downTile (hidTile v2540 wu_0_0_0 wu_0_0_512 wu_0_0_1024 wu_0_0_1536
        wu_0_0_2048 wu_0_0_2560 wu_0_0_3072 wu_0_0_3584) wd_0_0_0 wd_0_0_512)) (k0_pay387 v2539 (downTile (hidTile v2540 wu_0_0_0 wu_0_0_512
        wu_0_0_1024 wu_0_0_1536 wu_0_0_2048 wu_0_0_2560 wu_0_0_3072 wu_0_0_3584) wd_0_0_0 wd_0_0_512)) (FloatOps.ofBits .f32 925353388#32) =
      x2TileB v2539 (downTile (hidTile v2540 wu_0_0_0 wu_0_0_512 wu_0_0_1024 wu_0_0_1536 wu_0_0_2048 wu_0_0_2560 wu_0_0_3072 wu_0_0_3584) wd_0_0_0
          wd_0_0_512) g2 h2 := rfl

/-- 512 columns of the fourth tile's output. -/
theorem out_3_0 (g2 h2 : Vec F S1x1x1024 .f32) (v2539 : FVec F S256x1024 .f32) (v2540 : FVec F S256x1024 .bf16) (wu_0_0_0 wu_0_0_512 wu_0_0_1024
    wu_0_0_1536 wu_0_0_2048 wu_0_0_2560 wu_0_0_3072 wu_0_0_3584 : Vec F S1x1024x512 .bf16) (wd_0_0_0 wd_0_0_512 : Vec F S1x4096x512 .bf16) (wg_0_0_0
    : Vec F S1x1024x512 .bf16) (p_0_0_768_0 : Vec F S1x1x256x256 .f32) (wp_0_0_0 : Vec F S1x256x512 .bf16) :
    k0_pay391 (k0_pay360 (k0_pay356 g2) (k0_pay357 h2) (k0_pay358 v2539 v2540 (hidPiece v2540 wu_0_0_0) (hidPiece v2540 wu_0_0_512) (hidPiece v2540
        wu_0_0_1024) (hidPiece v2540 wu_0_0_1536) (hidPiece v2540 wu_0_0_2048) (hidPiece v2540 wu_0_0_2560) (k0_pay354 wu_0_0_3072) (constant
        S256x512 .f32 0x00000000#32) wu_0_0_3584 wd_0_0_0 wd_0_0_512) (k0_pay359 v2539 v2540 (hidPiece v2540 wu_0_0_0) (hidPiece v2540 wu_0_0_512)
        (hidPiece v2540 wu_0_0_1024) (hidPiece v2540 wu_0_0_1536) (hidPiece v2540 wu_0_0_2048) (hidPiece v2540 wu_0_0_2560) (k0_pay354 wu_0_0_3072)
        (constant S256x512 .f32 0x00000000#32) wu_0_0_3584 wd_0_0_0 wd_0_0_512)) (k0_pay361 (k0_pay356 g2) (k0_pay357 h2) (k0_pay358 v2539 v2540
        (hidPiece v2540 wu_0_0_0) (hidPiece v2540 wu_0_0_512) (hidPiece v2540 wu_0_0_1024) (hidPiece v2540 wu_0_0_1536) (hidPiece v2540 wu_0_0_2048)
        (hidPiece v2540 wu_0_0_2560) (k0_pay354 wu_0_0_3072) (constant S256x512 .f32 0x00000000#32) wu_0_0_3584 wd_0_0_0 wd_0_0_512) (k0_pay359 v2539
        v2540 (hidPiece v2540 wu_0_0_0) (hidPiece v2540 wu_0_0_512) (hidPiece v2540 wu_0_0_1024) (hidPiece v2540 wu_0_0_1536) (hidPiece v2540
        wu_0_0_2048) (hidPiece v2540 wu_0_0_2560) (k0_pay354 wu_0_0_3072) (constant S256x512 .f32 0x00000000#32) wu_0_0_3584 wd_0_0_0 wd_0_0_512))
        (k0_pay362 v2539 (downTile (hidTile v2540 wu_0_0_0 wu_0_0_512 wu_0_0_1024 wu_0_0_1536 wu_0_0_2048 wu_0_0_2560 wu_0_0_3072 wu_0_0_3584)
        wd_0_0_0 wd_0_0_512) g2 h2) (k0_pay363 v2539 (downTile (hidTile v2540 wu_0_0_0 wu_0_0_512 wu_0_0_1024 wu_0_0_1536 wu_0_0_2048 wu_0_0_2560
        wu_0_0_3072 wu_0_0_3584) wd_0_0_0 wd_0_0_512) g2 h2) (k0_pay365 (downTile (hidTile v2540 wu_0_0_0 wu_0_0_512 wu_0_0_1024 wu_0_0_1536
        wu_0_0_2048 wu_0_0_2560 wu_0_0_3072 wu_0_0_3584) wd_0_0_0 wd_0_0_512) (k0_pay364 v2539) (FloatOps.ofBits .f32 1071072509#32) g2 h2)
        (k0_pay366 (downTile (hidTile v2540 wu_0_0_0 wu_0_0_512 wu_0_0_1024 wu_0_0_1536 wu_0_0_2048 wu_0_0_2560 wu_0_0_3072 wu_0_0_3584) wd_0_0_0
        wd_0_0_512) (k0_pay364 v2539) (FloatOps.ofBits .f32 1071072509#32) g2 h2) (k0_pay371 (k0_pay367 v2539 (downTile (hidTile v2540 wu_0_0_0
        wu_0_0_512 wu_0_0_1024 wu_0_0_1536 wu_0_0_2048 wu_0_0_2560 wu_0_0_3072 wu_0_0_3584) wd_0_0_0 wd_0_0_512)) (k0_pay368 g2) (k0_pay369 h2)
        (k0_pay370 v2539 (downTile (hidTile v2540 wu_0_0_0 wu_0_0_512 wu_0_0_1024 wu_0_0_1536 wu_0_0_2048 wu_0_0_2560 wu_0_0_3072 wu_0_0_3584)
        wd_0_0_0 wd_0_0_512)) (FloatOps.ofBits .f32 1149239296#32)) (k0_pay372 (k0_pay367 v2539 (downTile (hidTile v2540 wu_0_0_0 wu_0_0_512
        wu_0_0_1024 wu_0_0_1536 wu_0_0_2048 wu_0_0_2560 wu_0_0_3072 wu_0_0_3584) wd_0_0_0 wd_0_0_512)) (k0_pay368 g2) (k0_pay369 h2) (k0_pay370 v2539
        (downTile (hidTile v2540 wu_0_0_0 wu_0_0_512 wu_0_0_1024 wu_0_0_1536 wu_0_0_2048 wu_0_0_2560 wu_0_0_3072 wu_0_0_3584) wd_0_0_0 wd_0_0_512))
        (FloatOps.ofBits .f32 1149239296#32)) (k0_pay376 (k0_pay373 h2) (k0_pay374 v2539 (downTile (hidTile v2540 wu_0_0_0 wu_0_0_512 wu_0_0_1024
        wu_0_0_1536 wu_0_0_2048 wu_0_0_2560 wu_0_0_3072 wu_0_0_3584) wd_0_0_0 wd_0_0_512)) (k0_pay375 g2)) (k0_pay377 (k0_pay373 h2) (k0_pay374 v2539
        (downTile (hidTile v2540 wu_0_0_0 wu_0_0_512 wu_0_0_1024 wu_0_0_1536 wu_0_0_2048 wu_0_0_2560 wu_0_0_3072 wu_0_0_3584) wd_0_0_0 wd_0_0_512))
        (k0_pay375 g2)) (k0_pay378 v2539 (downTile (hidTile v2540 wu_0_0_0 wu_0_0_512 wu_0_0_1024 wu_0_0_1536 wu_0_0_2048 wu_0_0_2560 wu_0_0_3072
        wu_0_0_3584) wd_0_0_0 wd_0_0_512) g2 h2) (k0_pay379 v2539 (downTile (hidTile v2540 wu_0_0_0 wu_0_0_512 wu_0_0_1024 wu_0_0_1536 wu_0_0_2048
        wu_0_0_2560 wu_0_0_3072 wu_0_0_3584) wd_0_0_0 wd_0_0_512) g2 h2) (k0_pay382 (k0_pay380 v2539 (downTile (hidTile v2540 wu_0_0_0 wu_0_0_512
        wu_0_0_1024 wu_0_0_1536 wu_0_0_2048 wu_0_0_2560 wu_0_0_3072 wu_0_0_3584) wd_0_0_0 wd_0_0_512)) (k0_pay381 g2) h2) (k0_pay383 (k0_pay380 v2539
        (downTile (hidTile v2540 wu_0_0_0 wu_0_0_512 wu_0_0_1024 wu_0_0_1536 wu_0_0_2048 wu_0_0_2560 wu_0_0_3072 wu_0_0_3584) wd_0_0_0 wd_0_0_512))
        (k0_pay381 g2) h2) (k0_pay384 g2) (k0_pay385 h2) (k0_pay386 v2539 (downTile (hidTile v2540 wu_0_0_0 wu_0_0_512 wu_0_0_1024 wu_0_0_1536
        wu_0_0_2048 wu_0_0_2560 wu_0_0_3072 wu_0_0_3584) wd_0_0_0 wd_0_0_512)) (k0_pay387 v2539 (downTile (hidTile v2540 wu_0_0_0 wu_0_0_512
        wu_0_0_1024 wu_0_0_1536 wu_0_0_2048 wu_0_0_2560 wu_0_0_3072 wu_0_0_3584) wd_0_0_0 wd_0_0_512)) (FloatOps.ofBits .f32 925353388#32) wg_0_0_0
        p_0_0_768_0 wp_0_0_0 =
      outPiece (x2Tile v2539 (downTile (hidTile v2540 wu_0_0_0 wu_0_0_512 wu_0_0_1024 wu_0_0_1536 wu_0_0_2048 wu_0_0_2560 wu_0_0_3072 wu_0_0_3584)
          wd_0_0_0 wd_0_0_512) g2 h2) (x2TileB v2539 (downTile (hidTile v2540 wu_0_0_0 wu_0_0_512 wu_0_0_1024 wu_0_0_1536 wu_0_0_2048 wu_0_0_2560
          wu_0_0_3072 wu_0_0_3584) wd_0_0_0 wd_0_0_512) g2 h2) 0 slices_S256x1024_o0_0_S256x512 wg_0_0_0 p_0_0_768_0 wp_0_0_0 := rfl

/-- 512 columns of the fourth tile's output. -/
theorem out_3_512 (g2 h2 : Vec F S1x1x1024 .f32) (v2539 : FVec F S256x1024 .f32) (v2540 : FVec F S256x1024 .bf16) (wu_0_0_0 wu_0_0_512 wu_0_0_1024
    wu_0_0_1536 wu_0_0_2048 wu_0_0_2560 wu_0_0_3072 wu_0_0_3584 : Vec F S1x1024x512 .bf16) (wd_0_0_0 wd_0_0_512 : Vec F S1x4096x512 .bf16)
    (wg_0_0_512 : Vec F S1x1024x512 .bf16) (p_0_0_768_0 : Vec F S1x1x256x256 .f32) (wp_0_0_512 : Vec F S1x256x512 .bf16) :
    k0_pay1 (k0_pay392 (k0_pay361 (k0_pay356 g2) (k0_pay357 h2) (k0_pay358 v2539 v2540 (hidPiece v2540 wu_0_0_0) (hidPiece v2540 wu_0_0_512)
        (hidPiece v2540 wu_0_0_1024) (hidPiece v2540 wu_0_0_1536) (hidPiece v2540 wu_0_0_2048) (hidPiece v2540 wu_0_0_2560) (k0_pay354 wu_0_0_3072)
        (constant S256x512 .f32 0x00000000#32) wu_0_0_3584 wd_0_0_0 wd_0_0_512) (k0_pay359 v2539 v2540 (hidPiece v2540 wu_0_0_0) (hidPiece v2540
        wu_0_0_512) (hidPiece v2540 wu_0_0_1024) (hidPiece v2540 wu_0_0_1536) (hidPiece v2540 wu_0_0_2048) (hidPiece v2540 wu_0_0_2560) (k0_pay354
        wu_0_0_3072) (constant S256x512 .f32 0x00000000#32) wu_0_0_3584 wd_0_0_0 wd_0_0_512)) (k0_pay363 v2539 (downTile (hidTile v2540 wu_0_0_0
        wu_0_0_512 wu_0_0_1024 wu_0_0_1536 wu_0_0_2048 wu_0_0_2560 wu_0_0_3072 wu_0_0_3584) wd_0_0_0 wd_0_0_512) g2 h2) (k0_pay366 (downTile (hidTile
        v2540 wu_0_0_0 wu_0_0_512 wu_0_0_1024 wu_0_0_1536 wu_0_0_2048 wu_0_0_2560 wu_0_0_3072 wu_0_0_3584) wd_0_0_0 wd_0_0_512) (k0_pay364 v2539)
        (FloatOps.ofBits .f32 1071072509#32) g2 h2) (k0_pay372 (k0_pay367 v2539 (downTile (hidTile v2540 wu_0_0_0 wu_0_0_512 wu_0_0_1024 wu_0_0_1536
        wu_0_0_2048 wu_0_0_2560 wu_0_0_3072 wu_0_0_3584) wd_0_0_0 wd_0_0_512)) (k0_pay368 g2) (k0_pay369 h2) (k0_pay370 v2539 (downTile (hidTile
        v2540 wu_0_0_0 wu_0_0_512 wu_0_0_1024 wu_0_0_1536 wu_0_0_2048 wu_0_0_2560 wu_0_0_3072 wu_0_0_3584) wd_0_0_0 wd_0_0_512)) (FloatOps.ofBits
        .f32 1149239296#32)) (k0_pay377 (k0_pay373 h2) (k0_pay374 v2539 (downTile (hidTile v2540 wu_0_0_0 wu_0_0_512 wu_0_0_1024 wu_0_0_1536
        wu_0_0_2048 wu_0_0_2560 wu_0_0_3072 wu_0_0_3584) wd_0_0_0 wd_0_0_512)) (k0_pay375 g2)) (k0_pay379 v2539 (downTile (hidTile v2540 wu_0_0_0
        wu_0_0_512 wu_0_0_1024 wu_0_0_1536 wu_0_0_2048 wu_0_0_2560 wu_0_0_3072 wu_0_0_3584) wd_0_0_0 wd_0_0_512) g2 h2) (k0_pay383 (k0_pay380 v2539
        (downTile (hidTile v2540 wu_0_0_0 wu_0_0_512 wu_0_0_1024 wu_0_0_1536 wu_0_0_2048 wu_0_0_2560 wu_0_0_3072 wu_0_0_3584) wd_0_0_0 wd_0_0_512))
        (k0_pay381 g2) h2) (k0_pay384 g2) (k0_pay385 h2) (k0_pay386 v2539 (downTile (hidTile v2540 wu_0_0_0 wu_0_0_512 wu_0_0_1024 wu_0_0_1536
        wu_0_0_2048 wu_0_0_2560 wu_0_0_3072 wu_0_0_3584) wd_0_0_0 wd_0_0_512)) (k0_pay387 v2539 (downTile (hidTile v2540 wu_0_0_0 wu_0_0_512
        wu_0_0_1024 wu_0_0_1536 wu_0_0_2048 wu_0_0_2560 wu_0_0_3072 wu_0_0_3584) wd_0_0_0 wd_0_0_512)) (FloatOps.ofBits .f32 925353388#32)
        wg_0_0_512) (k0_pay393 (k0_pay360 (k0_pay356 g2) (k0_pay357 h2) (k0_pay358 v2539 v2540 (hidPiece v2540 wu_0_0_0) (hidPiece v2540 wu_0_0_512)
        (hidPiece v2540 wu_0_0_1024) (hidPiece v2540 wu_0_0_1536) (hidPiece v2540 wu_0_0_2048) (hidPiece v2540 wu_0_0_2560) (k0_pay354 wu_0_0_3072)
        (constant S256x512 .f32 0x00000000#32) wu_0_0_3584 wd_0_0_0 wd_0_0_512) (k0_pay359 v2539 v2540 (hidPiece v2540 wu_0_0_0) (hidPiece v2540
        wu_0_0_512) (hidPiece v2540 wu_0_0_1024) (hidPiece v2540 wu_0_0_1536) (hidPiece v2540 wu_0_0_2048) (hidPiece v2540 wu_0_0_2560) (k0_pay354
        wu_0_0_3072) (constant S256x512 .f32 0x00000000#32) wu_0_0_3584 wd_0_0_0 wd_0_0_512)) (k0_pay362 v2539 (downTile (hidTile v2540 wu_0_0_0
        wu_0_0_512 wu_0_0_1024 wu_0_0_1536 wu_0_0_2048 wu_0_0_2560 wu_0_0_3072 wu_0_0_3584) wd_0_0_0 wd_0_0_512) g2 h2) (k0_pay365 (downTile (hidTile
        v2540 wu_0_0_0 wu_0_0_512 wu_0_0_1024 wu_0_0_1536 wu_0_0_2048 wu_0_0_2560 wu_0_0_3072 wu_0_0_3584) wd_0_0_0 wd_0_0_512) (k0_pay364 v2539)
        (FloatOps.ofBits .f32 1071072509#32) g2 h2) (k0_pay371 (k0_pay367 v2539 (downTile (hidTile v2540 wu_0_0_0 wu_0_0_512 wu_0_0_1024 wu_0_0_1536
        wu_0_0_2048 wu_0_0_2560 wu_0_0_3072 wu_0_0_3584) wd_0_0_0 wd_0_0_512)) (k0_pay368 g2) (k0_pay369 h2) (k0_pay370 v2539 (downTile (hidTile
        v2540 wu_0_0_0 wu_0_0_512 wu_0_0_1024 wu_0_0_1536 wu_0_0_2048 wu_0_0_2560 wu_0_0_3072 wu_0_0_3584) wd_0_0_0 wd_0_0_512)) (FloatOps.ofBits
        .f32 1149239296#32)) (k0_pay376 (k0_pay373 h2) (k0_pay374 v2539 (downTile (hidTile v2540 wu_0_0_0 wu_0_0_512 wu_0_0_1024 wu_0_0_1536
        wu_0_0_2048 wu_0_0_2560 wu_0_0_3072 wu_0_0_3584) wd_0_0_0 wd_0_0_512)) (k0_pay375 g2)) (k0_pay378 v2539 (downTile (hidTile v2540 wu_0_0_0
        wu_0_0_512 wu_0_0_1024 wu_0_0_1536 wu_0_0_2048 wu_0_0_2560 wu_0_0_3072 wu_0_0_3584) wd_0_0_0 wd_0_0_512) g2 h2) (k0_pay382 (k0_pay380 v2539
        (downTile (hidTile v2540 wu_0_0_0 wu_0_0_512 wu_0_0_1024 wu_0_0_1536 wu_0_0_2048 wu_0_0_2560 wu_0_0_3072 wu_0_0_3584) wd_0_0_0 wd_0_0_512))
        (k0_pay381 g2) h2) (k0_pay384 g2) (k0_pay385 h2) (k0_pay386 v2539 (downTile (hidTile v2540 wu_0_0_0 wu_0_0_512 wu_0_0_1024 wu_0_0_1536
        wu_0_0_2048 wu_0_0_2560 wu_0_0_3072 wu_0_0_3584) wd_0_0_0 wd_0_0_512)) (k0_pay387 v2539 (downTile (hidTile v2540 wu_0_0_0 wu_0_0_512
        wu_0_0_1024 wu_0_0_1536 wu_0_0_2048 wu_0_0_2560 wu_0_0_3072 wu_0_0_3584) wd_0_0_0 wd_0_0_512)) (FloatOps.ofBits .f32 925353388#32))
        (k0_pay394 p_0_0_768_0) wp_0_0_512 =
      outPiece (x2Tile v2539 (downTile (hidTile v2540 wu_0_0_0 wu_0_0_512 wu_0_0_1024 wu_0_0_1536 wu_0_0_2048 wu_0_0_2560 wu_0_0_3072 wu_0_0_3584)
          wd_0_0_0 wd_0_0_512) g2 h2) (x2TileB v2539 (downTile (hidTile v2540 wu_0_0_0 wu_0_0_512 wu_0_0_1024 wu_0_0_1536 wu_0_0_2048 wu_0_0_2560
          wu_0_0_3072 wu_0_0_3584) wd_0_0_0 wd_0_0_512) g2 h2) 512 slices_S256x1024_o0_512_S256x512 wg_0_0_512 p_0_0_768_0 wp_0_0_512 := rfl

end Cert.SconvStage

end
-- ==== Proof.Layer.lean ====
/- The part of a layer after its mixer, on one 256-row tile and for any mixer output: the two residual sums with their
   norms, the MLP and the gated embedding. -/
module

public import proofs.«01_k».proof.Proof.BlockIdeal

@[expose] public section

set_option maxRecDepth 16384

noncomputable section

namespace Cert.Layer

open Idealize.ShloMosaic Cert.KernelIdeal Cert.KernelIdeal.Gen Cert.Tile Cert.TileIdeal Cert.Block Cert.BlockIdeal

variable {F : FTy → Type} [FloatOps F]

/-- 512 columns of the layer's output for a tile whose rows are `x0 … x7`, whose mixer output is `y` and whose embedding
    rows are `p`. -/
def tail (y : FVec F S256x1024 .f32) (x0 x1 x2 x3 x4 x5 x6 x7 : Vec F S1x32x1024 .f32) (p : Vec F S1x1x256x256 .f32)
    (g1 h1 : Vec F S1x1x1024 .f32) (wu : Vec F S1x1024x4096 .bf16)
    (wd : Vec F S1x4096x1024 .bf16) (g2 h2 : Vec F S1x1x1024 .f32) (c : Nat)
    (h : S256x1024.Slices ![0, c] S256x512) (wp : Vec F S1x256x512 .bf16) (wg : Vec F S1x1024x512 .bf16) : FVec F S1x256x512 .f32 :=
  outPiece (x2Tile (x1Tile x0 x1 x2 x3 x4 x5 x6 x7 y g1 h1) (dTile (x1TileB x0 x1 x2 x3 x4 x5 x6 x7 y g1 h1) wu wd) g2 h2)
    (x2TileB (x1Tile x0 x1 x2 x3 x4 x5 x6 x7 y g1 h1) (dTile (x1TileB x0 x1 x2 x3 x4 x5 x6 x7 y g1 h1) wu wd) g2 h2) c h wg p wp

/-- The tile's output columns over the extended reals, at an index: `X` are the tile's rows, `Y` its mixer output. -/
theorem tail_apply (X Y : Fin 256 → Fin 1024 → EReal) (y : FVec Ideal S256x1024 .f32) (x0 x1 x2 x3 x4 x5 x6 x7 : Vec Ideal S1x32x1024 .f32)
    (ey : ∀ r c, y (ix2 r c) = Y r c)
    (e0 : ∀ (r : Fin 32) c, x0 (ix3 0 r c) = X ⟨0 + r.val, by omega⟩ c)
    (e1 : ∀ (r : Fin 32) c, x1 (ix3 0 r c) = X ⟨32 + r.val, by omega⟩ c)
    (e2 : ∀ (r : Fin 32) c, x2 (ix3 0 r c) = X ⟨64 + r.val, by omega⟩ c)
    (e3 : ∀ (r : Fin 32) c, x3 (ix3 0 r c) = X ⟨96 + r.val, by omega⟩ c)
    (e4 : ∀ (r : Fin 32) c, x4 (ix3 0 r c) = X ⟨128 + r.val, by omega⟩ c)
    (e5 : ∀ (r : Fin 32) c, x5 (ix3 0 r c) = X ⟨160 + r.val, by omega⟩ c)
    (e6 : ∀ (r : Fin 32) c, x6 (ix3 0 r c) = X ⟨192 + r.val, by omega⟩ c)
    (e7 : ∀ (r : Fin 32) c, x7 (ix3 0 r c) = X ⟨224 + r.val, by omega⟩ c)
    (p : Vec Ideal S1x1x256x256 .f32) (g1 h1 : Vec Ideal S1x1x1024 .f32) (wu : Vec Ideal S1x1024x4096 .bf16)
    (wd : Vec Ideal S1x4096x1024 .bf16) (g2 h2 : Vec Ideal S1x1x1024 .f32) (C : Nat)
    (hC : C + 512 ≤ 1024) (h : S256x1024.Slices ![0, C] S256x512)
    (wp : Vec Ideal S1x256x512 .bf16) (wg : Vec Ideal S1x1024x512 .bf16) (WP : Fin 256 → Fin 1024 → EReal) (WG : Fin 1024 → Fin 1024 → EReal)
    (hp : ∀ k (c : Fin 512), wp (ix3 0 k c) = WP k ⟨C + c.val, by omega⟩) (hg : ∀ k (c : Fin 512), wg (ix3 0 k c) = WG k ⟨C + c.val, by omega⟩)
    (r : Fin 256) (c : Fin 512) :
    tail y x0 x1 x2 x3 x4 x5 x6 x7 p g1 h1 wu wd g2 h2 C h wp wg (ix3 0 r c) =
      Spec.out (X r) (Y r) (fun k => p (ix4 0 0 r k)) (fun k => g1 (ix3 0 0 k)) (fun k => h1 (ix3 0 0 k)) (fun k n => wu (ix3 0 k n))
        (fun n c => wd (ix3 0 n c)) (fun k => g2 (ix3 0 0 k)) (fun k => h2 (ix3 0 0 k)) WP WG ⟨C + c.val, by omega⟩ := by
  have h1b : ∀ y r c, x1TileB x0 x1 x2 x3 x4 x5 x6 x7 y g1 h1 (ix2 r c) = x1Tile x0 x1 x2 x3 x4 x5 x6 x7 y g1 h1 (ix2 r c) := fun _ _ _ => rfl
  rw [tail, outPiece_apply _ _ C h hC]
  simp only [x2Tile_apply, x2TileB_apply, dTile_apply, h1b, x1Tile_apply x0 x1 x2 x3 x4 x5 x6 x7 X e0 e1 e2 e3 e4 e5 e6 e7, ey, hp, hg]
  rfl

end Cert.Layer

end
-- ==== Proof.Rows1024.lean ====
/- What a grid point that handles 1024 rows writes, for any mixer outputs of its four 256-row tiles: eight pieces, the two
   column halves of each tile; and the block they make up, over the extended reals. -/
module

public import proofs.«01_k».proof.Proof.Layer
public import proofs.«01_k».proof.Proof.Gen.Kernel2Ideal.Skeleton

@[expose] public section

set_option maxRecDepth 16384

noncomputable section

namespace Cert.Rows1024

open Idealize.ShloMosaic Cert.Kernel2Ideal Cert.Kernel2Ideal.Gen Cert.Layer

variable {F : FTy → Type} [FloatOps F]

/-- The eight pieces a grid point writes. -/
def pieces (y0 y1 y2 y3 : FVec F S256x1024 .f32) (x : Vec F S1x1024x1024 .f32) (p : Vec F S1x1x1024x256 .f32)
    (g1 h1 : Vec F S1x1x1024 .f32) (wu : Vec F S1x1024x4096 .bf16)
    (wd : Vec F S1x4096x1024 .bf16) (g2 h2 : Vec F S1x1x1024 .f32) (wp : Vec F S1x256x1024 .bf16) (wg : Vec F S1x1024x1024 .bf16) :
    List (View.Piece (Elt F) S1x1024x1024 .f32) :=
  [⟨Rect.unit ![0, 768, 512] ![1, 256, 512] inb_S1x1024x1024_S1x256x512_0_768_512, tail y3
    (View.ld x (Rect.unit ![0, 768, 0] ![1, 32, 1024] inb_S1x1024x1024_S1x32x1024_0_768_0))
    (View.ld x (Rect.unit ![0, 800, 0] ![1, 32, 1024] inb_S1x1024x1024_S1x32x1024_0_800_0))
    (View.ld x (Rect.unit ![0, 832, 0] ![1, 32, 1024] inb_S1x1024x1024_S1x32x1024_0_832_0))
    (View.ld x (Rect.unit ![0, 864, 0] ![1, 32, 1024] inb_S1x1024x1024_S1x32x1024_0_864_0))
    (View.ld x (Rect.unit ![0, 896, 0] ![1, 32, 1024] inb_S1x1024x1024_S1x32x1024_0_896_0))
    (View.ld x (Rect.unit ![0, 928, 0] ![1, 32, 1024] inb_S1x1024x1024_S1x32x1024_0_928_0))
    (View.ld x (Rect.unit ![0, 960, 0] ![1, 32, 1024] inb_S1x1024x1024_S1x32x1024_0_960_0))
    (View.ld x (Rect.unit ![0, 992, 0] ![1, 32, 1024] inb_S1x1024x1024_S1x32x1024_0_992_0))
    (View.ld p (Rect.unit ![0, 0, 768, 0] ![1, 1, 256, 256] inb_S1x1x1024x256_S1x1x256x256_0_0_768_0)) g1 h1 wu wd g2 h2 512 slices_S256x1024_o0_512_S256x512
    (View.ld wp (Rect.unit ![0, 0, 512] ![1, 256, 512] inb_S1x256x1024_S1x256x512_0_0_512)) (View.ld wg (Rect.unit ![0, 0, 512] ![1, 1024, 512] inb_S1x1024x1024_S1x1024x512_0_0_512))⟩,
   ⟨Rect.unit ![0, 768, 0] ![1, 256, 512] inb_S1x1024x1024_S1x256x512_0_768_0, tail y3
    (View.ld x (Rect.unit ![0, 768, 0] ![1, 32, 1024] inb_S1x1024x1024_S1x32x1024_0_768_0))
    (View.ld x (Rect.unit ![0, 800, 0] ![1, 32, 1024] inb_S1x1024x1024_S1x32x1024_0_800_0))
    (View.ld x (Rect.unit ![0, 832, 0] ![1, 32, 1024] inb_S1x1024x1024_S1x32x1024_0_832_0))
    (View.ld x (Rect.unit ![0, 864, 0] ![1, 32, 1024] inb_S1x1024x1024_S1x32x1024_0_864_0))
    (View.ld x (Rect.unit ![0, 896, 0] ![1, 32, 1024] inb_S1x1024x1024_S1x32x1024_0_896_0))
    (View.ld x (Rect.unit ![0, 928, 0] ![1, 32, 1024] inb_S1x1024x1024_S1x32x1024_0_928_0))
    (View.ld x (Rect.unit ![0, 960, 0] ![1, 32, 1024] inb_S1x1024x1024_S1x32x1024_0_960_0))
    (View.ld x (Rect.unit ![0, 992, 0] ![1, 32, 1024] inb_S1x1024x1024_S1x32x1024_0_992_0))
    (View.ld p (Rect.unit ![0, 0, 768, 0] ![1, 1, 256, 256] inb_S1x1x1024x256_S1x1x256x256_0_0_768_0)) g1 h1 wu wd g2 h2 0 slices_S256x1024_o0_0_S256x512
    (View.ld wp (Rect.unit ![0, 0, 0] ![1, 256, 512] inb_S1x256x1024_S1x256x512_0_0_0)) (View.ld wg (Rect.unit ![0, 0, 0] ![1, 1024, 512] inb_S1x1024x1024_S1x1024x512_0_0_0))⟩,
   ⟨Rect.unit ![0, 512, 512] ![1, 256, 512] inb_S1x1024x1024_S1x256x512_0_512_512, tail y2
    (View.ld x (Rect.unit ![0, 512, 0] ![1, 32, 1024] inb_S1x1024x1024_S1x32x1024_0_512_0))
    (View.ld x (Rect.unit ![0, 544, 0] ![1, 32, 1024] inb_S1x1024x1024_S1x32x1024_0_544_0))
    (View.ld x (Rect.unit ![0, 576, 0] ![1, 32, 1024] inb_S1x1024x1024_S1x32x1024_0_576_0))
    (View.ld x (Rect.unit ![0, 608, 0] ![1, 32, 1024] inb_S1x1024x1024_S1x32x1024_0_608_0))
    (View.ld x (Rect.unit ![0, 640, 0] ![1, 32, 1024] inb_S1x1024x1024_S1x32x1024_0_640_0))
    (View.ld x (Rect.unit ![0, 672, 0] ![1, 32, 1024] inb_S1x1024x1024_S1x32x1024_0_672_0))
    (View.ld x (Rect.unit ![0, 704, 0] ![1, 32, 1024] inb_S1x1024x1024_S1x32x1024_0_704_0))
    (View.ld x (Rect.unit ![0, 736, 0] ![1, 32, 1024] inb_S1x1024x1024_S1x32x1024_0_736_0))
    (View.ld p (Rect.unit ![0, 0, 512, 0] ![1, 1, 256, 256] inb_S1x1x1024x256_S1x1x256x256_0_0_512_0)) g1 h1 wu wd g2 h2 512 slices_S256x1024_o0_512_S256x512
    (View.ld wp (Rect.unit ![0, 0, 512] ![1, 256, 512] inb_S1x256x1024_S1x256x512_0_0_512)) (View.ld wg (Rect.unit ![0, 0, 512] ![1, 1024, 512] inb_S1x1024x1024_S1x1024x512_0_0_512))⟩,
   ⟨Rect.unit ![0, 512, 0] ![1, 256, 512] inb_S1x1024x1024_S1x256x512_0_512_0, tail y2
    (View.ld x (Rect.unit ![0, 512, 0] ![1, 32, 1024] inb_S1x1024x1024_S1x32x1024_0_512_0))
    (View.ld x (Rect.unit ![0, 544, 0] ![1, 32, 1024] inb_S1x1024x1024_S1x32x1024_0_544_0))
    (View.ld x (Rect.unit ![0, 576, 0] ![1, 32, 1024] inb_S1x1024x1024_S1x32x1024_0_576_0))
    (View.ld x (Rect.unit ![0, 608, 0] ![1, 32, 1024] inb_S1x1024x1024_S1x32x1024_0_608_0))
    (View.ld x (Rect.unit ![0, 640, 0] ![1, 32, 1024] inb_S1x1024x1024_S1x32x1024_0_640_0))
    (View.ld x (Rect.unit ![0, 672, 0] ![1, 32, 1024] inb_S1x1024x1024_S1x32x1024_0_672_0))
    (View.ld x (Rect.unit ![0, 704, 0] ![1, 32, 1024] inb_S1x1024x1024_S1x32x1024_0_704_0))
    (View.ld x (Rect.unit ![0, 736, 0] ![1, 32, 1024] inb_S1x1024x1024_S1x32x1024_0_736_0))
    (View.ld p (Rect.unit ![0, 0, 512, 0] ![1, 1, 256, 256] inb_S1x1x1024x256_S1x1x256x256_0_0_512_0)) g1 h1 wu wd g2 h2 0 slices_S256x1024_o0_0_S256x512
    (View.ld wp (Rect.unit ![0, 0, 0] ![1, 256, 512] inb_S1x256x1024_S1x256x512_0_0_0)) (View.ld wg (Rect.unit ![0, 0, 0] ![1, 1024, 512] inb_S1x1024x1024_S1x1024x512_0_0_0))⟩,
   ⟨Rect.unit ![0, 256, 512] ![1, 256, 512] inb_S1x1024x1024_S1x256x512_0_256_512, tail y1
    (View.ld x (Rect.unit ![0, 256, 0] ![1, 32, 1024] inb_S1x1024x1024_S1x32x1024_0_256_0))
    (View.ld x (Rect.unit ![0, 288, 0] ![1, 32, 1024] inb_S1x1024x1024_S1x32x1024_0_288_0))
    (View.ld x (Rect.unit ![0, 320, 0] ![1, 32, 1024] inb_S1x1024x1024_S1x32x1024_0_320_0))
    (View.ld x (Rect.unit ![0, 352, 0] ![1, 32, 1024] inb_S1x1024x1024_S1x32x1024_0_352_0))
    (View.ld x (Rect.unit ![0, 384, 0] ![1, 32, 1024] inb_S1x1024x1024_S1x32x1024_0_384_0))
    (View.ld x (Rect.unit ![0, 416, 0] ![1, 32, 1024] inb_S1x1024x1024_S1x32x1024_0_416_0))
    (View.ld x (Rect.unit ![0, 448, 0] ![1, 32, 1024] inb_S1x1024x1024_S1x32x1024_0_448_0))
    (View.ld x (Rect.unit ![0, 480, 0] ![1, 32, 1024] inb_S1x1024x1024_S1x32x1024_0_480_0))
    (View.ld p (Rect.unit ![0, 0, 256, 0] ![1, 1, 256, 256] inb_S1x1x1024x256_S1x1x256x256_0_0_256_0)) g1 h1 wu wd g2 h2 512 slices_S256x1024_o0_512_S256x512
    (View.ld wp (Rect.unit ![0, 0, 512] ![1, 256, 512] inb_S1x256x1024_S1x256x512_0_0_512)) (View.ld wg (Rect.unit ![0, 0, 512] ![1, 1024, 512] inb_S1x1024x1024_S1x1024x512_0_0_512))⟩,
   ⟨Rect.unit ![0, 256, 0] ![1, 256, 512] inb_S1x1024x1024_S1x256x512_0_256_0, tail y1
    (View.ld x (Rect.unit ![0, 256, 0] ![1, 32, 1024] inb_S1x1024x1024_S1x32x1024_0_256_0))
    (View.ld x (Rect.unit ![0, 288, 0] ![1, 32, 1024] inb_S1x1024x1024_S1x32x1024_0_288_0))
    (View.ld x (Rect.unit ![0, 320, 0] ![1, 32, 1024] inb_S1x1024x1024_S1x32x1024_0_320_0))
    (View.ld x (Rect.unit ![0, 352, 0] ![1, 32, 1024] inb_S1x1024x1024_S1x32x1024_0_352_0))
    (View.ld x (Rect.unit ![0, 384, 0] ![1, 32, 1024] inb_S1x1024x1024_S1x32x1024_0_384_0))
    (View.ld x (Rect.unit ![0, 416, 0] ![1, 32, 1024] inb_S1x1024x1024_S1x32x1024_0_416_0))
    (View.ld x (Rect.unit ![0, 448, 0] ![1, 32, 1024] inb_S1x1024x1024_S1x32x1024_0_448_0))
    (View.ld x (Rect.unit ![0, 480, 0] ![1, 32, 1024] inb_S1x1024x1024_S1x32x1024_0_480_0))
    (View.ld p (Rect.unit ![0, 0, 256, 0] ![1, 1, 256, 256] inb_S1x1x1024x256_S1x1x256x256_0_0_256_0)) g1 h1 wu wd g2 h2 0 slices_S256x1024_o0_0_S256x512
    (View.ld wp (Rect.unit ![0, 0, 0] ![1, 256, 512] inb_S1x256x1024_S1x256x512_0_0_0)) (View.ld wg (Rect.unit ![0, 0, 0] ![1, 1024, 512] inb_S1x1024x1024_S1x1024x512_0_0_0))⟩,
   ⟨Rect.unit ![0, 0, 512] ![1, 256, 512] inb_S1x1024x1024_S1x256x512_0_0_512, tail y0
    (View.ld x (Rect.unit ![0, 0, 0] ![1, 32, 1024] inb_S1x1024x1024_S1x32x1024_0_0_0))
    (View.ld x (Rect.unit ![0, 32, 0] ![1, 32, 1024] inb_S1x1024x1024_S1x32x1024_0_32_0))
    (View.ld x (Rect.unit ![0, 64, 0] ![1, 32, 1024] inb_S1x1024x1024_S1x32x1024_0_64_0))
    (View.ld x (Rect.unit ![0, 96, 0] ![1, 32, 1024] inb_S1x1024x1024_S1x32x1024_0_96_0))
    (View.ld x (Rect.unit ![0, 128, 0] ![1, 32, 1024] inb_S1x1024x1024_S1x32x1024_0_128_0))
    (View.ld x (Rect.unit ![0, 160, 0] ![1, 32, 1024] inb_S1x1024x1024_S1x32x1024_0_160_0))
    (View.ld x (Rect.unit ![0, 192, 0] ![1, 32, 1024] inb_S1x1024x1024_S1x32x1024_0_192_0))
    (View.ld x (Rect.unit ![0, 224, 0] ![1, 32, 1024] inb_S1x1024x1024_S1x32x1024_0_224_0))
    (View.ld p (Rect.unit ![0, 0, 0, 0] ![1, 1, 256, 256] inb_S1x1x1024x256_S1x1x256x256_0_0_0_0)) g1 h1 wu wd g2 h2 512 slices_S256x1024_o0_512_S256x512
    (View.ld wp (Rect.unit ![0, 0, 512] ![1, 256, 512] inb_S1x256x1024_S1x256x512_0_0_512)) (View.ld wg (Rect.unit ![0, 0, 512] ![1, 1024, 512] inb_S1x1024x1024_S1x1024x512_0_0_512))⟩,
   ⟨Rect.unit ![0, 0, 0] ![1, 256, 512] inb_S1x1024x1024_S1x256x512_0_0_0, tail y0
    (View.ld x (Rect.unit ![0, 0, 0] ![1, 32, 1024] inb_S1x1024x1024_S1x32x1024_0_0_0))
    (View.ld x (Rect.unit ![0, 32, 0] ![1, 32, 1024] inb_S1x1024x1024_S1x32x1024_0_32_0))
    (View.ld x (Rect.unit ![0, 64, 0] ![1, 32, 1024] inb_S1x1024x1024_S1x32x1024_0_64_0))
    (View.ld x (Rect.unit ![0, 96, 0] ![1, 32, 1024] inb_S1x1024x1024_S1x32x1024_0_96_0))
    (View.ld x (Rect.unit ![0, 128, 0] ![1, 32, 1024] inb_S1x1024x1024_S1x32x1024_0_128_0))
    (View.ld x (Rect.unit ![0, 160, 0] ![1, 32, 1024] inb_S1x1024x1024_S1x32x1024_0_160_0))
    (View.ld x (Rect.unit ![0, 192, 0] ![1, 32, 1024] inb_S1x1024x1024_S1x32x1024_0_192_0))
    (View.ld x (Rect.unit ![0, 224, 0] ![1, 32, 1024] inb_S1x1024x1024_S1x32x1024_0_224_0))
    (View.ld p (Rect.unit ![0, 0, 0, 0] ![1, 1, 256, 256] inb_S1x1x1024x256_S1x1x256x256_0_0_0_0)) g1 h1 wu wd g2 h2 0 slices_S256x1024_o0_0_S256x512
    (View.ld wp (Rect.unit ![0, 0, 0] ![1, 256, 512] inb_S1x256x1024_S1x256x512_0_0_0)) (View.ld wg (Rect.unit ![0, 0, 0] ![1, 1024, 512] inb_S1x1024x1024_S1x1024x512_0_0_0))⟩]

/-- One of the pieces at an index: rows `o …` and columns `C …` of the block. -/
theorem piece_at (x : Vec Ideal S1x1024x1024 .f32) (Y : Fin 1024 → Fin 1024 → EReal) (o C : Nat) (ho : o + 256 ≤ 1024) (hC : C + 512 ≤ 1024)
    (y : FVec Ideal S256x1024 .f32) (ey : ∀ (r : Fin 256) c, y (ix2 r c) = Y ⟨o + r.val, by omega⟩ c)
    (x0 x1 x2 x3 x4 x5 x6 x7 : Vec Ideal S1x32x1024 .f32)
    (e0 : ∀ (r : Fin 32) c, x0 (ix3 0 r c) = x (ix3 0 ⟨o + (0 + r.val), by omega⟩ c))
    (e1 : ∀ (r : Fin 32) c, x1 (ix3 0 r c) = x (ix3 0 ⟨o + (32 + r.val), by omega⟩ c))
    (e2 : ∀ (r : Fin 32) c, x2 (ix3 0 r c) = x (ix3 0 ⟨o + (64 + r.val), by omega⟩ c))
    (e3 : ∀ (r : Fin 32) c, x3 (ix3 0 r c) = x (ix3 0 ⟨o + (96 + r.val), by omega⟩ c))
    (e4 : ∀ (r : Fin 32) c, x4 (ix3 0 r c) = x (ix3 0 ⟨o + (128 + r.val), by omega⟩ c))
    (e5 : ∀ (r : Fin 32) c, x5 (ix3 0 r c) = x (ix3 0 ⟨o + (160 + r.val), by omega⟩ c))
    (e6 : ∀ (r : Fin 32) c, x6 (ix3 0 r c) = x (ix3 0 ⟨o + (192 + r.val), by omega⟩ c))
    (e7 : ∀ (r : Fin 32) c, x7 (ix3 0 r c) = x (ix3 0 ⟨o + (224 + r.val), by omega⟩ c))
    (p : Vec Ideal S1x1x1024x256 .f32) (pt : Vec Ideal S1x1x256x256 .f32)
    (ep : ∀ (r : Fin 256) c, pt (ix4 0 0 r c) = p (ix4 0 0 ⟨o + r.val, by omega⟩ c))
    (g1 h1 : Vec Ideal S1x1x1024 .f32) (wu : Vec Ideal S1x1024x4096 .bf16)
    (wd : Vec Ideal S1x4096x1024 .bf16) (g2 h2 : Vec Ideal S1x1x1024 .f32) (h : S256x1024.Slices ![0, C] S256x512)
    (wp : Vec Ideal S1x256x1024 .bf16) (wg : Vec Ideal S1x1024x1024 .bf16) (wpt : Vec Ideal S1x256x512 .bf16) (wgt : Vec Ideal S1x1024x512 .bf16)
    (hp : ∀ k (c : Fin 512), wpt (ix3 0 k c) = wp (ix3 0 k ⟨C + c.val, by omega⟩))
    (hg : ∀ k (c : Fin 512), wgt (ix3 0 k c) = wg (ix3 0 k ⟨C + c.val, by omega⟩))
    (r c : Fin 1024) (i : S1x256x512.Idx) (hr : r.val = o + (i 1).val) (hc : c.val = C + (i 2).val) :
    tail y x0 x1 x2 x3 x4 x5 x6 x7 pt g1 h1 wu wd g2 h2 C h wpt wgt i =
      Spec.out (fun k => x (ix3 0 r k)) (Y r) (fun k => p (ix4 0 0 r k)) (fun k => g1 (ix3 0 0 k)) (fun k => h1 (ix3 0 0 k)) (fun k n => wu (ix3 0 k n))
        (fun n c => wd (ix3 0 n c)) (fun k => g2 (ix3 0 0 k)) (fun k => h2 (ix3 0 0 k)) (fun k c => wp (ix3 0 k c)) (fun k c => wg (ix3 0 k c)) c := by
  obtain ⟨a, b, d, rfl⟩ : ∃ (a : Fin 1) (b : Fin 256) (d : Fin 512), i = ix3 a b d := ⟨i 0, i 1, i 2, by ext k; fin_cases k <;> rfl⟩
  have ha : a = 0 := Subsingleton.elim _ _
  subst ha
  change r.val = o + b.val at hr
  change c.val = C + d.val at hc
  refine (tail_apply (fun r k => x (ix3 0 ⟨o + r.val, by omega⟩ k)) (fun r k => Y ⟨o + r.val, by omega⟩ k) y x0 x1 x2 x3 x4 x5 x6 x7 ey
    e0 e1 e2 e3 e4 e5 e6 e7 pt g1 h1 wu wd g2 h2 C hC h wpt wgt (fun k c => wp (ix3 0 k c)) (fun k c => wg (ix3 0 k c)) hp hg b d).trans ?_
  have er : (⟨o + b.val, by omega⟩ : Fin 1024) = r := Fin.ext hr.symm
  have ec : (⟨C + d.val, by omega⟩ : Fin 1024) = c := Fin.ext hc.symm
  simp only [er, ec, ep]

/-- The block the eight pieces make up, at an index: `Y` is the mixer's output for the block's rows. -/
theorem pieces_apply (y0 y1 y2 y3 : FVec Ideal S256x1024 .f32) (Y : Fin 1024 → Fin 1024 → EReal)
    (ey0 : ∀ (r : Fin 256) c, y0 (ix2 r c) = Y ⟨0 + r.val, by omega⟩ c) (ey1 : ∀ (r : Fin 256) c, y1 (ix2 r c) = Y ⟨256 + r.val, by omega⟩ c)
    (ey2 : ∀ (r : Fin 256) c, y2 (ix2 r c) = Y ⟨512 + r.val, by omega⟩ c) (ey3 : ∀ (r : Fin 256) c, y3 (ix2 r c) = Y ⟨768 + r.val, by omega⟩ c)
    (x : Vec Ideal S1x1024x1024 .f32) (p : Vec Ideal S1x1x1024x256 .f32)
    (g1 h1 : Vec Ideal S1x1x1024 .f32) (wu : Vec Ideal S1x1024x4096 .bf16)
    (wd : Vec Ideal S1x4096x1024 .bf16) (g2 h2 : Vec Ideal S1x1x1024 .f32) (wp : Vec Ideal S1x256x1024 .bf16) (wg : Vec Ideal S1x1024x1024 .bf16)
    (r c : Fin 1024) :
    View.canon (pieces y0 y1 y2 y3 x p g1 h1 wu wd g2 h2 wp wg) (ix3 0 r c) =
      Spec.out (fun k => x (ix3 0 r k)) (Y r) (fun k => p (ix4 0 0 r k)) (fun k => g1 (ix3 0 0 k)) (fun k => h1 (ix3 0 0 k)) (fun k n => wu (ix3 0 k n))
        (fun n c => wd (ix3 0 n c)) (fun k => g2 (ix3 0 0 k)) (fun k => h2 (ix3 0 0 k)) (fun k c => wp (ix3 0 k c)) (fun k c => wg (ix3 0 k c)) c := by
  rw [pieces]
  canon_tiles i h
  · refine piece_at x Y 768 512 (by omega) (by omega) y3 ?_ _ _ _ _ _ _ _ _ ?_ ?_ ?_ ?_ ?_ ?_ ?_ ?_ p _ ?_
      g1 _ wu wd g2 _ _ wp wg _ _ ?_ ?_ r c i h1 h2
    · intro r k; rw [ey3]
    all_goals intro r k; pointwise []; try (congr 2; exact Fin.ext (by simp only []; omega))
  · refine piece_at x Y 768 0 (by omega) (by omega) y3 ?_ _ _ _ _ _ _ _ _ ?_ ?_ ?_ ?_ ?_ ?_ ?_ ?_ p _ ?_
      g1 _ wu wd g2 _ _ wp wg _ _ ?_ ?_ r c i h1 (h2.trans (Nat.zero_add _).symm)
    · intro r k; rw [ey3]
    all_goals intro r k; pointwise []; try (congr 2; exact Fin.ext (by simp only []; omega))
  · refine piece_at x Y 512 512 (by omega) (by omega) y2 ?_ _ _ _ _ _ _ _ _ ?_ ?_ ?_ ?_ ?_ ?_ ?_ ?_ p _ ?_
      g1 _ wu wd g2 _ _ wp wg _ _ ?_ ?_ r c i h1 h2
    · intro r k; rw [ey2]
    all_goals intro r k; pointwise []; try (congr 2; exact Fin.ext (by simp only []; omega))
  · refine piece_at x Y 512 0 (by omega) (by omega) y2 ?_ _ _ _ _ _ _ _ _ ?_ ?_ ?_ ?_ ?_ ?_ ?_ ?_ p _ ?_
      g1 _ wu wd g2 _ _ wp wg _ _ ?_ ?_ r c i h1 (h2.trans (Nat.zero_add _).symm)
    · intro r k; rw [ey2]
    all_goals intro r k; pointwise []; try (congr 2; exact Fin.ext (by simp only []; omega))
  · refine piece_at x Y 256 512 (by omega) (by omega) y1 ?_ _ _ _ _ _ _ _ _ ?_ ?_ ?_ ?_ ?_ ?_ ?_ ?_ p _ ?_
      g1 _ wu wd g2 _ _ wp wg _ _ ?_ ?_ r c i h1 h2
    · intro r k; rw [ey1]
    all_goals intro r k; pointwise []; try (congr 2; exact Fin.ext (by simp only []; omega))
  · refine piece_at x Y 256 0 (by omega) (by omega) y1 ?_ _ _ _ _ _ _ _ _ ?_ ?_ ?_ ?_ ?_ ?_ ?_ ?_ p _ ?_
      g1 _ wu wd g2 _ _ wp wg _ _ ?_ ?_ r c i h1 (h2.trans (Nat.zero_add _).symm)
    · intro r k; rw [ey1]
    all_goals intro r k; pointwise []; try (congr 2; exact Fin.ext (by simp only []; omega))
  · refine piece_at x Y 0 512 (by omega) (by omega) y0 ?_ _ _ _ _ _ _ _ _ ?_ ?_ ?_ ?_ ?_ ?_ ?_ ?_ p _ ?_
      g1 _ wu wd g2 _ _ wp wg _ _ ?_ ?_ r c i (h1.trans (Nat.zero_add _).symm) h2
    · intro r k; rw [ey0]
    all_goals intro r k; pointwise []; try (congr 2; exact Fin.ext (by simp only []; omega))
  · refine piece_at x Y 0 0 (by omega) (by omega) y0 ?_ _ _ _ _ _ _ _ _ ?_ ?_ ?_ ?_ ?_ ?_ ?_ ?_ p _ ?_
      g1 _ wu wd g2 _ _ wp wg _ _ ?_ ?_ r c i (h1.trans (Nat.zero_add _).symm) (h2.trans (Nat.zero_add _).symm)
    · intro r k; rw [ey0]
    all_goals intro r k; pointwise []; try (congr 2; exact Fin.ext (by simp only []; omega))

end Cert.Rows1024

end
-- ==== Proof.SconvBlock.lean ====
/- What the short convolution's body writes at one grid point, in the vocabulary of `Tile` and `SconvTile`: the output block,
   the rows it keeps for the next grid point and, at a sequence's last one, the rows it hands on. -/
module

public import proofs.«01_k».proof.Proof.SconvStage
public import proofs.«01_k».proof.Proof.Rows1024
public import proofs.«01_k».proof.Proof.Gen.Kernel2Ideal.Value
public import Idealize.ShloMosaic.Lib.Pipeline.ValueKit

@[expose] public section

set_option maxRecDepth 16384

noncomputable section

namespace Cert.SconvBlock

open Idealize.ShloMosaic Idealize.ShloMosaic.TcCoe Idealize.SL.Sem
open Cert.Kernel2Ideal Cert.Kernel2Ideal.Gen Cert.Tile Cert.SconvTile

variable {F : FTy → Type} [FloatOps F]

/-- The last eight rows of columns 0 … of a tile's product of projections. -/
def keep0 (xt : Vec F S1x256x1024 .f32) (wi : Vec F S1024x3072 .bf16) : FVec F S8x256 .f32 :=
  lastRows (qPiece (xbTile xt) (View.ld wi (Rect.unit ![0, 1024] ![1024, 256] inb_S1024x3072_S1024x256_0_1024)) (View.ld wi (Rect.unit ![0, 2048] ![1024, 256] inb_S1024x3072_S1024x256_0_2048)))

/-- The last eight rows of columns 256 … of a tile's product of projections. -/
def keep256 (xt : Vec F S1x256x1024 .f32) (wi : Vec F S1024x3072 .bf16) : FVec F S8x256 .f32 :=
  lastRows (qPiece (xbTile xt) (View.ld wi (Rect.unit ![0, 1280] ![1024, 256] inb_S1024x3072_S1024x256_0_1280)) (View.ld wi (Rect.unit ![0, 2304] ![1024, 256] inb_S1024x3072_S1024x256_0_2304)))

/-- The last eight rows of columns 512 … of a tile's product of projections. -/
def keep512 (xt : Vec F S1x256x1024 .f32) (wi : Vec F S1024x3072 .bf16) : FVec F S8x256 .f32 :=
  lastRows (qPiece (xbTile xt) (View.ld wi (Rect.unit ![0, 1536] ![1024, 256] inb_S1024x3072_S1024x256_0_1536)) (View.ld wi (Rect.unit ![0, 2560] ![1024, 256] inb_S1024x3072_S1024x256_0_2560)))

/-- The last eight rows of columns 768 … of a tile's product of projections. -/
def keep768 (xt : Vec F S1x256x1024 .f32) (wi : Vec F S1024x3072 .bf16) : FVec F S8x256 .f32 :=
  lastRows (qPiece (xbTile xt) (View.ld wi (Rect.unit ![0, 1792] ![1024, 256] inb_S1024x3072_S1024x256_0_1792)) (View.ld wi (Rect.unit ![0, 2816] ![1024, 256] inb_S1024x3072_S1024x256_0_2816)))

/-- The gated convolution of a tile, with eight rows of history for each 256 columns. -/
def gateTile (xt : Vec F S1x256x1024 .f32) (wi : Vec F S1024x3072 .bf16) (kc : Vec F S3x1024 .f32) (h0 h1 h2 h3 : FVec F S8x256 .f32) : FVec F S256x1024 .bf16 :=
  sconvTile
    (sconvPiece (xbTile xt) (View.ld wi (Rect.unit ![0, 0] ![1024, 256] inb_S1024x3072_S1024x256_0_0)) (View.ld wi (Rect.unit ![0, 1024] ![1024, 256] inb_S1024x3072_S1024x256_0_1024))
      (View.ld wi (Rect.unit ![0, 2048] ![1024, 256] inb_S1024x3072_S1024x256_0_2048)) h0
      (View.ld kc (Rect.unit ![2, 0] ![1, 256] inb_S3x1024_S1x256_2_0)) (View.ld kc (Rect.unit ![1, 0] ![1, 256] inb_S3x1024_S1x256_1_0)) (View.ld kc (Rect.unit ![0, 0] ![1, 256] inb_S3x1024_S1x256_0_0)))
    (sconvPiece (xbTile xt) (View.ld wi (Rect.unit ![0, 256] ![1024, 256] inb_S1024x3072_S1024x256_0_256)) (View.ld wi (Rect.unit ![0, 1280] ![1024, 256] inb_S1024x3072_S1024x256_0_1280))
      (View.ld wi (Rect.unit ![0, 2304] ![1024, 256] inb_S1024x3072_S1024x256_0_2304)) h1
      (View.ld kc (Rect.unit ![2, 256] ![1, 256] inb_S3x1024_S1x256_2_256)) (View.ld kc (Rect.unit ![1, 256] ![1, 256] inb_S3x1024_S1x256_1_256)) (View.ld kc (Rect.unit ![0, 256] ![1, 256] inb_S3x1024_S1x256_0_256)))
    (sconvPiece (xbTile xt) (View.ld wi (Rect.unit ![0, 512] ![1024, 256] inb_S1024x3072_S1024x256_0_512)) (View.ld wi (Rect.unit ![0, 1536] ![1024, 256] inb_S1024x3072_S1024x256_0_1536))
      (View.ld wi (Rect.unit ![0, 2560] ![1024, 256] inb_S1024x3072_S1024x256_0_2560)) h2
      (View.ld kc (Rect.unit ![2, 512] ![1, 256] inb_S3x1024_S1x256_2_512)) (View.ld kc (Rect.unit ![1, 512] ![1, 256] inb_S3x1024_S1x256_1_512)) (View.ld kc (Rect.unit ![0, 512] ![1, 256] inb_S3x1024_S1x256_0_512)))
    (sconvPiece (xbTile xt) (View.ld wi (Rect.unit ![0, 768] ![1024, 256] inb_S1024x3072_S1024x256_0_768)) (View.ld wi (Rect.unit ![0, 1792] ![1024, 256] inb_S1024x3072_S1024x256_0_1792))
      (View.ld wi (Rect.unit ![0, 2816] ![1024, 256] inb_S1024x3072_S1024x256_0_2816)) h3
      (View.ld kc (Rect.unit ![2, 768] ![1, 256] inb_S3x1024_S1x256_2_768)) (View.ld kc (Rect.unit ![1, 768] ![1, 256] inb_S3x1024_S1x256_1_768)) (View.ld kc (Rect.unit ![0, 768] ![1, 256] inb_S3x1024_S1x256_0_768)))

/-- The mixer's output for a tile. -/
def mixAt (xt : Vec F S1x256x1024 .f32) (wi : Vec F S1024x3072 .bf16) (kc : Vec F S3x1024 .f32) (wo : Vec F S1024x1024 .bf16) (h0 h1 h2 h3 : FVec F S8x256 .f32) :
    FVec F S256x1024 .f32 :=
  mixTile (gateTile xt wi kc h0 h1 h2 h3) (View.ld wo (Rect.unit ![0, 0] ![1024, 512] inb_S1024x1024_S1024x512_0_0))
    (View.ld wo (Rect.unit ![0, 512] ![1024, 512] inb_S1024x1024_S1024x512_0_512))

/-- The pieces of a grid point's output block: the first tile's history is `q0 … q3`, each other tile's the tile before it. -/
def block (wi : Vec F S1024x3072 .bf16) (kc : Vec F S3x1024 .f32) (wo : Vec F S1024x1024 .bf16) (q0 q1 q2 q3 : FVec F S8x256 .f32)
    (x : Vec F S1x1024x1024 .f32) (p : Vec F S1x1x1024x256 .f32) (g1 h1 : Vec F S1x1x1024 .f32) (wu : Vec F S1x1024x4096 .bf16)
    (wd : Vec F S1x4096x1024 .bf16) (g2 h2 : Vec F S1x1x1024 .f32) (wp : Vec F S1x256x1024 .bf16) (wg : Vec F S1x1024x1024 .bf16) :
    List (View.Piece (Elt F) S1x1024x1024 .f32) :=
  Cert.Rows1024.pieces
    (mixAt (View.ld x (Rect.unit ![0, 0, 0] ![1, 256, 1024] inb_S1x1024x1024_S1x256x1024_0_0_0)) wi kc wo q0 q1 q2 q3)
    (mixAt (View.ld x (Rect.unit ![0, 256, 0] ![1, 256, 1024] inb_S1x1024x1024_S1x256x1024_0_256_0)) wi kc wo (keep0 (View.ld x (Rect.unit ![0, 0, 0] ![1, 256, 1024] inb_S1x1024x1024_S1x256x1024_0_0_0)) wi)
      (keep256 (View.ld x (Rect.unit ![0, 0, 0] ![1, 256, 1024] inb_S1x1024x1024_S1x256x1024_0_0_0)) wi)
      (keep512 (View.ld x (Rect.unit ![0, 0, 0] ![1, 256, 1024] inb_S1x1024x1024_S1x256x1024_0_0_0)) wi)
      (keep768 (View.ld x (Rect.unit ![0, 0, 0] ![1, 256, 1024] inb_S1x1024x1024_S1x256x1024_0_0_0)) wi))
    (mixAt (View.ld x (Rect.unit ![0, 512, 0] ![1, 256, 1024] inb_S1x1024x1024_S1x256x1024_0_512_0)) wi kc wo (keep0 (View.ld x (Rect.unit ![0, 256, 0] ![1, 256, 1024] inb_S1x1024x1024_S1x256x1024_0_256_0)) wi)
      (keep256 (View.ld x (Rect.unit ![0, 256, 0] ![1, 256, 1024] inb_S1x1024x1024_S1x256x1024_0_256_0)) wi)
      (keep512 (View.ld x (Rect.unit ![0, 256, 0] ![1, 256, 1024] inb_S1x1024x1024_S1x256x1024_0_256_0)) wi)
      (keep768 (View.ld x (Rect.unit ![0, 256, 0] ![1, 256, 1024] inb_S1x1024x1024_S1x256x1024_0_256_0)) wi))
    (mixAt (View.ld x (Rect.unit ![0, 768, 0] ![1, 256, 1024] inb_S1x1024x1024_S1x256x1024_0_768_0)) wi kc wo (keep0 (View.ld x (Rect.unit ![0, 512, 0] ![1, 256, 1024] inb_S1x1024x1024_S1x256x1024_0_512_0)) wi)
      (keep256 (View.ld x (Rect.unit ![0, 512, 0] ![1, 256, 1024] inb_S1x1024x1024_S1x256x1024_0_512_0)) wi)
      (keep512 (View.ld x (Rect.unit ![0, 512, 0] ![1, 256, 1024] inb_S1x1024x1024_S1x256x1024_0_512_0)) wi)
      (keep768 (View.ld x (Rect.unit ![0, 512, 0] ![1, 256, 1024] inb_S1x1024x1024_S1x256x1024_0_512_0)) wi))
    x p g1 h1 wu wd g2 h2 wp wg

/-- The rows kept for the next grid point, as the pieces that store them. -/
def kept (x : Vec F S1x1024x1024 .f32) (wi : Vec F S1024x3072 .bf16) : List (View.Piece (Elt F) S8x1024 .f32) :=
  [⟨Rect.unit ![0, 768] ![8, 256] inb_S8x1024_S8x256_0_768, shapeCast S8x256 (keep768 (View.ld x (Rect.unit ![0, 768, 0] ![1, 256, 1024] inb_S1x1024x1024_S1x256x1024_0_768_0)) wi) shapeCasts_S8x256_S8x256⟩,
   ⟨Rect.unit ![0, 512] ![8, 256] inb_S8x1024_S8x256_0_512, shapeCast S8x256 (keep512 (View.ld x (Rect.unit ![0, 768, 0] ![1, 256, 1024] inb_S1x1024x1024_S1x256x1024_0_768_0)) wi) shapeCasts_S8x256_S8x256⟩,
   ⟨Rect.unit ![0, 256] ![8, 256] inb_S8x1024_S8x256_0_256, shapeCast S8x256 (keep256 (View.ld x (Rect.unit ![0, 768, 0] ![1, 256, 1024] inb_S1x1024x1024_S1x256x1024_0_768_0)) wi) shapeCasts_S8x256_S8x256⟩,
   ⟨Rect.unit ![0, 0] ![8, 256] inb_S8x1024_S8x256_0_0, shapeCast S8x256 (keep0 (View.ld x (Rect.unit ![0, 768, 0] ![1, 256, 1024] inb_S1x1024x1024_S1x256x1024_0_768_0)) wi) shapeCasts_S8x256_S8x256⟩]

/-- The history before a sequence's first row: the zeros stored there. -/
def fresh : Vec F S8x1024 .f32 := k0_pay3

/-- Reading back a box of what has been stored: that box of the stored pieces. -/
theorem readBack {κ : Kind} {sp : Space} {s : Shape} {e : EltTy} (v : View sig κ sp s e) (L : List (View.Piece (Elt F) s e)) (r : Rect s) :
    v.readCov L r.toLoadRect = View.ld (View.canon L) r :=
  View.readCov_eq_canon' v L r.toLoadRect

/-- What a whole scratch holds is what was put there. -/
theorem carried {κ : Kind} (b : Ref sig κ) (h : (Memref.whole b).IsWhole) (X : b.ty.shape.Idx → Elt F b.ty.elt) :
    View.read (Elt F) (View.whole b) (h.unread X) = X :=
  h.read_unread X

/-- One store over a whole scratch leaves what it stores. -/
theorem stored (w : Vec F S8x1024 .f32) :
    View.canon [(⟨Rect.unit ![0, 0] ![8, 1024] inb_S8x1024_S8x1024_0_0, w⟩ : View.Piece (Elt F) S8x1024 .f32)] = w :=
  View.canon_cons_unit_lit' inb_S8x1024_S8x1024_0_0 w [] (by decide)

variable (m : (ℓ : Loc nD τ sig) → Buf (Elt F) ℓ)

set_option maxHeartbeats 1000000 in
open Cert.SconvStage in
/-- A sequence's first grid point writes its output block; its history is zero. -/
theorem block_A (c : Dev nD) (t : Fin cfg0.N) (h0 : t.val % 2 = 0) (h1 : ¬ t.val % 2 = 1) :
    (outsAt0 m c t.val t.isLt).1 = View.canon (block (iblk m c 2 t) (iblk m c 3 t) (iblk m c 4 t) (View.ld fresh (Rect.unit ![0, 0] ![8, 256] inb_S8x1024_S8x256_0_0))
      (View.ld fresh (Rect.unit ![0, 256] ![8, 256] inb_S8x1024_S8x256_0_256))
      (View.ld fresh (Rect.unit ![0, 512] ![8, 256] inb_S8x1024_S8x256_0_512))
      (View.ld fresh (Rect.unit ![0, 768] ![8, 256] inb_S8x1024_S8x256_0_768))
      (iblk m c 0 t) (iblk m c 1 t) (iblk m c 5 t) (iblk m c 6 t)
        (iblk m c 7 t) (iblk m c 8 t) (iblk m c 9 t) (iblk m c 10 t) (iblk m c 11 t) (iblk m c 12 t)) := by
  rw [outsAt0_A m c t h0 h1]
  dsimp only
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize iblk m c 9 t = X9
  generalize iblk m c 10 t = X10
  generalize iblk m c 11 t = X11
  generalize iblk m c 12 t = X12
  frame_out
  simp only [x_0, kp_0_0, kp_0_256, kp_0_512, kp_0_768, gp_0_0, gp_0_256, gp_0_512, mix_0, x1_0, x1b_0, hp_0_0, hp_0_1, hp_0_2, hp_0_3,
    hp_0_4, hp_0_5, hp_0_6, dn_0, x2_0, x2b_0, out_0_0, out_0_512, x_1, kp_1_0, kp_1_256, kp_1_512, kp_1_768, gp_1_0, gp_1_256, gp_1_512,
    g_1, mix_1, x1_1, x1b_1, hp_1_0, hp_1_1, hp_1_2, hp_1_3, hp_1_4, hp_1_5, dn_1, x2_1, x2b_1, out_1_0, out_1_512, x_2, kp_2_0, kp_2_256,
    kp_2_512, kp_2_768, gp_2_0, gp_2_256, gp_2_512, g_2, mix_2, x1_2, x1b_2, hp_2_0, hp_2_1, hp_2_2, hp_2_3, hp_2_4, dn_2, x2_2, x2b_2,
    out_2_0, out_2_512, x_3, kp_3_0, kp_3_256, kp_3_512, kp_3_768, gp_3_0, gp_3_256, gp_3_512, g_3, mix_3, x1_3, x1b_3, hp_3_0, hp_3_1,
    hp_3_2, hp_3_3, hp_3_4, hp_3_5, dn_3, x2_3, x2b_3, out_3_0, out_3_512, readBack, carried, stored, List.cons_append, List.nil_append,
    block, Cert.Rows1024.pieces, Cert.Layer.tail, Cert.Block.dTile, mixAt, gateTile, keep0, keep256, keep512, keep768, fresh, kept]

set_option maxHeartbeats 1000000 in
open Cert.SconvStage in
/-- Every other grid point writes its output block; its history is what the point before it kept. -/
theorem block_B (c : Dev nD) (t : Fin cfg0.N) (h0 : ¬ t.val % 2 = 0) (h1 : t.val % 2 = 1) (S : Vec F S8x1024 .f32) (hS : S = (outsAt0 m c (t.val - 1) (Nat.lt_of_le_of_lt (Nat.sub_le _ _) t.isLt)).2.2) :
    (outsAt0 m c t.val t.isLt).1 = View.canon (block (iblk m c 2 t) (iblk m c 3 t) (iblk m c 4 t) (View.ld S (Rect.unit ![0, 0] ![8, 256] inb_S8x1024_S8x256_0_0))
      (View.ld S (Rect.unit ![0, 256] ![8, 256] inb_S8x1024_S8x256_0_256))
      (View.ld S (Rect.unit ![0, 512] ![8, 256] inb_S8x1024_S8x256_0_512))
      (View.ld S (Rect.unit ![0, 768] ![8, 256] inb_S8x1024_S8x256_0_768))
      (iblk m c 0 t) (iblk m c 1 t) (iblk m c 5 t) (iblk m c 6 t)
        (iblk m c 7 t) (iblk m c 8 t) (iblk m c 9 t) (iblk m c 10 t) (iblk m c 11 t) (iblk m c 12 t)) := by
  rw [outsAt0_B m c t h0 h1, ← hS]
  dsimp only
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize iblk m c 9 t = X9
  generalize iblk m c 10 t = X10
  generalize iblk m c 11 t = X11
  generalize iblk m c 12 t = X12
  frame_out
  simp only [x_0, kp_0_0, kp_0_256, kp_0_512, kp_0_768, gp_0_0, gp_0_256, gp_0_512, mix_0, x1_0, x1b_0, hp_0_0, hp_0_1, hp_0_2, hp_0_3,
    hp_0_4, hp_0_5, hp_0_6, dn_0, x2_0, x2b_0, out_0_0, out_0_512, x_1, kp_1_0, kp_1_256, kp_1_512, kp_1_768, gp_1_0, gp_1_256, gp_1_512,
    g_1, mix_1, x1_1, x1b_1, hp_1_0, hp_1_1, hp_1_2, hp_1_3, hp_1_4, hp_1_5, dn_1, x2_1, x2b_1, out_1_0, out_1_512, x_2, kp_2_0, kp_2_256,
    kp_2_512, kp_2_768, gp_2_0, gp_2_256, gp_2_512, g_2, mix_2, x1_2, x1b_2, hp_2_0, hp_2_1, hp_2_2, hp_2_3, hp_2_4, dn_2, x2_2, x2b_2,
    out_2_0, out_2_512, x_3, kp_3_0, kp_3_256, kp_3_512, kp_3_768, gp_3_0, gp_3_256, gp_3_512, g_3, mix_3, x1_3, x1b_3, hp_3_0, hp_3_1,
    hp_3_2, hp_3_3, hp_3_4, hp_3_5, dn_3, x2_3, x2b_3, out_3_0, out_3_512, readBack, carried, stored, List.cons_append, List.nil_append,
    block, Cert.Rows1024.pieces, Cert.Layer.tail, Cert.Block.dTile, mixAt, gateTile, keep0, keep256, keep512, keep768, fresh, kept]

set_option maxHeartbeats 1000000 in
open Cert.SconvStage in
/-- A sequence's first grid point keeps its last eight rows for the next. -/
theorem kept_A (c : Dev nD) (t : Fin cfg0.N) (h0 : t.val % 2 = 0) (h1 : ¬ t.val % 2 = 1) :
    (outsAt0 m c t.val t.isLt).2.2 = View.canon (kept (iblk m c 0 t) (iblk m c 2 t) ++ [⟨Rect.unit ![0, 0] ![8, 1024] inb_S8x1024_S8x1024_0_0, k0_pay3⟩]) := by
  rw [outsAt0_A m c t h0 h1]
  dsimp only
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize iblk m c 9 t = X9
  generalize iblk m c 10 t = X10
  generalize iblk m c 11 t = X11
  generalize iblk m c 12 t = X12
  frame_out
  simp only [x_0, kp_0_0, kp_0_256, kp_0_512, kp_0_768, gp_0_0, gp_0_256, gp_0_512, mix_0, x1_0, x1b_0, hp_0_0, hp_0_1, hp_0_2, hp_0_3,
    hp_0_4, hp_0_5, hp_0_6, dn_0, x2_0, x2b_0, out_0_0, out_0_512, x_1, kp_1_0, kp_1_256, kp_1_512, kp_1_768, gp_1_0, gp_1_256, gp_1_512,
    g_1, mix_1, x1_1, x1b_1, hp_1_0, hp_1_1, hp_1_2, hp_1_3, hp_1_4, hp_1_5, dn_1, x2_1, x2b_1, out_1_0, out_1_512, x_2, kp_2_0, kp_2_256,
    kp_2_512, kp_2_768, gp_2_0, gp_2_256, gp_2_512, g_2, mix_2, x1_2, x1b_2, hp_2_0, hp_2_1, hp_2_2, hp_2_3, hp_2_4, dn_2, x2_2, x2b_2,
    out_2_0, out_2_512, x_3, kp_3_0, kp_3_256, kp_3_512, kp_3_768, gp_3_0, gp_3_256, gp_3_512, g_3, mix_3, x1_3, x1b_3, hp_3_0, hp_3_1,
    hp_3_2, hp_3_3, hp_3_4, hp_3_5, dn_3, x2_3, x2b_3, out_3_0, out_3_512, readBack, carried, stored, List.cons_append, List.nil_append,
    block, Cert.Rows1024.pieces, Cert.Layer.tail, Cert.Block.dTile, mixAt, gateTile, keep0, keep256, keep512, keep768, fresh, kept]

set_option maxHeartbeats 1000000 in
open Cert.SconvStage in
/-- A sequence's last grid point hands on the last two of the rows it kept. -/
theorem aux_B (c : Dev nD) (t : Fin cfg0.N) (h0 : ¬ t.val % 2 = 0) (h1 : t.val % 2 = 1) :
    (outsAt0 m c t.val t.isLt).2.1 = k0_pay2 (View.ld (View.canon (kept (iblk m c 0 t) (iblk m c 2 t))) (Rect.unit ![6, 0] ![2, 1024] inb_S8x1024_S2x1024_6_0)) := by
  rw [outsAt0_B m c t h0 h1]
  dsimp only
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize iblk m c 9 t = X9
  generalize iblk m c 10 t = X10
  generalize iblk m c 11 t = X11
  generalize iblk m c 12 t = X12
  frame_out
  simp only [x_0, kp_0_0, kp_0_256, kp_0_512, kp_0_768, gp_0_0, gp_0_256, gp_0_512, mix_0, x1_0, x1b_0, hp_0_0, hp_0_1, hp_0_2, hp_0_3,
    hp_0_4, hp_0_5, hp_0_6, dn_0, x2_0, x2b_0, out_0_0, out_0_512, x_1, kp_1_0, kp_1_256, kp_1_512, kp_1_768, gp_1_0, gp_1_256, gp_1_512,
    g_1, mix_1, x1_1, x1b_1, hp_1_0, hp_1_1, hp_1_2, hp_1_3, hp_1_4, hp_1_5, dn_1, x2_1, x2b_1, out_1_0, out_1_512, x_2, kp_2_0, kp_2_256,
    kp_2_512, kp_2_768, gp_2_0, gp_2_256, gp_2_512, g_2, mix_2, x1_2, x1b_2, hp_2_0, hp_2_1, hp_2_2, hp_2_3, hp_2_4, dn_2, x2_2, x2b_2,
    out_2_0, out_2_512, x_3, kp_3_0, kp_3_256, kp_3_512, kp_3_768, gp_3_0, gp_3_256, gp_3_512, g_3, mix_3, x1_3, x1b_3, hp_3_0, hp_3_1,
    hp_3_2, hp_3_3, hp_3_4, hp_3_5, dn_3, x2_3, x2b_3, out_3_0, out_3_512, readBack, carried, stored, List.cons_append, List.nil_append,
    block, Cert.Rows1024.pieces, Cert.Layer.tail, Cert.Block.dTile, mixAt, gateTile, keep0, keep256, keep512, keep768, fresh, kept]

end Cert.SconvBlock

end
-- ==== Proof.SconvIdeal.lean ====
/- The gated short convolution's tile operations over the extended reals, read at an index. -/
module

public import proofs.«01_k».proof.Proof.SconvTile
public import proofs.«01_k».proof.Proof.Spec

@[expose] public section

set_option maxRecDepth 16384

noncomputable section

namespace Cert.SconvIdeal

open Idealize.ShloMosaic Cert.Kernel2Ideal Cert.Kernel2Ideal.Gen Cert.SconvTile

/-- The product of two projections, at an index. -/
theorem qPiece_apply (x : FVec Ideal S256x1024 .bf16) (wc wh : Vec Ideal S1024x256 .bf16) (r c : Fin 256) :
    qPiece x wc wh (ix2 r c) = (∑ k, x (ix2 r k) * wc (ix2 k c)) * (∑ k, x (ix2 r k) * wh (ix2 k c)) := by
  pointwise [qPiece, times]

/-- The last eight rows, at an index. -/
theorem lastRows_apply (q : FVec Ideal S256x256 .f32) (r : Fin 8) (c : Fin 256) : lastRows q (ix2 r c) = q (ix2 ⟨248 + r.val, by omega⟩ c) := by
  pointwise [lastRows]

/-- The convolution at an index: `E` holds the eight rows of history and the tile's rows after them. -/
theorem convPiece_apply (q : FVec Ideal S256x256 .f32) (h : FVec Ideal S8x256 .f32) (k2 k1 k0 : Vec Ideal S1x256 .f32)
    (E : Nat → EReal) (r c : Fin 256) (eh : ∀ j : Fin 8, h (ix2 j c) = E j.val) (eq : ∀ r : Fin 256, q (ix2 r c) = E (8 + r.val)) :
    convPiece q h k2 k1 k0 (ix2 r c) = E (8 + r.val) * k2 (ix2 0 c) + E (7 + r.val) * k1 (ix2 0 c) + E (6 + r.val) * k0 (ix2 0 c) := by
  pointwise [convPiece, back, under, tap]
  have k1' : (8 + r.val + 264 - 1) % 264 = 7 + r.val := by omega
  have k2' : (8 + r.val + 264 - 2) % 264 = 6 + r.val := by omega
  simp only [eh, eq, k1', k2']
  have hE : ∀ n, (if n < 8 then E n else E (8 + (n - 8))) = E n := by
    intro n
    split
    · rfl
    · congr 1; omega
  have e7 : (if _ : 7 + r.val < 8 then E (7 + r.val) else E (8 + (7 + r.val - 8))) = E (7 + r.val) := hE (7 + r.val)
  have e6 : (if _ : 6 + r.val < 8 then E (6 + r.val) else E (8 + (6 + r.val - 8))) = E (6 + r.val) := hE (6 + r.val)
  rw [e7, e6]

/-- 256 columns of the gated convolution, at an index: `E` holds the products of projections, eight rows of history first. -/
theorem sconvPiece_apply (x : FVec Ideal S256x1024 .bf16) (wb wc wh : Vec Ideal S1024x256 .bf16) (h : FVec Ideal S8x256 .f32)
    (k2 k1 k0 : Vec Ideal S1x256 .f32) (E : Nat → EReal) (r c : Fin 256) (eh : ∀ j : Fin 8, h (ix2 j c) = E j.val)
    (eq : ∀ r : Fin 256, (∑ k, x (ix2 r k) * wc (ix2 k c)) * (∑ k, x (ix2 r k) * wh (ix2 k c)) = E (8 + r.val)) :
    sconvPiece x wb wc wh h k2 k1 k0 (ix2 r c) =
      (∑ k, x (ix2 r k) * wb (ix2 k c)) * (E (8 + r.val) * k2 (ix2 0 c) + E (7 + r.val) * k1 (ix2 0 c) + E (6 + r.val) * k0 (ix2 0 c)) := by
  have hc := convPiece_apply (qPiece x wc wh) h k2 k1 k0 E r c eh (fun r => (qPiece_apply x wc wh r c).trans (eq r))
  rw [← hc]
  pointwise [sconvPiece, times]

/-- Four column pieces side by side, at an index. -/
theorem sconvTile_apply (p0 p1 p2 p3 : FVec Ideal S256x256 .bf16) (G : Fin 256 → Fin 1024 → EReal)
    (e0 : ∀ r (c : Fin 256), p0 (ix2 r c) = G r ⟨c.val, by omega⟩) (e1 : ∀ r (c : Fin 256), p1 (ix2 r c) = G r ⟨256 + c.val, by omega⟩)
    (e2 : ∀ r (c : Fin 256), p2 (ix2 r c) = G r ⟨512 + c.val, by omega⟩) (e3 : ∀ r (c : Fin 256), p3 (ix2 r c) = G r ⟨768 + c.val, by omega⟩)
    (r : Fin 256) (d : Fin 1024) : sconvTile p0 p1 p2 p3 (ix2 r d) = G r d := by
  pointwise [sconvTile]
  simp only [e0, e1, e2, e3]
  split_ifs
  · rfl
  all_goals refine congrArg (G r) (Fin.ext ?_)
  all_goals simp only []
  all_goals omega

end Cert.SconvIdeal

end
-- ==== Proof.SconvSpec.lean ====
/- The gated short convolution's mathematics on rows: the product of two projections of each row, convolved with three taps over
   the rows before it, gated by a third projection. Both programs are shown to compute these functions of their arguments. -/
module

public import proofs.«01_k».proof.Proof.Spec

@[expose] public section

noncomputable section

namespace Cert.SconvSpec

open Cert.Spec

/-- The product of the second and the third projection of a row. -/
def prodRow (x : Row) (w : Fin 1024 → Fin 3072 → EReal) : Row := fun c => lin x w ⟨1024 + c.val, by omega⟩ * lin x w ⟨2048 + c.val, by omega⟩

/-- Column `c` of the products of a run of rows, eight rows of history first. -/
def ext {n : Nat} (B : Fin 8 → Row) (X : Fin n → Row) (w : Fin 1024 → Fin 3072 → EReal) (c : Fin 1024) (i : Nat) : EReal :=
  if h : i < 8 then B ⟨i, h⟩ c else if h' : i - 8 < n then prodRow (X ⟨i - 8, h'⟩) w c else 0

/-- Row `r` gated: its first projection times the convolution of the products `E`, where row `r` stands at place `8 + r`. -/
def gated (x : Row) (E : Fin 1024 → Nat → EReal) (r : Nat) (w : Fin 1024 → Fin 3072 → EReal) (k : Fin 3 → Row) : Row := fun c =>
  lin x w ⟨c.val, by omega⟩ * (E c (8 + r) * k 2 c + E c (7 + r) * k 1 c + E c (6 + r) * k 0 c)

/-- Rows counted from `o` on. -/
theorem gated_shift (x : Row) (E : Fin 1024 → Nat → EReal) (o r : Nat) (w : Fin 1024 → Fin 3072 → EReal) (k : Fin 3 → Row) :
    gated x (fun c i => E c (o + i)) r w k = gated x E (o + r) w k := by
  funext c
  simp only [gated, Nat.add_left_comm o]

/-- Only the places from 6 on that the row reaches matter. -/
theorem gated_congr (x : Row) (E E' : Fin 1024 → Nat → EReal) (r r' : Nat) (w : Fin 1024 → Fin 3072 → EReal) (k : Fin 3 → Row)
    (h : ∀ c i, 6 ≤ i → i ≤ 8 → E c (i + r) = E' c (i + r')) : gated x E r w k = gated x E' r' w k := by
  funext c
  simp only [gated, h c 8 (by omega) (by omega), h c 7 (by omega) (by omega), h c 6 (by omega) (by omega)]

/-- The history's places. -/
theorem ext_lt {n : Nat} (B : Fin 8 → Row) (X : Fin n → Row) (w : Fin 1024 → Fin 3072 → EReal) (c : Fin 1024) (j : Fin 8) :
    ext B X w c j.val = B j c := by
  rw [ext, dif_pos j.isLt]

/-- The rows' places. -/
theorem ext_ge {n : Nat} (B : Fin 8 → Row) (X : Fin n → Row) (w : Fin 1024 → Fin 3072 → EReal) (c : Fin 1024) (r : Fin n) :
    ext B X w c (8 + r.val) = prodRow (X r) w c := by
  have h : ¬ 8 + r.val < 8 := by omega
  have e : 8 + r.val - 8 = r.val := by omega
  simp only [ext, dif_neg h, e, dif_pos r.isLt]

/-- Row `s` of a sequence's short convolution, with nothing before the sequence's first row. -/
def seqMix (X : Fin 2048 → Row) (w : Fin 1024 → Fin 3072 → EReal) (k : Fin 3 → Row) (wo : Fin 1024 → Fin 1024 → EReal) (s : Fin 2048) : Row :=
  lin (gated (X s) (ext (fun _ _ => 0) X w) s.val w k) wo

/-- The layer's output for row `s` of a sequence with rows `X`. -/
def sconv (X : Fin 2048 → Row) (p : Fin 256 → EReal) (w : Fin 1024 → Fin 3072 → EReal) (k : Fin 3 → Row) (wo : Fin 1024 → Fin 1024 → EReal)
    (g1 h1 : Row) (wu : Fin 1024 → Fin 4096 → EReal) (wd : Fin 4096 → Fin 1024 → EReal)
    (g2 h2 : Row) (wp : Fin 256 → Fin 1024 → EReal) (wg : Fin 1024 → Fin 1024 → EReal) (s : Fin 2048) : Row :=
  out (X s) (seqMix X w k wo s) p g1 h1 wu wd g2 h2 wp wg

/-- The first half of a sequence taken by itself. -/
theorem firstHalf (X : Fin 2048 → Row) (Y : Fin 1024 → Row) (w : Fin 1024 → Fin 3072 → EReal) (k : Fin 3 → Row)
    (hY : ∀ r : Fin 1024, Y r = X ⟨r.val, by omega⟩) (r : Fin 1024) (s : Fin 2048) (hs : s.val = r.val) :
    gated (Y r) (ext (fun _ _ => 0) Y w) r.val w k = gated (X s) (ext (fun _ _ => 0) X w) s.val w k := by
  have e : s = ⟨r.val, Nat.lt_trans r.isLt (by decide)⟩ := Fin.ext hs
  subst e
  rw [hY r]
  refine gated_congr _ _ _ _ _ _ _ fun c i h6 h8 => ?_
  by_cases hi : i + r.val < 8
  · simp only [ext, dif_pos hi]
  · have hj : i + r.val - 8 < 1024 := by omega
    have hj' : i + r.val - 8 < 2048 := by omega
    simp only [ext, dif_neg hi, dif_pos hj, dif_pos hj', hY]

/-- The second half, with the last eight rows of the first before it. -/
theorem secondHalf (X : Fin 2048 → Row) (Y : Fin 1024 → Row) (w : Fin 1024 → Fin 3072 → EReal) (k : Fin 3 → Row)
    (hY : ∀ r : Fin 1024, Y r = X ⟨1024 + r.val, by omega⟩) (r : Fin 1024) (s : Fin 2048) (hs : s.val = 1024 + r.val) :
    gated (Y r) (ext (fun j => prodRow (X ⟨1016 + j.val, by omega⟩) w) Y w) r.val w k = gated (X s) (ext (fun _ _ => 0) X w) s.val w k := by
  have e : s = ⟨1024 + r.val, Nat.add_lt_add_left r.isLt 1024⟩ := Fin.ext hs
  subst e
  rw [hY r]
  refine gated_congr _ _ _ _ _ _ _ fun c i h6 h8 => ?_
  have hn : ¬ i + (1024 + r.val) < 8 := by omega
  have hj' : i + (1024 + r.val) - 8 < 2048 := by omega
  by_cases hi : i + r.val < 8
  · have e : (⟨1016 + (i + r.val), by omega⟩ : Fin 2048) = ⟨i + (1024 + r.val) - 8, hj'⟩ := Fin.ext (by simp only []; omega)
    simp only [ext, dif_pos hi, dif_neg hn, dif_pos hj', e]
  · have hj : i + r.val - 8 < 1024 := by omega
    have e : (⟨1024 + (i + r.val - 8), by omega⟩ : Fin 2048) = ⟨i + (1024 + r.val) - 8, hj'⟩ := Fin.ext (by simp only []; omega)
    simp only [ext, dif_neg hi, dif_neg hn, dif_pos hj, dif_pos hj', hY, e]

end Cert.SconvSpec

end
-- ==== Proof.SconvBlockIdeal.lean ====
/- What the short convolution's body writes at one grid point, over the extended reals and at an index: `SconvSpec` on the
   block's rows. -/
module

public import proofs.«01_k».proof.Proof.SconvBlock
public import proofs.«01_k».proof.Proof.SconvIdeal
public import proofs.«01_k».proof.Proof.SconvSpec
public import Idealize.ShloMosaic.Lib.Pipeline.CanonAppend

@[expose] public section

set_option maxRecDepth 16384

noncomputable section

namespace Cert.SconvBlockIdeal

open Idealize.ShloMosaic Cert.Kernel2Ideal Cert.Kernel2Ideal.Gen Cert.Tile Cert.SconvTile Cert.SconvIdeal Cert.SconvBlock Cert.SconvSpec

/-- The rows kept of columns 0 …, at an index. -/
theorem keep0_apply (xt : Vec Ideal S1x256x1024 .f32) (wi : Vec Ideal S1024x3072 .bf16) (j : Fin 8) (c : Fin 256) :
    keep0 xt wi (ix2 j c) = prodRow (fun k => xt (ix3 0 ⟨248 + j.val, by omega⟩ k)) (fun k e => wi (ix2 k e)) ⟨0 + c.val, by omega⟩ := by
  refine (lastRows_apply _ j c).trans ((qPiece_apply _ _ _ _ c).trans ?_)
  pointwise [xbTile, prodRow, Spec.lin]
  all_goals congr 1 <;> refine Finset.sum_congr rfl fun k _ => ?_ <;> congr 2 <;> exact congrArg (ix2 k) (Fin.ext (by simp only []; omega))

/-- The rows kept of columns 256 …, at an index. -/
theorem keep256_apply (xt : Vec Ideal S1x256x1024 .f32) (wi : Vec Ideal S1024x3072 .bf16) (j : Fin 8) (c : Fin 256) :
    keep256 xt wi (ix2 j c) = prodRow (fun k => xt (ix3 0 ⟨248 + j.val, by omega⟩ k)) (fun k e => wi (ix2 k e)) ⟨256 + c.val, by omega⟩ := by
  refine (lastRows_apply _ j c).trans ((qPiece_apply _ _ _ _ c).trans ?_)
  pointwise [xbTile, prodRow, Spec.lin]
  all_goals congr 1 <;> refine Finset.sum_congr rfl fun k _ => ?_ <;> congr 2 <;> exact congrArg (ix2 k) (Fin.ext (by simp only []; omega))

/-- The rows kept of columns 512 …, at an index. -/
theorem keep512_apply (xt : Vec Ideal S1x256x1024 .f32) (wi : Vec Ideal S1024x3072 .bf16) (j : Fin 8) (c : Fin 256) :
    keep512 xt wi (ix2 j c) = prodRow (fun k => xt (ix3 0 ⟨248 + j.val, by omega⟩ k)) (fun k e => wi (ix2 k e)) ⟨512 + c.val, by omega⟩ := by
  refine (lastRows_apply _ j c).trans ((qPiece_apply _ _ _ _ c).trans ?_)
  pointwise [xbTile, prodRow, Spec.lin]
  all_goals congr 1 <;> refine Finset.sum_congr rfl fun k _ => ?_ <;> congr 2 <;> exact congrArg (ix2 k) (Fin.ext (by simp only []; omega))

/-- The rows kept of columns 768 …, at an index. -/
theorem keep768_apply (xt : Vec Ideal S1x256x1024 .f32) (wi : Vec Ideal S1024x3072 .bf16) (j : Fin 8) (c : Fin 256) :
    keep768 xt wi (ix2 j c) = prodRow (fun k => xt (ix3 0 ⟨248 + j.val, by omega⟩ k)) (fun k e => wi (ix2 k e)) ⟨768 + c.val, by omega⟩ := by
  refine (lastRows_apply _ j c).trans ((qPiece_apply _ _ _ _ c).trans ?_)
  pointwise [xbTile, prodRow, Spec.lin]
  all_goals congr 1 <;> refine Finset.sum_congr rfl fun k _ => ?_ <;> congr 2 <;> exact congrArg (ix2 k) (Fin.ext (by simp only []; omega))

/-- 256 columns of a tile's gated rows, at an index. -/
theorem piece_at (xt : Vec Ideal S1x256x1024 .f32) (X : Fin 256 → Spec.Row) (ex : ∀ r k, xt (ix3 0 r k) = X r k) (wi : Vec Ideal S1024x3072 .bf16)
    (kc : Vec Ideal S3x1024 .f32) (E : Fin 1024 → Nat → EReal) (eq : ∀ r c, prodRow (X r) (fun k e => wi (ix2 k e)) c = E c (8 + r.val))
    (n : Nat) (hn : n + 256 ≤ 1024) (wb wc wh : Vec Ideal S1024x256 .bf16) (h : FVec Ideal S8x256 .f32) (k2 k1 k0 : Vec Ideal S1x256 .f32)
    (hb : ∀ k (c : Fin 256), wb (ix2 k c) = wi (ix2 k ⟨n + c.val, by omega⟩))
    (hc : ∀ k (c : Fin 256), wc (ix2 k c) = wi (ix2 k ⟨1024 + (n + c.val), by omega⟩))
    (hh : ∀ k (c : Fin 256), wh (ix2 k c) = wi (ix2 k ⟨2048 + (n + c.val), by omega⟩))
    (e2 : ∀ c : Fin 256, k2 (ix2 0 c) = kc (ix2 2 ⟨n + c.val, by omega⟩)) (e1 : ∀ c : Fin 256, k1 (ix2 0 c) = kc (ix2 1 ⟨n + c.val, by omega⟩))
    (e0 : ∀ c : Fin 256, k0 (ix2 0 c) = kc (ix2 0 ⟨n + c.val, by omega⟩)) (eh : ∀ (j : Fin 8) (c : Fin 256), h (ix2 j c) = E ⟨n + c.val, by omega⟩ j.val)
    (r c : Fin 256) :
    sconvPiece (xbTile xt) wb wc wh h k2 k1 k0 (ix2 r c) =
      gated (X r) E r.val (fun k e => wi (ix2 k e)) (fun j c => kc (ix2 j c)) ⟨n + c.val, by omega⟩ := by
  have hx : ∀ (r : Fin 256) k, xbTile xt (ix2 r k) = X r k := by
    intro r k; rw [← ex]; pointwise [xbTile]
  rw [sconvPiece_apply _ _ _ _ _ _ _ _ (E ⟨n + c.val, by omega⟩) r c (fun j => eh j c) (fun r => by
    rw [← eq]; simp only [hx, hc, hh]; rfl)]
  simp only [hx, hb, e2, e1, e0]
  rfl

/-- A tile's gated rows, at an index. -/
theorem gateTile_apply (xt : Vec Ideal S1x256x1024 .f32) (X : Fin 256 → Spec.Row) (ex : ∀ r k, xt (ix3 0 r k) = X r k) (wi : Vec Ideal S1024x3072 .bf16)
    (kc : Vec Ideal S3x1024 .f32) (E : Fin 1024 → Nat → EReal) (eq : ∀ r c, prodRow (X r) (fun k e => wi (ix2 k e)) c = E c (8 + r.val))
    (h0 h1 h2 h3 : FVec Ideal S8x256 .f32) (e0 : ∀ (j : Fin 8) (c : Fin 256), h0 (ix2 j c) = E ⟨0 + c.val, by omega⟩ j.val)
    (e1 : ∀ (j : Fin 8) (c : Fin 256), h1 (ix2 j c) = E ⟨256 + c.val, by omega⟩ j.val)
    (e2 : ∀ (j : Fin 8) (c : Fin 256), h2 (ix2 j c) = E ⟨512 + c.val, by omega⟩ j.val)
    (e3 : ∀ (j : Fin 8) (c : Fin 256), h3 (ix2 j c) = E ⟨768 + c.val, by omega⟩ j.val) (r : Fin 256) (d : Fin 1024) :
    gateTile xt wi kc h0 h1 h2 h3 (ix2 r d) = gated (X r) E r.val (fun k e => wi (ix2 k e)) (fun j c => kc (ix2 j c)) d := by
  rw [gateTile]
  refine sconvTile_apply _ _ _ _ (fun r d => gated (X r) E r.val (fun k e => wi (ix2 k e)) (fun j c => kc (ix2 j c)) d) (fun r c => ?_)
    (piece_at xt X ex wi kc E eq 256 (by omega) _ _ _ _ _ _ _ ?_ ?_ ?_ ?_ ?_ ?_ e1) (piece_at xt X ex wi kc E eq 512 (by omega) _ _ _ _ _ _ _ ?_ ?_ ?_ ?_ ?_ ?_ e2)
    (piece_at xt X ex wi kc E eq 768 (by omega) _ _ _ _ _ _ _ ?_ ?_ ?_ ?_ ?_ ?_ e3) r d
  on_goal 1 =>
    refine (piece_at xt X ex wi kc E eq 0 (by omega) _ _ _ _ _ _ _ ?_ ?_ ?_ ?_ ?_ ?_ e0 r c).trans (congrArg _ (Fin.ext (by simp only []; omega)))
  all_goals intros; pointwise []; try (congr 2; exact Fin.ext (by simp only []; omega))

/-- The mixer's output for a tile, at an index. -/
theorem mixAt_apply (xt : Vec Ideal S1x256x1024 .f32) (X : Fin 256 → Spec.Row) (ex : ∀ r k, xt (ix3 0 r k) = X r k) (wi : Vec Ideal S1024x3072 .bf16)
    (kc : Vec Ideal S3x1024 .f32) (wo : Vec Ideal S1024x1024 .bf16) (E : Fin 1024 → Nat → EReal)
    (eq : ∀ r c, prodRow (X r) (fun k e => wi (ix2 k e)) c = E c (8 + r.val))
    (h0 h1 h2 h3 : FVec Ideal S8x256 .f32) (e0 : ∀ (j : Fin 8) (c : Fin 256), h0 (ix2 j c) = E ⟨0 + c.val, by omega⟩ j.val)
    (e1 : ∀ (j : Fin 8) (c : Fin 256), h1 (ix2 j c) = E ⟨256 + c.val, by omega⟩ j.val)
    (e2 : ∀ (j : Fin 8) (c : Fin 256), h2 (ix2 j c) = E ⟨512 + c.val, by omega⟩ j.val)
    (e3 : ∀ (j : Fin 8) (c : Fin 256), h3 (ix2 j c) = E ⟨768 + c.val, by omega⟩ j.val) (r : Fin 256) (d : Fin 1024) :
    mixAt xt wi kc wo h0 h1 h2 h3 (ix2 r d) =
      Spec.lin (gated (X r) E r.val (fun k e => wi (ix2 k e)) (fun j c => kc (ix2 j c))) (fun k c => wo (ix2 k c)) d := by
  have hg := gateTile_apply xt X ex wi kc E eq h0 h1 h2 h3 e0 e1 e2 e3
  rw [mixAt, mixTile]
  generalize gateTile xt wi kc h0 h1 h2 h3 = G at hg ⊢
  refine Cert.TileIdeal.side2_apply _ _ (fun r d => Spec.lin (gated (X r) E r.val (fun k e => wi (ix2 k e)) (fun j c => kc (ix2 j c)))
    (fun k c => wo (ix2 k c)) d) ?_ ?_ r d
  all_goals
    intro r d
    simp only [Spec.lin, ← hg]
    pointwise [Cert.Tile.times]

/-- The rows kept are the products at the places before the next tile's first row. -/
theorem keep_at (x : Vec Ideal S1x1024x1024 .f32) (wi : Vec Ideal S1024x3072 .bf16) (E : Fin 1024 → Nat → EReal)
    (eq : ∀ r c, prodRow (fun k => x (ix3 0 r k)) (fun k e => wi (ix2 k e)) c = E c (8 + r.val)) (o : Nat) (ho : o + 256 ≤ 1024)
    (xt : Vec Ideal S1x256x1024 .f32) (ex : ∀ (r : Fin 256) k, xt (ix3 0 r k) = x (ix3 0 ⟨o + r.val, by omega⟩ k)) (j : Fin 8) (c : Fin 1024) :
    prodRow (fun k => xt (ix3 0 ⟨248 + j.val, by omega⟩ k)) (fun k e => wi (ix2 k e)) c = E c (o + 256 + j.val) := by
  simp only [ex]
  rw [eq]
  exact congrArg (E c) (by simp only []; omega)

/-- A tile of the block's rows, at an index of the block: row `r` of the tile at `o`. -/
theorem tile_at (x : Vec Ideal S1x1024x1024 .f32) (wi : Vec Ideal S1024x3072 .bf16) (kc : Vec Ideal S3x1024 .f32) (wo : Vec Ideal S1024x1024 .bf16)
    (E : Fin 1024 → Nat → EReal) (eq : ∀ r c, prodRow (fun k => x (ix3 0 r k)) (fun k e => wi (ix2 k e)) c = E c (8 + r.val)) (o : Nat) (ho : o + 256 ≤ 1024)
    (xt : Vec Ideal S1x256x1024 .f32) (ex : ∀ (r : Fin 256) k, xt (ix3 0 r k) = x (ix3 0 ⟨o + r.val, by omega⟩ k))
    (h0 h1 h2 h3 : FVec Ideal S8x256 .f32) (e0 : ∀ (j : Fin 8) (c : Fin 256), h0 (ix2 j c) = E ⟨0 + c.val, by omega⟩ (o + j.val))
    (e1 : ∀ (j : Fin 8) (c : Fin 256), h1 (ix2 j c) = E ⟨256 + c.val, by omega⟩ (o + j.val))
    (e2 : ∀ (j : Fin 8) (c : Fin 256), h2 (ix2 j c) = E ⟨512 + c.val, by omega⟩ (o + j.val))
    (e3 : ∀ (j : Fin 8) (c : Fin 256), h3 (ix2 j c) = E ⟨768 + c.val, by omega⟩ (o + j.val)) (r : Fin 256) (d : Fin 1024) :
    mixAt xt wi kc wo h0 h1 h2 h3 (ix2 r d) =
      Spec.lin (gated (fun k => x (ix3 0 ⟨o + r.val, by omega⟩ k)) E (o + r.val) (fun k e => wi (ix2 k e)) (fun j c => kc (ix2 j c))) (fun k c => wo (ix2 k c)) d := by
  rw [← gated_shift]
  refine mixAt_apply xt (fun r k => x (ix3 0 ⟨o + r.val, by omega⟩ k)) ex wi kc wo (fun c i => E c (o + i)) (fun r c => ?_) h0 h1 h2 h3 e0 e1 e2 e3 r d
  rw [eq]
  exact congrArg (E c) (by simp only []; omega)

/-- A grid point's output block, at an index: `E` holds the products of the block's rows after eight rows of history. -/
theorem block_apply (wi : Vec Ideal S1024x3072 .bf16) (kc : Vec Ideal S3x1024 .f32) (wo : Vec Ideal S1024x1024 .bf16)
    (q0 q1 q2 q3 : FVec Ideal S8x256 .f32) (x : Vec Ideal S1x1024x1024 .f32) (p : Vec Ideal S1x1x1024x256 .f32)
    (g1 h1 : Vec Ideal S1x1x1024 .f32) (wu : Vec Ideal S1x1024x4096 .bf16) (wd : Vec Ideal S1x4096x1024 .bf16) (g2 h2 : Vec Ideal S1x1x1024 .f32)
    (wp : Vec Ideal S1x256x1024 .bf16) (wg : Vec Ideal S1x1024x1024 .bf16) (E : Fin 1024 → Nat → EReal)
    (eq : ∀ r c, prodRow (fun k => x (ix3 0 r k)) (fun k e => wi (ix2 k e)) c = E c (8 + r.val))
    (e0 : ∀ (j : Fin 8) (c : Fin 256), q0 (ix2 j c) = E ⟨0 + c.val, by omega⟩ j.val) (e1 : ∀ (j : Fin 8) (c : Fin 256), q1 (ix2 j c) = E ⟨256 + c.val, by omega⟩ j.val)
    (e2 : ∀ (j : Fin 8) (c : Fin 256), q2 (ix2 j c) = E ⟨512 + c.val, by omega⟩ j.val) (e3 : ∀ (j : Fin 8) (c : Fin 256), q3 (ix2 j c) = E ⟨768 + c.val, by omega⟩ j.val)
    (r c : Fin 1024) :
    View.canon (block wi kc wo q0 q1 q2 q3 x p g1 h1 wu wd g2 h2 wp wg) (ix3 0 r c) =
      Spec.out (fun k => x (ix3 0 r k))
        (Spec.lin (gated (fun k => x (ix3 0 r k)) E r.val (fun k e => wi (ix2 k e)) (fun j c => kc (ix2 j c))) (fun k c => wo (ix2 k c)))
        (fun k => p (ix4 0 0 r k)) (fun k => g1 (ix3 0 0 k)) (fun k => h1 (ix3 0 0 k)) (fun k n => wu (ix3 0 k n))
        (fun n c => wd (ix3 0 n c)) (fun k => g2 (ix3 0 0 k)) (fun k => h2 (ix3 0 0 k)) (fun k c => wp (ix3 0 k c)) (fun k c => wg (ix3 0 k c)) c := by
  rw [block]
  have t0 : ∀ (r : Fin 256) k, View.ld x (Rect.unit ![0, 0, 0] ![1, 256, 1024] inb_S1x1024x1024_S1x256x1024_0_0_0) (ix3 0 r k) = x (ix3 0 ⟨0 + r.val, by omega⟩ k) := by
    intro r k; pointwise []; try (congr 2; exact Fin.ext (by simp only []; omega))
  have t1 : ∀ (r : Fin 256) k, View.ld x (Rect.unit ![0, 256, 0] ![1, 256, 1024] inb_S1x1024x1024_S1x256x1024_0_256_0) (ix3 0 r k) = x (ix3 0 ⟨256 + r.val, by omega⟩ k) := by
    intro r k; pointwise []
  have t2 : ∀ (r : Fin 256) k, View.ld x (Rect.unit ![0, 512, 0] ![1, 256, 1024] inb_S1x1024x1024_S1x256x1024_0_512_0) (ix3 0 r k) = x (ix3 0 ⟨512 + r.val, by omega⟩ k) := by
    intro r k; pointwise []
  have t3 : ∀ (r : Fin 256) k, View.ld x (Rect.unit ![0, 768, 0] ![1, 256, 1024] inb_S1x1024x1024_S1x256x1024_0_768_0) (ix3 0 r k) = x (ix3 0 ⟨768 + r.val, by omega⟩ k) := by
    intro r k; pointwise []
  refine Cert.Rows1024.pieces_apply _ _ _ _ (fun r c => Spec.lin (gated (fun k => x (ix3 0 r k)) E r.val (fun k e => wi (ix2 k e))
    (fun j c => kc (ix2 j c))) (fun k c => wo (ix2 k c)) c)
    (tile_at x wi kc wo E eq 0 (by omega) _ t0 _ _ _ _ ?_ ?_ ?_ ?_) (tile_at x wi kc wo E eq 256 (by omega) _ t1 _ _ _ _ ?_ ?_ ?_ ?_)
    (tile_at x wi kc wo E eq 512 (by omega) _ t2 _ _ _ _ ?_ ?_ ?_ ?_) (tile_at x wi kc wo E eq 768 (by omega) _ t3 _ _ _ _ ?_ ?_ ?_ ?_)
    x p g1 h1 wu wd g2 h2 wp wg r c
  · intro j c; rw [e0, Nat.zero_add j.val]
  · intro j c; rw [e1, Nat.zero_add j.val]
  · intro j c; rw [e2, Nat.zero_add j.val]
  · intro j c; rw [e3, Nat.zero_add j.val]
  · intro j c; rw [keep0_apply]; exact keep_at x wi E eq 0 (by omega) _ t0 j _
  · intro j c; rw [keep256_apply]; exact keep_at x wi E eq 0 (by omega) _ t0 j _
  · intro j c; rw [keep512_apply]; exact keep_at x wi E eq 0 (by omega) _ t0 j _
  · intro j c; rw [keep768_apply]; exact keep_at x wi E eq 0 (by omega) _ t0 j _
  · intro j c; rw [keep0_apply]; exact keep_at x wi E eq 256 (by omega) _ t1 j _
  · intro j c; rw [keep256_apply]; exact keep_at x wi E eq 256 (by omega) _ t1 j _
  · intro j c; rw [keep512_apply]; exact keep_at x wi E eq 256 (by omega) _ t1 j _
  · intro j c; rw [keep768_apply]; exact keep_at x wi E eq 256 (by omega) _ t1 j _
  · intro j c; rw [keep0_apply]; exact keep_at x wi E eq 512 (by omega) _ t2 j _
  · intro j c; rw [keep256_apply]; exact keep_at x wi E eq 512 (by omega) _ t2 j _
  · intro j c; rw [keep512_apply]; exact keep_at x wi E eq 512 (by omega) _ t2 j _
  · intro j c; rw [keep768_apply]; exact keep_at x wi E eq 512 (by omega) _ t2 j _

/-- One of the stored pieces of the rows kept, at an index. -/
theorem kept_at (q : FVec Ideal S8x256 .f32) (i : S8x256.Idx) (j : Fin 8) (c : Fin 1024) (n : Nat) (hn : n + 256 ≤ 1024)
    (G : Fin 8 → Fin 1024 → EReal) (hq : ∀ (j : Fin 8) (c : Fin 256), q (ix2 j c) = G j ⟨n + c.val, by omega⟩)
    (h0 : j.val = (i 0).val) (h1 : c.val = n + (i 1).val) : shapeCast S8x256 q shapeCasts_S8x256_S8x256 i = G j c := by
  obtain ⟨a, b, rfl⟩ : ∃ (a : Fin 8) (b : Fin 256), i = ix2 a b := ⟨i 0, i 1, by ext k; fin_cases k <;> rfl⟩
  change j.val = a.val at h0
  change c.val = n + b.val at h1
  have ej : a = j := Fin.ext h0.symm
  have ec : (⟨n + b.val, by omega⟩ : Fin 1024) = c := Fin.ext h1.symm
  rw [← ej, ← ec, ← hq]
  pointwise []

/-- The rows kept for the next grid point, at an index: the products of the block's last eight rows. -/
theorem kept_apply (x : Vec Ideal S1x1024x1024 .f32) (wi : Vec Ideal S1024x3072 .bf16) (j : Fin 8) (c : Fin 1024) :
    View.canon (kept x wi) (ix2 j c) = prodRow (fun k => x (ix3 0 ⟨1016 + j.val, by omega⟩ k)) (fun k e => wi (ix2 k e)) c := by
  have t : ∀ (j : Fin 8) k, View.ld x (Rect.unit ![0, 768, 0] ![1, 256, 1024] inb_S1x1024x1024_S1x256x1024_0_768_0) (ix3 0 ⟨248 + j.val, by omega⟩ k) = x (ix3 0 ⟨1016 + j.val, by omega⟩ k) := by
    intro j k; pointwise []; try (congr 2; exact Fin.ext (by simp only []; omega))
  rw [kept]
  canon_tiles i h
  · refine kept_at _ i j c 768 (by omega) (fun j c => prodRow (fun k => x (ix3 0 ⟨1016 + j.val, by omega⟩ k)) (fun k e => wi (ix2 k e)) c) (fun j c => ?_) h0 h1
    rw [keep768_apply]; simp only [t]
  · refine kept_at _ i j c 512 (by omega) (fun j c => prodRow (fun k => x (ix3 0 ⟨1016 + j.val, by omega⟩ k)) (fun k e => wi (ix2 k e)) c) (fun j c => ?_) h0 h1
    rw [keep512_apply]; simp only [t]
  · refine kept_at _ i j c 256 (by omega) (fun j c => prodRow (fun k => x (ix3 0 ⟨1016 + j.val, by omega⟩ k)) (fun k e => wi (ix2 k e)) c) (fun j c => ?_) h0 h1
    rw [keep256_apply]; simp only [t]
  · refine kept_at _ i j c 0 (by omega) (fun j c => prodRow (fun k => x (ix3 0 ⟨1016 + j.val, by omega⟩ k)) (fun k e => wi (ix2 k e)) c) (fun j c => ?_) h0 (h1.trans (Nat.zero_add _).symm)
    rw [keep0_apply]; simp only [t]

/-- The products of a block's last eight rows. -/
def lastRows (x : Vec Ideal S1x1024x1024 .f32) (wi : Vec Ideal S1024x3072 .bf16) (j : Fin 8) (c : Fin 1024) : EReal :=
  prodRow (fun k => x (ix3 0 ⟨1016 + j.val, by omega⟩ k)) (fun k e => wi (ix2 k e)) c

/-- The same with the zeros stored before them. -/
theorem keptA_apply (x : Vec Ideal S1x1024x1024 .f32) (wi : Vec Ideal S1024x3072 .bf16) (z : FVec Ideal S8x1024 .f32) (j : Fin 8) (c : Fin 1024) :
    View.canon (kept x wi ++ [(⟨Rect.unit ![0, 0] ![8, 1024] inb_S8x1024_S8x1024_0_0, z⟩ : View.Piece (Elt Ideal) S8x1024 .f32)]) (ix2 j c) =
      prodRow (fun k => x (ix3 0 ⟨1016 + j.val, by omega⟩ k)) (fun k e => wi (ix2 k e)) c := by
  have t : ∀ (j : Fin 8) k, View.ld x (Rect.unit ![0, 768, 0] ![1, 256, 1024] inb_S1x1024x1024_S1x256x1024_0_768_0) (ix3 0 ⟨248 + j.val, by omega⟩ k) = x (ix3 0 ⟨1016 + j.val, by omega⟩ k) := by
    intro j k; pointwise []; try (congr 2; exact Fin.ext (by simp only []; omega))
  refine View.canon_append_of_pieces (Val := Elt Ideal) (e := .f32) (fun i : S8x1024.Idx => lastRows x wi (i 0) (i 1)) _ _ ?_ (ix2 j c) ?_
  · intro p hp
    rw [kept] at hp
    simp only [List.mem_cons, List.not_mem_nil, or_false] at hp
    rcases hp with rfl | rfl | rfl | rfl <;> intro i
    · refine kept_at (keep768 (View.ld x (Rect.unit ![0, 768, 0] ![1, 256, 1024] inb_S1x1024x1024_S1x256x1024_0_768_0)) wi) i (Rect.emb (Rect.unit (s := S8x1024) ![0, 768] ![8, 256] inb_S8x1024_S8x256_0_768) i 0) (Rect.emb (Rect.unit (s := S8x1024) ![0, 768] ![8, 256] inb_S8x1024_S8x256_0_768) i 1) 768 (by omega) (lastRows x wi) (fun j c => ?_) ?_ ?_
      · rw [keep768_apply]; simp only [t]; rfl
      · change 0 + 1 * (i 0).val = (i 0).val; omega
      · change 768 + 1 * (i 1).val = 768 + (i 1).val; omega
    · refine kept_at (keep512 (View.ld x (Rect.unit ![0, 768, 0] ![1, 256, 1024] inb_S1x1024x1024_S1x256x1024_0_768_0)) wi) i (Rect.emb (Rect.unit (s := S8x1024) ![0, 512] ![8, 256] inb_S8x1024_S8x256_0_512) i 0) (Rect.emb (Rect.unit (s := S8x1024) ![0, 512] ![8, 256] inb_S8x1024_S8x256_0_512) i 1) 512 (by omega) (lastRows x wi) (fun j c => ?_) ?_ ?_
      · rw [keep512_apply]; simp only [t]; rfl
      · change 0 + 1 * (i 0).val = (i 0).val; omega
      · change 512 + 1 * (i 1).val = 512 + (i 1).val; omega
    · refine kept_at (keep256 (View.ld x (Rect.unit ![0, 768, 0] ![1, 256, 1024] inb_S1x1024x1024_S1x256x1024_0_768_0)) wi) i (Rect.emb (Rect.unit (s := S8x1024) ![0, 256] ![8, 256] inb_S8x1024_S8x256_0_256) i 0) (Rect.emb (Rect.unit (s := S8x1024) ![0, 256] ![8, 256] inb_S8x1024_S8x256_0_256) i 1) 256 (by omega) (lastRows x wi) (fun j c => ?_) ?_ ?_
      · rw [keep256_apply]; simp only [t]; rfl
      · change 0 + 1 * (i 0).val = (i 0).val; omega
      · change 256 + 1 * (i 1).val = 256 + (i 1).val; omega
    · refine kept_at (keep0 (View.ld x (Rect.unit ![0, 768, 0] ![1, 256, 1024] inb_S1x1024x1024_S1x256x1024_0_768_0)) wi) i (Rect.emb (Rect.unit (s := S8x1024) ![0, 0] ![8, 256] inb_S8x1024_S8x256_0_0) i 0) (Rect.emb (Rect.unit (s := S8x1024) ![0, 0] ![8, 256] inb_S8x1024_S8x256_0_0) i 1) 0 (by omega) (lastRows x wi) (fun j c => ?_) ?_ ?_
      · rw [keep0_apply]; simp only [t]; rfl
      · change 0 + 1 * (i 0).val = (i 0).val; omega
      · change 0 + 1 * (i 1).val = 0 + (i 1).val; omega
  · rw [kept]
    exact View.cover_of_tiled_head _ _ _ (by rfl) _

end Cert.SconvBlockIdeal

end
-- ==== Proof.SconvBlocks.lean ====
/- Each block that a grid point of the short convolution reads is an argument of the program, read at the block's place. -/
module

public import proofs.«01_k».proof.Proof.SconvBlockIdeal

@[expose] public section

set_option maxRecDepth 16384

noncomputable section

namespace Cert.SconvBlocks

open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ)

/-- A grid point's sequence. -/
abbrev sq (t : Fin cfg0.N) : Fin 8 := ⟨t.val / 2, by have := t.isLt; change t.val < 16 at this; omega⟩

/-- Row `r` of a grid point's block, in its sequence. -/
abbrev rw_ (t : Fin cfg0.N) (r : Fin 1024) : Fin 2048 := ⟨t.val % 2 * 1024 + r.val, by omega⟩

/-- Window 0 stages the activations' rows. -/
theorem blk0 (c : Dev nD) (t : Fin cfg0.N) (r : Fin 1024) (k : Fin 1024) :
    (iblk m c 0 t : Vec Ideal S1x1024x1024 .f32) (ix3 0 r k) = (m ((c : Thread nD τ).loc main_arg0) : Vec Ideal S8x2048x1024 .f32) (ix3 (sq t) (rw_ t r) k) := by
  have idx : ∀ t : Fin cfg0.N, win0_0.index t = ![t.val / 2, t.val % 2, 0] := (by decide +kernel : ∀ t : Fin grid0.N, win0_0.index t = ![t.val / 2, t.val % 2, 0])
  blk_ext! [iblk, V, idx t]

/-- Window 1 stages layer 3's embeddings of those rows. -/
theorem blk1 (c : Dev nD) (t : Fin cfg0.N) (r : Fin 1024) (k : Fin 256) :
    (iblk m c 1 t : Vec Ideal S1x1x1024x256 .f32) (ix4 0 0 r k) = (m ((c : Thread nD τ).loc main_arg1) : Vec Ideal S4x8x2048x256 .f32) (ix4 3 (sq t) (rw_ t r) k) := by
  have idx : ∀ t : Fin cfg0.N, win0_1.index t = ![3, t.val / 2, t.val % 2, 0] := (by decide +kernel : ∀ t : Fin grid0.N, win0_1.index t = ![3, t.val / 2, t.val % 2, 0])
  blk_ext! [iblk, V, idx t]

/-- Window 2 stages the three projections. -/
theorem blk2 (c : Dev nD) (t : Fin cfg0.N) (k : Fin 1024) (e : Fin 3072) :
    (iblk m c 2 t : Vec Ideal S1024x3072 .bf16) (ix2 k e) = (m ((c : Thread nD τ).loc main_arg2) : Vec Ideal S1024x3072 .f32) (ix2 k e) := by
  have idx : ∀ t : Fin cfg0.N, win0_2.index t = ![0, 0] := (by decide +kernel : ∀ t : Fin grid0.N, win0_2.index t = ![0, 0])
  blk_ext! [iblk, V, idx t]

/-- Window 3 stages the taps. -/
theorem blk3 (c : Dev nD) (t : Fin cfg0.N) (j : Fin 3) (k : Fin 1024) :
    (iblk m c 3 t : Vec Ideal S3x1024 .f32) (ix2 j k) = (m ((c : Thread nD τ).loc main_arg3) : Vec Ideal S3x1024 .f32) (ix2 j k) := by
  have idx : ∀ t : Fin cfg0.N, win0_3.index t = ![0, 0] := (by decide +kernel : ∀ t : Fin grid0.N, win0_3.index t = ![0, 0])
  blk_ext! [iblk, V, idx t]

/-- Window 4 stages the output projection. -/
theorem blk4 (c : Dev nD) (t : Fin cfg0.N) (k q : Fin 1024) :
    (iblk m c 4 t : Vec Ideal S1024x1024 .bf16) (ix2 k q) = (m ((c : Thread nD τ).loc main_arg4) : Vec Ideal S1024x1024 .f32) (ix2 k q) := by
  have idx : ∀ t : Fin cfg0.N, win0_4.index t = ![0, 0] := (by decide +kernel : ∀ t : Fin grid0.N, win0_4.index t = ![0, 0])
  blk_ext! [iblk, V, idx t]

/-- Window 5 stages the first norm's gain. -/
theorem blk5 (c : Dev nD) (t : Fin cfg0.N) (k : Fin 1024) :
    (iblk m c 5 t : Vec Ideal S1x1x1024 .f32) (ix3 0 0 k) = (m ((c : Thread nD τ).loc main_arg5) : Vec Ideal S4x1024 .f32) (ix2 3 k) := by
  have idx : ∀ t : Fin cfg0.N, win0_5.index t = ![3, 0, 0] := (by decide +kernel : ∀ t : Fin grid0.N, win0_5.index t = ![3, 0, 0])
  blk_ext! [iblk, V, idx t]

/-- Window 6 stages the first norm's offset. -/
theorem blk6 (c : Dev nD) (t : Fin cfg0.N) (k : Fin 1024) :
    (iblk m c 6 t : Vec Ideal S1x1x1024 .f32) (ix3 0 0 k) = (m ((c : Thread nD τ).loc main_arg6) : Vec Ideal S4x1024 .f32) (ix2 3 k) := by
  have idx : ∀ t : Fin cfg0.N, win0_6.index t = ![3, 0, 0] := (by decide +kernel : ∀ t : Fin grid0.N, win0_6.index t = ![3, 0, 0])
  blk_ext! [iblk, V, idx t]

/-- Window 7 stages the MLP's first matrix. -/
theorem blk7 (c : Dev nD) (t : Fin cfg0.N) (k : Fin 1024) (n : Fin 4096) :
    (iblk m c 7 t : Vec Ideal S1x1024x4096 .bf16) (ix3 0 k n) = (m ((c : Thread nD τ).loc main_arg9) : Vec Ideal S4x1024x4096 .f32) (ix3 3 k n) := by
  have idx : ∀ t : Fin cfg0.N, win0_7.index t = ![3, 0, 0] := (by decide +kernel : ∀ t : Fin grid0.N, win0_7.index t = ![3, 0, 0])
  blk_ext! [iblk, V, idx t]

/-- Window 8 stages the MLP's second matrix. -/
theorem blk8 (c : Dev nD) (t : Fin cfg0.N) (n : Fin 4096) (k : Fin 1024) :
    (iblk m c 8 t : Vec Ideal S1x4096x1024 .bf16) (ix3 0 n k) = (m ((c : Thread nD τ).loc main_arg10) : Vec Ideal S4x4096x1024 .f32) (ix3 3 n k) := by
  have idx : ∀ t : Fin cfg0.N, win0_8.index t = ![3, 0, 0] := (by decide +kernel : ∀ t : Fin grid0.N, win0_8.index t = ![3, 0, 0])
  blk_ext! [iblk, V, idx t]

/-- Window 9 stages the second norm's gain. -/
theorem blk9 (c : Dev nD) (t : Fin cfg0.N) (k : Fin 1024) :
    (iblk m c 9 t : Vec Ideal S1x1x1024 .f32) (ix3 0 0 k) = (m ((c : Thread nD τ).loc main_arg7) : Vec Ideal S4x1024 .f32) (ix2 3 k) := by
  have idx : ∀ t : Fin cfg0.N, win0_9.index t = ![3, 0, 0] := (by decide +kernel : ∀ t : Fin grid0.N, win0_9.index t = ![3, 0, 0])
  blk_ext! [iblk, V, idx t]

/-- Window 10 stages the second norm's offset. -/
theorem blk10 (c : Dev nD) (t : Fin cfg0.N) (k : Fin 1024) :
    (iblk m c 10 t : Vec Ideal S1x1x1024 .f32) (ix3 0 0 k) = (m ((c : Thread nD τ).loc main_arg8) : Vec Ideal S4x1024 .f32) (ix2 3 k) := by
  have idx : ∀ t : Fin cfg0.N, win0_10.index t = ![3, 0, 0] := (by decide +kernel : ∀ t : Fin grid0.N, win0_10.index t = ![3, 0, 0])
  blk_ext! [iblk, V, idx t]

/-- Window 11 stages the embedding's projection. -/
theorem blk11 (c : Dev nD) (t : Fin cfg0.N) (k : Fin 256) (q : Fin 1024) :
    (iblk m c 11 t : Vec Ideal S1x256x1024 .bf16) (ix3 0 k q) = (m ((c : Thread nD τ).loc main_arg11) : Vec Ideal S4x256x1024 .f32) (ix3 3 k q) := by
  have idx : ∀ t : Fin cfg0.N, win0_11.index t = ![3, 0, 0] := (by decide +kernel : ∀ t : Fin grid0.N, win0_11.index t = ![3, 0, 0])
  blk_ext! [iblk, V, idx t]

/-- Window 12 stages the embedding's gate. -/
theorem blk12 (c : Dev nD) (t : Fin cfg0.N) (k q : Fin 1024) :
    (iblk m c 12 t : Vec Ideal S1x1024x1024 .bf16) (ix3 0 k q) = (m ((c : Thread nD τ).loc main_arg12) : Vec Ideal S4x1024x1024 .f32) (ix3 3 k q) := by
  have idx : ∀ t : Fin cfg0.N, win0_12.index t = ![3, 0, 0] := (by decide +kernel : ∀ t : Fin grid0.N, win0_12.index t = ![3, 0, 0])
  blk_ext! [iblk, V, idx t]

end Cert.SconvBlocks

end
-- ==== Proof.SconvValue.lean ====
/- What the short convolution's two result arrays hold after the run, as functions of the program's arguments: the blocks
   written back cover the arrays, and a sequence's second block takes up the products its first block kept. -/
module

public import proofs.«01_k».proof.Proof.SconvBlocks

@[expose] public section

set_option maxRecDepth 16384

noncomputable section

namespace Cert.SconvValue

open Idealize.ShloMosaic Idealize.ShloMosaic.TcCoe Idealize.SL.Sem Cert.Kernel2Ideal Cert.Kernel2Ideal.Gen
open Cert.SconvBlocks Cert.SconvBlockIdeal Cert.SconvSpec
open Idealize.ShloMosaic.Pipeline (Dat)

variable (m : (ℓ : Loc nD τ sig) → Buf (Elt Ideal) ℓ)

/-- The rows of a sequence. -/
def seqX (c : Dev nD) (b : Fin 8) : Fin 2048 → Spec.Row := fun s k => (m ((c : Thread nD τ).loc main_arg0) : Vec Ideal S8x2048x1024 .f32) (ix3 b s k)

/-- The three projections' weights. -/
def wIn (c : Dev nD) : Fin 1024 → Fin 3072 → EReal := fun k e => (m ((c : Thread nD τ).loc main_arg2) : Vec Ideal S1024x3072 .f32) (ix2 k e)

/-- The taps. -/
def taps (c : Dev nD) : Fin 3 → Spec.Row := fun j k => (m ((c : Thread nD τ).loc main_arg3) : Vec Ideal S3x1024 .f32) (ix2 j k)

/-- The layer's output, of the program's arguments. -/
def G13 (c : Dev nD) : FVec Ideal S8x2048x1024 .f32 := fun i =>
  sconv (seqX m c (i 0)) (fun k => (m ((c : Thread nD τ).loc main_arg1) : Vec Ideal S4x8x2048x256 .f32) (ix4 3 (i 0) (i 1) k)) (wIn m c) (taps m c)
    (fun k q => (m ((c : Thread nD τ).loc main_arg4) : Vec Ideal S1024x1024 .f32) (ix2 k q))
    (fun k => (m ((c : Thread nD τ).loc main_arg5) : Vec Ideal S4x1024 .f32) (ix2 3 k)) (fun k => (m ((c : Thread nD τ).loc main_arg6) : Vec Ideal S4x1024 .f32) (ix2 3 k))
    (fun k n => (m ((c : Thread nD τ).loc main_arg9) : Vec Ideal S4x1024x4096 .f32) (ix3 3 k n)) (fun n k => (m ((c : Thread nD τ).loc main_arg10) : Vec Ideal S4x4096x1024 .f32) (ix3 3 n k))
    (fun k => (m ((c : Thread nD τ).loc main_arg7) : Vec Ideal S4x1024 .f32) (ix2 3 k)) (fun k => (m ((c : Thread nD τ).loc main_arg8) : Vec Ideal S4x1024 .f32) (ix2 3 k))
    (fun k q => (m ((c : Thread nD τ).loc main_arg11) : Vec Ideal S4x256x1024 .f32) (ix3 3 k q)) (fun k q => (m ((c : Thread nD τ).loc main_arg12) : Vec Ideal S4x1024x1024 .f32) (ix3 3 k q)) (i 1) (i 2)

/-- The rows carried on: the products of each sequence's last two rows. -/
def G14 (c : Dev nD) : FVec Ideal S8x2x1024 .f32 := fun i =>
  prodRow (seqX m c (i 0) ⟨2046 + (i 1).val, by have := (i 1).isLt; change (i 1).val < 2 at this; omega⟩) (wIn m c) (i 2)

/-- The layer's output over a block's own reading of the arguments, given the block's gated row. -/
theorem out_eq (c : Dev nD) (t : Fin cfg0.N) (r k : Fin 1024) (gt : Spec.Row)
    (hg : gt = gated (seqX m c (SconvBlocks.sq t) (rw_ t r)) (ext (fun _ _ => 0) (seqX m c (SconvBlocks.sq t)) (wIn m c)) (rw_ t r).val (wIn m c) (taps m c)) :
    Spec.out (fun k => (iblk m c 0 t : Vec Ideal S1x1024x1024 .f32) (ix3 0 r k)) (Spec.lin gt (fun k q => (iblk m c 4 t : Vec Ideal S1024x1024 .bf16) (ix2 k q)))
      (fun k => (iblk m c 1 t : Vec Ideal S1x1x1024x256 .f32) (ix4 0 0 r k)) (fun k => (iblk m c 5 t : Vec Ideal S1x1x1024 .f32) (ix3 0 0 k)) (fun k => (iblk m c 6 t : Vec Ideal S1x1x1024 .f32) (ix3 0 0 k))
      (fun k n => (iblk m c 7 t : Vec Ideal S1x1024x4096 .bf16) (ix3 0 k n)) (fun n q => (iblk m c 8 t : Vec Ideal S1x4096x1024 .bf16) (ix3 0 n q))
      (fun k => (iblk m c 9 t : Vec Ideal S1x1x1024 .f32) (ix3 0 0 k)) (fun k => (iblk m c 10 t : Vec Ideal S1x1x1024 .f32) (ix3 0 0 k))
      (fun k q => (iblk m c 11 t : Vec Ideal S1x256x1024 .bf16) (ix3 0 k q)) (fun k q => (iblk m c 12 t : Vec Ideal S1x1024x1024 .bf16) (ix3 0 k q)) k = G13 m c (ix3 (SconvBlocks.sq t) (rw_ t r) k) := by
  rw [hg]
  simp only [blk0, blk1, blk4, blk5, blk6, blk7, blk8, blk9, blk10, blk11, blk12]
  rfl

/-- The rows of a block, as rows of its sequence. -/
theorem rows_eq (c : Dev nD) (t : Fin cfg0.N) : (fun (r : Fin 1024) k => (iblk m c 0 t : Vec Ideal S1x1024x1024 .f32) (ix3 0 r k)) = fun r => seqX m c (SconvBlocks.sq t) (rw_ t r) := by
  funext r k; rw [blk0]; rfl

/-- The projections' weights, staged. -/
theorem wIn_eq (c : Dev nD) (t : Fin cfg0.N) : (fun (k : Fin 1024) (e : Fin 3072) => (iblk m c 2 t : Vec Ideal S1024x3072 .bf16) (ix2 k e)) = wIn m c := by
  funext k e; rw [blk2]; rfl

/-- The taps, staged. -/
theorem taps_eq (c : Dev nD) (t : Fin cfg0.N) : (fun (j : Fin 3) (k : Fin 1024) => (iblk m c 3 t : Vec Ideal S3x1024 .f32) (ix2 j k)) = taps m c := by
  funext j k; rw [blk3]; rfl

/-- A block written over a kept window `S`, at an index. -/
theorem over (S : Vec Ideal S8x1024 .f32) (wi : Vec Ideal S1024x3072 .bf16) (kc : Vec Ideal S3x1024 .f32) (wo : Vec Ideal S1024x1024 .bf16)
    (x : Vec Ideal S1x1024x1024 .f32) (p : Vec Ideal S1x1x1024x256 .f32) (g1 h1 : Vec Ideal S1x1x1024 .f32) (wu : Vec Ideal S1x1024x4096 .bf16) (wd : Vec Ideal S1x4096x1024 .bf16)
    (g2 h2 : Vec Ideal S1x1x1024 .f32) (wp : Vec Ideal S1x256x1024 .bf16) (wg : Vec Ideal S1x1024x1024 .bf16) (r c : Fin 1024) :
    View.canon (Cert.SconvBlock.block wi kc wo
      (View.ld S (Rect.unit ![0, 0] ![8, 256] inb_S8x1024_S8x256_0_0))
      (View.ld S (Rect.unit ![0, 256] ![8, 256] inb_S8x1024_S8x256_0_256))
      (View.ld S (Rect.unit ![0, 512] ![8, 256] inb_S8x1024_S8x256_0_512))
      (View.ld S (Rect.unit ![0, 768] ![8, 256] inb_S8x1024_S8x256_0_768))
      x p g1 h1 wu wd g2 h2 wp wg) (ix3 0 r c) =
      Spec.out (fun k => x (ix3 0 r k))
        (Spec.lin (gated (fun k => x (ix3 0 r k)) (ext (fun j c => S (ix2 j c)) (fun (r : Fin 1024) k => x (ix3 0 r k)) (fun k e => wi (ix2 k e))) r.val
          (fun k e => wi (ix2 k e)) (fun j c => kc (ix2 j c))) (fun k c => wo (ix2 k c)))
        (fun k => p (ix4 0 0 r k)) (fun k => g1 (ix3 0 0 k)) (fun k => h1 (ix3 0 0 k)) (fun k n => wu (ix3 0 k n))
        (fun n c => wd (ix3 0 n c)) (fun k => g2 (ix3 0 0 k)) (fun k => h2 (ix3 0 0 k)) (fun k c => wp (ix3 0 k c)) (fun k c => wg (ix3 0 k c)) c := by
  refine block_apply _ _ _ _ _ _ _ _ _ _ _ _ _ _ _ _ _ (ext (fun j c => S (ix2 j c)) (fun (r : Fin 1024) k => x (ix3 0 r k)) (fun k e => wi (ix2 k e)))
    (fun r c => (ext_ge (fun j c => S (ix2 j c)) (fun (r : Fin 1024) k => x (ix3 0 r k)) (fun k e => wi (ix2 k e)) c r).symm) (fun j c => Eq.trans ?_ (ext_lt _ _ _ _ j).symm) (fun j c => Eq.trans ?_ (ext_lt _ _ _ _ j).symm)
    (fun j c => Eq.trans ?_ (ext_lt _ _ _ _ j).symm) (fun j c => Eq.trans ?_ (ext_lt _ _ _ _ j).symm) r c
  · pointwise []; try (congr 2; exact Fin.ext (by simp only []; omega))
  · pointwise []
  · pointwise []
  · pointwise []

/-- The window cleared before a sequence's first block. -/
theorem fresh_apply (j : Fin 8) (c : Fin 1024) : Cert.SconvBlock.fresh (F := Ideal) (ix2 j c) = 0 := by
  pointwise [Cert.SconvBlock.fresh, k0_pay3]

/-- A sequence's first block, at an index. -/
theorem point_A (c : Dev nD) (t : Fin cfg0.N) (h : t.val % 2 = 0) (r k : Fin 1024) :
    (outsAt0 m c t.val t.isLt).1 (ix3 0 r k : S1x1024x1024.Idx) = G13 m c (ix3 (SconvBlocks.sq t) (rw_ t r) k) := by
  refine (congrFun (Cert.SconvBlock.block_A m c t h (by omega)) (ix3 0 r k : S1x1024x1024.Idx)).trans ((over _ _ _ _ _ _ _ _ _ _ _ _ _ _ r k).trans (out_eq m c t r k _ ?_))
  rw [rows_eq m c t, wIn_eq m c t, taps_eq m c t]
  have e : ∀ r : Fin 1024, rw_ t r = ⟨r.val, by omega⟩ := fun r => Fin.ext (by simp only []; omega)
  have er := congrFun (rows_eq m c t) r
  simp only [] at er
  rw [er]
  simp only [fresh_apply]
  exact firstHalf (seqX m c (SconvBlocks.sq t)) (fun r => seqX m c (SconvBlocks.sq t) (rw_ t r)) (wIn m c) (taps m c) (fun r => by rw [e]) r (rw_ t r) (by simp only []; omega)

/-- The rows a sequence's first block keeps. -/
theorem kept_eq (c : Dev nD) (t : Fin cfg0.N) (h : t.val % 2 = 1) (j : Fin 8) (k : Fin 1024) :
    (outsAt0 m c (t.val - 1) (Nat.lt_of_le_of_lt (Nat.sub_le _ _) t.isLt)).2.2 (ix2 j k : S8x1024.Idx) = prodRow (seqX m c (SconvBlocks.sq t) ⟨1016 + j.val, by omega⟩) (wIn m c) k := by
  have b : t.val - 1 < cfg0.N := Nat.lt_of_le_of_lt (Nat.sub_le _ _) t.isLt
  refine (congrFun (Cert.SconvBlock.kept_A m c ⟨t.val - 1, b⟩ (by simp only []; omega) (by simp only []; omega)) (ix2 j k : S8x1024.Idx)).trans ?_
  refine (keptA_apply _ _ _ j k).trans ?_
  rw [wIn_eq m c ⟨t.val - 1, b⟩]
  have er := congrFun (rows_eq m c ⟨t.val - 1, b⟩) ⟨1016 + j.val, by omega⟩
  simp only [] at er
  rw [er]
  have e1 : SconvBlocks.sq ⟨t.val - 1, b⟩ = SconvBlocks.sq t := Fin.ext (by simp only []; omega)
  have e2 : rw_ ⟨t.val - 1, b⟩ ⟨1016 + j.val, by omega⟩ = ⟨1016 + j.val, by omega⟩ := Fin.ext (by simp only []; omega)
  rw [e1, e2]

/-- A sequence's second block, at an index. -/
theorem point_B (c : Dev nD) (t : Fin cfg0.N) (h : t.val % 2 = 1) (r k : Fin 1024) :
    (outsAt0 m c t.val t.isLt).1 (ix3 0 r k : S1x1024x1024.Idx) = G13 m c (ix3 (SconvBlocks.sq t) (rw_ t r) k) := by
  obtain ⟨S, hS⟩ : ∃ S : Vec Ideal S8x1024 .f32, S = (outsAt0 m c (t.val - 1) (Nat.lt_of_le_of_lt (Nat.sub_le _ _) t.isLt)).2.2 := ⟨_, rfl⟩
  have hk : ∀ j k, S (ix2 j k) = prodRow (seqX m c (SconvBlocks.sq t) ⟨1016 + j.val, by omega⟩) (wIn m c) k := fun j k => by
    rw [hS]; exact kept_eq m c t h j k
  refine (congrFun (Cert.SconvBlock.block_B m c t (by omega) h S hS) (ix3 0 r k : S1x1024x1024.Idx)).trans ((over S _ _ _ _ _ _ _ _ _ _ _ _ _ r k).trans (out_eq m c t r k _ ?_))
  rw [rows_eq m c t, wIn_eq m c t, taps_eq m c t]
  have e : ∀ r : Fin 1024, rw_ t r = ⟨1024 + r.val, by omega⟩ := fun r => Fin.ext (by simp only []; omega)
  have er := congrFun (rows_eq m c t) r
  simp only [] at er
  rw [er]
  simp only [hk]
  exact secondHalf (seqX m c (SconvBlocks.sq t)) (fun r => seqX m c (SconvBlocks.sq t) (rw_ t r)) (wIn m c) (taps m c) (fun r => by rw [e]) r (rw_ t r) (by simp only []; omega)

/-- After the run the first result array holds the layer's output. -/
theorem final13 (c : Dev nD) : (dats m 0 c).arrAt 13 cfg0.N = G13 m c := by
  refine (dats m 0 c).arrAt_eq_of_covers 13 _ (by decide +kernel) fun t hf y => ?_
  have idx : ∀ t : Fin cfg0.N, win0_13.index t = ![t.val / 2, t.val % 2, 0] :=
    (by decide +kernel : ∀ t : Fin grid0.N, win0_13.index t = ![t.val / 2, t.val % 2, 0])
  have e : ∀ (r : Fin 1024) (k : Fin 1024), ((win0_13.blk t).view.emb (ix3 0 r k : S1x1024x1024.Idx) : S8x2048x1024.Idx) = ix3 (SconvBlocks.sq t) (rw_ t r) k := by
    intro r k; blk_ext [idx t]
  blk_simp
  rw [after0_13]
  obtain ⟨r, k, rfl⟩ : ∃ (r : Fin 1024) (k : Fin 1024), y = (ix3 0 r k : S1x1024x1024.Idx) :=
    ⟨y 1, y 2, by ext a; fin_cases a; · exact congrArg Fin.val (Subsingleton.elim (α := Fin 1) _ _)
                  all_goals rfl⟩
  rw [e]
  exact (Classical.em (t.val % 2 = 1)).elim (fun h => point_B m c t h r k) (fun h => point_A m c t (by omega) r k)

/-- After the run the second result array holds the rows carried on. -/
theorem final14 (c : Dev nD) : (dats m 0 c).arrAt 14 cfg0.N = G14 m c := by
  refine (dats m 0 c).arrAt_eq_of_covers 14 _ (by decide +kernel) fun t hf y => ?_
  have idx : ∀ t : Fin cfg0.N, win0_14.index t = ![t.val / 2, 0, 0] :=
    (by decide +kernel : ∀ t : Fin grid0.N, win0_14.index t = ![t.val / 2, 0, 0])
  have hf1 : t.val % 2 = 1 := by
    have : ∀ t : Fin cfg0.N, (cfg0.win 14).flush t = true → t.val % 2 = 1 := (by decide +kernel : ∀ t : Fin grid0.N, win0_14.flush t = true → t.val % 2 = 1)
    exact this t hf
  have e : ∀ (j : Fin 2) (k : Fin 1024), ((win0_14.blk t).view.emb (ix3 0 j k : S1x2x1024.Idx) : S8x2x1024.Idx) = ix3 (SconvBlocks.sq t) j k := by
    intro r k; blk_ext [idx t]
  blk_simp
  rw [after0_14, Cert.SconvBlock.aux_B m c t (by omega) hf1]
  obtain ⟨j, k, rfl⟩ : ∃ (j : Fin 2) (k : Fin 1024), y = (ix3 0 j k : S1x2x1024.Idx) :=
    ⟨y 1, y 2, by ext a; fin_cases a; · exact congrArg Fin.val (Subsingleton.elim (α := Fin 1) _ _)
                  all_goals rfl⟩
  rw [e]
  have hp : ∀ Z : Vec Ideal S8x1024 .f32, k0_pay2 (F := Ideal) (View.ld Z (Rect.unit ![6, 0] ![2, 1024] inb_S8x1024_S2x1024_6_0)) (ix3 0 j k) = Z (ix2 ⟨6 + j.val, by omega⟩ k) := by
    intro Z; pointwise [k0_pay2]
  refine (hp _).trans ((kept_apply _ _ _ k).trans ?_)
  rw [wIn_eq m c t]
  have er := congrFun (rows_eq m c t) ⟨1016 + (6 + j.val), by omega⟩
  simp only [] at er ⊢
  rw [er]
  have e1 : rw_ t ⟨1016 + (6 + j.val), by omega⟩ = ⟨2046 + j.val, by omega⟩ := Fin.ext (by simp only []; omega)
  rw [e1]
  rfl

end Cert.SconvValue

end
-- ==== Proof.SconvRefValue.lean ====
/- What the short convolution's reference computes, row by row: its host operations read at an index are the layer's
   mathematics. -/
module

public import proofs.«01_k».proof.Proof.SconvSpec
public import proofs.«01_k».proof.Proof.Gen.Reference2Ideal.Read

@[expose] public section

set_option maxRecDepth 16384

noncomputable section

namespace Cert.SconvRefValue

open Idealize.ShloMosaic Cert.Reference2Ideal Cert.Reference2Ideal.Gen Cert.Reference2Ideal.Read Cert.SconvSpec

/-- The products of two projections. -/
theorem v5_apply (x0 : Vec Ideal S8x2048x1024 .f32) (x2 : Vec Ideal S1024x3072 .f32) (b : Fin 8) (s : Fin 2048) (d : Fin 1024) :
    val_main_v5 x0 x2 (ix3 b s d) = prodRow (fun k => x0 (ix3 b s k)) (fun k e => x2 (ix2 k e)) d := by
  pointwise [val_main_v1, val_main_v3, val_main_v4, val_main_v5, prodRow, Spec.lin]

/-- The products with two rows of zeros before them. -/
theorem v6_apply (x0 : Vec Ideal S8x2048x1024 .f32) (x2 : Vec Ideal S1024x3072 .f32) (b : Fin 8) (i : Fin 2050) (d : Fin 1024) :
    val_main_v6 x0 x2 (ix3 b i d) = ext (fun _ _ => 0) (fun (s : Fin 2048) k => x0 (ix3 b s k)) (fun k e => x2 (ix2 k e)) d (6 + i.val) := by
  pointwise [val_main_v6, val_main_v0, val_main_cst]
  by_cases h : i.val < 2
  · have h' : 6 + i.val < 8 := by omega
    simp only [dif_pos h, ext, dif_pos h']
  · have e : 8 + (i.val - 2) = 6 + i.val := by omega
    rw [dif_neg h, v5_apply, ← e]
    exact (ext_ge (fun _ _ => 0) (fun (s : Fin 2048) k => x0 (ix3 b s k)) (fun k e => x2 (ix2 k e)) d ⟨i.val - 2, by omega⟩).symm

/-- The gated rows. -/
theorem v30_apply (x0 : Vec Ideal S8x2048x1024 .f32) (x2 : Vec Ideal S1024x3072 .f32) (x3 : Vec Ideal S3x1024 .f32) (b : Fin 8) (s : Fin 2048) (d : Fin 1024) :
    val_main_v30 x0 x2 x3 (ix3 b s d) =
      gated (fun k => x0 (ix3 b s k)) (ext (fun _ _ => 0) (fun (s : Fin 2048) k => x0 (ix3 b s k)) (fun k e => x2 (ix2 k e))) s.val (fun k e => x2 (ix2 k e)) (fun j k => x3 (ix2 j k)) d := by
  pointwise [val_main_v1, val_main_v2, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v30, val_main_cst_0]
  simp only [v6_apply, gated, Spec.lin]
  have e1 : 6 + (1 + s.val) = 7 + s.val := by omega
  have e2 : 6 + (2 + s.val) = 8 + s.val := by omega
  have rev : ∀ a b c : EReal, a + b + c = c + b + a := fun a b c => by rw [add_comm (a + b) c, add_comm a b, ← add_assoc]
  simp only [e1, e2]
  exact congrArg _ (rev _ _ _)

/-- The mixer's output. -/
theorem v31_apply (x0 : Vec Ideal S8x2048x1024 .f32) (x2 : Vec Ideal S1024x3072 .f32) (x3 : Vec Ideal S3x1024 .f32) (x4 : Vec Ideal S1024x1024 .f32) (b : Fin 8) (s : Fin 2048) (d : Fin 1024) :
    val_main_v31 x0 x2 x3 x4 (ix3 b s d) = seqMix (fun s k => x0 (ix3 b s k)) (fun k e => x2 (ix2 k e)) (fun j k => x3 (ix2 j k)) (fun k c => x4 (ix2 k c)) s d := by
  simp only [seqMix, Spec.lin, ← v30_apply]
  pointwise [val_main_v31]

/-- The rows after the first norm, over the mixer's output. -/
theorem v60_apply (x0 : Vec Ideal S8x2048x1024 .f32) (x2 : Vec Ideal S1024x3072 .f32) (x3 : Vec Ideal S3x1024 .f32) (x4 : Vec Ideal S1024x1024 .f32) (x5 x6 : Vec Ideal S4x1024 .f32) (b : Fin 8) (s : Fin 2048) (d : Fin 1024) :
    val_main_v60 x0 x2 x3 x4 x5 x6 (ix3 b s d) = Spec.after1 (fun k => x0 (ix3 b s k)) (fun d => val_main_v31 x0 x2 x3 x4 (ix3 b s d)) (fun k => x5 (ix2 3 k)) (fun k => x6 (ix2 3 k)) d := by
  pointwise [val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_cst_1, val_main_cst_2, val_main_cst_3, val_main_cst_4, val_main_cst_5, val_main_cst_6]
  simp only [Spec.after1, Spec.nrm, Spec.mean, Spec.resid]

/-- The rows after the second norm, over those after the first. -/
theorem v97_apply (x0 : Vec Ideal S8x2048x1024 .f32) (x2 : Vec Ideal S1024x3072 .f32) (x3 : Vec Ideal S3x1024 .f32) (x4 : Vec Ideal S1024x1024 .f32) (x5 x6 x7 x8 : Vec Ideal S4x1024 .f32) (x9 : Vec Ideal S4x1024x4096 .f32) (x10 : Vec Ideal S4x4096x1024 .f32) (b : Fin 8) (s : Fin 2048) (d : Fin 1024) :
    val_main_v97 x0 x2 x3 x4 x5 x6 x7 x8 x9 x10 (ix3 b s d) =
      Spec.after2 (fun k => x0 (ix3 b s k)) (fun d => val_main_v31 x0 x2 x3 x4 (ix3 b s d)) (fun k => x5 (ix2 3 k)) (fun k => x6 (ix2 3 k))
        (fun k n => x9 (ix3 3 k n)) (fun n k => x10 (ix3 3 n k)) (fun k => x7 (ix2 3 k)) (fun k => x8 (ix2 3 k)) d := by
  have h : ∀ d, val_main_v70 x0 x2 x3 x4 x5 x6 x9 x10 (ix3 b s d) = Spec.mlp (fun d => val_main_v60 x0 x2 x3 x4 x5 x6 (ix3 b s d)) (fun k n => x9 (ix3 3 k n)) (fun n k => x10 (ix3 3 n k)) d := by
    intro d
    pointwise [val_main_v61, val_main_v62, val_main_v63, val_main_v64, val_main_v65, val_main_v68, val_main_v69, val_main_v70, val_main_call0_cst, val_main_call0_v0, Spec.mlp, Spec.lin, Spec.relu2]
  pointwise [val_main_v66, val_main_v67, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_cst_7, val_main_cst_8, val_main_cst_9, val_main_cst_10, val_main_cst_11, val_main_cst_12]
  simp only [h, v60_apply]
  rfl

/-- The reference's first result is the layer of its arguments. -/
theorem v113_apply (x0 : Vec Ideal S8x2048x1024 .f32) (x1 : Vec Ideal S4x8x2048x256 .f32) (x2 : Vec Ideal S1024x3072 .f32) (x3 : Vec Ideal S3x1024 .f32) (x4 : Vec Ideal S1024x1024 .f32) (x5 x6 x7 x8 : Vec Ideal S4x1024 .f32) (x9 : Vec Ideal S4x1024x4096 .f32) (x10 : Vec Ideal S4x4096x1024 .f32) (x11 : Vec Ideal S4x256x1024 .f32) (x12 : Vec Ideal S4x1024x1024 .f32) (b : Fin 8) (s : Fin 2048) (d : Fin 1024) :
    val_main_v113 x0 x1 x2 x3 x4 x5 x6 x7 x8 x9 x10 x11 x12 (ix3 b s d) =
      sconv (fun s k => x0 (ix3 b s k)) (fun k => x1 (ix4 3 b s k)) (fun k e => x2 (ix2 k e)) (fun j k => x3 (ix2 j k)) (fun k c => x4 (ix2 k c))
        (fun k => x5 (ix2 3 k)) (fun k => x6 (ix2 3 k)) (fun k n => x9 (ix3 3 k n)) (fun n k => x10 (ix3 3 n k)) (fun k => x7 (ix2 3 k)) (fun k => x8 (ix2 3 k))
        (fun k c => x11 (ix3 3 k c)) (fun k c => x12 (ix3 3 k c)) s d := by
  pointwise [val_main_v98, val_main_v99, val_main_v100, val_main_v101, val_main_v102, val_main_v103, val_main_v104, val_main_v105, val_main_v106, val_main_v107, val_main_v108, val_main_v109, val_main_v110, val_main_v111, val_main_v112, val_main_v113, val_main_cst_13, val_main_cst_14]
  simp only [v97_apply, v31_apply]
  rfl

/-- The reference's second result is the products of each sequence's last two rows. -/
theorem v29_apply (x0 : Vec Ideal S8x2048x1024 .f32) (x2 : Vec Ideal S1024x3072 .f32) (b : Fin 8) (j : Fin 2) (d : Fin 1024) :
    val_main_v29 x0 x2 (ix3 b j d) = prodRow (fun k => x0 (ix3 b ⟨2046 + j.val, by omega⟩ k)) (fun k e => x2 (ix2 k e)) d := by
  pointwise [val_main_v29]
  have e : 6 + (2048 + j.val) = 8 + (2046 + j.val) := by omega
  rw [v6_apply]
  simp only [e]
  exact ext_ge (fun _ _ => 0) (fun (s : Fin 2048) k => x0 (ix3 b s k)) (fun k e => x2 (ix2 k e)) d ⟨2046 + j.val, by omega⟩

end Cert.SconvRefValue

end
-- ==== Proof.SconvEquation.lean ====
/- The short convolution's two result arrays are its reference's, as functions of the arguments; so the two programs compute
   the same function over the extended reals. -/
module

public import proofs.«01_k».proof.Proof.SconvValue
public import proofs.«01_k».proof.Proof.SconvRefValue
public import proofs.«01_k».proof.Proof.Gen.Kernel2Ideal.Value
public import proofs.«01_k».proof.Proof.Gen.Reference2Ideal.Run
public import proofs.«01_k».proof.Defs

@[expose] public section

set_option maxRecDepth 16384

noncomputable section

namespace Cert.SconvEquation

open Idealize.ShloMosaic Idealize.ShloMosaic.TcCoe Idealize.SL.Sem

variable (m : (ℓ : Loc Cert.Kernel2Ideal.nD Cert.Kernel2Ideal.τ Cert.Kernel2Ideal.sig) → Buf (Elt Ideal) ℓ)
variable (m' : (ℓ : Loc Cert.Reference2Ideal.nD Cert.Reference2Ideal.τ Cert.Reference2Ideal.sig) → Buf (Elt Ideal) ℓ)

/-- From equal arguments, the reference's first result is the kernel's. -/
theorem first (c : Dev Cert.Kernel2Ideal.nD)
    (h0 : (m' ((c.tc : Thread Cert.Reference2Ideal.nD Cert.Reference2Ideal.τ).loc Cert.Reference2Ideal.main_arg0) : Vec Ideal Cert.Kernel2Ideal.S8x2048x1024 .f32) = m ((c.tc : Thread Cert.Kernel2Ideal.nD Cert.Kernel2Ideal.τ).loc Cert.Kernel2Ideal.main_arg0))
    (h1 : (m' ((c.tc : Thread Cert.Reference2Ideal.nD Cert.Reference2Ideal.τ).loc Cert.Reference2Ideal.main_arg1) : Vec Ideal Cert.Kernel2Ideal.S4x8x2048x256 .f32) = m ((c.tc : Thread Cert.Kernel2Ideal.nD Cert.Kernel2Ideal.τ).loc Cert.Kernel2Ideal.main_arg1))
    (h2 : (m' ((c.tc : Thread Cert.Reference2Ideal.nD Cert.Reference2Ideal.τ).loc Cert.Reference2Ideal.main_arg2) : Vec Ideal Cert.Kernel2Ideal.S1024x3072 .f32) = m ((c.tc : Thread Cert.Kernel2Ideal.nD Cert.Kernel2Ideal.τ).loc Cert.Kernel2Ideal.main_arg2))
    (h3 : (m' ((c.tc : Thread Cert.Reference2Ideal.nD Cert.Reference2Ideal.τ).loc Cert.Reference2Ideal.main_arg3) : Vec Ideal Cert.Kernel2Ideal.S3x1024 .f32) = m ((c.tc : Thread Cert.Kernel2Ideal.nD Cert.Kernel2Ideal.τ).loc Cert.Kernel2Ideal.main_arg3))
    (h4 : (m' ((c.tc : Thread Cert.Reference2Ideal.nD Cert.Reference2Ideal.τ).loc Cert.Reference2Ideal.main_arg4) : Vec Ideal Cert.Kernel2Ideal.S1024x1024 .f32) = m ((c.tc : Thread Cert.Kernel2Ideal.nD Cert.Kernel2Ideal.τ).loc Cert.Kernel2Ideal.main_arg4))
    (h5 : (m' ((c.tc : Thread Cert.Reference2Ideal.nD Cert.Reference2Ideal.τ).loc Cert.Reference2Ideal.main_arg5) : Vec Ideal Cert.Kernel2Ideal.S4x1024 .f32) = m ((c.tc : Thread Cert.Kernel2Ideal.nD Cert.Kernel2Ideal.τ).loc Cert.Kernel2Ideal.main_arg5))
    (h6 : (m' ((c.tc : Thread Cert.Reference2Ideal.nD Cert.Reference2Ideal.τ).loc Cert.Reference2Ideal.main_arg6) : Vec Ideal Cert.Kernel2Ideal.S4x1024 .f32) = m ((c.tc : Thread Cert.Kernel2Ideal.nD Cert.Kernel2Ideal.τ).loc Cert.Kernel2Ideal.main_arg6))
    (h7 : (m' ((c.tc : Thread Cert.Reference2Ideal.nD Cert.Reference2Ideal.τ).loc Cert.Reference2Ideal.main_arg7) : Vec Ideal Cert.Kernel2Ideal.S4x1024 .f32) = m ((c.tc : Thread Cert.Kernel2Ideal.nD Cert.Kernel2Ideal.τ).loc Cert.Kernel2Ideal.main_arg7))
    (h8 : (m' ((c.tc : Thread Cert.Reference2Ideal.nD Cert.Reference2Ideal.τ).loc Cert.Reference2Ideal.main_arg8) : Vec Ideal Cert.Kernel2Ideal.S4x1024 .f32) = m ((c.tc : Thread Cert.Kernel2Ideal.nD Cert.Kernel2Ideal.τ).loc Cert.Kernel2Ideal.main_arg8))
    (h9 : (m' ((c.tc : Thread Cert.Reference2Ideal.nD Cert.Reference2Ideal.τ).loc Cert.Reference2Ideal.main_arg9) : Vec Ideal Cert.Kernel2Ideal.S4x1024x4096 .f32) = m ((c.tc : Thread Cert.Kernel2Ideal.nD Cert.Kernel2Ideal.τ).loc Cert.Kernel2Ideal.main_arg9))
    (h10 : (m' ((c.tc : Thread Cert.Reference2Ideal.nD Cert.Reference2Ideal.τ).loc Cert.Reference2Ideal.main_arg10) : Vec Ideal Cert.Kernel2Ideal.S4x4096x1024 .f32) = m ((c.tc : Thread Cert.Kernel2Ideal.nD Cert.Kernel2Ideal.τ).loc Cert.Kernel2Ideal.main_arg10))
    (h11 : (m' ((c.tc : Thread Cert.Reference2Ideal.nD Cert.Reference2Ideal.τ).loc Cert.Reference2Ideal.main_arg11) : Vec Ideal Cert.Kernel2Ideal.S4x256x1024 .f32) = m ((c.tc : Thread Cert.Kernel2Ideal.nD Cert.Kernel2Ideal.τ).loc Cert.Kernel2Ideal.main_arg11))
    (h12 : (m' ((c.tc : Thread Cert.Reference2Ideal.nD Cert.Reference2Ideal.τ).loc Cert.Reference2Ideal.main_arg12) : Vec Ideal Cert.Kernel2Ideal.S4x1024x1024 .f32) = m ((c.tc : Thread Cert.Kernel2Ideal.nD Cert.Kernel2Ideal.τ).loc Cert.Kernel2Ideal.main_arg12)) :
    Cert.Reference2Ideal.Read.val_main_v113 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) = Cert.SconvValue.G13 m c := by
  funext i
  obtain ⟨b, s, d, rfl⟩ : ∃ (b : Fin 8) (s : Fin 2048) (d : Fin 1024), i = ix3 b s d := ⟨i 0, i 1, i 2, by ext k; fin_cases k <;> rfl⟩
  refine (Cert.SconvRefValue.v113_apply _ _ _ _ _ _ _ _ _ _ _ _ _ b s d).trans ?_
  rw [h0, h1, h2, h3, h4, h5, h6, h7, h8, h9, h10, h11, h12]
  rfl

/-- From equal arguments, the reference's second result is the kernel's. -/
theorem second (c : Dev Cert.Kernel2Ideal.nD)
    (h0 : (m' ((c.tc : Thread Cert.Reference2Ideal.nD Cert.Reference2Ideal.τ).loc Cert.Reference2Ideal.main_arg0) : Vec Ideal Cert.Kernel2Ideal.S8x2048x1024 .f32) = m ((c.tc : Thread Cert.Kernel2Ideal.nD Cert.Kernel2Ideal.τ).loc Cert.Kernel2Ideal.main_arg0))
    (h2 : (m' ((c.tc : Thread Cert.Reference2Ideal.nD Cert.Reference2Ideal.τ).loc Cert.Reference2Ideal.main_arg2) : Vec Ideal Cert.Kernel2Ideal.S1024x3072 .f32) = m ((c.tc : Thread Cert.Kernel2Ideal.nD Cert.Kernel2Ideal.τ).loc Cert.Kernel2Ideal.main_arg2)) :
    Cert.Reference2Ideal.Read.val_main_v29 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) = Cert.SconvValue.G14 m c := by
  funext i
  obtain ⟨b, s, d, rfl⟩ : ∃ (b : Fin 8) (s : Fin 2) (d : Fin 1024), i = ix3 b s d := ⟨i 0, i 1, i 2, by ext k; fin_cases k <;> rfl⟩
  refine (Cert.SconvRefValue.v29_apply _ _ b s d).trans ?_
  rw [h0, h2]
  rfl

/-- Kernel and reference compute the same function over the extended reals. -/
theorem equal : @Cert.algebraic_Kernel2Ideal_Reference2Ideal Cert.Kernel2Ideal.Gen.facts Cert.Reference2Ideal.Gen.facts := by
  intro m g m' g' _ hargs
  refine ⟨Cert.SconvValue.G13 m, Cert.SconvValue.G14 m, ?_, ?_⟩
  · refine (θ_run _ _ _).mono (fun r h c => ?_) (Cert.Kernel2Ideal.Value.run_blocks (F := Ideal) m g)
    exact ⟨(h c).1.trans (Cert.SconvValue.final13 m c), (h c).2.1.trans (Cert.SconvValue.final14 m c), (h c).2.2⟩
  · refine (θ_run _ _ _).mono (fun r h c => ?_) (Cert.Reference2Ideal.Value.run (F := Ideal) m' g')
    obtain ⟨h0, h1, h2, h3, h4, h5, h6, h7, h8, h9, h10, h11, h12⟩ := hargs c
    exact ⟨(h c).1.trans ((Cert.Reference2Ideal.Read.val_main_v113_eq _).trans (first m m' c h0 h1 h2 h3 h4 h5 h6 h7 h8 h9 h10 h11 h12)),
      (h c).2.1.trans ((Cert.Reference2Ideal.Read.val_main_v29_eq _).trans (second m m' c h0 h2)), (h c).2.2⟩

end Cert.SconvEquation

end
-- ==== Proof.SampleTile.lean ====
/- The sample call's arithmetic on its one tile of 128 rows, as named vector operations: the gated short convolution of one new
   row of each sequence, the two residual sums, the squared-ReLU MLP and the gated embedding; and the body's values as those
   operations. The definitions follow the kernel's own operations, in its order and its shapes. -/
module

public import proofs.«01_k».proof.Proof.Tile
public import proofs.«01_k».proof.Proof.Gen.Kernel3Ideal.Frame

@[expose] public section

set_option maxRecDepth 16384

noncomputable section

namespace Cert.SampleTile

open Idealize.ShloMosaic Cert.Kernel3Ideal Cert.Kernel3Ideal.Gen
open Cert.Tile (normed resid rowOf)

variable {F : FTy → Type} [FloatOps F]

/-! ## The mixer -/

/-- The three projections of the rows. -/
def projTile (x : Vec F S128x1024 .f32) (w : Vec F S1024x3072 .bf16) : FVec F S128x3072 .f32 :=
  matmul dot_S128x1024_S1024x3072_S128x3072_1_0_0_1_n_n none
    (truncf .bf16 (shapeCast S128x1024 x shapeCasts_S128x1024_S128x1024) bitsLt_bf16_f32)
    (shapeCast S1024x3072 w shapeCasts_S1024x3072_S1024x3072) (constant S128x3072 .f32 0x00000000#32)

/-- The product of the second and the third projection. -/
def qTile (x : Vec F S128x1024 .f32) (w : Vec F S1024x3072 .bf16) : FVec F S128x1024 .f32 :=
  mulf (extractStridedSlice S128x1024 ![0, 1024] (projTile x w) slices_S128x3072_o0_1024_S128x1024)
    (extractStridedSlice S128x1024 ![0, 2048] (projTile x w) slices_S128x3072_o0_2048_S128x1024)

/-- A tap of the convolution, the same for every row. -/
abbrev tap (k : Vec F S1x1024 .f32) : FVec F S128x1024 .f32 := broadcastTo S128x1024 k broadcasts_S1x1024_S128x1024

/-- The products of an earlier row of each sequence. -/
abbrev oldRow (s : Vec F S128x1x1024 .f32) : FVec F S128x1024 .f32 := shapeCast S128x1024 s shapeCasts_S128x1x1024_S128x1024

/-- The gated convolution: the new products with the last tap, the two earlier rows' with the first and the second. -/
def gateTile (x : Vec F S128x1024 .f32) (w : Vec F S1024x3072 .bf16) (k2 : Vec F S1x1024 .f32) (s0 : Vec F S128x1x1024 .f32)
    (k0 : Vec F S1x1024 .f32) (s1 : Vec F S128x1x1024 .f32) (k1 : Vec F S1x1024 .f32) : FVec F S128x1024 .f32 :=
  mulf (extractStridedSlice S128x1024 ![0, 0] (projTile x w) slices_S128x3072_o0_0_S128x1024)
    (addf (addf (mulf (qTile x w) (tap k2)) (mulf (oldRow s0) (tap k0))) (mulf (oldRow s1) (tap k1)))

/-- The mixer's output. -/
def mixTile (g : FVec F S128x1024 .f32) (wo : Vec F S1024x1024 .bf16) : FVec F S128x1024 .f32 :=
  matmul dot_S128x1024_S1024x1024_S128x1024_1_0_0_1_n_n none (truncf .bf16 g bitsLt_bf16_f32)
    (shapeCast S1024x1024 wo shapeCasts_S1024x1024_S1024x1024) (constant S128x1024 .f32 0x00000000#32)

/-! ## The two residual sums, the MLP and the gated embedding -/

/-- Rows `o … o + 31` of the tile. -/
abbrev rows (o : Nat) (h : S128x1024.Slices ![o, 0] S32x1024) (x : FVec F S128x1024 .f32) : FVec F S32x1024 .f32 :=
  extractStridedSlice S32x1024 ![o, 0] x h

/-- Four pieces of 32 rows, one under the other. -/
abbrev stack4 {φ : FTy} (p0 p1 p2 p3 : FVec F S32x1024 φ) : FVec F S128x1024 φ :=
  concatenate S128x1024 0 [⟨S32x1024, p0⟩, ⟨S32x1024, p1⟩, ⟨S32x1024, p2⟩, ⟨S32x1024, p3⟩]
    concatenates_S32x1024_S32x1024_S32x1024_S32x1024_S128x1024_d0

/-- The four pieces rounded, one under the other. -/
abbrev stack4b (p0 p1 p2 p3 : FVec F S32x1024 .f32) : FVec F S128x1024 .bf16 :=
  stack4 (truncf .bf16 p0 bitsLt_bf16_f32) (truncf .bf16 p1 bitsLt_bf16_f32) (truncf .bf16 p2 bitsLt_bf16_f32)
    (truncf .bf16 p3 bitsLt_bf16_f32)

/-- 32 rows of the input. -/
abbrev xRows (x : Vec F S32x1024 .f32) : FVec F S32x1024 .f32 := shapeCast S32x1024 x shapeCasts_S32x1024_S32x1024

/-- The first residual sum, normalised. -/
def x1Tile (x0 x1 x2 x3 : Vec F S32x1024 .f32) (y : FVec F S128x1024 .f32) (g b : Vec F S1x1x1024 .f32) : FVec F S128x1024 .f32 :=
  stack4 (normed (resid (xRows x0) (rows 0 slices_S128x1024_o0_0_S32x1024 y)) (rowOf g) (rowOf b))
    (normed (resid (xRows x1) (rows 32 slices_S128x1024_o32_0_S32x1024 y)) (rowOf g) (rowOf b))
    (normed (resid (xRows x2) (rows 64 slices_S128x1024_o64_0_S32x1024 y)) (rowOf g) (rowOf b))
    (normed (resid (xRows x3) (rows 96 slices_S128x1024_o96_0_S32x1024 y)) (rowOf g) (rowOf b))

/-- The first residual sum, normalised and rounded. -/
def x1TileB (x0 x1 x2 x3 : Vec F S32x1024 .f32) (y : FVec F S128x1024 .f32) (g b : Vec F S1x1x1024 .f32) : FVec F S128x1024 .bf16 :=
  stack4b (normed (resid (xRows x0) (rows 0 slices_S128x1024_o0_0_S32x1024 y)) (rowOf g) (rowOf b))
    (normed (resid (xRows x1) (rows 32 slices_S128x1024_o32_0_S32x1024 y)) (rowOf g) (rowOf b))
    (normed (resid (xRows x2) (rows 64 slices_S128x1024_o64_0_S32x1024 y)) (rowOf g) (rowOf b))
    (normed (resid (xRows x3) (rows 96 slices_S128x1024_o96_0_S32x1024 y)) (rowOf g) (rowOf b))

/-- The tile against 512 columns of a 1024-row matrix. -/
abbrev times (x : FVec F S128x1024 .bf16) (w : FVec F S1024x512 .bf16) : FVec F S128x512 .f32 :=
  matmul dot_S128x1024_S1024x512_S128x512_1_0_0_1_n_n none x w (constant S128x512 .f32 0x00000000#32)

/-- 512 hidden columns of the MLP: the square of the ReLU. -/
def hidPiece (x : FVec F S128x1024 .bf16) (w : Vec F S1x1024x512 .bf16) : FVec F S128x512 .bf16 :=
  let h := maximumf (times x (shapeCast S1024x512 w shapeCasts_S1x1024x512_S1024x512))
    (broadcast S128x512 (Scalar.ofBits .f32 0x00000000#32))
  truncf .bf16 (mulf h h) bitsLt_bf16_f32

/-- The MLP's hidden tile: eight column pieces side by side. -/
def hidTile (x : FVec F S128x1024 .bf16) (w0 w1 w2 w3 w4 w5 w6 w7 : Vec F S1x1024x512 .bf16) : FVec F S128x4096 .bf16 :=
  concatenate S128x4096 1 [⟨S128x512, hidPiece x w0⟩, ⟨S128x512, hidPiece x w1⟩, ⟨S128x512, hidPiece x w2⟩,
    ⟨S128x512, hidPiece x w3⟩, ⟨S128x512, hidPiece x w4⟩, ⟨S128x512, hidPiece x w5⟩, ⟨S128x512, hidPiece x w6⟩,
    ⟨S128x512, hidPiece x w7⟩] concatenates_S128x512_S128x512_S128x512_S128x512_S128x512_S128x512_S128x512_S128x512_S128x4096_d1

/-- Two pieces of 512 columns side by side. -/
abbrev side2 (p q : FVec F S128x512 .f32) : FVec F S128x1024 .f32 :=
  concatenate S128x1024 1 [⟨S128x512, p⟩, ⟨S128x512, q⟩] concatenates_S128x512_S128x512_S128x1024_d1

/-- The MLP's output: two column pieces side by side. -/
def downTile (h : FVec F S128x4096 .bf16) (w0 w1 : Vec F S1x4096x512 .bf16) : FVec F S128x1024 .f32 :=
  side2 (matmul dot_S128x4096_S4096x512_S128x512_1_0_0_1_n_n none h (shapeCast S4096x512 w0 shapeCasts_S1x4096x512_S4096x512)
      (constant S128x512 .f32 0x00000000#32))
    (matmul dot_S128x4096_S4096x512_S128x512_1_0_0_1_n_n none h (shapeCast S4096x512 w1 shapeCasts_S1x4096x512_S4096x512)
      (constant S128x512 .f32 0x00000000#32))

/-- The second residual sum, normalised. -/
def x2Tile (x y : FVec F S128x1024 .f32) (g b : Vec F S1x1x1024 .f32) : FVec F S128x1024 .f32 :=
  stack4 (normed (resid (rows 0 slices_S128x1024_o0_0_S32x1024 x) (rows 0 slices_S128x1024_o0_0_S32x1024 y)) (rowOf g) (rowOf b))
    (normed (resid (rows 32 slices_S128x1024_o32_0_S32x1024 x) (rows 32 slices_S128x1024_o32_0_S32x1024 y)) (rowOf g) (rowOf b))
    (normed (resid (rows 64 slices_S128x1024_o64_0_S32x1024 x) (rows 64 slices_S128x1024_o64_0_S32x1024 y)) (rowOf g) (rowOf b))
    (normed (resid (rows 96 slices_S128x1024_o96_0_S32x1024 x) (rows 96 slices_S128x1024_o96_0_S32x1024 y)) (rowOf g) (rowOf b))

/-- The second residual sum, normalised and rounded. -/
def x2TileB (x y : FVec F S128x1024 .f32) (g b : Vec F S1x1x1024 .f32) : FVec F S128x1024 .bf16 :=
  stack4b (normed (resid (rows 0 slices_S128x1024_o0_0_S32x1024 x) (rows 0 slices_S128x1024_o0_0_S32x1024 y)) (rowOf g) (rowOf b))
    (normed (resid (rows 32 slices_S128x1024_o32_0_S32x1024 x) (rows 32 slices_S128x1024_o32_0_S32x1024 y)) (rowOf g) (rowOf b))
    (normed (resid (rows 64 slices_S128x1024_o64_0_S32x1024 x) (rows 64 slices_S128x1024_o64_0_S32x1024 y)) (rowOf g) (rowOf b))
    (normed (resid (rows 96 slices_S128x1024_o96_0_S32x1024 x) (rows 96 slices_S128x1024_o96_0_S32x1024 y)) (rowOf g) (rowOf b))

/-- 512 columns (from column `c`) of the layer's output: the normalised sum plus the embedding's projection times its gate. -/
def outPiece (x : FVec F S128x1024 .f32) (xb : FVec F S128x1024 .bf16) (c : Nat) (h : S128x1024.Slices ![0, c] S128x512)
    (wg : Vec F S1x1024x512 .bf16) (p : Vec F S1x128x256 .f32) (wp : Vec F S1x256x512 .bf16) : FVec F S128x512 .f32 :=
  addf (extractStridedSlice S128x512 ![0, c] x h)
    (mulf (matmul dot_S128x256_S256x512_S128x512_1_0_0_1_n_n none
        (truncf .bf16 (shapeCast S128x256 p shapeCasts_S1x128x256_S128x256) bitsLt_bf16_f32)
        (shapeCast S256x512 wp shapeCasts_S1x256x512_S256x512) (constant S128x512 .f32 0x00000000#32))
      (logistic (times xb (shapeCast S1024x512 wg shapeCasts_S1x1024x512_S1024x512))))

/-! ## The body's values are these operations -/

/-- The products written to the second result. -/
theorem q_eq (x : Vec F S128x1024 .f32) (w : Vec F S1024x3072 .bf16) : k0_pay4 x w = qTile x w := rfl

/-- The mixer's output. -/
theorem mix_eq (x : Vec F S128x1024 .f32) (w : Vec F S1024x3072 .bf16) (k2 : Vec F S1x1024 .f32) (s0 : Vec F S128x1x1024 .f32)
    (k0 : Vec F S1x1024 .f32) (s1 : Vec F S128x1x1024 .f32) (k1 : Vec F S1x1024 .f32) (wo : Vec F S1024x1024 .bf16) :
    k0_pay5 x w k2 s0 k0 s1 k1 wo = mixTile (gateTile x w k2 s0 k0 s1 k1) wo := rfl

/-- The first residual sum, normalised. -/
theorem x1_eq (y : FVec F S128x1024 .f32) (x0 x1 x2 x3 : Vec F S32x1024 .f32) (g b : Vec F S1x1x1024 .f32) :
    k0_pay20 y (k0_pay7 y (k0_pay6 x0) (Scalar.ofBits .f32 0x3FD744FD#32) g b) (k0_pay12 (k0_pay9 y x1) (k0_pay10 g) (k0_pay11 b))
      (k0_pay14 g) (k0_pay15 b) (k0_pay16 y x2) (k0_pay17 y x2) (Scalar.ofBits .f32 0x3727C5AC#32) x3 g b = x1Tile x0 x1 x2 x3 y g b := rfl

/-- The first residual sum, normalised and rounded. -/
theorem x1b_eq (y : FVec F S128x1024 .f32) (x0 x1 x2 x3 : Vec F S32x1024 .f32) (g b : Vec F S1x1x1024 .f32) :
    k0_pay21 y (k0_pay8 y (k0_pay6 x0) (Scalar.ofBits .f32 0x3FD744FD#32) g b) (k0_pay13 (k0_pay9 y x1) (k0_pay10 g) (k0_pay11 b))
      (k0_pay14 g) (k0_pay15 b) (k0_pay16 y x2) (k0_pay17 y x2) (Scalar.ofBits .f32 0x3727C5AC#32) x3 g b = x1TileB x0 x1 x2 x3 y g b := rfl

/-- The MLP's output. -/
theorem down_eq (x : FVec F S128x1024 .bf16) (w0 w1 w2 w3 w4 w5 w6 w7 : Vec F S1x1024x512 .bf16) (v0 v1 : Vec F S1x4096x512 .bf16) :
    k0_pay27 x (k0_pay22 x w0) (k0_pay23 x w1) (k0_pay24 x w2) (k0_pay25 x w3) (k0_pay26 x w4) w5 w6 w7 v0 v1 =
      downTile (hidTile x w0 w1 w2 w3 w4 w5 w6 w7) v0 v1 := rfl

/-- The second residual sum's first 32 rows. -/
theorem sum0_eq (X : FVec F S128x1024 .f32) (x : FVec F S128x1024 .bf16) (w0 w1 w2 w3 w4 w5 w6 w7 : Vec F S1x1024x512 .bf16)
    (v0 v1 : Vec F S1x4096x512 .bf16) :
    k0_pay28 X x (k0_pay22 x w0) (k0_pay23 x w1) (k0_pay24 x w2) (k0_pay25 x w3) (k0_pay26 x w4) w5 w6 w7 v0 v1 =
      resid (rows 0 slices_S128x1024_o0_0_S32x1024 X)
        (rows 0 slices_S128x1024_o0_0_S32x1024 (downTile (hidTile x w0 w1 w2 w3 w4 w5 w6 w7) v0 v1)) := rfl

/-- The second residual sum, normalised. -/
theorem x2_eq (X D : FVec F S128x1024 .f32) (g b : Vec F S1x1x1024 .f32) :
    k0_pay43 (k0_pay30 (resid (rows 0 slices_S128x1024_o0_0_S32x1024 X) (rows 0 slices_S128x1024_o0_0_S32x1024 D)) (k0_pay29 g) b)
      (k0_pay36 (k0_pay32 g) (k0_pay33 b) (k0_pay34 X D) (k0_pay35 X D) (Scalar.ofBits .f32 0x44800000#32)) (k0_pay38 X D g b)
      (k0_pay40 X) (k0_pay41 D) g b = x2Tile X D g b := rfl

/-- The second residual sum, normalised and rounded. -/
theorem x2b_eq (X D : FVec F S128x1024 .f32) (g b : Vec F S1x1x1024 .f32) :
    k0_pay44 (k0_pay31 (resid (rows 0 slices_S128x1024_o0_0_S32x1024 X) (rows 0 slices_S128x1024_o0_0_S32x1024 D)) (k0_pay29 g) b)
      (k0_pay37 (k0_pay32 g) (k0_pay33 b) (k0_pay34 X D) (k0_pay35 X D) (Scalar.ofBits .f32 0x44800000#32)) (k0_pay39 X D g b)
      (k0_pay40 X) (k0_pay41 D) g b = x2TileB X D g b := rfl

/-- The output's second half of columns. -/
theorem out512_eq (X : FVec F S128x1024 .f32) (xb : FVec F S128x1024 .bf16) (wg : Vec F S1x1024x512 .bf16) (p : Vec F S1x128x256 .f32)
    (wp : Vec F S1x256x512 .bf16) : k0_pay2 X xb wg p wp = outPiece X xb 512 slices_S128x1024_o0_512_S128x512 wg p wp := rfl

/-- The output's first half of columns. -/
theorem out0_eq (X D : FVec F S128x1024 .f32) (g b : Vec F S1x1x1024 .f32) (wg : Vec F S1x1024x512 .bf16) (p : Vec F S1x128x256 .f32)
    (wp : Vec F S1x256x512 .bf16) :
    k0_pay1 (k0_pay45 (k0_pay31 (resid (rows 0 slices_S128x1024_o0_0_S32x1024 X) (rows 0 slices_S128x1024_o0_0_S32x1024 D)) (k0_pay29 g) b)
        (k0_pay37 (k0_pay32 g) (k0_pay33 b) (k0_pay34 X D) (k0_pay35 X D) (Scalar.ofBits .f32 0x44800000#32)) (k0_pay39 X D g b)
        (k0_pay40 X) (k0_pay41 D) g b wg)
      (k0_pay46 (k0_pay30 (resid (rows 0 slices_S128x1024_o0_0_S32x1024 X) (rows 0 slices_S128x1024_o0_0_S32x1024 D)) (k0_pay29 g) b)
        (k0_pay36 (k0_pay32 g) (k0_pay33 b) (k0_pay34 X D) (k0_pay35 X D) (Scalar.ofBits .f32 0x44800000#32)) (k0_pay38 X D g b)
        (k0_pay40 X) (k0_pay41 D) g b)
      (k0_pay47 wp) (k0_pay48 p) (constant S128x512 .f32 0x00000000#32) =
      outPiece (x2Tile X D g b) (x2TileB X D g b) 0 slices_S128x1024_o0_0_S128x512 wg p wp := rfl

/-! ## The two results of the body -/

/-- The mixer's output, from the windows' blocks. -/
def mixAt (x : Vec F S128x1024 .f32) (st : Vec F S128x2x1024 .f32) (wi : Vec F S1024x3072 .bf16) (kc : Vec F S3x1024 .f32)
    (wo : Vec F S1024x1024 .bf16) : FVec F S128x1024 .f32 :=
  mixTile (gateTile (View.ld x r0_0) (View.ld wi r0_1) (View.ld kc r0_2) (View.ld st r0_3) (View.ld kc r0_4) (View.ld st r0_5)
    (View.ld kc r0_6)) (View.ld wo r0_7)

/-- The MLP's output, from its windows' blocks. -/
def dTile (x : FVec F S128x1024 .bf16) (wu : Vec F S1x1024x4096 .bf16) (wd : Vec F S1x4096x1024 .bf16) : FVec F S128x1024 .f32 :=
  downTile (hidTile x (View.ld wu r0_13) (View.ld wu r0_14) (View.ld wu r0_15) (View.ld wu r0_16) (View.ld wu r0_17) (View.ld wu r0_18)
    (View.ld wu r0_19) (View.ld wu r0_20)) (View.ld wd r0_21) (View.ld wd r0_22)

/-- 512 columns of the layer's output for rows `x` with the mixer's output `y`. -/
def tail (x : Vec F S128x1024 .f32) (y : FVec F S128x1024 .f32) (p : Vec F S1x128x256 .f32) (g1 h1 : Vec F S1x1x1024 .f32)
    (wu : Vec F S1x1024x4096 .bf16) (wd : Vec F S1x4096x1024 .bf16) (g2 h2 : Vec F S1x1x1024 .f32) (c : Nat)
    (h : S128x1024.Slices ![0, c] S128x512) (wp : Vec F S1x256x512 .bf16) (wg : Vec F S1x1024x512 .bf16) : FVec F S128x512 .f32 :=
  outPiece
    (x2Tile (x1Tile (View.ld x r0_8) (View.ld x r0_10) (View.ld x r0_11) (View.ld x r0_12) y (View.ld g1 r0_9) (View.ld h1 r0_9))
      (dTile (x1TileB (View.ld x r0_8) (View.ld x r0_10) (View.ld x r0_11) (View.ld x r0_12) y (View.ld g1 r0_9) (View.ld h1 r0_9)) wu wd)
      (View.ld g2 r0_9) (View.ld h2 r0_9))
    (x2TileB (x1Tile (View.ld x r0_8) (View.ld x r0_10) (View.ld x r0_11) (View.ld x r0_12) y (View.ld g1 r0_9) (View.ld h1 r0_9))
      (dTile (x1TileB (View.ld x r0_8) (View.ld x r0_10) (View.ld x r0_11) (View.ld x r0_12) y (View.ld g1 r0_9) (View.ld h1 r0_9)) wu wd)
      (View.ld g2 r0_9) (View.ld h2 r0_9)) c h wg (View.ld p r0_24) wp

/-- The output block: its two halves of columns. -/
theorem out14_eq (x : Vec F S128x1024 .f32) (p : Vec F S1x128x256 .f32) (st : Vec F S128x2x1024 .f32) (wi : Vec F S1024x3072 .bf16)
    (kc : Vec F S3x1024 .f32) (wo : Vec F S1024x1024 .bf16) (g1 h1 : Vec F S1x1x1024 .f32) (wu : Vec F S1x1024x4096 .bf16)
    (wd : Vec F S1x4096x1024 .bf16) (g2 h2 : Vec F S1x1x1024 .f32) (wp : Vec F S1x256x1024 .bf16) (wg : Vec F S1x1024x1024 .bf16) :
    out0_14 x p st wi kc wo g1 h1 wu wd g2 h2 wp wg =
      View.canon [⟨r0_29, tail x (mixAt x st wi kc wo) p g1 h1 wu wd g2 h2 512 slices_S128x1024_o0_512_S128x512 (View.ld wp r0_28) (View.ld wg r0_27)⟩,
        ⟨r0_26, tail x (mixAt x st wi kc wo) p g1 h1 wu wd g2 h2 0 slices_S128x1024_o0_0_S128x512 (View.ld wp r0_25) (View.ld wg r0_23)⟩] := by
  have e49 : k0_pay49 x p st wi kc wo g1 h1 wu wd g2 h2 wp wg = mixAt x st wi kc wo := rfl
  have e58 : k0_pay58 x p st wi kc wo g1 h1 wu wd g2 h2 wp wg = x1Tile (View.ld x r0_8) (View.ld x r0_10) (View.ld x r0_11) (View.ld x r0_12)
      (mixAt x st wi kc wo) (View.ld g1 r0_9) (View.ld h1 r0_9) := by
    simp only [k0_pay58, k0_pay57, k0_pay56, k0_pay55, k0_pay54, k0_pay53, k0_pay52, k0_pay51, k0_pay50, e49]
    exact x1_eq _ _ _ _ _ _ _
  have e59 : k0_pay59 x p st wi kc wo g1 h1 wu wd g2 h2 wp wg = x1TileB (View.ld x r0_8) (View.ld x r0_10) (View.ld x r0_11) (View.ld x r0_12)
      (mixAt x st wi kc wo) (View.ld g1 r0_9) (View.ld h1 r0_9) := by
    simp only [k0_pay59, k0_pay57, k0_pay56, k0_pay55, k0_pay54, k0_pay53, k0_pay52, k0_pay51, k0_pay50, e49]
    exact x1b_eq _ _ _ _ _ _ _
  rw [out0_14]
  simp only [k0_pay66, k0_pay65, k0_pay60, k0_pay61, k0_pay62, k0_pay63, k0_pay64, e58, e59, down_eq, sum0_eq,
    k0_pay67, k0_pay68, k0_pay69, k0_pay70, k0_pay71, k0_pay72, k0_pay73, k0_pay74, k0_pay75, k0_pay76, k0_pay77, k0_pay78, k0_pay79]
  refine congrArg View.canon (congrArg₂ List.cons (congrArg (Sigma.mk r0_29) ?_) (congrArg₂ List.cons (congrArg (Sigma.mk r0_26) ?_) rfl))
  · exact (congrArg₂ (fun a b => k0_pay2 a b _ _ _) (x2_eq _ _ _ _) (x2b_eq _ _ _ _)).trans (out512_eq _ _ _ _ _)
  · exact out0_eq _ _ _ _ _ _ _

/-- The block of new products. -/
theorem out15_eq (x : Vec F S128x1024 .f32) (p : Vec F S1x128x256 .f32) (st : Vec F S128x2x1024 .f32) (wi : Vec F S1024x3072 .bf16)
    (kc : Vec F S3x1024 .f32) (wo : Vec F S1024x1024 .bf16) (g1 h1 : Vec F S1x1x1024 .f32) (wu : Vec F S1x1024x4096 .bf16)
    (wd : Vec F S1x4096x1024 .bf16) (g2 h2 : Vec F S1x1x1024 .f32) (wp : Vec F S1x256x1024 .bf16) (wg : Vec F S1x1024x1024 .bf16) :
    out0_15 x p st wi kc wo g1 h1 wu wd g2 h2 wp wg = View.canon [⟨r0_0, qTile (View.ld x r0_0) (View.ld wi r0_1)⟩] := rfl

end Cert.SampleTile

end
-- ==== Proof.SampleIdeal.lean ====
/- The sample call's tile operations over the extended reals, read at an index: each is a function of `Spec` on the tile's rows. -/
module

public import proofs.«01_k».proof.Proof.SampleTile
public import proofs.«01_k».proof.Proof.TileIdeal
public import proofs.«01_k».proof.Proof.SconvSpec
public import proofs.«01_k».proof.Proof.Gen.Kernel3Ideal.Value
public import Idealize.ShloMosaic.Lib.Pipeline.ValueKit

@[expose] public section

set_option maxRecDepth 16384

noncomputable section

namespace Cert.SampleIdeal

open Idealize.ShloMosaic Cert.Kernel3Ideal Cert.Kernel3Ideal.Gen Cert.SampleTile
open Cert.Tile (normed resid rowOf)
open Cert.TileIdeal (normed_apply resid_apply)
open Cert.SconvSpec (prodRow)

/-- A new row gated: its first projection times the convolution of its product with the products `s0`, `s1` of the two rows
    before it. -/
def gatedRow (x : Spec.Row) (w : Fin 1024 → Fin 3072 → EReal) (k : Fin 3 → Spec.Row) (s0 s1 : Spec.Row) : Spec.Row := fun c =>
  Spec.lin x w ⟨c.val, by omega⟩ * (prodRow x w c * k 2 c + s0 c * k 0 c + s1 c * k 1 c)

/-- The product of the two projections, at an index. -/
theorem qTile_apply (x : Vec Ideal S128x1024 .f32) (w : Vec Ideal S1024x3072 .bf16) (r : Fin 128) (c : Fin 1024) :
    qTile x w (ix2 r c) = prodRow (fun k => x (ix2 r k)) (fun k e => w (ix2 k e)) c := by
  pointwise [qTile, projTile, prodRow, Spec.lin]

/-- The gated convolution, at an index. -/
theorem gateTile_apply (x : Vec Ideal S128x1024 .f32) (w : Vec Ideal S1024x3072 .bf16) (k2 : Vec Ideal S1x1024 .f32)
    (s0 : Vec Ideal S128x1x1024 .f32) (k0 : Vec Ideal S1x1024 .f32) (s1 : Vec Ideal S128x1x1024 .f32) (k1 : Vec Ideal S1x1024 .f32)
    (k : Fin 3 → Spec.Row) (e0 : ∀ c, k0 (ix2 0 c) = k 0 c) (e1 : ∀ c, k1 (ix2 0 c) = k 1 c) (e2 : ∀ c, k2 (ix2 0 c) = k 2 c)
    (r : Fin 128) (c : Fin 1024) :
    gateTile x w k2 s0 k0 s1 k1 (ix2 r c) =
      gatedRow (fun k => x (ix2 r k)) (fun k e => w (ix2 k e)) k (fun c => s0 (ix3 r 0 c)) (fun c => s1 (ix3 r 0 c)) c := by
  rw [gatedRow, ← qTile_apply, ← e0, ← e1, ← e2]
  pointwise [gateTile, projTile, Spec.lin, tap, oldRow]

/-- The mixer's output, at an index. -/
theorem mixTile_apply (g : FVec Ideal S128x1024 .f32) (wo : Vec Ideal S1024x1024 .bf16) (r : Fin 128) (c : Fin 1024) :
    mixTile g wo (ix2 r c) = Spec.lin (fun k => g (ix2 r k)) (fun k c => wo (ix2 k c)) c := by
  pointwise [mixTile, Spec.lin]

/-- The mixer's output from the windows' blocks, at an index. -/
theorem mixAt_apply (x : Vec Ideal S128x1024 .f32) (st : Vec Ideal S128x2x1024 .f32) (wi : Vec Ideal S1024x3072 .bf16) (kc : Vec Ideal S3x1024 .f32)
    (wo : Vec Ideal S1024x1024 .bf16) (r : Fin 128) (c : Fin 1024) :
    mixAt x st wi kc wo (ix2 r c) =
      Spec.lin (gatedRow (fun k => x (ix2 r k)) (fun k e => wi (ix2 k e)) (fun j c => kc (ix2 j c)) (fun c => st (ix3 r 0 c)) (fun c => st (ix3 r 1 c)))
        (fun k c => wo (ix2 k c)) c := by
  rw [mixAt, mixTile_apply]
  have h := fun k => gateTile_apply (View.ld x r0_0) (View.ld wi r0_1) (View.ld kc r0_2) (View.ld st r0_3) (View.ld kc r0_4) (View.ld st r0_5)
    (View.ld kc r0_6) (fun j c => kc (ix2 j c)) (fun c => by pointwise []) (fun c => by pointwise []) (fun c => by pointwise []) r k
  simp only [h]
  have ex : ∀ k, View.ld x r0_0 (ix2 r k) = x (ix2 r k) := fun k => by pointwise []
  have ew : ∀ k e, View.ld wi r0_1 (ix2 k e) = wi (ix2 k e) := fun k e => by pointwise []
  have eo : ∀ k e, View.ld wo r0_7 (ix2 k e) = wo (ix2 k e) := fun k e => by pointwise []
  have es0 : ∀ k, View.ld st r0_3 (ix3 r 0 k) = st (ix3 r 0 k) := fun k => by pointwise []
  have es1 : ∀ k, View.ld st r0_5 (ix3 r 0 k) = st (ix3 r 1 k) := fun k => by pointwise []
  simp only [ex, ew, eo, es0, es1]

/-- Four 32-row pieces that hold rows of `f`, one under the other, hold `f`. -/
theorem stack4_apply {φ : FTy} (p0 p1 p2 p3 : FVec Ideal S32x1024 φ) (f : Fin 128 → Fin 1024 → EReal)
    (h0 : ∀ (r : Fin 32) c, p0 (ix2 r c) = f ⟨0 + r.val, by omega⟩ c) (h1 : ∀ (r : Fin 32) c, p1 (ix2 r c) = f ⟨32 + r.val, by omega⟩ c)
    (h2 : ∀ (r : Fin 32) c, p2 (ix2 r c) = f ⟨64 + r.val, by omega⟩ c) (h3 : ∀ (r : Fin 32) c, p3 (ix2 r c) = f ⟨96 + r.val, by omega⟩ c)
    (r : Fin 128) (c : Fin 1024) : stack4 p0 p1 p2 p3 (ix2 r c) = f r c := by
  pointwise [stack4]
  repeat' split
  all_goals first
    | (rw [h0]; congr 1; apply Fin.ext; simp only []; omega) | (rw [h1]; congr 1; apply Fin.ext; simp only []; omega)
    | (rw [h2]; congr 1; apply Fin.ext; simp only []; omega) | (rw [h3]; congr 1; apply Fin.ext; simp only []; omega)

/-- Two 512-column pieces side by side. -/
theorem side2_apply (p q : FVec Ideal S128x512 .f32) (f : Fin 128 → Fin 1024 → EReal)
    (h0 : ∀ r (c : Fin 512), p (ix2 r c) = f r ⟨0 + c.val, by omega⟩) (h1 : ∀ r (c : Fin 512), q (ix2 r c) = f r ⟨512 + c.val, by omega⟩)
    (r : Fin 128) (c : Fin 1024) : side2 p q (ix2 r c) = f r c := by
  pointwise [side2]
  repeat' split
  all_goals first
    | (rw [h0]; congr 1; apply Fin.ext; simp only []; omega) | (rw [h1]; congr 1; apply Fin.ext; simp only []; omega)

/-- Eight 512-column pieces side by side. -/
theorem side8w_apply (p0 p1 p2 p3 p4 p5 p6 p7 : FVec Ideal S128x512 .bf16) (f : Fin 128 → Fin 4096 → EReal)
    (h0 : ∀ r (c : Fin 512), p0 (ix2 r c) = f r ⟨0 + c.val, by omega⟩) (h1 : ∀ r (c : Fin 512), p1 (ix2 r c) = f r ⟨512 + c.val, by omega⟩)
    (h2 : ∀ r (c : Fin 512), p2 (ix2 r c) = f r ⟨1024 + c.val, by omega⟩) (h3 : ∀ r (c : Fin 512), p3 (ix2 r c) = f r ⟨1536 + c.val, by omega⟩)
    (h4 : ∀ r (c : Fin 512), p4 (ix2 r c) = f r ⟨2048 + c.val, by omega⟩) (h5 : ∀ r (c : Fin 512), p5 (ix2 r c) = f r ⟨2560 + c.val, by omega⟩)
    (h6 : ∀ r (c : Fin 512), p6 (ix2 r c) = f r ⟨3072 + c.val, by omega⟩) (h7 : ∀ r (c : Fin 512), p7 (ix2 r c) = f r ⟨3584 + c.val, by omega⟩)
    (r : Fin 128) (c : Fin 4096) :
    concatenate S128x4096 1 [⟨S128x512, p0⟩, ⟨S128x512, p1⟩, ⟨S128x512, p2⟩, ⟨S128x512, p3⟩, ⟨S128x512, p4⟩, ⟨S128x512, p5⟩,
      ⟨S128x512, p6⟩, ⟨S128x512, p7⟩]
      concatenates_S128x512_S128x512_S128x512_S128x512_S128x512_S128x512_S128x512_S128x512_S128x4096_d1 (ix2 r c) = f r c := by
  pointwise []
  repeat' split
  all_goals first
    | (rw [h0]; congr 1; apply Fin.ext; simp only []; omega) | (rw [h1]; congr 1; apply Fin.ext; simp only []; omega)
    | (rw [h2]; congr 1; apply Fin.ext; simp only []; omega) | (rw [h3]; congr 1; apply Fin.ext; simp only []; omega)
    | (rw [h4]; congr 1; apply Fin.ext; simp only []; omega) | (rw [h5]; congr 1; apply Fin.ext; simp only []; omega)
    | (rw [h6]; congr 1; apply Fin.ext; simp only []; omega) | (rw [h7]; congr 1; apply Fin.ext; simp only []; omega)

/-- 512 hidden columns at an index. -/
theorem hidPiece_apply (x : FVec Ideal S128x1024 .bf16) (w : Vec Ideal S1x1024x512 .bf16) (r : Fin 128) (c : Fin 512) :
    hidPiece x w (ix2 r c) = Spec.relu2 (∑ k, x (ix2 r k) * w (ix3 0 k c)) := by
  pointwise [hidPiece, times, Spec.relu2]

/-- The MLP's output at an index. -/
theorem dTile_apply (x : FVec Ideal S128x1024 .bf16) (wu : Vec Ideal S1x1024x4096 .bf16) (wd : Vec Ideal S1x4096x1024 .bf16)
    (r : Fin 128) (d : Fin 1024) :
    dTile x wu wd (ix2 r d) = Spec.mlp (fun k => x (ix2 r k)) (fun k n => wu (ix3 0 k n)) (fun n c => wd (ix3 0 n c)) d := by
  rw [dTile, downTile, hidTile]
  have hh := fun r n => side8w_apply _ _ _ _ _ _ _ _ (fun (r : Fin 128) n => Spec.relu2 (∑ k, x (ix2 r k) * wu (ix3 0 k n)))
    (fun r c => (hidPiece_apply x (View.ld wu r0_13) r c).trans (by pointwise []))
    (fun r c => (hidPiece_apply x (View.ld wu r0_14) r c).trans (by pointwise []))
    (fun r c => (hidPiece_apply x (View.ld wu r0_15) r c).trans (by pointwise []))
    (fun r c => (hidPiece_apply x (View.ld wu r0_16) r c).trans (by pointwise []))
    (fun r c => (hidPiece_apply x (View.ld wu r0_17) r c).trans (by pointwise []))
    (fun r c => (hidPiece_apply x (View.ld wu r0_18) r c).trans (by pointwise []))
    (fun r c => (hidPiece_apply x (View.ld wu r0_19) r c).trans (by pointwise []))
    (fun r c => (hidPiece_apply x (View.ld wu r0_20) r c).trans (by pointwise []))
    r n
  generalize concatenate S128x4096 1 _ _ = H at hh ⊢
  refine side2_apply _ _ (fun r d => Spec.mlp (fun k => x (ix2 r k)) (fun k n => wu (ix3 0 k n)) (fun n c => wd (ix3 0 n c)) d) ?_ ?_ r d
  all_goals
    intro r d
    simp only [Spec.mlp, Spec.lin, ← hh]
    pointwise []

/-- The first residual sum normalised, at an index: the four row pieces hold the rows `X`. -/
theorem x1Tile_apply (x0 x1 x2 x3 : Vec Ideal S32x1024 .f32) (X : Fin 128 → Fin 1024 → EReal)
    (h0 : ∀ (r : Fin 32) c, x0 (ix2 r c) = X ⟨0 + r.val, by omega⟩ c) (h1 : ∀ (r : Fin 32) c, x1 (ix2 r c) = X ⟨32 + r.val, by omega⟩ c)
    (h2 : ∀ (r : Fin 32) c, x2 (ix2 r c) = X ⟨64 + r.val, by omega⟩ c) (h3 : ∀ (r : Fin 32) c, x3 (ix2 r c) = X ⟨96 + r.val, by omega⟩ c)
    (y : FVec Ideal S128x1024 .f32) (g b : Vec Ideal S1x1x1024 .f32) (r : Fin 128) (c : Fin 1024) :
    x1Tile x0 x1 x2 x3 y g b (ix2 r c) = Spec.nrm (Spec.resid (X r) (fun k => y (ix2 r k))) (fun k => g (ix3 0 0 k)) (fun k => b (ix3 0 0 k)) c := by
  rw [x1Tile]
  refine stack4_apply _ _ _ _ (fun r c => Spec.nrm (Spec.resid (X r) (fun k => y (ix2 r k)))
    (fun k => g (ix3 0 0 k)) (fun k => b (ix3 0 0 k)) c) ?_ ?_ ?_ ?_ r c
  all_goals intro r c; rw [normed_apply]; simp only [resid_apply, Spec.resid]; pointwise [rows, rowOf, xRows]
  all_goals simp only [h0, h1, h2, h3, Nat.zero_add]; rfl

/-- The second residual sum normalised, at an index. -/
theorem x2Tile_apply (x y : FVec Ideal S128x1024 .f32) (g b : Vec Ideal S1x1x1024 .f32) (r : Fin 128) (c : Fin 1024) :
    x2Tile x y g b (ix2 r c) = Spec.nrm (Spec.resid (fun k => x (ix2 r k)) (fun k => y (ix2 r k))) (fun k => g (ix3 0 0 k))
      (fun k => b (ix3 0 0 k)) c := by
  rw [x2Tile]
  refine stack4_apply _ _ _ _ (fun r c => Spec.nrm (Spec.resid (fun k => x (ix2 r k)) (fun k => y (ix2 r k)))
    (fun k => g (ix3 0 0 k)) (fun k => b (ix3 0 0 k)) c) ?_ ?_ ?_ ?_ r c
  all_goals intro r c; rw [normed_apply]; simp only [resid_apply, Spec.resid]; pointwise [rows, rowOf]
  all_goals rfl

/-- The second residual sum normalised and rounded, at an index. -/
theorem x2TileB_apply (x y : FVec Ideal S128x1024 .f32) (g b : Vec Ideal S1x1x1024 .f32) (r : Fin 128) (c : Fin 1024) :
    x2TileB x y g b (ix2 r c) = Spec.nrm (Spec.resid (fun k => x (ix2 r k)) (fun k => y (ix2 r k))) (fun k => g (ix3 0 0 k))
      (fun k => b (ix3 0 0 k)) c :=
  x2Tile_apply x y g b r c

/-- The layer's output piece at an index. -/
theorem outPiece_apply (x : FVec Ideal S128x1024 .f32) (xb : FVec Ideal S128x1024 .bf16) (C : Nat) (h : S128x1024.Slices ![0, C] S128x512)
    (hC : C + 512 ≤ 1024) (wg : Vec Ideal S1x1024x512 .bf16) (p : Vec Ideal S1x128x256 .f32) (wp : Vec Ideal S1x256x512 .bf16)
    (r : Fin 128) (c : Fin 512) :
    outPiece x xb C h wg p wp (ix2 r c) = x (ix2 r ⟨C + c.val, by omega⟩) +
      (∑ k, p (ix3 0 r k) * wp (ix3 0 k c)) * Ideal.logistic (∑ k, xb (ix2 r k) * wg (ix3 0 k c)) := by
  pointwise [outPiece, times]

/-- 512 columns of the layer's output, at an index: `Y` is the mixer's output. -/
theorem tail_apply (x : Vec Ideal S128x1024 .f32) (y : FVec Ideal S128x1024 .f32) (Y : Fin 128 → Fin 1024 → EReal) (ey : ∀ r c, y (ix2 r c) = Y r c)
    (p : Vec Ideal S1x128x256 .f32) (g1 h1 : Vec Ideal S1x1x1024 .f32)
    (wu : Vec Ideal S1x1024x4096 .bf16) (wd : Vec Ideal S1x4096x1024 .bf16) (g2 h2 : Vec Ideal S1x1x1024 .f32) (C : Nat) (hC : C + 512 ≤ 1024)
    (h : S128x1024.Slices ![0, C] S128x512) (wpt : Vec Ideal S1x256x512 .bf16) (wgt : Vec Ideal S1x1024x512 .bf16)
    (WP : Fin 256 → Fin 1024 → EReal) (WG : Fin 1024 → Fin 1024 → EReal)
    (hp : ∀ k (c : Fin 512), wpt (ix3 0 k c) = WP k ⟨C + c.val, by omega⟩) (hg : ∀ k (c : Fin 512), wgt (ix3 0 k c) = WG k ⟨C + c.val, by omega⟩)
    (r : Fin 128) (c : Fin 512) :
    tail x y p g1 h1 wu wd g2 h2 C h wpt wgt (ix2 r c) =
      Spec.out (fun k => x (ix2 r k)) (Y r) (fun k => p (ix3 0 r k)) (fun k => g1 (ix3 0 0 k)) (fun k => h1 (ix3 0 0 k)) (fun k n => wu (ix3 0 k n))
        (fun n c => wd (ix3 0 n c)) (fun k => g2 (ix3 0 0 k)) (fun k => h2 (ix3 0 0 k)) WP WG ⟨C + c.val, by omega⟩ := by
  have eg : ∀ g : Vec Ideal S1x1x1024 .f32, View.ld g r0_9 = g := fun g => View.ld_unit_lit' inb_S1x1x1024_S1x1x1024_0_0_0 g (by decide)
  have ep : ∀ k, View.ld p r0_24 (ix3 0 r k) = p (ix3 0 r k) := fun k => by pointwise []
  have h1b : ∀ x0 x1 x2 x3 (g b : Vec Ideal S1x1x1024 .f32) r c, x1TileB x0 x1 x2 x3 y g b (ix2 r c) = x1Tile x0 x1 x2 x3 y g b (ix2 r c) := fun _ _ _ _ _ _ _ _ => rfl
  have e1 := x1Tile_apply (View.ld x r0_8) (View.ld x r0_10) (View.ld x r0_11) (View.ld x r0_12) (fun r k => x (ix2 r k))
    (fun r c => by pointwise []; try (congr 2; exact Fin.ext (by simp only []; omega))) (fun r c => by pointwise [])
    (fun r c => by pointwise []) (fun r c => by pointwise []) y g1 h1
  rw [tail, eg, eg, eg, eg, outPiece_apply _ _ C h hC]
  simp only [x2Tile_apply, x2TileB_apply, dTile_apply, h1b, e1, ey, hp, hg, ep]
  rfl

/-- One of the two halves of columns, at an index of the block. -/
theorem half_at (x : Vec Ideal S128x1024 .f32) (y : FVec Ideal S128x1024 .f32) (Y : Fin 128 → Fin 1024 → EReal) (ey : ∀ r c, y (ix2 r c) = Y r c)
    (p : Vec Ideal S1x128x256 .f32) (g1 h1 : Vec Ideal S1x1x1024 .f32)
    (wu : Vec Ideal S1x1024x4096 .bf16) (wd : Vec Ideal S1x4096x1024 .bf16) (g2 h2 : Vec Ideal S1x1x1024 .f32) (C : Nat) (hC : C + 512 ≤ 1024)
    (h : S128x1024.Slices ![0, C] S128x512) (wpt : Vec Ideal S1x256x512 .bf16) (wgt : Vec Ideal S1x1024x512 .bf16)
    (WP : Fin 256 → Fin 1024 → EReal) (WG : Fin 1024 → Fin 1024 → EReal)
    (hp : ∀ k (c : Fin 512), wpt (ix3 0 k c) = WP k ⟨C + c.val, by omega⟩) (hg : ∀ k (c : Fin 512), wgt (ix3 0 k c) = WG k ⟨C + c.val, by omega⟩)
    (r : Fin 128) (c : Fin 1024) (i : S128x512.Idx) (hr : r.val = (i 0).val) (hc : c.val = C + (i 1).val) :
    tail x y p g1 h1 wu wd g2 h2 C h wpt wgt i =
      Spec.out (fun k => x (ix2 r k)) (Y r) (fun k => p (ix3 0 r k)) (fun k => g1 (ix3 0 0 k)) (fun k => h1 (ix3 0 0 k)) (fun k n => wu (ix3 0 k n))
        (fun n c => wd (ix3 0 n c)) (fun k => g2 (ix3 0 0 k)) (fun k => h2 (ix3 0 0 k)) WP WG c := by
  obtain ⟨b, d, rfl⟩ : ∃ (b : Fin 128) (d : Fin 512), i = ix2 b d := ⟨i 0, i 1, by ext k; fin_cases k <;> rfl⟩
  change r.val = b.val at hr
  change c.val = C + d.val at hc
  have er : b = r := Fin.ext hr.symm
  have ec : (⟨C + d.val, by omega⟩ : Fin 1024) = c := Fin.ext hc.symm
  rw [← er, ← ec]
  exact tail_apply x y Y ey p g1 h1 wu wd g2 h2 C hC h wpt wgt WP WG hp hg b d

/-- The output block, at an index. -/
theorem out14_apply (x : Vec Ideal S128x1024 .f32) (p : Vec Ideal S1x128x256 .f32) (st : Vec Ideal S128x2x1024 .f32) (wi : Vec Ideal S1024x3072 .bf16)
    (kc : Vec Ideal S3x1024 .f32) (wo : Vec Ideal S1024x1024 .bf16) (g1 b1 : Vec Ideal S1x1x1024 .f32) (wu : Vec Ideal S1x1024x4096 .bf16)
    (wd : Vec Ideal S1x4096x1024 .bf16) (g2 b2 : Vec Ideal S1x1x1024 .f32) (wp : Vec Ideal S1x256x1024 .bf16) (wg : Vec Ideal S1x1024x1024 .bf16)
    (r : Fin 128) (c : Fin 1024) :
    out0_14 x p st wi kc wo g1 b1 wu wd g2 b2 wp wg (ix2 r c) =
      Spec.out (fun k => x (ix2 r k))
        (Spec.lin (gatedRow (fun k => x (ix2 r k)) (fun k e => wi (ix2 k e)) (fun j c => kc (ix2 j c)) (fun c => st (ix3 r 0 c)) (fun c => st (ix3 r 1 c)))
          (fun k c => wo (ix2 k c)))
        (fun k => p (ix3 0 r k)) (fun k => g1 (ix3 0 0 k)) (fun k => b1 (ix3 0 0 k)) (fun k n => wu (ix3 0 k n))
        (fun n c => wd (ix3 0 n c)) (fun k => g2 (ix3 0 0 k)) (fun k => b2 (ix3 0 0 k)) (fun k c => wp (ix3 0 k c)) (fun k c => wg (ix3 0 k c)) c := by
  rw [out14_eq]
  canon_tiles i h
  · refine half_at x _ (fun r => Spec.lin (gatedRow (fun k => x (ix2 r k)) (fun k e => wi (ix2 k e)) (fun j c => kc (ix2 j c)) (fun c => st (ix3 r 0 c))
      (fun c => st (ix3 r 1 c))) (fun k c => wo (ix2 k c))) (mixAt_apply x st wi kc wo) p g1 b1 wu wd g2 b2 512 (by omega) _ _ _ _ _ ?_ ?_ r c i h0 h1
    all_goals intro k c; pointwise []
  · refine half_at x _ (fun r => Spec.lin (gatedRow (fun k => x (ix2 r k)) (fun k e => wi (ix2 k e)) (fun j c => kc (ix2 j c)) (fun c => st (ix3 r 0 c))
      (fun c => st (ix3 r 1 c))) (fun k c => wo (ix2 k c))) (mixAt_apply x st wi kc wo) p g1 b1 wu wd g2 b2 0 (by omega) _ _ _ _ _ ?_ ?_ r c i h0
        (h1.trans (Nat.zero_add _).symm)
    all_goals intro k c; pointwise []; try (congr 2; exact Fin.ext (by simp only []; omega))

/-- The block of new products, at an index. -/
theorem out15_apply (x : Vec Ideal S128x1024 .f32) (p : Vec Ideal S1x128x256 .f32) (st : Vec Ideal S128x2x1024 .f32) (wi : Vec Ideal S1024x3072 .bf16)
    (kc : Vec Ideal S3x1024 .f32) (wo : Vec Ideal S1024x1024 .bf16) (g1 h1 : Vec Ideal S1x1x1024 .f32) (wu : Vec Ideal S1x1024x4096 .bf16)
    (wd : Vec Ideal S1x4096x1024 .bf16) (g2 h2 : Vec Ideal S1x1x1024 .f32) (wp : Vec Ideal S1x256x1024 .bf16) (wg : Vec Ideal S1x1024x1024 .bf16)
    (r : Fin 128) (c : Fin 1024) :
    out0_15 x p st wi kc wo g1 h1 wu wd g2 h2 wp wg (ix2 r c) = prodRow (fun k => x (ix2 r k)) (fun k e => wi (ix2 k e)) c := by
  have e : View.canon [(⟨r0_0, qTile (View.ld x r0_0) (View.ld wi r0_1)⟩ : View.Piece (Elt Ideal) S128x1024 .f32)] = qTile (View.ld x r0_0) (View.ld wi r0_1) :=
    View.canon_cons_unit_lit' inb_S128x1024_S128x1024_0_0 _ [] (by decide)
  rw [out15_eq, e, qTile_apply]
  have ex : ∀ k, View.ld x r0_0 (ix2 r k) = x (ix2 r k) := fun k => by pointwise []
  have ew : ∀ k e, View.ld wi r0_1 (ix2 k e) = wi (ix2 k e) := fun k e => by pointwise []
  simp only [ex, ew]

end Cert.SampleIdeal

end
-- ==== Proof.SampleValue.lean ====
/- What the sample call's two result arrays hold after the run, as functions of the program's arguments: the one block written
   back is the whole array. -/
module

public import proofs.«01_k».proof.Proof.SampleIdeal

@[expose] public section

set_option maxRecDepth 16384

noncomputable section

namespace Cert.SampleValue

open Idealize.ShloMosaic Idealize.ShloMosaic.TcCoe Idealize.SL.Sem Cert.Kernel3Ideal Cert.Kernel3Ideal.Gen
open Cert.SampleIdeal Cert.SconvSpec
open Idealize.ShloMosaic.Pipeline (Dat)

variable (m : (ℓ : Loc nD τ sig) → Buf (Elt Ideal) ℓ)

/-- Window 0 stages the activations' rows. -/
theorem blk0 (c : Dev nD) (t : Fin cfg0.N) (r : Fin 128) (k : Fin 1024) :
    (iblk m c 0 t : Vec Ideal S128x1024 .f32) (ix2 r k) = (m ((c : Thread nD τ).loc main_arg0) : Vec Ideal S128x1x1024 .f32) (ix3 r 0 k) := by
  have idx : ∀ t : Fin cfg0.N, win0_0.index t = ![0, 0] := (by decide +kernel : ∀ t : Fin grid0.N, win0_0.index t = ![0, 0])
  blk_ext! [iblk, V, idx t]

/-- Window 1 stages layer 3's embeddings of the rows. -/
theorem blk1 (c : Dev nD) (t : Fin cfg0.N) (r : Fin 128) (k : Fin 256) :
    (iblk m c 1 t : Vec Ideal S1x128x256 .f32) (ix3 0 r k) = (m ((c : Thread nD τ).loc main_arg2) : Vec Ideal S4x128x1x256 .f32) (ix4 3 r 0 k) := by
  have idx : ∀ t : Fin cfg0.N, win0_1.index t = ![3, 0, 0] := (by decide +kernel : ∀ t : Fin grid0.N, win0_1.index t = ![3, 0, 0])
  blk_ext! [iblk, V, idx t]

/-- Window 2 stages the products of the two rows before. -/
theorem blk2 (c : Dev nD) (t : Fin cfg0.N) (r : Fin 128) (j : Fin 2) (k : Fin 1024) :
    (iblk m c 2 t : Vec Ideal S128x2x1024 .f32) (ix3 r j k) = (m ((c : Thread nD τ).loc main_arg1) : Vec Ideal S128x2x1024 .f32) (ix3 r j k) := by
  have idx : ∀ t : Fin cfg0.N, win0_2.index t = ![0, 0, 0] := (by decide +kernel : ∀ t : Fin grid0.N, win0_2.index t = ![0, 0, 0])
  blk_ext! [iblk, V, idx t]

/-- Window 3 stages the three projections. -/
theorem blk3 (c : Dev nD) (t : Fin cfg0.N) (k : Fin 1024) (e : Fin 3072) :
    (iblk m c 3 t : Vec Ideal S1024x3072 .bf16) (ix2 k e) = (m ((c : Thread nD τ).loc main_arg3) : Vec Ideal S1024x3072 .f32) (ix2 k e) := by
  have idx : ∀ t : Fin cfg0.N, win0_3.index t = ![0, 0] := (by decide +kernel : ∀ t : Fin grid0.N, win0_3.index t = ![0, 0])
  blk_ext! [iblk, V, idx t]

/-- Window 4 stages the taps. -/
theorem blk4 (c : Dev nD) (t : Fin cfg0.N) (j : Fin 3) (k : Fin 1024) :
    (iblk m c 4 t : Vec Ideal S3x1024 .f32) (ix2 j k) = (m ((c : Thread nD τ).loc main_arg4) : Vec Ideal S3x1024 .f32) (ix2 j k) := by
  have idx : ∀ t : Fin cfg0.N, win0_4.index t = ![0, 0] := (by decide +kernel : ∀ t : Fin grid0.N, win0_4.index t = ![0, 0])
  blk_ext! [iblk, V, idx t]

/-- Window 5 stages the output projection. -/
theorem blk5 (c : Dev nD) (t : Fin cfg0.N) (k q : Fin 1024) :
    (iblk m c 5 t : Vec Ideal S1024x1024 .bf16) (ix2 k q) = (m ((c : Thread nD τ).loc main_arg5) : Vec Ideal S1024x1024 .f32) (ix2 k q) := by
  have idx : ∀ t : Fin cfg0.N, win0_5.index t = ![0, 0] := (by decide +kernel : ∀ t : Fin grid0.N, win0_5.index t = ![0, 0])
  blk_ext! [iblk, V, idx t]

/-- Window 6 stages the first norm's gain. -/
theorem blk6 (c : Dev nD) (t : Fin cfg0.N) (k : Fin 1024) :
    (iblk m c 6 t : Vec Ideal S1x1x1024 .f32) (ix3 0 0 k) = (m ((c : Thread nD τ).loc main_arg6) : Vec Ideal S4x1024 .f32) (ix2 3 k) := by
  have idx : ∀ t : Fin cfg0.N, win0_6.index t = ![3, 0, 0] := (by decide +kernel : ∀ t : Fin grid0.N, win0_6.index t = ![3, 0, 0])
  blk_ext! [iblk, V, idx t]

/-- Window 7 stages the first norm's offset. -/
theorem blk7 (c : Dev nD) (t : Fin cfg0.N) (k : Fin 1024) :
    (iblk m c 7 t : Vec Ideal S1x1x1024 .f32) (ix3 0 0 k) = (m ((c : Thread nD τ).loc main_arg7) : Vec Ideal S4x1024 .f32) (ix2 3 k) := by
  have idx : ∀ t : Fin cfg0.N, win0_7.index t = ![3, 0, 0] := (by decide +kernel : ∀ t : Fin grid0.N, win0_7.index t = ![3, 0, 0])
  blk_ext! [iblk, V, idx t]

/-- Window 8 stages the MLP's first matrix. -/
theorem blk8 (c : Dev nD) (t : Fin cfg0.N) (k : Fin 1024) (n : Fin 4096) :
    (iblk m c 8 t : Vec Ideal S1x1024x4096 .bf16) (ix3 0 k n) = (m ((c : Thread nD τ).loc main_arg10) : Vec Ideal S4x1024x4096 .f32) (ix3 3 k n) := by
  have idx : ∀ t : Fin cfg0.N, win0_8.index t = ![3, 0, 0] := (by decide +kernel : ∀ t : Fin grid0.N, win0_8.index t = ![3, 0, 0])
  blk_ext! [iblk, V, idx t]

/-- Window 9 stages the MLP's second matrix. -/
theorem blk9 (c : Dev nD) (t : Fin cfg0.N) (n : Fin 4096) (k : Fin 1024) :
    (iblk m c 9 t : Vec Ideal S1x4096x1024 .bf16) (ix3 0 n k) = (m ((c : Thread nD τ).loc main_arg11) : Vec Ideal S4x4096x1024 .f32) (ix3 3 n k) := by
  have idx : ∀ t : Fin cfg0.N, win0_9.index t = ![3, 0, 0] := (by decide +kernel : ∀ t : Fin grid0.N, win0_9.index t = ![3, 0, 0])
  blk_ext! [iblk, V, idx t]

/-- Window 10 stages the second norm's gain. -/
theorem blk10 (c : Dev nD) (t : Fin cfg0.N) (k : Fin 1024) :
    (iblk m c 10 t : Vec Ideal S1x1x1024 .f32) (ix3 0 0 k) = (m ((c : Thread nD τ).loc main_arg8) : Vec Ideal S4x1024 .f32) (ix2 3 k) := by
  have idx : ∀ t : Fin cfg0.N, win0_10.index t = ![3, 0, 0] := (by decide +kernel : ∀ t : Fin grid0.N, win0_10.index t = ![3, 0, 0])
  blk_ext! [iblk, V, idx t]

/-- Window 11 stages the second norm's offset. -/
theorem blk11 (c : Dev nD) (t : Fin cfg0.N) (k : Fin 1024) :
    (iblk m c 11 t : Vec Ideal S1x1x1024 .f32) (ix3 0 0 k) = (m ((c : Thread nD τ).loc main_arg9) : Vec Ideal S4x1024 .f32) (ix2 3 k) := by
  have idx : ∀ t : Fin cfg0.N, win0_11.index t = ![3, 0, 0] := (by decide +kernel : ∀ t : Fin grid0.N, win0_11.index t = ![3, 0, 0])
  blk_ext! [iblk, V, idx t]

/-- Window 12 stages the embedding's projection. -/
theorem blk12 (c : Dev nD) (t : Fin cfg0.N) (k : Fin 256) (q : Fin 1024) :
    (iblk m c 12 t : Vec Ideal S1x256x1024 .bf16) (ix3 0 k q) = (m ((c : Thread nD τ).loc main_arg12) : Vec Ideal S4x256x1024 .f32) (ix3 3 k q) := by
  have idx : ∀ t : Fin cfg0.N, win0_12.index t = ![3, 0, 0] := (by decide +kernel : ∀ t : Fin grid0.N, win0_12.index t = ![3, 0, 0])
  blk_ext! [iblk, V, idx t]

/-- Window 13 stages the embedding's gate. -/
theorem blk13 (c : Dev nD) (t : Fin cfg0.N) (k q : Fin 1024) :
    (iblk m c 13 t : Vec Ideal S1x1024x1024 .bf16) (ix3 0 k q) = (m ((c : Thread nD τ).loc main_arg13) : Vec Ideal S4x1024x1024 .f32) (ix3 3 k q) := by
  have idx : ∀ t : Fin cfg0.N, win0_13.index t = ![3, 0, 0] := (by decide +kernel : ∀ t : Fin grid0.N, win0_13.index t = ![3, 0, 0])
  blk_ext! [iblk, V, idx t]

/-- The layer's output for the new rows, of the program's arguments. -/
def G14 (c : Dev nD) : FVec Ideal S128x1024 .f32 := fun i =>
  Spec.out (fun k => (m ((c : Thread nD τ).loc main_arg0) : Vec Ideal S128x1x1024 .f32) (ix3 (i 0) 0 k))
    (Spec.lin (gatedRow (fun k => (m ((c : Thread nD τ).loc main_arg0) : Vec Ideal S128x1x1024 .f32) (ix3 (i 0) 0 k)) (fun k e => (m ((c : Thread nD τ).loc main_arg3) : Vec Ideal S1024x3072 .f32) (ix2 k e))
      (fun j k => (m ((c : Thread nD τ).loc main_arg4) : Vec Ideal S3x1024 .f32) (ix2 j k)) (fun k => (m ((c : Thread nD τ).loc main_arg1) : Vec Ideal S128x2x1024 .f32) (ix3 (i 0) 0 k)) (fun k => (m ((c : Thread nD τ).loc main_arg1) : Vec Ideal S128x2x1024 .f32) (ix3 (i 0) 1 k)))
      (fun k q => (m ((c : Thread nD τ).loc main_arg5) : Vec Ideal S1024x1024 .f32) (ix2 k q)))
    (fun k => (m ((c : Thread nD τ).loc main_arg2) : Vec Ideal S4x128x1x256 .f32) (ix4 3 (i 0) 0 k)) (fun k => (m ((c : Thread nD τ).loc main_arg6) : Vec Ideal S4x1024 .f32) (ix2 3 k)) (fun k => (m ((c : Thread nD τ).loc main_arg7) : Vec Ideal S4x1024 .f32) (ix2 3 k))
    (fun k n => (m ((c : Thread nD τ).loc main_arg10) : Vec Ideal S4x1024x4096 .f32) (ix3 3 k n)) (fun n k => (m ((c : Thread nD τ).loc main_arg11) : Vec Ideal S4x4096x1024 .f32) (ix3 3 n k))
    (fun k => (m ((c : Thread nD τ).loc main_arg8) : Vec Ideal S4x1024 .f32) (ix2 3 k)) (fun k => (m ((c : Thread nD τ).loc main_arg9) : Vec Ideal S4x1024 .f32) (ix2 3 k))
    (fun k q => (m ((c : Thread nD τ).loc main_arg12) : Vec Ideal S4x256x1024 .f32) (ix3 3 k q)) (fun k q => (m ((c : Thread nD τ).loc main_arg13) : Vec Ideal S4x1024x1024 .f32) (ix3 3 k q)) (i 1)

/-- The products of the new rows. -/
def G15 (c : Dev nD) : FVec Ideal S128x1024 .f32 := fun i =>
  prodRow (fun k => (m ((c : Thread nD τ).loc main_arg0) : Vec Ideal S128x1x1024 .f32) (ix3 (i 0) 0 k)) (fun k e => (m ((c : Thread nD τ).loc main_arg3) : Vec Ideal S1024x3072 .f32) (ix2 k e)) (i 1)

/-- The output block, over the program's arguments. -/
theorem point14 (c : Dev nD) (t : Fin cfg0.N) (r : Fin 128) (k : Fin 1024) :
    (out0_14 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) : Vec Ideal S128x1024 .f32) (ix2 r k) = G14 m c (ix2 r k) := by
  refine (out14_apply _ _ _ _ _ _ _ _ _ _ _ _ _ _ r k).trans ?_
  simp only [blk0, blk1, blk2, blk3, blk4, blk5, blk6, blk7, blk8, blk9, blk10, blk11, blk12, blk13]
  rfl

/-- The block of products, over the program's arguments. -/
theorem point15 (c : Dev nD) (t : Fin cfg0.N) (r : Fin 128) (k : Fin 1024) :
    (out0_15 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) : Vec Ideal S128x1024 .f32) (ix2 r k) = G15 m c (ix2 r k) := by
  refine (out15_apply _ _ _ _ _ _ _ _ _ _ _ _ _ _ r k).trans ?_
  simp only [blk0, blk3]
  rfl

/-- After the run the first result array holds the layer's output for the new rows. -/
theorem final14 (c : Dev nD) : (dats m 0 c).arrAt 14 cfg0.N = G14 m c := by
  refine (dats m 0 c).arrAt_eq_of_covers 14 _ (by decide +kernel) fun t hf y => ?_
  have idx : ∀ t : Fin cfg0.N, win0_14.index t = ![0, 0] := (by decide +kernel : ∀ t : Fin grid0.N, win0_14.index t = ![0, 0])
  have e : ∀ (r : Fin 128) (k : Fin 1024), ((win0_14.blk t).view.emb (ix2 r k : S128x1024.Idx) : S128x1024.Idx) = ix2 r k := by
    intro r k; blk_ext [idx t]
  blk_simp
  rw [after0_14]
  obtain ⟨r, k, rfl⟩ : ∃ (r : Fin 128) (k : Fin 1024), y = (ix2 r k : S128x1024.Idx) := ⟨y 0, y 1, by ext a; fin_cases a <;> rfl⟩
  rw [e]
  exact point14 m c t r k

/-- After the run the second result array holds the new rows' products. -/
theorem final15 (c : Dev nD) : (dats m 0 c).arrAt 15 cfg0.N = G15 m c := by
  refine (dats m 0 c).arrAt_eq_of_covers 15 _ (by decide +kernel) fun t hf y => ?_
  have idx : ∀ t : Fin cfg0.N, win0_15.index t = ![0, 0] := (by decide +kernel : ∀ t : Fin grid0.N, win0_15.index t = ![0, 0])
  have e : ∀ (r : Fin 128) (k : Fin 1024), ((win0_15.blk t).view.emb (ix2 r k : S128x1024.Idx) : S128x1024.Idx) = ix2 r k := by
    intro r k; blk_ext [idx t]
  blk_simp
  rw [after0_15]
  obtain ⟨r, k, rfl⟩ : ∃ (r : Fin 128) (k : Fin 1024), y = (ix2 r k : S128x1024.Idx) := ⟨y 0, y 1, by ext a; fin_cases a <;> rfl⟩
  rw [e]
  exact point15 m c t r k

end Cert.SampleValue

end
-- ==== Proof.SampleRefValue.lean ====
/- What the sample group's reference computes, row by row: its host operations read at an index are the layer's mathematics. -/
module

public import proofs.«01_k».proof.Proof.SampleIdeal
public import proofs.«01_k».proof.Proof.Gen.Reference3Ideal.Read

@[expose] public section

set_option maxRecDepth 16384

noncomputable section

namespace Cert.SampleRefValue

open Idealize.ShloMosaic Cert.Reference3Ideal Cert.Reference3Ideal.Gen Cert.Reference3Ideal.Read Cert.SampleIdeal
open Cert.SconvSpec (prodRow)

/-- The products of two projections. -/
theorem v4_apply (x0 : Vec Ideal S128x1x1024 .f32) (x3 : Vec Ideal S1024x3072 .f32) (b : Fin 128) (d : Fin 1024) :
    val_main_v4 x0 x3 (ix3 b 0 d) = prodRow (fun k => x0 (ix3 b 0 k)) (fun k e => x3 (ix2 k e)) d := by
  pointwise [val_main_v0, val_main_v2, val_main_v3, val_main_v4, prodRow, Spec.lin]

/-- The gated rows. -/
theorem v29_apply (x0 : Vec Ideal S128x1x1024 .f32) (x1 : Vec Ideal S128x2x1024 .f32) (x3 : Vec Ideal S1024x3072 .f32) (x4 : Vec Ideal S3x1024 .f32) (b : Fin 128) (d : Fin 1024) :
    val_main_v29 x0 x1 x3 x4 (ix3 b 0 d) =
      gatedRow (fun k => x0 (ix3 b 0 k)) (fun k e => x3 (ix2 k e)) (fun j k => x4 (ix2 j k)) (fun c => x1 (ix3 b 0 c)) (fun c => x1 (ix3 b 1 c)) d := by
  have rev : ∀ a b c : EReal, a + b + c = c + a + b := fun a b c => by rw [add_comm (a + b) c, ← add_assoc]
  rw [gatedRow, ← v4_apply, ← rev]
  pointwise [val_main_v0, val_main_v1, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v29, val_main_cst, Spec.lin]

/-- The mixer's output. -/
theorem v30_apply (x0 : Vec Ideal S128x1x1024 .f32) (x1 : Vec Ideal S128x2x1024 .f32) (x3 : Vec Ideal S1024x3072 .f32) (x4 : Vec Ideal S3x1024 .f32) (x5 : Vec Ideal S1024x1024 .f32) (b : Fin 128) (d : Fin 1024) :
    val_main_v30 x0 x1 x3 x4 x5 (ix3 b 0 d) = Spec.lin (gatedRow (fun k => x0 (ix3 b 0 k)) (fun k e => x3 (ix2 k e)) (fun j k => x4 (ix2 j k)) (fun c => x1 (ix3 b 0 c)) (fun c => x1 (ix3 b 1 c)))
      (fun k c => x5 (ix2 k c)) d := by
  simp only [Spec.lin, ← v29_apply]
  pointwise [val_main_v30]

/-- The rows after the first norm, over the mixer's output. -/
theorem v59_apply (x0 : Vec Ideal S128x1x1024 .f32) (x1 : Vec Ideal S128x2x1024 .f32) (x3 : Vec Ideal S1024x3072 .f32) (x4 : Vec Ideal S3x1024 .f32) (x5 : Vec Ideal S1024x1024 .f32) (x6 x7 : Vec Ideal S4x1024 .f32) (b : Fin 128) (d : Fin 1024) :
    val_main_v59 x0 x1 x3 x4 x5 x6 x7 (ix3 b 0 d) = Spec.after1 (fun k => x0 (ix3 b 0 k)) (fun d => val_main_v30 x0 x1 x3 x4 x5 (ix3 b 0 d)) (fun k => x6 (ix2 3 k)) (fun k => x7 (ix2 3 k)) d := by
  pointwise [val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_cst_0, val_main_cst_1, val_main_cst_2, val_main_cst_3, val_main_cst_4, val_main_cst_5]
  simp only [Spec.after1, Spec.nrm, Spec.mean, Spec.resid]

/-- The rows after the second norm. -/
theorem v96_apply (x0 : Vec Ideal S128x1x1024 .f32) (x1 : Vec Ideal S128x2x1024 .f32) (x3 : Vec Ideal S1024x3072 .f32) (x4 : Vec Ideal S3x1024 .f32) (x5 : Vec Ideal S1024x1024 .f32) (x6 x7 x8 x9 : Vec Ideal S4x1024 .f32) (x10 : Vec Ideal S4x1024x4096 .f32) (x11 : Vec Ideal S4x4096x1024 .f32) (b : Fin 128) (d : Fin 1024) :
    val_main_v96 x0 x1 x3 x4 x5 x6 x7 x8 x9 x10 x11 (ix3 b 0 d) =
      Spec.after2 (fun k => x0 (ix3 b 0 k)) (fun d => val_main_v30 x0 x1 x3 x4 x5 (ix3 b 0 d)) (fun k => x6 (ix2 3 k)) (fun k => x7 (ix2 3 k))
        (fun k n => x10 (ix3 3 k n)) (fun n k => x11 (ix3 3 n k)) (fun k => x8 (ix2 3 k)) (fun k => x9 (ix2 3 k)) d := by
  have h : ∀ d, val_main_v69 x0 x1 x3 x4 x5 x6 x7 x10 x11 (ix3 b 0 d) = Spec.mlp (fun d => val_main_v59 x0 x1 x3 x4 x5 x6 x7 (ix3 b 0 d)) (fun k n => x10 (ix3 3 k n)) (fun n k => x11 (ix3 3 n k)) d := by
    intro d
    pointwise [val_main_v60, val_main_v61, val_main_v62, val_main_v63, val_main_v64, val_main_v67, val_main_v68, val_main_v69, val_main_call0_cst, val_main_call0_v0, Spec.mlp, Spec.lin, Spec.relu2]
  pointwise [val_main_v65, val_main_v66, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_cst_6, val_main_cst_7, val_main_cst_8, val_main_cst_9, val_main_cst_10, val_main_cst_11]
  simp only [h, v59_apply]
  rfl

/-- The reference's first result is the layer of its arguments. -/
theorem v113_apply (x0 : Vec Ideal S128x1x1024 .f32) (x1 : Vec Ideal S128x2x1024 .f32) (x2 : Vec Ideal S4x128x1x256 .f32) (x3 : Vec Ideal S1024x3072 .f32) (x4 : Vec Ideal S3x1024 .f32) (x5 : Vec Ideal S1024x1024 .f32) (x6 x7 x8 x9 : Vec Ideal S4x1024 .f32) (x10 : Vec Ideal S4x1024x4096 .f32) (x11 : Vec Ideal S4x4096x1024 .f32) (x12 : Vec Ideal S4x256x1024 .f32) (x13 : Vec Ideal S4x1024x1024 .f32) (b : Fin 128) (d : Fin 1024) :
    val_main_v113 x0 x1 x2 x3 x4 x5 x6 x7 x8 x9 x10 x11 x12 x13 (ix2 b d) =
      Spec.out (fun k => x0 (ix3 b 0 k)) (Spec.lin (gatedRow (fun k => x0 (ix3 b 0 k)) (fun k e => x3 (ix2 k e)) (fun j k => x4 (ix2 j k)) (fun c => x1 (ix3 b 0 c)) (fun c => x1 (ix3 b 1 c)))
          (fun k c => x5 (ix2 k c)))
        (fun k => x2 (ix4 3 b 0 k)) (fun k => x6 (ix2 3 k)) (fun k => x7 (ix2 3 k)) (fun k n => x10 (ix3 3 k n)) (fun n k => x11 (ix3 3 n k)) (fun k => x8 (ix2 3 k)) (fun k => x9 (ix2 3 k))
        (fun k c => x12 (ix3 3 k c)) (fun k c => x13 (ix3 3 k c)) d := by
  pointwise [val_main_v97, val_main_v98, val_main_v99, val_main_v100, val_main_v101, val_main_v102, val_main_v103, val_main_v104, val_main_v105, val_main_v106, val_main_v107, val_main_v108, val_main_v109, val_main_v110, val_main_v111, val_main_v112, val_main_v113, val_main_cst_12, val_main_cst_13]
  simp only [v96_apply, v30_apply]
  rfl

/-- The reference's second result is the products of the new rows. -/
theorem v115_apply (x0 : Vec Ideal S128x1x1024 .f32) (x1 : Vec Ideal S128x2x1024 .f32) (x3 : Vec Ideal S1024x3072 .f32) (b : Fin 128) (d : Fin 1024) :
    val_main_v115 x0 x1 x3 (ix2 b d) = prodRow (fun k => x0 (ix3 b 0 k)) (fun k e => x3 (ix2 k e)) d := by
  rw [← v4_apply]
  pointwise [val_main_v5, val_main_v28, val_main_v114, val_main_v115]

end Cert.SampleRefValue

end
-- ==== Proof.SampleEquation.lean ====
/- The sample call's two result arrays are its reference's, as functions of the arguments; so the two programs compute
   the same function over the extended reals. -/
module

public import proofs.«01_k».proof.Proof.SampleValue
public import proofs.«01_k».proof.Proof.SampleRefValue
public import proofs.«01_k».proof.Proof.Gen.Kernel3Ideal.Value
public import proofs.«01_k».proof.Proof.Gen.Reference3Ideal.Run
public import proofs.«01_k».proof.Defs

@[expose] public section

set_option maxRecDepth 16384

noncomputable section

namespace Cert.SampleEquation

open Idealize.ShloMosaic Idealize.ShloMosaic.TcCoe Idealize.SL.Sem

variable (m : (ℓ : Loc Cert.Kernel3Ideal.nD Cert.Kernel3Ideal.τ Cert.Kernel3Ideal.sig) → Buf (Elt Ideal) ℓ)
variable (m' : (ℓ : Loc Cert.Reference3Ideal.nD Cert.Reference3Ideal.τ Cert.Reference3Ideal.sig) → Buf (Elt Ideal) ℓ)

/-- From equal arguments, the reference's first result is the kernel's. -/
theorem first (c : Dev Cert.Kernel3Ideal.nD)
    (h0 : (m' ((c.tc : Thread Cert.Reference3Ideal.nD Cert.Reference3Ideal.τ).loc Cert.Reference3Ideal.main_arg0) : Vec Ideal Cert.Kernel3Ideal.S128x1x1024 .f32) = m ((c.tc : Thread Cert.Kernel3Ideal.nD Cert.Kernel3Ideal.τ).loc Cert.Kernel3Ideal.main_arg0))
    (h1 : (m' ((c.tc : Thread Cert.Reference3Ideal.nD Cert.Reference3Ideal.τ).loc Cert.Reference3Ideal.main_arg1) : Vec Ideal Cert.Kernel3Ideal.S128x2x1024 .f32) = m ((c.tc : Thread Cert.Kernel3Ideal.nD Cert.Kernel3Ideal.τ).loc Cert.Kernel3Ideal.main_arg1))
    (h2 : (m' ((c.tc : Thread Cert.Reference3Ideal.nD Cert.Reference3Ideal.τ).loc Cert.Reference3Ideal.main_arg2) : Vec Ideal Cert.Kernel3Ideal.S4x128x1x256 .f32) = m ((c.tc : Thread Cert.Kernel3Ideal.nD Cert.Kernel3Ideal.τ).loc Cert.Kernel3Ideal.main_arg2))
    (h3 : (m' ((c.tc : Thread Cert.Reference3Ideal.nD Cert.Reference3Ideal.τ).loc Cert.Reference3Ideal.main_arg3) : Vec Ideal Cert.Kernel3Ideal.S1024x3072 .f32) = m ((c.tc : Thread Cert.Kernel3Ideal.nD Cert.Kernel3Ideal.τ).loc Cert.Kernel3Ideal.main_arg3))
    (h4 : (m' ((c.tc : Thread Cert.Reference3Ideal.nD Cert.Reference3Ideal.τ).loc Cert.Reference3Ideal.main_arg4) : Vec Ideal Cert.Kernel3Ideal.S3x1024 .f32) = m ((c.tc : Thread Cert.Kernel3Ideal.nD Cert.Kernel3Ideal.τ).loc Cert.Kernel3Ideal.main_arg4))
    (h5 : (m' ((c.tc : Thread Cert.Reference3Ideal.nD Cert.Reference3Ideal.τ).loc Cert.Reference3Ideal.main_arg5) : Vec Ideal Cert.Kernel3Ideal.S1024x1024 .f32) = m ((c.tc : Thread Cert.Kernel3Ideal.nD Cert.Kernel3Ideal.τ).loc Cert.Kernel3Ideal.main_arg5))
    (h6 : (m' ((c.tc : Thread Cert.Reference3Ideal.nD Cert.Reference3Ideal.τ).loc Cert.Reference3Ideal.main_arg6) : Vec Ideal Cert.Kernel3Ideal.S4x1024 .f32) = m ((c.tc : Thread Cert.Kernel3Ideal.nD Cert.Kernel3Ideal.τ).loc Cert.Kernel3Ideal.main_arg6))
    (h7 : (m' ((c.tc : Thread Cert.Reference3Ideal.nD Cert.Reference3Ideal.τ).loc Cert.Reference3Ideal.main_arg7) : Vec Ideal Cert.Kernel3Ideal.S4x1024 .f32) = m ((c.tc : Thread Cert.Kernel3Ideal.nD Cert.Kernel3Ideal.τ).loc Cert.Kernel3Ideal.main_arg7))
    (h8 : (m' ((c.tc : Thread Cert.Reference3Ideal.nD Cert.Reference3Ideal.τ).loc Cert.Reference3Ideal.main_arg8) : Vec Ideal Cert.Kernel3Ideal.S4x1024 .f32) = m ((c.tc : Thread Cert.Kernel3Ideal.nD Cert.Kernel3Ideal.τ).loc Cert.Kernel3Ideal.main_arg8))
    (h9 : (m' ((c.tc : Thread Cert.Reference3Ideal.nD Cert.Reference3Ideal.τ).loc Cert.Reference3Ideal.main_arg9) : Vec Ideal Cert.Kernel3Ideal.S4x1024 .f32) = m ((c.tc : Thread Cert.Kernel3Ideal.nD Cert.Kernel3Ideal.τ).loc Cert.Kernel3Ideal.main_arg9))
    (h10 : (m' ((c.tc : Thread Cert.Reference3Ideal.nD Cert.Reference3Ideal.τ).loc Cert.Reference3Ideal.main_arg10) : Vec Ideal Cert.Kernel3Ideal.S4x1024x4096 .f32) = m ((c.tc : Thread Cert.Kernel3Ideal.nD Cert.Kernel3Ideal.τ).loc Cert.Kernel3Ideal.main_arg10))
    (h11 : (m' ((c.tc : Thread Cert.Reference3Ideal.nD Cert.Reference3Ideal.τ).loc Cert.Reference3Ideal.main_arg11) : Vec Ideal Cert.Kernel3Ideal.S4x4096x1024 .f32) = m ((c.tc : Thread Cert.Kernel3Ideal.nD Cert.Kernel3Ideal.τ).loc Cert.Kernel3Ideal.main_arg11))
    (h12 : (m' ((c.tc : Thread Cert.Reference3Ideal.nD Cert.Reference3Ideal.τ).loc Cert.Reference3Ideal.main_arg12) : Vec Ideal Cert.Kernel3Ideal.S4x256x1024 .f32) = m ((c.tc : Thread Cert.Kernel3Ideal.nD Cert.Kernel3Ideal.τ).loc Cert.Kernel3Ideal.main_arg12))
    (h13 : (m' ((c.tc : Thread Cert.Reference3Ideal.nD Cert.Reference3Ideal.τ).loc Cert.Reference3Ideal.main_arg13) : Vec Ideal Cert.Kernel3Ideal.S4x1024x1024 .f32) = m ((c.tc : Thread Cert.Kernel3Ideal.nD Cert.Kernel3Ideal.τ).loc Cert.Kernel3Ideal.main_arg13)) :
    Cert.Reference3Ideal.Read.val_main_v113 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) (m' ((c.tc : Thread Cert.Reference3Ideal.nD Cert.Reference3Ideal.τ).loc Cert.Reference3Ideal.main_arg13)) = Cert.SampleValue.G14 m c := by
  funext i
  obtain ⟨b, d, rfl⟩ : ∃ (b : Fin 128) (d : Fin 1024), i = ix2 b d := ⟨i 0, i 1, by ext k; fin_cases k <;> rfl⟩
  refine (Cert.SampleRefValue.v113_apply _ _ _ _ _ _ _ _ _ _ _ _ _ _ b d).trans ?_
  rw [h0, h1, h2, h3, h4, h5, h6, h7, h8, h9, h10, h11, h12, h13]
  rfl

/-- From equal arguments, the reference's second result is the kernel's. -/
theorem second (c : Dev Cert.Kernel3Ideal.nD)
    (h0 : (m' ((c.tc : Thread Cert.Reference3Ideal.nD Cert.Reference3Ideal.τ).loc Cert.Reference3Ideal.main_arg0) : Vec Ideal Cert.Kernel3Ideal.S128x1x1024 .f32) = m ((c.tc : Thread Cert.Kernel3Ideal.nD Cert.Kernel3Ideal.τ).loc Cert.Kernel3Ideal.main_arg0))
    (h1 : (m' ((c.tc : Thread Cert.Reference3Ideal.nD Cert.Reference3Ideal.τ).loc Cert.Reference3Ideal.main_arg1) : Vec Ideal Cert.Kernel3Ideal.S128x2x1024 .f32) = m ((c.tc : Thread Cert.Kernel3Ideal.nD Cert.Kernel3Ideal.τ).loc Cert.Kernel3Ideal.main_arg1))
    (h3 : (m' ((c.tc : Thread Cert.Reference3Ideal.nD Cert.Reference3Ideal.τ).loc Cert.Reference3Ideal.main_arg3) : Vec Ideal Cert.Kernel3Ideal.S1024x3072 .f32) = m ((c.tc : Thread Cert.Kernel3Ideal.nD Cert.Kernel3Ideal.τ).loc Cert.Kernel3Ideal.main_arg3)) :
    Cert.Reference3Ideal.Read.val_main_v115 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg3)) = Cert.SampleValue.G15 m c := by
  funext i
  obtain ⟨b, d, rfl⟩ : ∃ (b : Fin 128) (d : Fin 1024), i = ix2 b d := ⟨i 0, i 1, by ext k; fin_cases k <;> rfl⟩
  refine (Cert.SampleRefValue.v115_apply _ _ _ b d).trans ?_
  rw [h0, h3]
  rfl

/-- Kernel and reference compute the same function over the extended reals. -/
theorem equal : @Cert.algebraic_Kernel3Ideal_Reference3Ideal Cert.Kernel3Ideal.Gen.facts Cert.Reference3Ideal.Gen.facts := by
  intro m g m' g' _ hargs
  refine ⟨Cert.SampleValue.G14 m, Cert.SampleValue.G15 m, ?_, ?_⟩
  · refine (θ_run _ _ _).mono (fun r h c => ?_) (Cert.Kernel3Ideal.Value.run_blocks (F := Ideal) m g)
    exact ⟨(h c).1.trans (Cert.SampleValue.final14 m c), (h c).2.1.trans (Cert.SampleValue.final15 m c), (h c).2.2⟩
  · refine (θ_run _ _ _).mono (fun r h c => ?_) (Cert.Reference3Ideal.Value.run (F := Ideal) m' g')
    obtain ⟨h0, h1, h2, h3, h4, h5, h6, h7, h8, h9, h10, h11, h12, h13⟩ := hargs c
    exact ⟨(h c).1.trans ((Cert.Reference3Ideal.Read.val_main_v113_eq _).trans (first m m' c h0 h1 h2 h3 h4 h5 h6 h7 h8 h9 h10 h11 h12 h13)),
      (h c).2.1.trans ((Cert.Reference3Ideal.Read.val_main_v115_eq _).trans (second m m' c h0 h1 h3)), (h c).2.2⟩

end Cert.SampleEquation

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import proofs.«01_k».proof.Proof.SconvEquation
public import proofs.«01_k».proof.Proof.SampleEquation
public import proofs.«01_k».proof.Proof.Gen.Kernel2Ideal.Value
public import proofs.«01_k».proof.Proof.Gen.Reference2Ideal.Run
public import proofs.«01_k».proof.Proof.Gen.Reference2Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs to its end and leaves its arguments: part of what its run states. -/
theorem frame_reference : @Cert.quiescent_ReferenceIdeal Cert.ReferenceIdeal.Gen.facts := fun m g _ =>
  (θ_run _ _ _).mono (fun r h => ⟨fun c => (h c).2.2, sem_eq_zero_of_no_sems rfl r.2⟩) (Cert.ReferenceIdeal.Value.run (F := Ideal) m g)

/-- The short convolution's reference likewise. -/
theorem frame_reference2 : @Cert.quiescent_Reference2Ideal Cert.Reference2Ideal.Gen.facts := fun m g _ =>
  (θ_run _ _ _).mono (fun r h => ⟨fun c => (h c).2.2, sem_eq_zero_of_no_sems rfl r.2⟩) (Cert.Reference2Ideal.Value.run (F := Ideal) m g)

/-- The sample group's reference likewise. -/
theorem frame_reference3 : @Cert.quiescent_Reference3Ideal Cert.Reference3Ideal.Gen.facts := fun m g _ =>
  (θ_run _ _ _).mono (fun r h => ⟨fun c => (h c).2.2, sem_eq_zero_of_no_sems rfl r.2⟩) (Cert.Reference3Ideal.Value.run (F := Ideal) m g)

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  trivial, Cert.Equation.equal, trivial, Cert.SconvEquation.equal, trivial, Cert.SampleEquation.equal⟩

end Cert.Proof

end
